-- ==== Defs.lean ====
def Pre_Kernel [hPre_in_buffer : Cert.Pre_in_buffer.Facts] (m : (ℓ : Loc Cert.Kernel.nD Cert.Kernel.τ Cert.Kernel.sig) → Buf (Elt Bits) ℓ) : Prop :=
  ∀ c : Dev Cert.Kernel.nD,
    (Cert.Pre_in_buffer.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_buffer : Cert.Pre_in_buffer.Facts] (m : (ℓ : Loc Cert.KernelIdeal.nD Cert.KernelIdeal.τ Cert.KernelIdeal.sig) → Buf (Elt Ideal) ℓ) : Prop :=
  ∀ c : Dev Cert.KernelIdeal.nD,
    (Cert.Pre_in_buffer.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_in_buffer : Cert.Pre_in_buffer.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_buffer.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_buffer : Cert.Pre_in_buffer.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_buffer : Cert.Pre_in_buffer.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_in_buffer : Cert.Pre_in_buffer.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_buffer : Cert.Pre_in_buffer.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_buffer : Cert.Pre_in_buffer.Facts),
    quiescent_Kernel (hKernel := hKernel) (hPre_in_buffer := hPre_in_buffer)
    ∧ quiescent_KernelIdeal (hKernelIdeal := hKernelIdeal) (hPre_in_buffer := hPre_in_buffer)
    ∧ quiescent_ReferenceIdeal (hReferenceIdeal := hReferenceIdeal) (hPre_in_buffer := hPre_in_buffer)
    ∧ preserves_Kernel_KernelIdeal
    ∧ algebraic_KernelIdeal_ReferenceIdeal (hKernelIdeal := hKernelIdeal) (hReferenceIdeal := hReferenceIdeal) (hPre_in_buffer := hPre_in_buffer)
-- ==== Pre_in_buffer.lean ====
abbrev S2x2048x1664 : Shape := ⟨3, ![2, 2048, 1664]⟩
abbrev S2 : Shape := ⟨1, ![2]⟩
abbrev S1664x128 : Shape := ⟨2, ![1664, 128]⟩
abbrev S16x1664x8192 : Shape := ⟨3, ![16, 1664, 8192]⟩
abbrev S16x8192 : Shape := ⟨2, ![16, 8192]⟩
abbrev S16x8192x1664 : Shape := ⟨3, ![16, 8192, 1664]⟩
abbrev S16x1664 : Shape := ⟨2, ![16, 1664]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel

variable [Facts]

def fn {F : FTy → Type} [FloatOps F] (main_arg0 : FVec F S2x2048x1664 .bf16) (main_arg1 : IVec S2 32) (main_arg2 : FVec F S1664x128 .bf16) (main_arg3 : FVec F S16x1664x8192 .fp8e4m3) (main_arg4 : FVec F S16x8192 .f32) (main_arg5 : FVec F S16x8192x1664 .fp8e4m3) (main_arg6 : FVec F S16x1664 .f32) : IVec S_ 1 :=
  let main_c : IVec S_ 32 := constantI S_ 32 2048#32
  let main_v0 : IVec S2 32 := broadcastInDim S2 ![] bcast_S_S2 main_c
  let main_v1 : IVec S2 1 := cmpi .sle main_arg1 main_v0
  let main_c_0 : IVec S_ 1 := constantI S_ 1 1#1
  let main_v2 : IVec S_ 1 := (fun x v => Host.reduce IntOp.andi x v reducesTo_S2_S_d0 h_S_) main_v1 main_c_0
  main_v2
-- ==== Kernel.lean ====
abbrev S2x2048x1664 : Shape := ⟨3, ![2, 2048, 1664]⟩
abbrev S2 : Shape := ⟨1, ![2]⟩
abbrev S1664x128 : Shape := ⟨2, ![1664, 128]⟩
abbrev S16x1664x8192 : Shape := ⟨3, ![16, 1664, 8192]⟩
abbrev S16x8192 : Shape := ⟨2, ![16, 8192]⟩
abbrev S16x8192x1664 : Shape := ⟨3, ![16, 8192, 1664]⟩
abbrev S16x1664 : Shape := ⟨2, ![16, 1664]⟩
abbrev S2x128x1664 : Shape := ⟨3, ![2, 128, 1664]⟩
abbrev S2x16x8x1664 : Shape := ⟨4, ![2, 16, 8, 1664]⟩
abbrev S2x16x8 : Shape := ⟨3, ![2, 16, 8]⟩
abbrev S2x16x8x8192 : Shape := ⟨4, ![2, 16, 8, 8192]⟩
abbrev S4x1664x1664 : Shape := ⟨3, ![4, 1664, 1664]⟩
abbrev S1664x1536 : Shape := ⟨2, ![1664, 1536]⟩
abbrev S6x8192x256 : Shape := ⟨3, ![6, 8192, 256]⟩
abbrev S8192x128 : Shape := ⟨2, ![8192, 128]⟩
abbrev S2x2048x128 : Shape := ⟨3, ![2, 2048, 128]⟩
abbrev S32x8192 : Shape := ⟨2, ![32, 8192]⟩
abbrev S2x8x8192 : Shape := ⟨3, ![2, 8, 8192]⟩
abbrev S2x128x128 : Shape := ⟨3, ![2, 128, 128]⟩
abbrev S2x4 : Shape := ⟨2, ![2, 4]⟩
abbrev S5 : Shape := ⟨1, ![5]⟩
abbrev S7 : Shape := ⟨1, ![7]⟩
abbrev S3 : Shape := ⟨1, ![3]⟩
abbrev S4 : Shape := ⟨1, ![4]⟩
abbrev S1 : Shape := ⟨1, ![1]⟩
abbrev S_ : Shape := ⟨0, ![]⟩
abbrev S1x1 : Shape := ⟨2, ![1, 1]⟩
abbrev S1x512x1664 : Shape := ⟨3, ![1, 512, 1664]⟩
abbrev S512x1664 : Shape := ⟨2, ![512, 1664]⟩
abbrev S1x1664x1664 : Shape := ⟨3, ![1, 1664, 1664]⟩
abbrev S1664x1664 : Shape := ⟨2, ![1664, 1664]⟩
abbrev S1x1664x1536 : Shape := ⟨3, ![1, 1664, 1536]⟩
abbrev S1x8192x256 : Shape := ⟨3, ![1, 8192, 256]⟩
abbrev S8192x256 : Shape := ⟨2, ![8192, 256]⟩
abbrev S1x8192x128 : Shape := ⟨3, ![1, 8192, 128]⟩
abbrev S1x128 : Shape := ⟨2, ![1, 128]⟩
abbrev S512x128 : Shape := ⟨2, ![512, 128]⟩
abbrev S1x512x128 : Shape := ⟨3, ![1, 512, 128]⟩
abbrev S128 : Shape := ⟨1, ![128]⟩
abbrev S128x1664 : Shape := ⟨2, ![128, 1664]⟩
abbrev S1x128x1664 : Shape := ⟨3, ![1, 128, 1664]⟩
abbrev S1x8x1664 : Shape := ⟨3, ![1, 8, 1664]⟩
abbrev S8x1664 : Shape := ⟨2, ![8, 1664]⟩
abbrev S16 : Shape := ⟨1, ![16]⟩
abbrev S16x1 : Shape := ⟨2, ![16, 1]⟩
abbrev S16x256 : Shape := ⟨2, ![16, 256]⟩
abbrev S32x1664 : Shape := ⟨2, ![32, 1664]⟩
abbrev S1x1x8x1664 : Shape := ⟨4, ![1, 1, 8, 1664]⟩
abbrev S8x1 : Shape := ⟨2, ![8, 1]⟩
abbrev S8x128 : Shape := ⟨2, ![8, 128]⟩
abbrev S1x8x128 : Shape := ⟨3, ![1, 8, 128]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S16x128 : Shape := ⟨2, ![16, 128]⟩
abbrev S1664 : Shape := ⟨1, ![1664]⟩
abbrev S1x1664 : Shape := ⟨2, ![1, 1664]⟩
abbrev S32x1536 : Shape := ⟨2, ![32, 1536]⟩
abbrev S16x1536 : Shape := ⟨2, ![16, 1536]⟩
abbrev S8x1536 : Shape := ⟨2, ![8, 1536]⟩
abbrev S1536 : Shape := ⟨1, ![1536]⟩
abbrev S1x1536 : Shape := ⟨2, ![1, 1536]⟩
abbrev S1x1x8x8192 : Shape := ⟨4, ![1, 1, 8, 8192]⟩
abbrev S8x8192 : Shape := ⟨2, ![8, 8192]⟩
abbrev S1x8x8192 : Shape := ⟨3, ![1, 8, 8192]⟩
abbrev S16x1024 : Shape := ⟨2, ![16, 1024]⟩
abbrev S32x1024 : Shape := ⟨2, ![32, 1024]⟩
abbrev S8x1024 : Shape := ⟨2, ![8, 1024]⟩
abbrev S1x8x1024 : Shape := ⟨3, ![1, 8, 1024]⟩
abbrev S32x256 : Shape := ⟨2, ![32, 256]⟩
abbrev S8x256 : Shape := ⟨2, ![8, 256]⟩
abbrev S1x256 : Shape := ⟨2, ![1, 256]⟩
abbrev S1x8x256 : Shape := ⟨3, ![1, 8, 256]⟩
abbrev S1x128x256 : Shape := ⟨3, ![1, 128, 256]⟩
abbrev S128x256 : Shape := ⟨2, ![128, 256]⟩
abbrev S512x256 : Shape := ⟨2, ![512, 256]⟩
abbrev S1x512x256 : Shape := ⟨3, ![1, 512, 256]⟩
abbrev S1x2048x256 : Shape := ⟨3, ![1, 2048, 256]⟩
abbrev S2048x256 : Shape := ⟨2, ![2048, 256]⟩
abbrev S32x128 : Shape := ⟨2, ![32, 128]⟩
abbrev S1x128x128 : Shape := ⟨3, ![1, 128, 128]⟩
abbrev S128x128 : Shape := ⟨2, ![128, 128]⟩
abbrev S1x2048x128 : Shape := ⟨3, ![1, 2048, 128]⟩
abbrev S2048x128 : Shape := ⟨2, ![2048, 128]⟩
abbrev S16x8x128 : Shape := ⟨3, ![16, 8, 128]⟩
abbrev S16x8 : Shape := ⟨2, ![16, 8]⟩
abbrev S1x16x8 : Shape := ⟨3, ![1, 16, 8]⟩

abbrev nBuf : Space → Nat
  | .hbm => 13
  | .vmem => 21
  | .smem => 1
  | _ => 0

abbrev bufTy : (tb : Table) → Fin (tcTables nBuf tb) → BufTy
  | .hbm, ⟨0, _⟩ => ⟨S2x2048x1664, .bf16⟩
  | .hbm, ⟨1, _⟩ => ⟨S2, .i32⟩
  | .hbm, ⟨2, _⟩ => ⟨S1664x128, .bf16⟩
  | .hbm, ⟨3, _⟩ => ⟨S16x1664x8192, .fp8e4m3⟩
  | .hbm, ⟨4, _⟩ => ⟨S16x8192, .f32⟩
  | .hbm, ⟨5, _⟩ => ⟨S16x8192x1664, .fp8e4m3⟩
  | .hbm, ⟨6, _⟩ => ⟨S16x1664, .f32⟩
  | .hbm, ⟨7, _⟩ => ⟨S2x2048x1664, .bf16⟩
  | .hbm, ⟨8, _⟩ => ⟨S2x128x1664, .bf16⟩
  | .hbm, ⟨9, _⟩ => ⟨S2x16x8x1664, .fp8e4m3⟩
  | .hbm, ⟨10, _⟩ => ⟨S2x16x8, .f32⟩
  | .hbm, ⟨11, _⟩ => ⟨S2x16x8x8192, .fp8e4m3⟩
  | .hbm, ⟨12, _⟩ => ⟨S2x16x8, .f32⟩
  | .local _ .vmem, ⟨0, _⟩ => ⟨S2x2048x1664, .bf16⟩
  | .local _ .vmem, ⟨1, _⟩ => ⟨S1664x128, .bf16⟩
  | .local _ .vmem, ⟨2, _⟩ => ⟨S4x1664x1664, .fp8e4m3⟩
  | .local _ .vmem, ⟨3, _⟩ => ⟨S1664x1536, .fp8e4m3⟩
  | .local _ .vmem, ⟨4, _⟩ => ⟨S16x8192, .f32⟩
  | .local _ .vmem, ⟨5, _⟩ => ⟨S6x8192x256, .fp8e4m3⟩
  | .local _ .vmem, ⟨6, _⟩ => ⟨S8192x128, .fp8e4m3⟩
  | .local _ .vmem, ⟨7, _⟩ => ⟨S16x1664, .f32⟩
  | .local _ .vmem, ⟨8, _⟩ => ⟨S2x2048x128, .f32⟩
  | .local _ .vmem, ⟨9, _⟩ => ⟨S2x2048x128, .bf16⟩
  | .local _ .vmem, ⟨10, _⟩ => ⟨S2x128x1664, .f32⟩
  | .local _ .vmem, ⟨11, _⟩ => ⟨S16x8192, .f32⟩
  | .local _ .vmem, ⟨12, _⟩ => ⟨S32x8192, .fp8e4m3⟩
  | .local _ .vmem, ⟨13, _⟩ => ⟨S2x128x1664, .f32⟩
  | .local _ .vmem, ⟨14, _⟩ => ⟨S2x128x1664, .bf16⟩
  | .local _ .vmem, ⟨15, _⟩ => ⟨S2x16x8x1664, .fp8e4m3⟩
  | .local _ .vmem, ⟨16, _⟩ => ⟨S2x8x8192, .fp8e4m3⟩
  | .local _ .vmem, ⟨17, _⟩ => ⟨S2x128x128, .f32⟩
  | .local _ .vmem, ⟨18, _⟩ => ⟨S2x128x128, .f32⟩
  | .local _ .vmem, ⟨19, _⟩ => ⟨S2x16x8, .f32⟩
  | .local _ .vmem, ⟨20, _⟩ => ⟨S2x16x8, .f32⟩
  | .local _ .smem, ⟨0, _⟩ => ⟨S2, .i32⟩
  | _, _ => ⟨S2x2048x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩
abbrev cc0_scratch19 : Ref sig .tc := ⟨.vmem, 19, rfl⟩
abbrev cc0_scratch20 : Ref sig .tc := ⟨.vmem, 20, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop (v108 : BitVec 32) : Scf.Loop 32 :=
  let c0_i32_89 : BitVec 32 := 0#32
  let c511_i32 : BitVec 32 := 511#32
  let v109 : BitVec 32 := Scalar.addi v108 c511_i32
  let c512_i32_88 : BitVec 32 := 512#32
  let v110 : BitVec 32 := Scalar.divsi v109 c512_i32_88
  let v112 : BitVec 32 := Scalar.subi v110 c0_i32_89
  let c1_i32_90 : BitVec 32 := 1#32
  let v114 : BitVec 32 := Scalar.divsi v112 c1_i32_90
  let v115 : BitVec 32 := Scalar.muli v114 c1_i32_90
  let v116 : BitVec 32 := Scalar.addi c0_i32_89 v115
  let c1_i32_91 : BitVec 32 := 1#32
  ⟨c0_i32_89, v116, c1_i32_91⟩

def k0_off1 (v108 : BitVec 32) (k0_t1 : Fin (k0_t1_loop v108).trips) : Fin 2 → Nat :=
  let c0_i32_334 : BitVec 32 := 0#32
  let c0_i32_89 : BitVec 32 := 0#32
  let c1_i32_91 : BitVec 32 := 1#32
  let arg41 : BitVec 32 := Scf.iv c0_i32_89 c1_i32_91 k0_t1
  ![0, arg41.toNat]
def k0_off2 (v108 : BitVec 32) (k0_t1 : Fin (k0_t1_loop v108).trips) : Fin 3 → Nat :=
  let c0_i32_333 : BitVec 32 := 0#32
  let c0_i32_89 : BitVec 32 := 0#32
  let c1_i32_91 : BitVec 32 := 1#32
  let arg41 : BitVec 32 := Scf.iv c0_i32_89 c1_i32_91 k0_t1
  let c512_i32_331 : BitVec 32 := 512#32
  let v362 : BitVec 32 := Scalar.muli arg41 c512_i32_331
  let c0_i32_335 : BitVec 32 := 0#32
  ![0, v362.toNat, 0]
def k0_mult1 (v108 : BitVec 32) (k0_t1 : Fin (k0_t1_loop v108).trips) : BitVec 32 :=
  let c0_i32_89 : BitVec 32 := 0#32
  let c1_i32_91 : BitVec 32 := 1#32
  let arg41 : BitVec 32 := Scf.iv c0_i32_89 c1_i32_91 k0_t1
  let c512_i32_337 : BitVec 32 := 512#32
  let v369 : BitVec 32 := Scalar.muli arg41 c512_i32_337
  v369
def k0_off3 (v108 : BitVec 32) (k0_t1 : Fin (k0_t1_loop v108).trips) : Fin 3 → Nat :=
  let c0_338 : Index := 0#32
  let c0_i32_89 : BitVec 32 := 0#32
  let c1_i32_91 : BitVec 32 := 1#32
  let arg41 : BitVec 32 := Scf.iv c0_i32_89 c1_i32_91 k0_t1
  let c512_i32_337 : BitVec 32 := 512#32
  let v369 : BitVec 32 := Scalar.muli arg41 c512_i32_337
  let v370 : BitVec 32 := v369
  let v371 : Index := Scalar.indexCast v370
  let c0_339 : Index := 0#32
  ![0, v371.toNat, 0]
def k0_off4 (v108 : BitVec 32) (k0_t1 : Fin (k0_t1_loop v108).trips) : Fin 3 → Nat :=
  let c0_343 : Index := 0#32
  let c0_i32_89 : BitVec 32 := 0#32
  let c1_i32_91 : BitVec 32 := 1#32
  let arg41 : BitVec 32 := Scf.iv c0_i32_89 c1_i32_91 k0_t1
  let c512_i32_337 : BitVec 32 := 512#32
  let v369 : BitVec 32 := Scalar.muli arg41 c512_i32_337
  let v370 : BitVec 32 := v369
  let v376 : Index := Scalar.indexCast v370
  let c0_344 : Index := 0#32
  ![0, v376.toNat, 0]
@[reducible] def k0_t2_loop (v108 : BitVec 32) : Scf.Loop 32 :=
  let c0_i32_89 : BitVec 32 := 0#32
  let c511_i32 : BitVec 32 := 511#32
  let v109 : BitVec 32 := Scalar.addi v108 c511_i32
  let c512_i32_88 : BitVec 32 := 512#32
  let v110 : BitVec 32 := Scalar.divsi v109 c512_i32_88
  let v112 : BitVec 32 := Scalar.subi v110 c0_i32_89
  let c1_i32_90 : BitVec 32 := 1#32
  let v114 : BitVec 32 := Scalar.divsi v112 c1_i32_90
  let v115 : BitVec 32 := Scalar.muli v114 c1_i32_90
  let v116 : BitVec 32 := Scalar.addi c0_i32_89 v115
  let v113 : BitVec 32 := Scalar.addi c0_i32_89 v112
  let c1_i32_92 : BitVec 32 := 1#32
  ⟨v116, v113, c1_i32_92⟩
def k0_off5 (v108 : BitVec 32) (k0_t2 : Fin (k0_t2_loop v108).trips) : Fin 2 → Nat :=
  let c0_i32_334 : BitVec 32 := 0#32
  let c0_i32_89 : BitVec 32 := 0#32
  let c511_i32 : BitVec 32 := 511#32
  let v109 : BitVec 32 := Scalar.addi v108 c511_i32
  let c512_i32_88 : BitVec 32 := 512#32
  let v110 : BitVec 32 := Scalar.divsi v109 c512_i32_88
  let v112 : BitVec 32 := Scalar.subi v110 c0_i32_89
  let c1_i32_90 : BitVec 32 := 1#32
  let v114 : BitVec 32 := Scalar.divsi v112 c1_i32_90
  let v115 : BitVec 32 := Scalar.muli v114 c1_i32_90
  let v116 : BitVec 32 := Scalar.addi c0_i32_89 v115
  let c1_i32_92 : BitVec 32 := 1#32
  let arg41 : BitVec 32 := Scf.iv v116 c1_i32_92 k0_t2
  ![0, arg41.toNat]
def k0_off6 (v108 : BitVec 32) (k0_t2 : Fin (k0_t2_loop v108).trips) : Fin 3 → Nat :=
  let c0_i32_333 : BitVec 32 := 0#32
  let c0_i32_89 : BitVec 32 := 0#32
  let c511_i32 : BitVec 32 := 511#32
  let v109 : BitVec 32 := Scalar.addi v108 c511_i32
  let c512_i32_88 : BitVec 32 := 512#32
  let v110 : BitVec 32 := Scalar.divsi v109 c512_i32_88
  let v112 : BitVec 32 := Scalar.subi v110 c0_i32_89
  let c1_i32_90 : BitVec 32 := 1#32
  let v114 : BitVec 32 := Scalar.divsi v112 c1_i32_90
  let v115 : BitVec 32 := Scalar.muli v114 c1_i32_90
  let v116 : BitVec 32 := Scalar.addi c0_i32_89 v115
  let c1_i32_92 : BitVec 32 := 1#32
  let arg41 : BitVec 32 := Scf.iv v116 c1_i32_92 k0_t2
  let c512_i32_331 : BitVec 32 := 512#32
  let v362 : BitVec 32 := Scalar.muli arg41 c512_i32_331
  let c0_i32_335 : BitVec 32 := 0#32
  ![0, v362.toNat, 0]
def k0_mult2 (v108 : BitVec 32) (k0_t2 : Fin (k0_t2_loop v108).trips) : BitVec 32 :=
  let c0_i32_89 : BitVec 32 := 0#32
  let c511_i32 : BitVec 32 := 511#32
  let v109 : BitVec 32 := Scalar.addi v108 c511_i32
  let c512_i32_88 : BitVec 32 := 512#32
  let v110 : BitVec 32 := Scalar.divsi v109 c512_i32_88
  let v112 : BitVec 32 := Scalar.subi v110 c0_i32_89
  let c1_i32_90 : BitVec 32 := 1#32
  let v114 : BitVec 32 := Scalar.divsi v112 c1_i32_90
  let v115 : BitVec 32 := Scalar.muli v114 c1_i32_90
  let v116 : BitVec 32 := Scalar.addi c0_i32_89 v115
  let c1_i32_92 : BitVec 32 := 1#32
  let arg41 : BitVec 32 := Scf.iv v116 c1_i32_92 k0_t2
  let c512_i32_337 : BitVec 32 := 512#32
  let v369 : BitVec 32 := Scalar.muli arg41 c512_i32_337
  v369
def k0_off7 (v108 : BitVec 32) (k0_t2 : Fin (k0_t2_loop v108).trips) : Fin 3 → Nat :=
  let c0_338 : Index := 0#32
  let c0_i32_89 : BitVec 32 := 0#32
  let c511_i32 : BitVec 32 := 511#32
  let v109 : BitVec 32 := Scalar.addi v108 c511_i32
  let c512_i32_88 : BitVec 32 := 512#32
  let v110 : BitVec 32 := Scalar.divsi v109 c512_i32_88
  let v112 : BitVec 32 := Scalar.subi v110 c0_i32_89
  let c1_i32_90 : BitVec 32 := 1#32
  let v114 : BitVec 32 := Scalar.divsi v112 c1_i32_90
  let v115 : BitVec 32 := Scalar.muli v114 c1_i32_90
  let v116 : BitVec 32 := Scalar.addi c0_i32_89 v115
  let c1_i32_92 : BitVec 32 := 1#32
  let arg41 : BitVec 32 := Scf.iv v116 c1_i32_92 k0_t2
  let c512_i32_337 : BitVec 32 := 512#32
  let v369 : BitVec 32 := Scalar.muli arg41 c512_i32_337
  let v370 : BitVec 32 := v369
  let v371 : Index := Scalar.indexCast v370
  let c0_339 : Index := 0#32
  ![0, v371.toNat, 0]
def k0_off8 (v108 : BitVec 32) (k0_t2 : Fin (k0_t2_loop v108).trips) : Fin 3 → Nat :=
  let c0_343 : Index := 0#32
  let c0_i32_89 : BitVec 32 := 0#32
  let c511_i32 : BitVec 32 := 511#32
  let v109 : BitVec 32 := Scalar.addi v108 c511_i32
  let c512_i32_88 : BitVec 32 := 512#32
  let v110 : BitVec 32 := Scalar.divsi v109 c512_i32_88
  let v112 : BitVec 32 := Scalar.subi v110 c0_i32_89
  let c1_i32_90 : BitVec 32 := 1#32
  let v114 : BitVec 32 := Scalar.divsi v112 c1_i32_90
  let v115 : BitVec 32 := Scalar.muli v114 c1_i32_90
  let v116 : BitVec 32 := Scalar.addi c0_i32_89 v115
  let c1_i32_92 : BitVec 32 := 1#32
  let arg41 : BitVec 32 := Scf.iv v116 c1_i32_92 k0_t2
  let c512_i32_337 : BitVec 32 := 512#32
  let v369 : BitVec 32 := Scalar.muli arg41 c512_i32_337
  let v370 : BitVec 32 := v369
  let v376 : Index := Scalar.indexCast v370
  let c0_344 : Index := 0#32
  ![0, v376.toNat, 0]
@[reducible] def k0_t3_loop (v108 : BitVec 32) : Scf.Loop 32 :=
  let c0_i32_94 : BitVec 32 := 0#32
  let c511_i32 : BitVec 32 := 511#32
  let v109 : BitVec 32 := Scalar.addi v108 c511_i32
  let c512_i32_88 : BitVec 32 := 512#32
  let v110 : BitVec 32 := Scalar.divsi v109 c512_i32_88
  let v120 : BitVec 32 := Scalar.subi v110 c0_i32_94
  let c1_i32_95 : BitVec 32 := 1#32
  let v122 : BitVec 32 := Scalar.divsi v120 c1_i32_95
  let v123 : BitVec 32 := Scalar.muli v122 c1_i32_95
  let v124 : BitVec 32 := Scalar.addi c0_i32_94 v123
  let c1_i32_96 : BitVec 32 := 1#32
  ⟨c0_i32_94, v124, c1_i32_96⟩
def k0_mult3 (v108 : BitVec 32) (k0_t3 : Fin (k0_t3_loop v108).trips) : BitVec 32 :=
  let c0_i32_94 : BitVec 32 := 0#32
  let c1_i32_96 : BitVec 32 := 1#32
  let arg41 : BitVec 32 := Scf.iv c0_i32_94 c1_i32_96 k0_t3
  let c512_i32_331 : BitVec 32 := 512#32
  let v362 : BitVec 32 := Scalar.muli arg41 c512_i32_331
  v362
def k0_off9 (v108 : BitVec 32) (k0_t3 : Fin (k0_t3_loop v108).trips) : Fin 3 → Nat :=
  let c0_333 : Index := 0#32
  let c0_i32_94 : BitVec 32 := 0#32
  let c1_i32_96 : BitVec 32 := 1#32
  let arg41 : BitVec 32 := Scf.iv c0_i32_94 c1_i32_96 k0_t3
  let c512_i32_331 : BitVec 32 := 512#32
  let v362 : BitVec 32 := Scalar.muli arg41 c512_i32_331
  let v363 : BitVec 32 := v362
  let v370 : Index := Scalar.indexCast v363
  let c0_334 : Index := 0#32
  ![0, v370.toNat, 0]
@[reducible] def k0_t4_loop (v108 : BitVec 32) : Scf.Loop 32 :=
  let c0_i32_94 : BitVec 32 := 0#32
  let c511_i32 : BitVec 32 := 511#32
  let v109 : BitVec 32 := Scalar.addi v108 c511_i32
  let c512_i32_88 : BitVec 32 := 512#32
  let v110 : BitVec 32 := Scalar.divsi v109 c512_i32_88
  let v120 : BitVec 32 := Scalar.subi v110 c0_i32_94
  let c1_i32_95 : BitVec 32 := 1#32
  let v122 : BitVec 32 := Scalar.divsi v120 c1_i32_95
  let v123 : BitVec 32 := Scalar.muli v122 c1_i32_95
  let v124 : BitVec 32 := Scalar.addi c0_i32_94 v123
  let v121 : BitVec 32 := Scalar.addi c0_i32_94 v120
  let c1_i32_97 : BitVec 32 := 1#32
  ⟨v124, v121, c1_i32_97⟩
def k0_mult4 (v108 : BitVec 32) (k0_t4 : Fin (k0_t4_loop v108).trips) : BitVec 32 :=
  let c0_i32_94 : BitVec 32 := 0#32
  let c511_i32 : BitVec 32 := 511#32
  let v109 : BitVec 32 := Scalar.addi v108 c511_i32
  let c512_i32_88 : BitVec 32 := 512#32
  let v110 : BitVec 32 := Scalar.divsi v109 c512_i32_88
  let v120 : BitVec 32 := Scalar.subi v110 c0_i32_94
  let c1_i32_95 : BitVec 32 := 1#32
  let v122 : BitVec 32 := Scalar.divsi v120 c1_i32_95
  let v123 : BitVec 32 := Scalar.muli v122 c1_i32_95
  let v124 : BitVec 32 := Scalar.addi c0_i32_94 v123
  let c1_i32_97 : BitVec 32 := 1#32
  let arg41 : BitVec 32 := Scf.iv v124 c1_i32_97 k0_t4
  let c512_i32_331 : BitVec 32 := 512#32
  let v362 : BitVec 32 := Scalar.muli arg41 c512_i32_331
  v362
def k0_off10 (v108 : BitVec 32) (k0_t4 : Fin (k0_t4_loop v108).trips) : Fin 3 → Nat :=
  let c0_333 : Index := 0#32
  let c0_i32_94 : BitVec 32 := 0#32
  let c511_i32 : BitVec 32 := 511#32
  let v109 : BitVec 32 := Scalar.addi v108 c511_i32
  let c512_i32_88 : BitVec 32 := 512#32
  let v110 : BitVec 32 := Scalar.divsi v109 c512_i32_88
  let v120 : BitVec 32 := Scalar.subi v110 c0_i32_94
  let c1_i32_95 : BitVec 32 := 1#32
  let v122 : BitVec 32 := Scalar.divsi v120 c1_i32_95
  let v123 : BitVec 32 := Scalar.muli v122 c1_i32_95
  let v124 : BitVec 32 := Scalar.addi c0_i32_94 v123
  let c1_i32_97 : BitVec 32 := 1#32
  let arg41 : BitVec 32 := Scf.iv v124 c1_i32_97 k0_t4
  let c512_i32_331 : BitVec 32 := 512#32
  let v362 : BitVec 32 := Scalar.muli arg41 c512_i32_331
  let v363 : BitVec 32 := v362
  let v370 : Index := Scalar.indexCast v363
  let c0_334 : Index := 0#32
  ![0, v370.toNat, 0]
@[reducible] def k0_t5_loop (v108 : BitVec 32) : Scf.Loop 32 :=
  let c0_i32_104 : BitVec 32 := 0#32
  let c511_i32 : BitVec 32 := 511#32
  let v109 : BitVec 32 := Scalar.addi v108 c511_i32
  let c512_i32_88 : BitVec 32 := 512#32
  let v110 : BitVec 32 := Scalar.divsi v109 c512_i32_88
  let v133 : BitVec 32 := Scalar.subi v110 c0_i32_104
  let c1_i32_105 : BitVec 32 := 1#32
  let v135 : BitVec 32 := Scalar.divsi v133 c1_i32_105
  let v136 : BitVec 32 := Scalar.muli v135 c1_i32_105
  let v137 : BitVec 32 := Scalar.addi c0_i32_104 v136
  let c1_i32_106 : BitVec 32 := 1#32
  ⟨c0_i32_104, v137, c1_i32_106⟩
def k0_mult5 (v108 : BitVec 32) (k0_t5 : Fin (k0_t5_loop v108).trips) : BitVec 32 :=
  let c0_i32_104 : BitVec 32 := 0#32
  let c1_i32_106 : BitVec 32 := 1#32
  let arg41 : BitVec 32 := Scf.iv c0_i32_104 c1_i32_106 k0_t5
  let c512_i32_331 : BitVec 32 := 512#32
  let v362 : BitVec 32 := Scalar.muli arg41 c512_i32_331
  v362
def k0_off11 (v108 : BitVec 32) (k0_t5 : Fin (k0_t5_loop v108).trips) : Fin 3 → Nat :=
  let c0_333 : Index := 0#32
  let c0_i32_104 : BitVec 32 := 0#32
  let c1_i32_106 : BitVec 32 := 1#32
  let arg41 : BitVec 32 := Scf.iv c0_i32_104 c1_i32_106 k0_t5
  let c512_i32_331 : BitVec 32 := 512#32
  let v362 : BitVec 32 := Scalar.muli arg41 c512_i32_331
  let v363 : BitVec 32 := v362
  let v370 : Index := Scalar.indexCast v363
  let c0_334 : Index := 0#32
  ![0, v370.toNat, 0]
def k0_off12 (v108 : BitVec 32) (k0_t5 : Fin (k0_t5_loop v108).trips) : Fin 3 → Nat :=
  let c0_339 : Index := 0#32
  let c0_i32_104 : BitVec 32 := 0#32
  let c1_i32_106 : BitVec 32 := 1#32
  let arg41 : BitVec 32 := Scf.iv c0_i32_104 c1_i32_106 k0_t5
  let c512_i32_331 : BitVec 32 := 512#32
  let v362 : BitVec 32 := Scalar.muli arg41 c512_i32_331
  let v363 : BitVec 32 := v362
  let v383 : Index := Scalar.indexCast v363
  let c0_340 : Index := 0#32
  ![0, v383.toNat, 0]
@[reducible] def k0_t6_loop (v108 : BitVec 32) : Scf.Loop 32 :=
  let c0_i32_104 : BitVec 32 := 0#32
  let c511_i32 : BitVec 32 := 511#32
  let v109 : BitVec 32 := Scalar.addi v108 c511_i32
  let c512_i32_88 : BitVec 32 := 512#32
  let v110 : BitVec 32 := Scalar.divsi v109 c512_i32_88
  let v133 : BitVec 32 := Scalar.subi v110 c0_i32_104
  let c1_i32_105 : BitVec 32 := 1#32
  let v135 : BitVec 32 := Scalar.divsi v133 c1_i32_105
  let v136 : BitVec 32 := Scalar.muli v135 c1_i32_105
  let v137 : BitVec 32 := Scalar.addi c0_i32_104 v136
  let v134 : BitVec 32 := Scalar.addi c0_i32_104 v133
  let c1_i32_107 : BitVec 32 := 1#32
  ⟨v137, v134, c1_i32_107⟩
def k0_mult6 (v108 : BitVec 32) (k0_t6 : Fin (k0_t6_loop v108).trips) : BitVec 32 :=
  let c0_i32_104 : BitVec 32 := 0#32
  let c511_i32 : BitVec 32 := 511#32
  let v109 : BitVec 32 := Scalar.addi v108 c511_i32
  let c512_i32_88 : BitVec 32 := 512#32
  let v110 : BitVec 32 := Scalar.divsi v109 c512_i32_88
  let v133 : BitVec 32 := Scalar.subi v110 c0_i32_104
  let c1_i32_105 : BitVec 32 := 1#32
  let v135 : BitVec 32 := Scalar.divsi v133 c1_i32_105
  let v136 : BitVec 32 := Scalar.muli v135 c1_i32_105
  let v137 : BitVec 32 := Scalar.addi c0_i32_104 v136
  let c1_i32_107 : BitVec 32 := 1#32
  let arg41 : BitVec 32 := Scf.iv v137 c1_i32_107 k0_t6
  let c512_i32_331 : BitVec 32 := 512#32
  let v362 : BitVec 32 := Scalar.muli arg41 c512_i32_331
  v362
def k0_off13 (v108 : BitVec 32) (k0_t6 : Fin (k0_t6_loop v108).trips) : Fin 3 → Nat :=
  let c0_333 : Index := 0#32
  let c0_i32_104 : BitVec 32 := 0#32
  let c511_i32 : BitVec 32 := 511#32
  let v109 : BitVec 32 := Scalar.addi v108 c511_i32
  let c512_i32_88 : BitVec 32 := 512#32
  let v110 : BitVec 32 := Scalar.divsi v109 c512_i32_88
  let v133 : BitVec 32 := Scalar.subi v110 c0_i32_104
  let c1_i32_105 : BitVec 32 := 1#32
  let v135 : BitVec 32 := Scalar.divsi v133 c1_i32_105
  let v136 : BitVec 32 := Scalar.muli v135 c1_i32_105
  let v137 : BitVec 32 := Scalar.addi c0_i32_104 v136
  let c1_i32_107 : BitVec 32 := 1#32
  let arg41 : BitVec 32 := Scf.iv v137 c1_i32_107 k0_t6
  let c512_i32_331 : BitVec 32 := 512#32
  let v362 : BitVec 32 := Scalar.muli arg41 c512_i32_331
  let v363 : BitVec 32 := v362
  let v370 : Index := Scalar.indexCast v363
  let c0_334 : Index := 0#32
  ![0, v370.toNat, 0]
def k0_off14 (v108 : BitVec 32) (k0_t6 : Fin (k0_t6_loop v108).trips) : Fin 3 → Nat :=
  let c0_339 : Index := 0#32
  let c0_i32_104 : BitVec 32 := 0#32
  let c511_i32 : BitVec 32 := 511#32
  let v109 : BitVec 32 := Scalar.addi v108 c511_i32
  let c512_i32_88 : BitVec 32 := 512#32
  let v110 : BitVec 32 := Scalar.divsi v109 c512_i32_88
  let v133 : BitVec 32 := Scalar.subi v110 c0_i32_104
  let c1_i32_105 : BitVec 32 := 1#32
  let v135 : BitVec 32 := Scalar.divsi v133 c1_i32_105
  let v136 : BitVec 32 := Scalar.muli v135 c1_i32_105
  let v137 : BitVec 32 := Scalar.addi c0_i32_104 v136
  let c1_i32_107 : BitVec 32 := 1#32
  let arg41 : BitVec 32 := Scf.iv v137 c1_i32_107 k0_t6
  let c512_i32_331 : BitVec 32 := 512#32
  let v362 : BitVec 32 := Scalar.muli arg41 c512_i32_331
  let v363 : BitVec 32 := v362
  let v383 : Index := Scalar.indexCast v363
  let c0_340 : Index := 0#32
  ![0, v383.toNat, 0]

def k0_chk1 (v108 : BitVec 32) : Prop :=
  ((k0_t1_loop v108).OK) ∧
  (∀ k0_t1 : Fin (k0_t1_loop v108).trips, ∀ a, (k0_off1 v108 k0_t1) a + S1x1.size a ≤ S2x4.size a) ∧
  (∀ k0_t1 : Fin (k0_t1_loop v108).trips, ∀ a, (k0_off2 v108 k0_t1) a + S1x512x1664.size a ≤ S2x2048x1664.size a) ∧
  (∀ k0_t1 : Fin (k0_t1_loop v108).trips, ∀ (hinb : ∀ a, (k0_off2 v108 k0_t1) a + S1x512x1664.size a ≤ S2x2048x1664.size a), (Rect.unit (s := S2x2048x1664) (k0_off2 v108 k0_t1) S1x512x1664.size hinb).WholeWords (EltTy.packing .bf16)) ∧
  (∀ k0_t1 : Fin (k0_t1_loop v108).trips, 512 ∣ (k0_mult1 v108 k0_t1).toNat) ∧
  (∀ k0_t1 : Fin (k0_t1_loop v108).trips, ∀ a, (k0_off3 v108 k0_t1) a + S1x512x1664.size a ≤ S2x2048x1664.size a) ∧
  (∀ k0_t1 : Fin (k0_t1_loop v108).trips, ∀ a, (k0_off4 v108 k0_t1) a + S1x512x128.size a ≤ S2x2048x128.size a) ∧
  ((k0_t2_loop v108).OK) ∧
  (∀ k0_t2 : Fin (k0_t2_loop v108).trips, ∀ a, (k0_off5 v108 k0_t2) a + S1x1.size a ≤ S2x4.size a) ∧
  (∀ k0_t2 : Fin (k0_t2_loop v108).trips, ∀ a, (k0_off6 v108 k0_t2) a + S1x512x1664.size a ≤ S2x2048x1664.size a) ∧
  (∀ k0_t2 : Fin (k0_t2_loop v108).trips, ∀ (hinb : ∀ a, (k0_off6 v108 k0_t2) a + S1x512x1664.size a ≤ S2x2048x1664.size a), (Rect.unit (s := S2x2048x1664) (k0_off6 v108 k0_t2) S1x512x1664.size hinb).WholeWords (EltTy.packing .bf16)) ∧
  (∀ k0_t2 : Fin (k0_t2_loop v108).trips, 512 ∣ (k0_mult2 v108 k0_t2).toNat) ∧
  (∀ k0_t2 : Fin (k0_t2_loop v108).trips, ∀ a, (k0_off7 v108 k0_t2) a + S1x512x1664.size a ≤ S2x2048x1664.size a) ∧
  (∀ k0_t2 : Fin (k0_t2_loop v108).trips, ∀ a, (k0_off8 v108 k0_t2) a + S1x512x128.size a ≤ S2x2048x128.size a) ∧
  ((k0_t3_loop v108).OK) ∧
  (∀ k0_t3 : Fin (k0_t3_loop v108).trips, 512 ∣ (k0_mult3 v108 k0_t3).toNat) ∧
  (∀ k0_t3 : Fin (k0_t3_loop v108).trips, ∀ a, (k0_off9 v108 k0_t3) a + S1x512x128.size a ≤ S2x2048x128.size a) ∧
  ((k0_t4_loop v108).OK) ∧
  (∀ k0_t4 : Fin (k0_t4_loop v108).trips, 512 ∣ (k0_mult4 v108 k0_t4).toNat) ∧
  (∀ k0_t4 : Fin (k0_t4_loop v108).trips, ∀ a, (k0_off10 v108 k0_t4) a + S1x512x128.size a ≤ S2x2048x128.size a) ∧
  ((k0_t5_loop v108).OK) ∧
  (∀ k0_t5 : Fin (k0_t5_loop v108).trips, 512 ∣ (k0_mult5 v108 k0_t5).toNat) ∧
  (∀ k0_t5 : Fin (k0_t5_loop v108).trips, ∀ a, (k0_off11 v108 k0_t5) a + S1x512x128.size a ≤ S2x2048x128.size a) ∧
  (∀ k0_t5 : Fin (k0_t5_loop v108).trips, ∀ a, (k0_off12 v108 k0_t5) a + S1x512x1664.size a ≤ S2x2048x1664.size a) ∧
  ((k0_t6_loop v108).OK) ∧
  (∀ k0_t6 : Fin (k0_t6_loop v108).trips, 512 ∣ (k0_mult6 v108 k0_t6).toNat) ∧
  (∀ k0_t6 : Fin (k0_t6_loop v108).trips, ∀ a, (k0_off13 v108 k0_t6) a + S1x512x128.size a ≤ S2x2048x128.size a) ∧
  (∀ k0_t6 : Fin (k0_t6_loop v108).trips, ∀ a, (k0_off14 v108 k0_t6) a + S1x512x1664.size a ≤ S2x2048x1664.size a)
theorem k0_t1_ok : ∀ (v108 : BitVec 32) (k0_hw1 : k0_chk1 v108), (k0_t1_loop v108).OK := fun v108 k0_hw1 => k0_hw1.1
theorem k0_off1_inb : ∀ (v108 : BitVec 32) (k0_hw1 : k0_chk1 v108) (k0_t1 : Fin (k0_t1_loop v108).trips), ∀ a, (k0_off1 v108 k0_t1) a + S1x1.size a ≤ S2x4.size a := fun v108 k0_hw1 k0_t1 => k0_hw1.2.1 k0_t1
theorem k0_off2_inb : ∀ (v108 : BitVec 32) (k0_hw1 : k0_chk1 v108) (k0_t1 : Fin (k0_t1_loop v108).trips), ∀ a, (k0_off2 v108 k0_t1) a + S1x512x1664.size a ≤ S2x2048x1664.size a := fun v108 k0_hw1 k0_t1 => k0_hw1.2.2.1 k0_t1
theorem k0_off2_wordsbf16 : ∀ (v108 : BitVec 32) (k0_hw1 : k0_chk1 v108) (k0_t1 : Fin (k0_t1_loop v108).trips), (Rect.unit (s := S2x2048x1664) (k0_off2 v108 k0_t1) S1x512x1664.size (k0_off2_inb v108 k0_hw1 k0_t1)).WholeWords (EltTy.packing .bf16) := fun v108 k0_hw1 k0_t1 => k0_hw1.2.2.2.1 k0_t1 (k0_off2_inb v108 k0_hw1 k0_t1)
theorem k0_mult1_dvd : ∀ (v108 : BitVec 32) (k0_hw1 : k0_chk1 v108) (k0_t1 : Fin (k0_t1_loop v108).trips), 512 ∣ (k0_mult1 v108 k0_t1).toNat := fun v108 k0_hw1 k0_t1 => k0_hw1.2.2.2.2.1 k0_t1
theorem k0_off3_inb : ∀ (v108 : BitVec 32) (k0_hw1 : k0_chk1 v108) (k0_t1 : Fin (k0_t1_loop v108).trips), ∀ a, (k0_off3 v108 k0_t1) a + S1x512x1664.size a ≤ S2x2048x1664.size a := fun v108 k0_hw1 k0_t1 => k0_hw1.2.2.2.2.2.1 k0_t1
theorem k0_off4_inb : ∀ (v108 : BitVec 32) (k0_hw1 : k0_chk1 v108) (k0_t1 : Fin (k0_t1_loop v108).trips), ∀ a, (k0_off4 v108 k0_t1) a + S1x512x128.size a ≤ S2x2048x128.size a := fun v108 k0_hw1 k0_t1 => k0_hw1.2.2.2.2.2.2.1 k0_t1
theorem k0_t2_ok : ∀ (v108 : BitVec 32) (k0_hw1 : k0_chk1 v108), (k0_t2_loop v108).OK := fun v108 k0_hw1 => k0_hw1.2.2.2.2.2.2.2.1
theorem k0_off5_inb : ∀ (v108 : BitVec 32) (k0_hw1 : k0_chk1 v108) (k0_t2 : Fin (k0_t2_loop v108).trips), ∀ a, (k0_off5 v108 k0_t2) a + S1x1.size a ≤ S2x4.size a := fun v108 k0_hw1 k0_t2 => k0_hw1.2.2.2.2.2.2.2.2.1 k0_t2
theorem k0_off6_inb : ∀ (v108 : BitVec 32) (k0_hw1 : k0_chk1 v108) (k0_t2 : Fin (k0_t2_loop v108).trips), ∀ a, (k0_off6 v108 k0_t2) a + S1x512x1664.size a ≤ S2x2048x1664.size a := fun v108 k0_hw1 k0_t2 => k0_hw1.2.2.2.2.2.2.2.2.2.1 k0_t2
theorem k0_off6_wordsbf16 : ∀ (v108 : BitVec 32) (k0_hw1 : k0_chk1 v108) (k0_t2 : Fin (k0_t2_loop v108).trips), (Rect.unit (s := S2x2048x1664) (k0_off6 v108 k0_t2) S1x512x1664.size (k0_off6_inb v108 k0_hw1 k0_t2)).WholeWords (EltTy.packing .bf16) := fun v108 k0_hw1 k0_t2 => k0_hw1.2.2.2.2.2.2.2.2.2.2.1 k0_t2 (k0_off6_inb v108 k0_hw1 k0_t2)
theorem k0_mult2_dvd : ∀ (v108 : BitVec 32) (k0_hw1 : k0_chk1 v108) (k0_t2 : Fin (k0_t2_loop v108).trips), 512 ∣ (k0_mult2 v108 k0_t2).toNat := fun v108 k0_hw1 k0_t2 => k0_hw1.2.2.2.2.2.2.2.2.2.2.2.1 k0_t2
theorem k0_off7_inb : ∀ (v108 : BitVec 32) (k0_hw1 : k0_chk1 v108) (k0_t2 : Fin (k0_t2_loop v108).trips), ∀ a, (k0_off7 v108 k0_t2) a + S1x512x1664.size a ≤ S2x2048x1664.size a := fun v108 k0_hw1 k0_t2 => k0_hw1.2.2.2.2.2.2.2.2.2.2.2.2.1 k0_t2
theorem k0_off8_inb : ∀ (v108 : BitVec 32) (k0_hw1 : k0_chk1 v108) (k0_t2 : Fin (k0_t2_loop v108).trips), ∀ a, (k0_off8 v108 k0_t2) a + S1x512x128.size a ≤ S2x2048x128.size a := fun v108 k0_hw1 k0_t2 => k0_hw1.2.2.2.2.2.2.2.2.2.2.2.2.2.1 k0_t2
theorem k0_t3_ok : ∀ (v108 : BitVec 32) (k0_hw1 : k0_chk1 v108), (k0_t3_loop v108).OK := fun v108 k0_hw1 => k0_hw1.2.2.2.2.2.2.2.2.2.2.2.2.2.2.1
theorem k0_mult3_dvd : ∀ (v108 : BitVec 32) (k0_hw1 : k0_chk1 v108) (k0_t3 : Fin (k0_t3_loop v108).trips), 512 ∣ (k0_mult3 v108 k0_t3).toNat := fun v108 k0_hw1 k0_t3 => k0_hw1.2.2.2.2.2.2.2.2.2.2.2.2.2.2.2.1 k0_t3
theorem k0_off9_inb : ∀ (v108 : BitVec 32) (k0_hw1 : k0_chk1 v108) (k0_t3 : Fin (k0_t3_loop v108).trips), ∀ a, (k0_off9 v108 k0_t3) a + S1x512x128.size a ≤ S2x2048x128.size a := fun v108 k0_hw1 k0_t3 => k0_hw1.2.2.2.2.2.2.2.2.2.2.2.2.2.2.2.2.1 k0_t3
theorem k0_t4_ok : ∀ (v108 : BitVec 32) (k0_hw1 : k0_chk1 v108), (k0_t4_loop v108).OK := fun v108 k0_hw1 => k0_hw1.2.2.2.2.2.2.2.2.2.2.2.2.2.2.2.2.2.1
theorem k0_mult4_dvd : ∀ (v108 : BitVec 32) (k0_hw1 : k0_chk1 v108) (k0_t4 : Fin (k0_t4_loop v108).trips), 512 ∣ (k0_mult4 v108 k0_t4).toNat := fun v108 k0_hw1 k0_t4 => k0_hw1.2.2.2.2.2.2.2.2.2.2.2.2.2.2.2.2.2.2.1 k0_t4
theorem k0_off10_inb : ∀ (v108 : BitVec 32) (k0_hw1 : k0_chk1 v108) (k0_t4 : Fin (k0_t4_loop v108).trips), ∀ a, (k0_off10 v108 k0_t4) a + S1x512x128.size a ≤ S2x2048x128.size a := fun v108 k0_hw1 k0_t4 => k0_hw1.2.2.2.2.2.2.2.2.2.2.2.2.2.2.2.2.2.2.2.1 k0_t4
theorem k0_t5_ok : ∀ (v108 : BitVec 32) (k0_hw1 : k0_chk1 v108), (k0_t5_loop v108).OK := fun v108 k0_hw1 => k0_hw1.2.2.2.2.2.2.2.2.2.2.2.2.2.2.2.2.2.2.2.2.1
theorem k0_mult5_dvd : ∀ (v108 : BitVec 32) (k0_hw1 : k0_chk1 v108) (k0_t5 : Fin (k0_t5_loop v108).trips), 512 ∣ (k0_mult5 v108 k0_t5).toNat := fun v108 k0_hw1 k0_t5 => k0_hw1.2.2.2.2.2.2.2.2.2.2.2.2.2.2.2.2.2.2.2.2.2.1 k0_t5
theorem k0_off11_inb : ∀ (v108 : BitVec 32) (k0_hw1 : k0_chk1 v108) (k0_t5 : Fin (k0_t5_loop v108).trips), ∀ a, (k0_off11 v108 k0_t5) a + S1x512x128.size a ≤ S2x2048x128.size a := fun v108 k0_hw1 k0_t5 => k0_hw1.2.2.2.2.2.2.2.2.2.2.2.2.2.2.2.2.2.2.2.2.2.2.1 k0_t5
theorem k0_off12_inb : ∀ (v108 : BitVec 32) (k0_hw1 : k0_chk1 v108) (k0_t5 : Fin (k0_t5_loop v108).trips), ∀ a, (k0_off12 v108 k0_t5) a + S1x512x1664.size a ≤ S2x2048x1664.size a := fun v108 k0_hw1 k0_t5 => k0_hw1.2.2.2.2.2.2.2.2.2.2.2.2.2.2.2.2.2.2.2.2.2.2.2.1 k0_t5
theorem k0_t6_ok : ∀ (v108 : BitVec 32) (k0_hw1 : k0_chk1 v108), (k0_t6_loop v108).OK := fun v108 k0_hw1 => k0_hw1.2.2.2.2.2.2.2.2.2.2.2.2.2.2.2.2.2.2.2.2.2.2.2.2.1
theorem k0_mult6_dvd : ∀ (v108 : BitVec 32) (k0_hw1 : k0_chk1 v108) (k0_t6 : Fin (k0_t6_loop v108).trips), 512 ∣ (k0_mult6 v108 k0_t6).toNat := fun v108 k0_hw1 k0_t6 => k0_hw1.2.2.2.2.2.2.2.2.2.2.2.2.2.2.2.2.2.2.2.2.2.2.2.2.2.1 k0_t6
theorem k0_off13_inb : ∀ (v108 : BitVec 32) (k0_hw1 : k0_chk1 v108) (k0_t6 : Fin (k0_t6_loop v108).trips), ∀ a, (k0_off13 v108 k0_t6) a + S1x512x128.size a ≤ S2x2048x128.size a := fun v108 k0_hw1 k0_t6 => k0_hw1.2.2.2.2.2.2.2.2.2.2.2.2.2.2.2.2.2.2.2.2.2.2.2.2.2.2.1 k0_t6
theorem k0_off14_inb : ∀ (v108 : BitVec 32) (k0_hw1 : k0_chk1 v108) (k0_t6 : Fin (k0_t6_loop v108).trips), ∀ a, (k0_off14 v108 k0_t6) a + S1x512x1664.size a ≤ S2x2048x1664.size a := fun v108 k0_hw1 k0_t6 => k0_hw1.2.2.2.2.2.2.2.2.2.2.2.2.2.2.2.2.2.2.2.2.2.2.2.2.2.2.2 k0_t6

@[reducible] def k0_t7_loop (v138 : BitVec 32) : Scf.Loop 32 :=
  let c0_i32_112 : BitVec 32 := 0#32
  let c511_i32_109 : BitVec 32 := 511#32
  let v139 : BitVec 32 := Scalar.addi v138 c511_i32_109
  let c512_i32_110 : BitVec 32 := 512#32
  let v140 : BitVec 32 := Scalar.divsi v139 c512_i32_110
  let v142 : BitVec 32 := Scalar.subi v140 c0_i32_112
  let c1_i32_113 : BitVec 32 := 1#32
  let v144 : BitVec 32 := Scalar.divsi v142 c1_i32_113
  let v145 : BitVec 32 := Scalar.muli v144 c1_i32_113
  let v146 : BitVec 32 := Scalar.addi c0_i32_112 v145
  let c1_i32_114 : BitVec 32 := 1#32
  ⟨c0_i32_112, v146, c1_i32_114⟩

def k0_off15 (v138 : BitVec 32) (k0_t7 : Fin (k0_t7_loop v138).trips) : Fin 2 → Nat :=
  let c1_i32_334 : BitVec 32 := 1#32
  let c0_i32_112 : BitVec 32 := 0#32
  let c1_i32_114 : BitVec 32 := 1#32
  let arg41 : BitVec 32 := Scf.iv c0_i32_112 c1_i32_114 k0_t7
  ![1, arg41.toNat]
def k0_off16 (v138 : BitVec 32) (k0_t7 : Fin (k0_t7_loop v138).trips) : Fin 3 → Nat :=
  let c1_i32_333 : BitVec 32 := 1#32
  let c0_i32_112 : BitVec 32 := 0#32
  let c1_i32_114 : BitVec 32 := 1#32
  let arg41 : BitVec 32 := Scf.iv c0_i32_112 c1_i32_114 k0_t7
  let c512_i32_331 : BitVec 32 := 512#32
  let v362 : BitVec 32 := Scalar.muli arg41 c512_i32_331
  let c0_i32_335 : BitVec 32 := 0#32
  ![1, v362.toNat, 0]
def k0_mult7 (v138 : BitVec 32) (k0_t7 : Fin (k0_t7_loop v138).trips) : BitVec 32 :=
  let c0_i32_112 : BitVec 32 := 0#32
  let c1_i32_114 : BitVec 32 := 1#32
  let arg41 : BitVec 32 := Scf.iv c0_i32_112 c1_i32_114 k0_t7
  let c512_i32_337 : BitVec 32 := 512#32
  let v369 : BitVec 32 := Scalar.muli arg41 c512_i32_337
  v369
def k0_off17 (v138 : BitVec 32) (k0_t7 : Fin (k0_t7_loop v138).trips) : Fin 3 → Nat :=
  let c1_338 : Index := 1#32
  let c0_i32_112 : BitVec 32 := 0#32
  let c1_i32_114 : BitVec 32 := 1#32
  let arg41 : BitVec 32 := Scf.iv c0_i32_112 c1_i32_114 k0_t7
  let c512_i32_337 : BitVec 32 := 512#32
  let v369 : BitVec 32 := Scalar.muli arg41 c512_i32_337
  let v370 : BitVec 32 := v369
  let v371 : Index := Scalar.indexCast v370
  let c0_339 : Index := 0#32
  ![1, v371.toNat, 0]
def k0_off18 (v138 : BitVec 32) (k0_t7 : Fin (k0_t7_loop v138).trips) : Fin 3 → Nat :=
  let c1_343 : Index := 1#32
  let c0_i32_112 : BitVec 32 := 0#32
  let c1_i32_114 : BitVec 32 := 1#32
  let arg41 : BitVec 32 := Scf.iv c0_i32_112 c1_i32_114 k0_t7
  let c512_i32_337 : BitVec 32 := 512#32
  let v369 : BitVec 32 := Scalar.muli arg41 c512_i32_337
  let v370 : BitVec 32 := v369
  let v376 : Index := Scalar.indexCast v370
  let c0_344 : Index := 0#32
  ![1, v376.toNat, 0]
@[reducible] def k0_t8_loop (v138 : BitVec 32) : Scf.Loop 32 :=
  let c0_i32_112 : BitVec 32 := 0#32
  let c511_i32_109 : BitVec 32 := 511#32
  let v139 : BitVec 32 := Scalar.addi v138 c511_i32_109
  let c512_i32_110 : BitVec 32 := 512#32
  let v140 : BitVec 32 := Scalar.divsi v139 c512_i32_110
  let v142 : BitVec 32 := Scalar.subi v140 c0_i32_112
  let c1_i32_113 : BitVec 32 := 1#32
  let v144 : BitVec 32 := Scalar.divsi v142 c1_i32_113
  let v145 : BitVec 32 := Scalar.muli v144 c1_i32_113
  let v146 : BitVec 32 := Scalar.addi c0_i32_112 v145
  let v143 : BitVec 32 := Scalar.addi c0_i32_112 v142
  let c1_i32_115 : BitVec 32 := 1#32
  ⟨v146, v143, c1_i32_115⟩
def k0_off19 (v138 : BitVec 32) (k0_t8 : Fin (k0_t8_loop v138).trips) : Fin 2 → Nat :=
  let c1_i32_334 : BitVec 32 := 1#32
  let c0_i32_112 : BitVec 32 := 0#32
  let c511_i32_109 : BitVec 32 := 511#32
  let v139 : BitVec 32 := Scalar.addi v138 c511_i32_109
  let c512_i32_110 : BitVec 32 := 512#32
  let v140 : BitVec 32 := Scalar.divsi v139 c512_i32_110
  let v142 : BitVec 32 := Scalar.subi v140 c0_i32_112
  let c1_i32_113 : BitVec 32 := 1#32
  let v144 : BitVec 32 := Scalar.divsi v142 c1_i32_113
  let v145 : BitVec 32 := Scalar.muli v144 c1_i32_113
  let v146 : BitVec 32 := Scalar.addi c0_i32_112 v145
  let c1_i32_115 : BitVec 32 := 1#32
  let arg41 : BitVec 32 := Scf.iv v146 c1_i32_115 k0_t8
  ![1, arg41.toNat]
def k0_off20 (v138 : BitVec 32) (k0_t8 : Fin (k0_t8_loop v138).trips) : Fin 3 → Nat :=
  let c1_i32_333 : BitVec 32 := 1#32
  let c0_i32_112 : BitVec 32 := 0#32
  let c511_i32_109 : BitVec 32 := 511#32
  let v139 : BitVec 32 := Scalar.addi v138 c511_i32_109
  let c512_i32_110 : BitVec 32 := 512#32
  let v140 : BitVec 32 := Scalar.divsi v139 c512_i32_110
  let v142 : BitVec 32 := Scalar.subi v140 c0_i32_112
  let c1_i32_113 : BitVec 32 := 1#32
  let v144 : BitVec 32 := Scalar.divsi v142 c1_i32_113
  let v145 : BitVec 32 := Scalar.muli v144 c1_i32_113
  let v146 : BitVec 32 := Scalar.addi c0_i32_112 v145
  let c1_i32_115 : BitVec 32 := 1#32
  let arg41 : BitVec 32 := Scf.iv v146 c1_i32_115 k0_t8
  let c512_i32_331 : BitVec 32 := 512#32
  let v362 : BitVec 32 := Scalar.muli arg41 c512_i32_331
  let c0_i32_335 : BitVec 32 := 0#32
  ![1, v362.toNat, 0]
def k0_mult8 (v138 : BitVec 32) (k0_t8 : Fin (k0_t8_loop v138).trips) : BitVec 32 :=
  let c0_i32_112 : BitVec 32 := 0#32
  let c511_i32_109 : BitVec 32 := 511#32
  let v139 : BitVec 32 := Scalar.addi v138 c511_i32_109
  let c512_i32_110 : BitVec 32 := 512#32
  let v140 : BitVec 32 := Scalar.divsi v139 c512_i32_110
  let v142 : BitVec 32 := Scalar.subi v140 c0_i32_112
  let c1_i32_113 : BitVec 32 := 1#32
  let v144 : BitVec 32 := Scalar.divsi v142 c1_i32_113
  let v145 : BitVec 32 := Scalar.muli v144 c1_i32_113
  let v146 : BitVec 32 := Scalar.addi c0_i32_112 v145
  let c1_i32_115 : BitVec 32 := 1#32
  let arg41 : BitVec 32 := Scf.iv v146 c1_i32_115 k0_t8
  let c512_i32_337 : BitVec 32 := 512#32
  let v369 : BitVec 32 := Scalar.muli arg41 c512_i32_337
  v369
def k0_off21 (v138 : BitVec 32) (k0_t8 : Fin (k0_t8_loop v138).trips) : Fin 3 → Nat :=
  let c1_338 : Index := 1#32
  let c0_i32_112 : BitVec 32 := 0#32
  let c511_i32_109 : BitVec 32 := 511#32
  let v139 : BitVec 32 := Scalar.addi v138 c511_i32_109
  let c512_i32_110 : BitVec 32 := 512#32
  let v140 : BitVec 32 := Scalar.divsi v139 c512_i32_110
  let v142 : BitVec 32 := Scalar.subi v140 c0_i32_112
  let c1_i32_113 : BitVec 32 := 1#32
  let v144 : BitVec 32 := Scalar.divsi v142 c1_i32_113
  let v145 : BitVec 32 := Scalar.muli v144 c1_i32_113
  let v146 : BitVec 32 := Scalar.addi c0_i32_112 v145
  let c1_i32_115 : BitVec 32 := 1#32
  let arg41 : BitVec 32 := Scf.iv v146 c1_i32_115 k0_t8
  let c512_i32_337 : BitVec 32 := 512#32
  let v369 : BitVec 32 := Scalar.muli arg41 c512_i32_337
  let v370 : BitVec 32 := v369
  let v371 : Index := Scalar.indexCast v370
  let c0_339 : Index := 0#32
  ![1, v371.toNat, 0]
def k0_off22 (v138 : BitVec 32) (k0_t8 : Fin (k0_t8_loop v138).trips) : Fin 3 → Nat :=
  let c1_343 : Index := 1#32
  let c0_i32_112 : BitVec 32 := 0#32
  let c511_i32_109 : BitVec 32 := 511#32
  let v139 : BitVec 32 := Scalar.addi v138 c511_i32_109
  let c512_i32_110 : BitVec 32 := 512#32
  let v140 : BitVec 32 := Scalar.divsi v139 c512_i32_110
  let v142 : BitVec 32 := Scalar.subi v140 c0_i32_112
  let c1_i32_113 : BitVec 32 := 1#32
  let v144 : BitVec 32 := Scalar.divsi v142 c1_i32_113
  let v145 : BitVec 32 := Scalar.muli v144 c1_i32_113
  let v146 : BitVec 32 := Scalar.addi c0_i32_112 v145
  let c1_i32_115 : BitVec 32 := 1#32
  let arg41 : BitVec 32 := Scf.iv v146 c1_i32_115 k0_t8
  let c512_i32_337 : BitVec 32 := 512#32
  let v369 : BitVec 32 := Scalar.muli arg41 c512_i32_337
  let v370 : BitVec 32 := v369
  let v376 : Index := Scalar.indexCast v370
  let c0_344 : Index := 0#32
  ![1, v376.toNat, 0]
@[reducible] def k0_t9_loop (v138 : BitVec 32) : Scf.Loop 32 :=
  let c0_i32_117 : BitVec 32 := 0#32
  let c511_i32_109 : BitVec 32 := 511#32
  let v139 : BitVec 32 := Scalar.addi v138 c511_i32_109
  let c512_i32_110 : BitVec 32 := 512#32
  let v140 : BitVec 32 := Scalar.divsi v139 c512_i32_110
  let v150 : BitVec 32 := Scalar.subi v140 c0_i32_117
  let c1_i32_118 : BitVec 32 := 1#32
  let v152 : BitVec 32 := Scalar.divsi v150 c1_i32_118
  let v153 : BitVec 32 := Scalar.muli v152 c1_i32_118
  let v154 : BitVec 32 := Scalar.addi c0_i32_117 v153
  let c1_i32_119 : BitVec 32 := 1#32
  ⟨c0_i32_117, v154, c1_i32_119⟩
def k0_mult9 (v138 : BitVec 32) (k0_t9 : Fin (k0_t9_loop v138).trips) : BitVec 32 :=
  let c0_i32_117 : BitVec 32 := 0#32
  let c1_i32_119 : BitVec 32 := 1#32
  let arg41 : BitVec 32 := Scf.iv c0_i32_117 c1_i32_119 k0_t9
  let c512_i32_331 : BitVec 32 := 512#32
  let v362 : BitVec 32 := Scalar.muli arg41 c512_i32_331
  v362
def k0_off23 (v138 : BitVec 32) (k0_t9 : Fin (k0_t9_loop v138).trips) : Fin 3 → Nat :=
  let c1_333 : Index := 1#32
  let c0_i32_117 : BitVec 32 := 0#32
  let c1_i32_119 : BitVec 32 := 1#32
  let arg41 : BitVec 32 := Scf.iv c0_i32_117 c1_i32_119 k0_t9
  let c512_i32_331 : BitVec 32 := 512#32
  let v362 : BitVec 32 := Scalar.muli arg41 c512_i32_331
  let v363 : BitVec 32 := v362
  let v370 : Index := Scalar.indexCast v363
  let c0_334 : Index := 0#32
  ![1, v370.toNat, 0]
@[reducible] def k0_t10_loop (v138 : BitVec 32) : Scf.Loop 32 :=
  let c0_i32_117 : BitVec 32 := 0#32
  let c511_i32_109 : BitVec 32 := 511#32
  let v139 : BitVec 32 := Scalar.addi v138 c511_i32_109
  let c512_i32_110 : BitVec 32 := 512#32
  let v140 : BitVec 32 := Scalar.divsi v139 c512_i32_110
  let v150 : BitVec 32 := Scalar.subi v140 c0_i32_117
  let c1_i32_118 : BitVec 32 := 1#32
  let v152 : BitVec 32 := Scalar.divsi v150 c1_i32_118
  let v153 : BitVec 32 := Scalar.muli v152 c1_i32_118
  let v154 : BitVec 32 := Scalar.addi c0_i32_117 v153
  let v151 : BitVec 32 := Scalar.addi c0_i32_117 v150
  let c1_i32_120 : BitVec 32 := 1#32
  ⟨v154, v151, c1_i32_120⟩
def k0_mult10 (v138 : BitVec 32) (k0_t10 : Fin (k0_t10_loop v138).trips) : BitVec 32 :=
  let c0_i32_117 : BitVec 32 := 0#32
  let c511_i32_109 : BitVec 32 := 511#32
  let v139 : BitVec 32 := Scalar.addi v138 c511_i32_109
  let c512_i32_110 : BitVec 32 := 512#32
  let v140 : BitVec 32 := Scalar.divsi v139 c512_i32_110
  let v150 : BitVec 32 := Scalar.subi v140 c0_i32_117
  let c1_i32_118 : BitVec 32 := 1#32
  let v152 : BitVec 32 := Scalar.divsi v150 c1_i32_118
  let v153 : BitVec 32 := Scalar.muli v152 c1_i32_118
  let v154 : BitVec 32 := Scalar.addi c0_i32_117 v153
  let c1_i32_120 : BitVec 32 := 1#32
  let arg41 : BitVec 32 := Scf.iv v154 c1_i32_120 k0_t10
  let c512_i32_331 : BitVec 32 := 512#32
  let v362 : BitVec 32 := Scalar.muli arg41 c512_i32_331
  v362
def k0_off24 (v138 : BitVec 32) (k0_t10 : Fin (k0_t10_loop v138).trips) : Fin 3 → Nat :=
  let c1_333 : Index := 1#32
  let c0_i32_117 : BitVec 32 := 0#32
  let c511_i32_109 : BitVec 32 := 511#32
  let v139 : BitVec 32 := Scalar.addi v138 c511_i32_109
  let c512_i32_110 : BitVec 32 := 512#32
  let v140 : BitVec 32 := Scalar.divsi v139 c512_i32_110
  let v150 : BitVec 32 := Scalar.subi v140 c0_i32_117
  let c1_i32_118 : BitVec 32 := 1#32
  let v152 : BitVec 32 := Scalar.divsi v150 c1_i32_118
  let v153 : BitVec 32 := Scalar.muli v152 c1_i32_118
  let v154 : BitVec 32 := Scalar.addi c0_i32_117 v153
  let c1_i32_120 : BitVec 32 := 1#32
  let arg41 : BitVec 32 := Scf.iv v154 c1_i32_120 k0_t10
  let c512_i32_331 : BitVec 32 := 512#32
  let v362 : BitVec 32 := Scalar.muli arg41 c512_i32_331
  let v363 : BitVec 32 := v362
  let v370 : Index := Scalar.indexCast v363
  let c0_334 : Index := 0#32
  ![1, v370.toNat, 0]
@[reducible] def k0_t11_loop (v138 : BitVec 32) : Scf.Loop 32 :=
  let c0_i32_127 : BitVec 32 := 0#32
  let c511_i32_109 : BitVec 32 := 511#32
  let v139 : BitVec 32 := Scalar.addi v138 c511_i32_109
  let c512_i32_110 : BitVec 32 := 512#32
  let v140 : BitVec 32 := Scalar.divsi v139 c512_i32_110
  let v163 : BitVec 32 := Scalar.subi v140 c0_i32_127
  let c1_i32_128 : BitVec 32 := 1#32
  let v165 : BitVec 32 := Scalar.divsi v163 c1_i32_128
  let v166 : BitVec 32 := Scalar.muli v165 c1_i32_128
  let v167 : BitVec 32 := Scalar.addi c0_i32_127 v166
  let c1_i32_129 : BitVec 32 := 1#32
  ⟨c0_i32_127, v167, c1_i32_129⟩
def k0_mult11 (v138 : BitVec 32) (k0_t11 : Fin (k0_t11_loop v138).trips) : BitVec 32 :=
  let c0_i32_127 : BitVec 32 := 0#32
  let c1_i32_129 : BitVec 32 := 1#32
  let arg41 : BitVec 32 := Scf.iv c0_i32_127 c1_i32_129 k0_t11
  let c512_i32_331 : BitVec 32 := 512#32
  let v362 : BitVec 32 := Scalar.muli arg41 c512_i32_331
  v362
def k0_off25 (v138 : BitVec 32) (k0_t11 : Fin (k0_t11_loop v138).trips) : Fin 3 → Nat :=
  let c1_333 : Index := 1#32
  let c0_i32_127 : BitVec 32 := 0#32
  let c1_i32_129 : BitVec 32 := 1#32
  let arg41 : BitVec 32 := Scf.iv c0_i32_127 c1_i32_129 k0_t11
  let c512_i32_331 : BitVec 32 := 512#32
  let v362 : BitVec 32 := Scalar.muli arg41 c512_i32_331
  let v363 : BitVec 32 := v362
  let v370 : Index := Scalar.indexCast v363
  let c0_334 : Index := 0#32
  ![1, v370.toNat, 0]
def k0_off26 (v138 : BitVec 32) (k0_t11 : Fin (k0_t11_loop v138).trips) : Fin 3 → Nat :=
  let c1_339 : Index := 1#32
  let c0_i32_127 : BitVec 32 := 0#32
  let c1_i32_129 : BitVec 32 := 1#32
  let arg41 : BitVec 32 := Scf.iv c0_i32_127 c1_i32_129 k0_t11
  let c512_i32_331 : BitVec 32 := 512#32
  let v362 : BitVec 32 := Scalar.muli arg41 c512_i32_331
  let v363 : BitVec 32 := v362
  let v383 : Index := Scalar.indexCast v363
  let c0_340 : Index := 0#32
  ![1, v383.toNat, 0]
@[reducible] def k0_t12_loop (v138 : BitVec 32) : Scf.Loop 32 :=
  let c0_i32_127 : BitVec 32 := 0#32
  let c511_i32_109 : BitVec 32 := 511#32
  let v139 : BitVec 32 := Scalar.addi v138 c511_i32_109
  let c512_i32_110 : BitVec 32 := 512#32
  let v140 : BitVec 32 := Scalar.divsi v139 c512_i32_110
  let v163 : BitVec 32 := Scalar.subi v140 c0_i32_127
  let c1_i32_128 : BitVec 32 := 1#32
  let v165 : BitVec 32 := Scalar.divsi v163 c1_i32_128
  let v166 : BitVec 32 := Scalar.muli v165 c1_i32_128
  let v167 : BitVec 32 := Scalar.addi c0_i32_127 v166
  let v164 : BitVec 32 := Scalar.addi c0_i32_127 v163
  let c1_i32_130 : BitVec 32 := 1#32
  ⟨v167, v164, c1_i32_130⟩
def k0_mult12 (v138 : BitVec 32) (k0_t12 : Fin (k0_t12_loop v138).trips) : BitVec 32 :=
  let c0_i32_127 : BitVec 32 := 0#32
  let c511_i32_109 : BitVec 32 := 511#32
  let v139 : BitVec 32 := Scalar.addi v138 c511_i32_109
  let c512_i32_110 : BitVec 32 := 512#32
  let v140 : BitVec 32 := Scalar.divsi v139 c512_i32_110
  let v163 : BitVec 32 := Scalar.subi v140 c0_i32_127
  let c1_i32_128 : BitVec 32 := 1#32
  let v165 : BitVec 32 := Scalar.divsi v163 c1_i32_128
  let v166 : BitVec 32 := Scalar.muli v165 c1_i32_128
  let v167 : BitVec 32 := Scalar.addi c0_i32_127 v166
  let c1_i32_130 : BitVec 32 := 1#32
  let arg41 : BitVec 32 := Scf.iv v167 c1_i32_130 k0_t12
  let c512_i32_331 : BitVec 32 := 512#32
  let v362 : BitVec 32 := Scalar.muli arg41 c512_i32_331
  v362
def k0_off27 (v138 : BitVec 32) (k0_t12 : Fin (k0_t12_loop v138).trips) : Fin 3 → Nat :=
  let c1_333 : Index := 1#32
  let c0_i32_127 : BitVec 32 := 0#32
  let c511_i32_109 : BitVec 32 := 511#32
  let v139 : BitVec 32 := Scalar.addi v138 c511_i32_109
  let c512_i32_110 : BitVec 32 := 512#32
  let v140 : BitVec 32 := Scalar.divsi v139 c512_i32_110
  let v163 : BitVec 32 := Scalar.subi v140 c0_i32_127
  let c1_i32_128 : BitVec 32 := 1#32
  let v165 : BitVec 32 := Scalar.divsi v163 c1_i32_128
  let v166 : BitVec 32 := Scalar.muli v165 c1_i32_128
  let v167 : BitVec 32 := Scalar.addi c0_i32_127 v166
  let c1_i32_130 : BitVec 32 := 1#32
  let arg41 : BitVec 32 := Scf.iv v167 c1_i32_130 k0_t12
  let c512_i32_331 : BitVec 32 := 512#32
  let v362 : BitVec 32 := Scalar.muli arg41 c512_i32_331
  let v363 : BitVec 32 := v362
  let v370 : Index := Scalar.indexCast v363
  let c0_334 : Index := 0#32
  ![1, v370.toNat, 0]
def k0_off28 (v138 : BitVec 32) (k0_t12 : Fin (k0_t12_loop v138).trips) : Fin 3 → Nat :=
  let c1_339 : Index := 1#32
  let c0_i32_127 : BitVec 32 := 0#32
  let c511_i32_109 : BitVec 32 := 511#32
  let v139 : BitVec 32 := Scalar.addi v138 c511_i32_109
  let c512_i32_110 : BitVec 32 := 512#32
  let v140 : BitVec 32 := Scalar.divsi v139 c512_i32_110
  let v163 : BitVec 32 := Scalar.subi v140 c0_i32_127
  let c1_i32_128 : BitVec 32 := 1#32
  let v165 : BitVec 32 := Scalar.divsi v163 c1_i32_128
  let v166 : BitVec 32 := Scalar.muli v165 c1_i32_128
  let v167 : BitVec 32 := Scalar.addi c0_i32_127 v166
  let c1_i32_130 : BitVec 32 := 1#32
  let arg41 : BitVec 32 := Scf.iv v167 c1_i32_130 k0_t12
  let c512_i32_331 : BitVec 32 := 512#32
  let v362 : BitVec 32 := Scalar.muli arg41 c512_i32_331
  let v363 : BitVec 32 := v362
  let v383 : Index := Scalar.indexCast v363
  let c0_340 : Index := 0#32
  ![1, v383.toNat, 0]

def k0_chk2 (v138 : BitVec 32) : Prop :=
  ((k0_t7_loop v138).OK) ∧
  (∀ k0_t7 : Fin (k0_t7_loop v138).trips, ∀ a, (k0_off15 v138 k0_t7) a + S1x1.size a ≤ S2x4.size a) ∧
  (∀ k0_t7 : Fin (k0_t7_loop v138).trips, ∀ a, (k0_off16 v138 k0_t7) a + S1x512x1664.size a ≤ S2x2048x1664.size a) ∧
  (∀ k0_t7 : Fin (k0_t7_loop v138).trips, ∀ (hinb : ∀ a, (k0_off16 v138 k0_t7) a + S1x512x1664.size a ≤ S2x2048x1664.size a), (Rect.unit (s := S2x2048x1664) (k0_off16 v138 k0_t7) S1x512x1664.size hinb).WholeWords (EltTy.packing .bf16)) ∧
  (∀ k0_t7 : Fin (k0_t7_loop v138).trips, 512 ∣ (k0_mult7 v138 k0_t7).toNat) ∧
  (∀ k0_t7 : Fin (k0_t7_loop v138).trips, ∀ a, (k0_off17 v138 k0_t7) a + S1x512x1664.size a ≤ S2x2048x1664.size a) ∧
  (∀ k0_t7 : Fin (k0_t7_loop v138).trips, ∀ a, (k0_off18 v138 k0_t7) a + S1x512x128.size a ≤ S2x2048x128.size a) ∧
  ((k0_t8_loop v138).OK) ∧
  (∀ k0_t8 : Fin (k0_t8_loop v138).trips, ∀ a, (k0_off19 v138 k0_t8) a + S1x1.size a ≤ S2x4.size a) ∧
  (∀ k0_t8 : Fin (k0_t8_loop v138).trips, ∀ a, (k0_off20 v138 k0_t8) a + S1x512x1664.size a ≤ S2x2048x1664.size a) ∧
  (∀ k0_t8 : Fin (k0_t8_loop v138).trips, ∀ (hinb : ∀ a, (k0_off20 v138 k0_t8) a + S1x512x1664.size a ≤ S2x2048x1664.size a), (Rect.unit (s := S2x2048x1664) (k0_off20 v138 k0_t8) S1x512x1664.size hinb).WholeWords (EltTy.packing .bf16)) ∧
  (∀ k0_t8 : Fin (k0_t8_loop v138).trips, 512 ∣ (k0_mult8 v138 k0_t8).toNat) ∧
  (∀ k0_t8 : Fin (k0_t8_loop v138).trips, ∀ a, (k0_off21 v138 k0_t8) a + S1x512x1664.size a ≤ S2x2048x1664.size a) ∧
  (∀ k0_t8 : Fin (k0_t8_loop v138).trips, ∀ a, (k0_off22 v138 k0_t8) a + S1x512x128.size a ≤ S2x2048x128.size a) ∧
  ((k0_t9_loop v138).OK) ∧
  (∀ k0_t9 : Fin (k0_t9_loop v138).trips, 512 ∣ (k0_mult9 v138 k0_t9).toNat) ∧
  (∀ k0_t9 : Fin (k0_t9_loop v138).trips, ∀ a, (k0_off23 v138 k0_t9) a + S1x512x128.size a ≤ S2x2048x128.size a) ∧
  ((k0_t10_loop v138).OK) ∧
  (∀ k0_t10 : Fin (k0_t10_loop v138).trips, 512 ∣ (k0_mult10 v138 k0_t10).toNat) ∧
  (∀ k0_t10 : Fin (k0_t10_loop v138).trips, ∀ a, (k0_off24 v138 k0_t10) a + S1x512x128.size a ≤ S2x2048x128.size a) ∧
  ((k0_t11_loop v138).OK) ∧
  (∀ k0_t11 : Fin (k0_t11_loop v138).trips, 512 ∣ (k0_mult11 v138 k0_t11).toNat) ∧
  (∀ k0_t11 : Fin (k0_t11_loop v138).trips, ∀ a, (k0_off25 v138 k0_t11) a + S1x512x128.size a ≤ S2x2048x128.size a) ∧
  (∀ k0_t11 : Fin (k0_t11_loop v138).trips, ∀ a, (k0_off26 v138 k0_t11) a + S1x512x1664.size a ≤ S2x2048x1664.size a) ∧
  ((k0_t12_loop v138).OK) ∧
  (∀ k0_t12 : Fin (k0_t12_loop v138).trips, 512 ∣ (k0_mult12 v138 k0_t12).toNat) ∧
  (∀ k0_t12 : Fin (k0_t12_loop v138).trips, ∀ a, (k0_off27 v138 k0_t12) a + S1x512x128.size a ≤ S2x2048x128.size a) ∧
  (∀ k0_t12 : Fin (k0_t12_loop v138).trips, ∀ a, (k0_off28 v138 k0_t12) a + S1x512x1664.size a ≤ S2x2048x1664.size a)
theorem k0_t7_ok : ∀ (v138 : BitVec 32) (k0_hw2 : k0_chk2 v138), (k0_t7_loop v138).OK := fun v138 k0_hw2 => k0_hw2.1
theorem k0_off15_inb : ∀ (v138 : BitVec 32) (k0_hw2 : k0_chk2 v138) (k0_t7 : Fin (k0_t7_loop v138).trips), ∀ a, (k0_off15 v138 k0_t7) a + S1x1.size a ≤ S2x4.size a := fun v138 k0_hw2 k0_t7 => k0_hw2.2.1 k0_t7
theorem k0_off16_inb : ∀ (v138 : BitVec 32) (k0_hw2 : k0_chk2 v138) (k0_t7 : Fin (k0_t7_loop v138).trips), ∀ a, (k0_off16 v138 k0_t7) a + S1x512x1664.size a ≤ S2x2048x1664.size a := fun v138 k0_hw2 k0_t7 => k0_hw2.2.2.1 k0_t7
theorem k0_off16_wordsbf16 : ∀ (v138 : BitVec 32) (k0_hw2 : k0_chk2 v138) (k0_t7 : Fin (k0_t7_loop v138).trips), (Rect.unit (s := S2x2048x1664) (k0_off16 v138 k0_t7) S1x512x1664.size (k0_off16_inb v138 k0_hw2 k0_t7)).WholeWords (EltTy.packing .bf16) := fun v138 k0_hw2 k0_t7 => k0_hw2.2.2.2.1 k0_t7 (k0_off16_inb v138 k0_hw2 k0_t7)
theorem k0_mult7_dvd : ∀ (v138 : BitVec 32) (k0_hw2 : k0_chk2 v138) (k0_t7 : Fin (k0_t7_loop v138).trips), 512 ∣ (k0_mult7 v138 k0_t7).toNat := fun v138 k0_hw2 k0_t7 => k0_hw2.2.2.2.2.1 k0_t7
theorem k0_off17_inb : ∀ (v138 : BitVec 32) (k0_hw2 : k0_chk2 v138) (k0_t7 : Fin (k0_t7_loop v138).trips), ∀ a, (k0_off17 v138 k0_t7) a + S1x512x1664.size a ≤ S2x2048x1664.size a := fun v138 k0_hw2 k0_t7 => k0_hw2.2.2.2.2.2.1 k0_t7
theorem k0_off18_inb : ∀ (v138 : BitVec 32) (k0_hw2 : k0_chk2 v138) (k0_t7 : Fin (k0_t7_loop v138).trips), ∀ a, (k0_off18 v138 k0_t7) a + S1x512x128.size a ≤ S2x2048x128.size a := fun v138 k0_hw2 k0_t7 => k0_hw2.2.2.2.2.2.2.1 k0_t7
theorem k0_t8_ok : ∀ (v138 : BitVec 32) (k0_hw2 : k0_chk2 v138), (k0_t8_loop v138).OK := fun v138 k0_hw2 => k0_hw2.2.2.2.2.2.2.2.1
theorem k0_off19_inb : ∀ (v138 : BitVec 32) (k0_hw2 : k0_chk2 v138) (k0_t8 : Fin (k0_t8_loop v138).trips), ∀ a, (k0_off19 v138 k0_t8) a + S1x1.size a ≤ S2x4.size a := fun v138 k0_hw2 k0_t8 => k0_hw2.2.2.2.2.2.2.2.2.1 k0_t8
theorem k0_off20_inb : ∀ (v138 : BitVec 32) (k0_hw2 : k0_chk2 v138) (k0_t8 : Fin (k0_t8_loop v138).trips), ∀ a, (k0_off20 v138 k0_t8) a + S1x512x1664.size a ≤ S2x2048x1664.size a := fun v138 k0_hw2 k0_t8 => k0_hw2.2.2.2.2.2.2.2.2.2.1 k0_t8
theorem k0_off20_wordsbf16 : ∀ (v138 : BitVec 32) (k0_hw2 : k0_chk2 v138) (k0_t8 : Fin (k0_t8_loop v138).trips), (Rect.unit (s := S2x2048x1664) (k0_off20 v138 k0_t8) S1x512x1664.size (k0_off20_inb v138 k0_hw2 k0_t8)).WholeWords (EltTy.packing .bf16) := fun v138 k0_hw2 k0_t8 => k0_hw2.2.2.2.2.2.2.2.2.2.2.1 k0_t8 (k0_off20_inb v138 k0_hw2 k0_t8)
theorem k0_mult8_dvd : ∀ (v138 : BitVec 32) (k0_hw2 : k0_chk2 v138) (k0_t8 : Fin (k0_t8_loop v138).trips), 512 ∣ (k0_mult8 v138 k0_t8).toNat := fun v138 k0_hw2 k0_t8 => k0_hw2.2.2.2.2.2.2.2.2.2.2.2.1 k0_t8
theorem k0_off21_inb : ∀ (v138 : BitVec 32) (k0_hw2 : k0_chk2 v138) (k0_t8 : Fin (k0_t8_loop v138).trips), ∀ a, (k0_off21 v138 k0_t8) a + S1x512x1664.size a ≤ S2x2048x1664.size a := fun v138 k0_hw2 k0_t8 => k0_hw2.2.2.2.2.2.2.2.2.2.2.2.2.1 k0_t8
theorem k0_off22_inb : ∀ (v138 : BitVec 32) (k0_hw2 : k0_chk2 v138) (k0_t8 : Fin (k0_t8_loop v138).trips), ∀ a, (k0_off22 v138 k0_t8) a + S1x512x128.size a ≤ S2x2048x128.size a := fun v138 k0_hw2 k0_t8 => k0_hw2.2.2.2.2.2.2.2.2.2.2.2.2.2.1 k0_t8
theorem k0_t9_ok : ∀ (v138 : BitVec 32) (k0_hw2 : k0_chk2 v138), (k0_t9_loop v138).OK := fun v138 k0_hw2 => k0_hw2.2.2.2.2.2.2.2.2.2.2.2.2.2.2.1
theorem k0_mult9_dvd : ∀ (v138 : BitVec 32) (k0_hw2 : k0_chk2 v138) (k0_t9 : Fin (k0_t9_loop v138).trips), 512 ∣ (k0_mult9 v138 k0_t9).toNat := fun v138 k0_hw2 k0_t9 => k0_hw2.2.2.2.2.2.2.2.2.2.2.2.2.2.2.2.1 k0_t9
theorem k0_off23_inb : ∀ (v138 : BitVec 32) (k0_hw2 : k0_chk2 v138) (k0_t9 : Fin (k0_t9_loop v138).trips), ∀ a, (k0_off23 v138 k0_t9) a + S1x512x128.size a ≤ S2x2048x128.size a := fun v138 k0_hw2 k0_t9 => k0_hw2.2.2.2.2.2.2.2.2.2.2.2.2.2.2.2.2.1 k0_t9
theorem k0_t10_ok : ∀ (v138 : BitVec 32) (k0_hw2 : k0_chk2 v138), (k0_t10_loop v138).OK := fun v138 k0_hw2 => k0_hw2.2.2.2.2.2.2.2.2.2.2.2.2.2.2.2.2.2.1
theorem k0_mult10_dvd : ∀ (v138 : BitVec 32) (k0_hw2 : k0_chk2 v138) (k0_t10 : Fin (k0_t10_loop v138).trips), 512 ∣ (k0_mult10 v138 k0_t10).toNat := fun v138 k0_hw2 k0_t10 => k0_hw2.2.2.2.2.2.2.2.2.2.2.2.2.2.2.2.2.2.2.1 k0_t10
theorem k0_off24_inb : ∀ (v138 : BitVec 32) (k0_hw2 : k0_chk2 v138) (k0_t10 : Fin (k0_t10_loop v138).trips), ∀ a, (k0_off24 v138 k0_t10) a + S1x512x128.size a ≤ S2x2048x128.size a := fun v138 k0_hw2 k0_t10 => k0_hw2.2.2.2.2.2.2.2.2.2.2.2.2.2.2.2.2.2.2.2.1 k0_t10
theorem k0_t11_ok : ∀ (v138 : BitVec 32) (k0_hw2 : k0_chk2 v138), (k0_t11_loop v138).OK := fun v138 k0_hw2 => k0_hw2.2.2.2.2.2.2.2.2.2.2.2.2.2.2.2.2.2.2.2.2.1
theorem k0_mult11_dvd : ∀ (v138 : BitVec 32) (k0_hw2 : k0_chk2 v138) (k0_t11 : Fin (k0_t11_loop v138).trips), 512 ∣ (k0_mult11 v138 k0_t11).toNat := fun v138 k0_hw2 k0_t11 => k0_hw2.2.2.2.2.2.2.2.2.2.2.2.2.2.2.2.2.2.2.2.2.2.1 k0_t11
theorem k0_off25_inb : ∀ (v138 : BitVec 32) (k0_hw2 : k0_chk2 v138) (k0_t11 : Fin (k0_t11_loop v138).trips), ∀ a, (k0_off25 v138 k0_t11) a + S1x512x128.size a ≤ S2x2048x128.size a := fun v138 k0_hw2 k0_t11 => k0_hw2.2.2.2.2.2.2.2.2.2.2.2.2.2.2.2.2.2.2.2.2.2.2.1 k0_t11
theorem k0_off26_inb : ∀ (v138 : BitVec 32) (k0_hw2 : k0_chk2 v138) (k0_t11 : Fin (k0_t11_loop v138).trips), ∀ a, (k0_off26 v138 k0_t11) a + S1x512x1664.size a ≤ S2x2048x1664.size a := fun v138 k0_hw2 k0_t11 => k0_hw2.2.2.2.2.2.2.2.2.2.2.2.2.2.2.2.2.2.2.2.2.2.2.2.1 k0_t11
theorem k0_t12_ok : ∀ (v138 : BitVec 32) (k0_hw2 : k0_chk2 v138), (k0_t12_loop v138).OK := fun v138 k0_hw2 => k0_hw2.2.2.2.2.2.2.2.2.2.2.2.2.2.2.2.2.2.2.2.2.2.2.2.2.1
theorem k0_mult12_dvd : ∀ (v138 : BitVec 32) (k0_hw2 : k0_chk2 v138) (k0_t12 : Fin (k0_t12_loop v138).trips), 512 ∣ (k0_mult12 v138 k0_t12).toNat := fun v138 k0_hw2 k0_t12 => k0_hw2.2.2.2.2.2.2.2.2.2.2.2.2.2.2.2.2.2.2.2.2.2.2.2.2.2.1 k0_t12
theorem k0_off27_inb : ∀ (v138 : BitVec 32) (k0_hw2 : k0_chk2 v138) (k0_t12 : Fin (k0_t12_loop v138).trips), ∀ a, (k0_off27 v138 k0_t12) a + S1x512x128.size a ≤ S2x2048x128.size a := fun v138 k0_hw2 k0_t12 => k0_hw2.2.2.2.2.2.2.2.2.2.2.2.2.2.2.2.2.2.2.2.2.2.2.2.2.2.2.1 k0_t12
theorem k0_off28_inb : ∀ (v138 : BitVec 32) (k0_hw2 : k0_chk2 v138) (k0_t12 : Fin (k0_t12_loop v138).trips), ∀ a, (k0_off28 v138 k0_t12) a + S1x512x1664.size a ≤ S2x2048x1664.size a := fun v138 k0_hw2 k0_t12 => k0_hw2.2.2.2.2.2.2.2.2.2.2.2.2.2.2.2.2.2.2.2.2.2.2.2.2.2.2.2 k0_t12

@[reducible] def k0_t13_loop : Scf.Loop 32 :=
  let c0_i32_136 : BitVec 32 := 0#32
  let c16_i32 : BitVec 32 := 16#32
  let v176 : BitVec 32 := Scalar.addi c0_i32_136 c16_i32
  let c1_i32_137 : BitVec 32 := 1#32
  ⟨c0_i32_136, v176, c1_i32_137⟩
def k0_mult13 (k0_t13 : Fin k0_t13_loop.trips) : BitVec 32 :=
  let c0_i32_136 : BitVec 32 := 0#32
  let c1_i32_137 : BitVec 32 := 1#32
  let arg41 : BitVec 32 := Scf.iv c0_i32_136 c1_i32_137 k0_t13
  let c8_i32 : BitVec 32 := 8#32
  let v363 : BitVec 32 := Scalar.muli arg41 c8_i32
  v363
def k0_off29 (k0_t13 : Fin k0_t13_loop.trips) : Fin 3 → Nat :=
  let c0_332 : Index := 0#32
  let c0_i32_136 : BitVec 32 := 0#32
  let c1_i32_137 : BitVec 32 := 1#32
  let arg41 : BitVec 32 := Scf.iv c0_i32_136 c1_i32_137 k0_t13
  let c8_i32 : BitVec 32 := 8#32
  let v363 : BitVec 32 := Scalar.muli arg41 c8_i32
  let v364 : BitVec 32 := v363
  let v365 : Index := Scalar.indexCast v364
  let c0_333 : Index := 0#32
  ![0, v365.toNat, 0]
def k0_off30 (k0_t13 : Fin k0_t13_loop.trips) : Fin 3 → Nat :=
  let c1_334 : Index := 1#32
  let c0_i32_136 : BitVec 32 := 0#32
  let c1_i32_137 : BitVec 32 := 1#32
  let arg41 : BitVec 32 := Scf.iv c0_i32_136 c1_i32_137 k0_t13
  let c8_i32 : BitVec 32 := 8#32
  let v363 : BitVec 32 := Scalar.muli arg41 c8_i32
  let v364 : BitVec 32 := v363
  let v368 : Index := Scalar.indexCast v364
  let c0_335 : Index := 0#32
  ![1, v368.toNat, 0]
def k0_off31 (k0_t13 : Fin k0_t13_loop.trips) : Fin 4 → Nat :=
  let c0_350 : Index := 0#32
  let c0_i32_136 : BitVec 32 := 0#32
  let c1_i32_137 : BitVec 32 := 1#32
  let arg41 : BitVec 32 := Scf.iv c0_i32_136 c1_i32_137 k0_t13
  let v421 : Index := Scalar.indexCast arg41
  let c0_351 : Index := 0#32
  let c0_352 : Index := 0#32
  ![0, v421.toNat, 0, 0]
def k0_off32 (k0_t13 : Fin k0_t13_loop.trips) : Fin 3 → Nat :=
  let c0_353 : Index := 0#32
  let c0_i32_136 : BitVec 32 := 0#32
  let c1_i32_137 : BitVec 32 := 1#32
  let arg41 : BitVec 32 := Scf.iv c0_i32_136 c1_i32_137 k0_t13
  let c8_i32 : BitVec 32 := 8#32
  let v363 : BitVec 32 := Scalar.muli arg41 c8_i32
  let v364 : BitVec 32 := v363
  let v428 : Index := Scalar.indexCast v364
  let c0_354 : Index := 0#32
  ![0, v428.toNat, 0]
def k0_off33 (k0_t13 : Fin k0_t13_loop.trips) : Fin 4 → Nat :=
  let c1_355 : Index := 1#32
  let c0_i32_136 : BitVec 32 := 0#32
  let c1_i32_137 : BitVec 32 := 1#32
  let arg41 : BitVec 32 := Scf.iv c0_i32_136 c1_i32_137 k0_t13
  let v434 : Index := Scalar.indexCast arg41
  let c0_356 : Index := 0#32
  let c0_357 : Index := 0#32
  ![1, v434.toNat, 0, 0]
def k0_off34 (k0_t13 : Fin k0_t13_loop.trips) : Fin 3 → Nat :=
  let c1_358 : Index := 1#32
  let c0_i32_136 : BitVec 32 := 0#32
  let c1_i32_137 : BitVec 32 := 1#32
  let arg41 : BitVec 32 := Scf.iv c0_i32_136 c1_i32_137 k0_t13
  let c8_i32 : BitVec 32 := 8#32
  let v363 : BitVec 32 := Scalar.muli arg41 c8_i32
  let v364 : BitVec 32 := v363
  let v441 : Index := Scalar.indexCast v364
  let c0_359 : Index := 0#32
  ![1, v441.toNat, 0]
def k0_mult14 (k0_t13 : Fin k0_t13_loop.trips) : BitVec 32 :=
  let c0_i32_136 : BitVec 32 := 0#32
  let c1_i32_137 : BitVec 32 := 1#32
  let arg41 : BitVec 32 := Scf.iv c0_i32_136 c1_i32_137 k0_t13
  let c256_i32_360 : BitVec 32 := 256#32
  let v445 : BitVec 32 := Scalar.muli arg41 c256_i32_360
  let c2048_i32_361 : BitVec 32 := 2048#32
  let v447 : BitVec 32 := Scalar.remsi v445 c2048_i32_361
  v447
def k0_off35 (k0_t13 : Fin k0_t13_loop.trips) : Fin 1 → Nat :=
  let c0_i32_136 : BitVec 32 := 0#32
  let c1_i32_137 : BitVec 32 := 1#32
  let arg41 : BitVec 32 := Scf.iv c0_i32_136 c1_i32_137 k0_t13
  let c256_i32_360 : BitVec 32 := 256#32
  let v445 : BitVec 32 := Scalar.muli arg41 c256_i32_360
  let c2048_i32 : BitVec 32 := 2048#32
  let v446 : BitVec 32 := Scalar.divsi v445 c2048_i32
  let v449 : Index := Scalar.indexCast v446
  ![v449.toNat]
def k0_off36 (k0_t13 : Fin k0_t13_loop.trips) : Fin 3 → Nat :=
  let c0_i32_136 : BitVec 32 := 0#32
  let c1_i32_137 : BitVec 32 := 1#32
  let arg41 : BitVec 32 := Scf.iv c0_i32_136 c1_i32_137 k0_t13
  let c256_i32_360 : BitVec 32 := 256#32
  let v445 : BitVec 32 := Scalar.muli arg41 c256_i32_360
  let c2048_i32 : BitVec 32 := 2048#32
  let v446 : BitVec 32 := Scalar.divsi v445 c2048_i32
  let v631 : Index := Scalar.indexCast v446
  let c2048_i32_361 : BitVec 32 := 2048#32
  let v447 : BitVec 32 := Scalar.remsi v445 c2048_i32_361
  let v448 : BitVec 32 := v447
  let v632 : Index := Scalar.indexCast v448
  let c0_447 : Index := 0#32
  ![v631.toNat, v632.toNat, 0]
def k0_off37 (k0_t13 : Fin k0_t13_loop.trips) : Fin 1 → Nat :=
  let c0_i32_136 : BitVec 32 := 0#32
  let c1_i32_137 : BitVec 32 := 1#32
  let arg41 : BitVec 32 := Scf.iv c0_i32_136 c1_i32_137 k0_t13
  let c256_i32_360 : BitVec 32 := 256#32
  let v445 : BitVec 32 := Scalar.muli arg41 c256_i32_360
  let c2048_i32 : BitVec 32 := 2048#32
  let v446 : BitVec 32 := Scalar.divsi v445 c2048_i32
  let v454 : Index := Scalar.indexCast v446
  ![v454.toNat]
def k0_off38 (k0_t13 : Fin k0_t13_loop.trips) : Fin 3 → Nat :=
  let c0_i32_136 : BitVec 32 := 0#32
  let c1_i32_137 : BitVec 32 := 1#32
  let arg41 : BitVec 32 := Scf.iv c0_i32_136 c1_i32_137 k0_t13
  let c256_i32_360 : BitVec 32 := 256#32
  let v445 : BitVec 32 := Scalar.muli arg41 c256_i32_360
  let c2048_i32 : BitVec 32 := 2048#32
  let v446 : BitVec 32 := Scalar.divsi v445 c2048_i32
  let v632 : Index := Scalar.indexCast v446
  let c2048_i32_361 : BitVec 32 := 2048#32
  let v447 : BitVec 32 := Scalar.remsi v445 c2048_i32_361
  let v448 : BitVec 32 := v447
  let v633 : Index := Scalar.indexCast v448
  let c0_448 : Index := 0#32
  ![v632.toNat, v633.toNat, 0]
@[reducible] def k0_t14_loop : Scf.Loop 32 :=
  let c0_i32_365 : BitVec 32 := 0#32
  let c4_i32_366 : BitVec 32 := 4#32
  let v460 : BitVec 32 := Scalar.addi c0_i32_365 c4_i32_366
  let c1_i32_367 : BitVec 32 := 1#32
  ⟨c0_i32_365, v460, c1_i32_367⟩
def k0_off39 (k0_t14 : Fin k0_t14_loop.trips) : Fin 1 → Nat :=
  let c0_i32_365 : BitVec 32 := 0#32
  let c1_i32_367 : BitVec 32 := 1#32
  let arg42 : BitVec 32 := Scf.iv c0_i32_365 c1_i32_367 k0_t14
  ![arg42.toNat]
def k0_off40 (k0_t14 : Fin k0_t14_loop.trips) : Fin 3 → Nat :=
  let c0_i32_365 : BitVec 32 := 0#32
  let c1_i32_367 : BitVec 32 := 1#32
  let arg42 : BitVec 32 := Scf.iv c0_i32_365 c1_i32_367 k0_t14
  let c0_i32_448 : BitVec 32 := 0#32
  let c0_i32_449 : BitVec 32 := 0#32
  ![arg42.toNat, 0, 0]
def k0_off41 (k0_t13 : Fin k0_t13_loop.trips) (k0_t14 : Fin k0_t14_loop.trips) : Fin 3 → Nat :=
  let c0_i32_136 : BitVec 32 := 0#32
  let c1_i32_137 : BitVec 32 := 1#32
  let arg41 : BitVec 32 := Scf.iv c0_i32_136 c1_i32_137 k0_t13
  let c0_i32_450 : BitVec 32 := 0#32
  let c0_i32_365 : BitVec 32 := 0#32
  let c1_i32_367 : BitVec 32 := 1#32
  let arg42 : BitVec 32 := Scf.iv c0_i32_365 c1_i32_367 k0_t14
  let c1664_i32_447 : BitVec 32 := 1664#32
  let v631 : BitVec 32 := Scalar.muli arg42 c1664_i32_447
  ![arg41.toNat, 0, v631.toNat]
def k0_off42 (k0_t14 : Fin k0_t14_loop.trips) : Fin 3 → Nat :=
  let c0_i32_365 : BitVec 32 := 0#32
  let c1_i32_367 : BitVec 32 := 1#32
  let arg42 : BitVec 32 := Scf.iv c0_i32_365 c1_i32_367 k0_t14
  let v638 : Index := Scalar.indexCast arg42
  let c0_451 : Index := 0#32
  let c0_452 : Index := 0#32
  ![v638.toNat, 0, 0]
def k0_mult15 (k0_t14 : Fin k0_t14_loop.trips) : BitVec 32 :=
  let c0_i32_365 : BitVec 32 := 0#32
  let c1_i32_367 : BitVec 32 := 1#32
  let arg42 : BitVec 32 := Scf.iv c0_i32_365 c1_i32_367 k0_t14
  let c1664_i32_453 : BitVec 32 := 1664#32
  let v641 : BitVec 32 := Scalar.muli arg42 c1664_i32_453
  v641
def k0_mult16 (k0_t13 : Fin k0_t13_loop.trips) : BitVec 32 :=
  let c0_i32_136 : BitVec 32 := 0#32
  let c1_i32_137 : BitVec 32 := 1#32
  let arg41 : BitVec 32 := Scf.iv c0_i32_136 c1_i32_137 k0_t13
  let c8_i32_455 : BitVec 32 := 8#32
  let v647 : BitVec 32 := Scalar.divsi arg41 c8_i32_455
  let c8_i32_456 : BitVec 32 := 8#32
  let v648 : BitVec 32 := Scalar.muli v647 c8_i32_456
  v648
def k0_off43 (k0_t13 : Fin k0_t13_loop.trips) (k0_t14 : Fin k0_t14_loop.trips) : Fin 2 → Nat :=
  let c0_i32_136 : BitVec 32 := 0#32
  let c1_i32_137 : BitVec 32 := 1#32
  let arg41 : BitVec 32 := Scf.iv c0_i32_136 c1_i32_137 k0_t13
  let c8_i32_455 : BitVec 32 := 8#32
  let v647 : BitVec 32 := Scalar.divsi arg41 c8_i32_455
  let c8_i32_456 : BitVec 32 := 8#32
  let v648 : BitVec 32 := Scalar.muli v647 c8_i32_456
  let v649 : BitVec 32 := v648
  let v650 : Index := Scalar.indexCast v649
  let c0_i32_365 : BitVec 32 := 0#32
  let c1_i32_367 : BitVec 32 := 1#32
  let arg42 : BitVec 32 := Scf.iv c0_i32_365 c1_i32_367 k0_t14
  let c1664_i32_453 : BitVec 32 := 1664#32
  let v641 : BitVec 32 := Scalar.muli arg42 c1664_i32_453
  let v642 : BitVec 32 := v641
  let v651 : Index := Scalar.indexCast v642
  ![v650.toNat, v651.toNat]
def k0_off44 (k0_t14 : Fin k0_t14_loop.trips) : Fin 2 → Nat :=
  let c0_462 : Index := 0#32
  let c0_i32_365 : BitVec 32 := 0#32
  let c1_i32_367 : BitVec 32 := 1#32
  let arg42 : BitVec 32 := Scf.iv c0_i32_365 c1_i32_367 k0_t14
  let c1664_i32_453 : BitVec 32 := 1664#32
  let v641 : BitVec 32 := Scalar.muli arg42 c1664_i32_453
  let v642 : BitVec 32 := v641
  let v671 : Index := Scalar.indexCast v642
  ![0, v671.toNat]
def k0_cond11 (k0_t13 : Fin k0_t13_loop.trips) : BitVec 1 :=
  let c0_i32_136 : BitVec 32 := 0#32
  let c1_i32_137 : BitVec 32 := 1#32
  let arg41 : BitVec 32 := Scf.iv c0_i32_136 c1_i32_137 k0_t13
  let c15_i32_331 : BitVec 32 := 15#32
  let v362 : BitVec 1 := Scalar.cmpi .eq arg41 c15_i32_331
  let true_463 : BitVec 1 := 1#1
  let v702 : BitVec 1 := Scalar.xori v362 true_463
  let v703 : BitVec 32 := Scalar.extui v702
  let c0_i32_464 : BitVec 32 := 0#32
  let v704 : BitVec 1 := Scalar.cmpi .ne v703 c0_i32_464
  v704

def k0_off45 (k0_t14 : Fin k0_t14_loop.trips) : Fin 1 → Nat :=
  let c0_i32_365 : BitVec 32 := 0#32
  let c1_i32_367 : BitVec 32 := 1#32
  let arg42 : BitVec 32 := Scf.iv c0_i32_365 c1_i32_367 k0_t14
  ![arg42.toNat]
def k0_off46 (k0_t14 : Fin k0_t14_loop.trips) : Fin 3 → Nat :=
  let c0_i32_365 : BitVec 32 := 0#32
  let c1_i32_367 : BitVec 32 := 1#32
  let arg42 : BitVec 32 := Scf.iv c0_i32_365 c1_i32_367 k0_t14
  let c0_i32_467 : BitVec 32 := 0#32
  let c0_i32_468 : BitVec 32 := 0#32
  ![arg42.toNat, 0, 0]
def k0_off47 (k0_t13 : Fin k0_t13_loop.trips) (k0_t14 : Fin k0_t14_loop.trips) : Fin 3 → Nat :=
  let c0_i32_136 : BitVec 32 := 0#32
  let c1_i32_137 : BitVec 32 := 1#32
  let arg41 : BitVec 32 := Scf.iv c0_i32_136 c1_i32_137 k0_t13
  let c1_i32_465 : BitVec 32 := 1#32
  let v705 : BitVec 32 := Scalar.addi arg41 c1_i32_465
  let c0_i32_469 : BitVec 32 := 0#32
  let c0_i32_365 : BitVec 32 := 0#32
  let c1_i32_367 : BitVec 32 := 1#32
  let arg42 : BitVec 32 := Scf.iv c0_i32_365 c1_i32_367 k0_t14
  let c1664_i32_466 : BitVec 32 := 1664#32
  let v706 : BitVec 32 := Scalar.muli arg42 c1664_i32_466
  ![v705.toNat, 0, v706.toNat]
def k0_off48 (k0_t13 : Fin k0_t13_loop.trips) : Fin 3 → Nat :=
  let c0_i32_136 : BitVec 32 := 0#32
  let c1_i32_137 : BitVec 32 := 1#32
  let arg41 : BitVec 32 := Scf.iv c0_i32_136 c1_i32_137 k0_t13
  let c0_i32_370 : BitVec 32 := 0#32
  let c6656_i32_371 : BitVec 32 := 6656#32
  ![arg41.toNat, 0, 6656]
def k0_mult17 (k0_t13 : Fin k0_t13_loop.trips) : BitVec 32 :=
  let c0_i32_136 : BitVec 32 := 0#32
  let c1_i32_137 : BitVec 32 := 1#32
  let arg41 : BitVec 32 := Scf.iv c0_i32_136 c1_i32_137 k0_t13
  let c8_i32_375 : BitVec 32 := 8#32
  let v471 : BitVec 32 := Scalar.divsi arg41 c8_i32_375
  let c8_i32_376 : BitVec 32 := 8#32
  let v472 : BitVec 32 := Scalar.muli v471 c8_i32_376
  v472
def k0_off49 (k0_t13 : Fin k0_t13_loop.trips) : Fin 2 → Nat :=
  let c0_i32_136 : BitVec 32 := 0#32
  let c1_i32_137 : BitVec 32 := 1#32
  let arg41 : BitVec 32 := Scf.iv c0_i32_136 c1_i32_137 k0_t13
  let c8_i32_375 : BitVec 32 := 8#32
  let v471 : BitVec 32 := Scalar.divsi arg41 c8_i32_375
  let c8_i32_376 : BitVec 32 := 8#32
  let v472 : BitVec 32 := Scalar.muli v471 c8_i32_376
  let v473 : BitVec 32 := v472
  let v474 : Index := Scalar.indexCast v473
  let c6656 : Index := 6656#32
  ![v474.toNat, 6656]
def k0_cond12 (k0_t13 : Fin k0_t13_loop.trips) : BitVec 1 :=
  let c0_i32_136 : BitVec 32 := 0#32
  let c1_i32_137 : BitVec 32 := 1#32
  let arg41 : BitVec 32 := Scf.iv c0_i32_136 c1_i32_137 k0_t13
  let c15_i32_331 : BitVec 32 := 15#32
  let v362 : BitVec 1 := Scalar.cmpi .eq arg41 c15_i32_331
  let v_true : BitVec 1 := 1#1
  let v522 : BitVec 1 := Scalar.xori v362 v_true
  let v523 : BitVec 32 := Scalar.extui v522
  let c0_i32_384 : BitVec 32 := 0#32
  let v524 : BitVec 1 := Scalar.cmpi .ne v523 c0_i32_384
  v524

def k0_off50 (k0_t13 : Fin k0_t13_loop.trips) : Fin 3 → Nat :=
  let c0_i32_136 : BitVec 32 := 0#32
  let c1_i32_137 : BitVec 32 := 1#32
  let arg41 : BitVec 32 := Scf.iv c0_i32_136 c1_i32_137 k0_t13
  let c1_i32_447 : BitVec 32 := 1#32
  let v631 : BitVec 32 := Scalar.addi arg41 c1_i32_447
  let c0_i32_449 : BitVec 32 := 0#32
  let c6656_i32_450 : BitVec 32 := 6656#32
  ![v631.toNat, 0, 6656]
def k0_cond13 (k0_t13 : Fin k0_t13_loop.trips) : BitVec 1 :=
  let c0_i32_136 : BitVec 32 := 0#32
  let c1_i32_137 : BitVec 32 := 1#32
  let arg41 : BitVec 32 := Scf.iv c0_i32_136 c1_i32_137 k0_t13
  let c0_i32_400 : BitVec 32 := 0#32
  let v562 : BitVec 1 := Scalar.cmpi .sgt arg41 c0_i32_400
  let v563 : BitVec 32 := Scalar.extui v562
  let c0_i32_401 : BitVec 32 := 0#32
  let v564 : BitVec 1 := Scalar.cmpi .ne v563 c0_i32_401
  v564

def k0_off51 (k0_t13 : Fin k0_t13_loop.trips) : Fin 4 → Nat :=
  let c0_i32_449 : BitVec 32 := 0#32
  let c0_i32_136 : BitVec 32 := 0#32
  let c1_i32_137 : BitVec 32 := 1#32
  let arg41 : BitVec 32 := Scf.iv c0_i32_136 c1_i32_137 k0_t13
  let c1_i32_447 : BitVec 32 := 1#32
  let v631 : BitVec 32 := Scalar.subi arg41 c1_i32_447
  let c0_i32_451 : BitVec 32 := 0#32
  let c0_i32_452 : BitVec 32 := 0#32
  ![0, v631.toNat, 0, 0]
def k0_off52 (k0_t13 : Fin k0_t13_loop.trips) : Fin 4 → Nat :=
  let c1_i32_457 : BitVec 32 := 1#32
  let c0_i32_136 : BitVec 32 := 0#32
  let c1_i32_137 : BitVec 32 := 1#32
  let arg41 : BitVec 32 := Scf.iv c0_i32_136 c1_i32_137 k0_t13
  let c1_i32_455 : BitVec 32 := 1#32
  let v638 : BitVec 32 := Scalar.subi arg41 c1_i32_455
  let c0_i32_459 : BitVec 32 := 0#32
  let c0_i32_460 : BitVec 32 := 0#32
  ![1, v638.toNat, 0, 0]
@[reducible] def k0_t15_loop : Scf.Loop 32 :=
  let c0_i32_402 : BitVec 32 := 0#32
  let c8_i32_403 : BitVec 32 := 8#32
  let v565 : BitVec 32 := Scalar.addi c0_i32_402 c8_i32_403
  let c1_i32_404 : BitVec 32 := 1#32
  ⟨c0_i32_402, v565, c1_i32_404⟩
def k0_mult18 (k0_t15 : Fin k0_t15_loop.trips) : BitVec 32 :=
  let c0_i32_402 : BitVec 32 := 0#32
  let c1_i32_404 : BitVec 32 := 1#32
  let arg42 : BitVec 32 := Scf.iv c0_i32_402 c1_i32_404 k0_t15
  let c1024_i32_447 : BitVec 32 := 1024#32
  let v631 : BitVec 32 := Scalar.muli arg42 c1024_i32_447
  v631
def k0_off53 (k0_t15 : Fin k0_t15_loop.trips) : Fin 2 → Nat :=
  let c0_448 : Index := 0#32
  let c0_i32_402 : BitVec 32 := 0#32
  let c1_i32_404 : BitVec 32 := 1#32
  let arg42 : BitVec 32 := Scf.iv c0_i32_402 c1_i32_404 k0_t15
  let c1024_i32_447 : BitVec 32 := 1024#32
  let v631 : BitVec 32 := Scalar.muli arg42 c1024_i32_447
  let v632 : BitVec 32 := v631
  let v633 : Index := Scalar.indexCast v632
  ![0, v633.toNat]
def k0_off54 (k0_t15 : Fin k0_t15_loop.trips) : Fin 2 → Nat :=
  let c0_452 : Index := 0#32
  let c0_i32_402 : BitVec 32 := 0#32
  let c1_i32_404 : BitVec 32 := 1#32
  let arg42 : BitVec 32 := Scf.iv c0_i32_402 c1_i32_404 k0_t15
  let c1024_i32_447 : BitVec 32 := 1024#32
  let v631 : BitVec 32 := Scalar.muli arg42 c1024_i32_447
  let v632 : BitVec 32 := v631
  let v644 : Index := Scalar.indexCast v632
  ![0, v644.toNat]
def k0_off55 (k0_t15 : Fin k0_t15_loop.trips) : Fin 3 → Nat :=
  let c0_453 : Index := 0#32
  let c0_454 : Index := 0#32
  let c0_i32_402 : BitVec 32 := 0#32
  let c1_i32_404 : BitVec 32 := 1#32
  let arg42 : BitVec 32 := Scf.iv c0_i32_402 c1_i32_404 k0_t15
  let c1024_i32_447 : BitVec 32 := 1024#32
  let v631 : BitVec 32 := Scalar.muli arg42 c1024_i32_447
  let v632 : BitVec 32 := v631
  let v650 : Index := Scalar.indexCast v632
  ![0, 0, v650.toNat]
def k0_off56 (k0_t15 : Fin k0_t15_loop.trips) : Fin 3 → Nat :=
  let c1_455 : Index := 1#32
  let c0_456 : Index := 0#32
  let c0_i32_402 : BitVec 32 := 0#32
  let c1_i32_404 : BitVec 32 := 1#32
  let arg42 : BitVec 32 := Scf.iv c0_i32_402 c1_i32_404 k0_t15
  let c1024_i32_447 : BitVec 32 := 1024#32
  let v631 : BitVec 32 := Scalar.muli arg42 c1024_i32_447
  let v632 : BitVec 32 := v631
  let v656 : Index := Scalar.indexCast v632
  ![1, 0, v656.toNat]
def k0_off57 (k0_t13 : Fin k0_t13_loop.trips) : Fin 3 → Nat :=
  let c0_406 : Index := 0#32
  let c0_i32_136 : BitVec 32 := 0#32
  let c1_i32_137 : BitVec 32 := 1#32
  let arg41 : BitVec 32 := Scf.iv c0_i32_136 c1_i32_137 k0_t13
  let c8_i32 : BitVec 32 := 8#32
  let v363 : BitVec 32 := Scalar.muli arg41 c8_i32
  let v364 : BitVec 32 := v363
  let v569 : Index := Scalar.indexCast v364
  let c0_407 : Index := 0#32
  ![0, v569.toNat, 0]
def k0_off58 (k0_t13 : Fin k0_t13_loop.trips) : Fin 4 → Nat :=
  let c0_i32_409 : BitVec 32 := 0#32
  let c0_i32_136 : BitVec 32 := 0#32
  let c1_i32_137 : BitVec 32 := 1#32
  let arg41 : BitVec 32 := Scf.iv c0_i32_136 c1_i32_137 k0_t13
  let c0_i32_411 : BitVec 32 := 0#32
  let c0_i32_412 : BitVec 32 := 0#32
  ![0, arg41.toNat, 0, 0]
def k0_off59 (k0_t13 : Fin k0_t13_loop.trips) : Fin 3 → Nat :=
  let c1_415 : Index := 1#32
  let c0_i32_136 : BitVec 32 := 0#32
  let c1_i32_137 : BitVec 32 := 1#32
  let arg41 : BitVec 32 := Scf.iv c0_i32_136 c1_i32_137 k0_t13
  let c8_i32 : BitVec 32 := 8#32
  let v363 : BitVec 32 := Scalar.muli arg41 c8_i32
  let v364 : BitVec 32 := v363
  let v582 : Index := Scalar.indexCast v364
  let c0_416 : Index := 0#32
  ![1, v582.toNat, 0]
def k0_off60 (k0_t13 : Fin k0_t13_loop.trips) : Fin 4 → Nat :=
  let c1_i32_418 : BitVec 32 := 1#32
  let c0_i32_136 : BitVec 32 := 0#32
  let c1_i32_137 : BitVec 32 := 1#32
  let arg41 : BitVec 32 := Scf.iv c0_i32_136 c1_i32_137 k0_t13
  let c0_i32_420 : BitVec 32 := 0#32
  let c0_i32_421 : BitVec 32 := 0#32
  ![1, arg41.toNat, 0, 0]
@[reducible] def k0_t16_loop : Scf.Loop 32 :=
  let c0_i32_424 : BitVec 32 := 0#32
  let c6_i32_425 : BitVec 32 := 6#32
  let v592 : BitVec 32 := Scalar.addi c0_i32_424 c6_i32_425
  let c1_i32_426 : BitVec 32 := 1#32
  ⟨c0_i32_424, v592, c1_i32_426⟩
def k0_off61 (k0_t16 : Fin k0_t16_loop.trips) : Fin 1 → Nat :=
  let c0_i32_424 : BitVec 32 := 0#32
  let c1_i32_426 : BitVec 32 := 1#32
  let arg42 : BitVec 32 := Scf.iv c0_i32_424 c1_i32_426 k0_t16
  ![arg42.toNat]
def k0_off62 (k0_t16 : Fin k0_t16_loop.trips) : Fin 3 → Nat :=
  let c0_i32_424 : BitVec 32 := 0#32
  let c1_i32_426 : BitVec 32 := 1#32
  let arg42 : BitVec 32 := Scf.iv c0_i32_424 c1_i32_426 k0_t16
  let c0_i32_448 : BitVec 32 := 0#32
  let c0_i32_449 : BitVec 32 := 0#32
  ![arg42.toNat, 0, 0]
def k0_off63 (k0_t13 : Fin k0_t13_loop.trips) (k0_t16 : Fin k0_t16_loop.trips) : Fin 3 → Nat :=
  let c0_i32_136 : BitVec 32 := 0#32
  let c1_i32_137 : BitVec 32 := 1#32
  let arg41 : BitVec 32 := Scf.iv c0_i32_136 c1_i32_137 k0_t13
  let c0_i32_450 : BitVec 32 := 0#32
  let c0_i32_424 : BitVec 32 := 0#32
  let c1_i32_426 : BitVec 32 := 1#32
  let arg42 : BitVec 32 := Scf.iv c0_i32_424 c1_i32_426 k0_t16
  let c256_i32_447 : BitVec 32 := 256#32
  let v631 : BitVec 32 := Scalar.muli arg42 c256_i32_447
  ![arg41.toNat, 0, v631.toNat]
def k0_mult19 (k0_t16 : Fin k0_t16_loop.trips) : BitVec 32 :=
  let c0_i32_424 : BitVec 32 := 0#32
  let c1_i32_426 : BitVec 32 := 1#32
  let arg42 : BitVec 32 := Scf.iv c0_i32_424 c1_i32_426 k0_t16
  let c256_i32_451 : BitVec 32 := 256#32
  let v638 : BitVec 32 := Scalar.muli arg42 c256_i32_451
  v638
def k0_off64 (k0_t16 : Fin k0_t16_loop.trips) : Fin 3 → Nat :=
  let c0_i32_424 : BitVec 32 := 0#32
  let c1_i32_426 : BitVec 32 := 1#32
  let arg42 : BitVec 32 := Scf.iv c0_i32_424 c1_i32_426 k0_t16
  let v640 : Index := Scalar.indexCast arg42
  let c0_452 : Index := 0#32
  let c0_453 : Index := 0#32
  ![v640.toNat, 0, 0]
def k0_mult20 (k0_t13 : Fin k0_t13_loop.trips) : BitVec 32 :=
  let c0_i32_136 : BitVec 32 := 0#32
  let c1_i32_137 : BitVec 32 := 1#32
  let arg41 : BitVec 32 := Scf.iv c0_i32_136 c1_i32_137 k0_t13
  let c8_i32_457 : BitVec 32 := 8#32
  let v648 : BitVec 32 := Scalar.divsi arg41 c8_i32_457
  let c8_i32_458 : BitVec 32 := 8#32
  let v649 : BitVec 32 := Scalar.muli v648 c8_i32_458
  v649
def k0_off65 (k0_t13 : Fin k0_t13_loop.trips) (k0_t16 : Fin k0_t16_loop.trips) : Fin 2 → Nat :=
  let c0_i32_136 : BitVec 32 := 0#32
  let c1_i32_137 : BitVec 32 := 1#32
  let arg41 : BitVec 32 := Scf.iv c0_i32_136 c1_i32_137 k0_t13
  let c8_i32_457 : BitVec 32 := 8#32
  let v648 : BitVec 32 := Scalar.divsi arg41 c8_i32_457
  let c8_i32_458 : BitVec 32 := 8#32
  let v649 : BitVec 32 := Scalar.muli v648 c8_i32_458
  let v650 : BitVec 32 := v649
  let v651 : Index := Scalar.indexCast v650
  let c0_i32_424 : BitVec 32 := 0#32
  let c1_i32_426 : BitVec 32 := 1#32
  let arg42 : BitVec 32 := Scf.iv c0_i32_424 c1_i32_426 k0_t16
  let c256_i32_451 : BitVec 32 := 256#32
  let v638 : BitVec 32 := Scalar.muli arg42 c256_i32_451
  let v639 : BitVec 32 := v638
  let v652 : Index := Scalar.indexCast v639
  ![v651.toNat, v652.toNat]
def k0_off66 (k0_t13 : Fin k0_t13_loop.trips) (k0_t16 : Fin k0_t16_loop.trips) : Fin 3 → Nat :=
  let c0_461 : Index := 0#32
  let c0_i32_136 : BitVec 32 := 0#32
  let c1_i32_137 : BitVec 32 := 1#32
  let arg41 : BitVec 32 := Scf.iv c0_i32_136 c1_i32_137 k0_t13
  let c8_i32 : BitVec 32 := 8#32
  let v363 : BitVec 32 := Scalar.muli arg41 c8_i32
  let v364 : BitVec 32 := v363
  let v665 : Index := Scalar.indexCast v364
  let c0_i32_424 : BitVec 32 := 0#32
  let c1_i32_426 : BitVec 32 := 1#32
  let arg42 : BitVec 32 := Scf.iv c0_i32_424 c1_i32_426 k0_t16
  let c256_i32_451 : BitVec 32 := 256#32
  let v638 : BitVec 32 := Scalar.muli arg42 c256_i32_451
  let v639 : BitVec 32 := v638
  let v666 : Index := Scalar.indexCast v639
  ![0, v665.toNat, v666.toNat]
def k0_off67 (k0_t13 : Fin k0_t13_loop.trips) (k0_t16 : Fin k0_t16_loop.trips) : Fin 3 → Nat :=
  let c1_462 : Index := 1#32
  let c0_i32_136 : BitVec 32 := 0#32
  let c1_i32_137 : BitVec 32 := 1#32
  let arg41 : BitVec 32 := Scf.iv c0_i32_136 c1_i32_137 k0_t13
  let c8_i32 : BitVec 32 := 8#32
  let v363 : BitVec 32 := Scalar.muli arg41 c8_i32
  let v364 : BitVec 32 := v363
  let v671 : Index := Scalar.indexCast v364
  let c0_i32_424 : BitVec 32 := 0#32
  let c1_i32_426 : BitVec 32 := 1#32
  let arg42 : BitVec 32 := Scf.iv c0_i32_424 c1_i32_426 k0_t16
  let c256_i32_451 : BitVec 32 := 256#32
  let v638 : BitVec 32 := Scalar.muli arg42 c256_i32_451
  let v639 : BitVec 32 := v638
  let v672 : Index := Scalar.indexCast v639
  ![1, v671.toNat, v672.toNat]
def k0_cond14 (k0_t13 : Fin k0_t13_loop.trips) : BitVec 1 :=
  let c0_i32_136 : BitVec 32 := 0#32
  let c1_i32_137 : BitVec 32 := 1#32
  let arg41 : BitVec 32 := Scf.iv c0_i32_136 c1_i32_137 k0_t13
  let c15_i32_331 : BitVec 32 := 15#32
  let v362 : BitVec 1 := Scalar.cmpi .eq arg41 c15_i32_331
  let true_463 : BitVec 1 := 1#1
  let v676 : BitVec 1 := Scalar.xori v362 true_463
  let v677 : BitVec 32 := Scalar.extui v676
  let c0_i32_464 : BitVec 32 := 0#32
  let v678 : BitVec 1 := Scalar.cmpi .ne v677 c0_i32_464
  v678

def k0_off68 (k0_t16 : Fin k0_t16_loop.trips) : Fin 1 → Nat :=
  let c0_i32_424 : BitVec 32 := 0#32
  let c1_i32_426 : BitVec 32 := 1#32
  let arg42 : BitVec 32 := Scf.iv c0_i32_424 c1_i32_426 k0_t16
  ![arg42.toNat]
def k0_off69 (k0_t16 : Fin k0_t16_loop.trips) : Fin 3 → Nat :=
  let c0_i32_424 : BitVec 32 := 0#32
  let c1_i32_426 : BitVec 32 := 1#32
  let arg42 : BitVec 32 := Scf.iv c0_i32_424 c1_i32_426 k0_t16
  let c0_i32_468 : BitVec 32 := 0#32
  let c0_i32_469 : BitVec 32 := 0#32
  ![arg42.toNat, 0, 0]
def k0_off70 (k0_t13 : Fin k0_t13_loop.trips) (k0_t16 : Fin k0_t16_loop.trips) : Fin 3 → Nat :=
  let c0_i32_136 : BitVec 32 := 0#32
  let c1_i32_137 : BitVec 32 := 1#32
  let arg41 : BitVec 32 := Scf.iv c0_i32_136 c1_i32_137 k0_t13
  let c1_i32_466 : BitVec 32 := 1#32
  let v681 : BitVec 32 := Scalar.addi arg41 c1_i32_466
  let c0_i32_470 : BitVec 32 := 0#32
  let c0_i32_424 : BitVec 32 := 0#32
  let c1_i32_426 : BitVec 32 := 1#32
  let arg42 : BitVec 32 := Scf.iv c0_i32_424 c1_i32_426 k0_t16
  let c256_i32_467 : BitVec 32 := 256#32
  let v682 : BitVec 32 := Scalar.muli arg42 c256_i32_467
  ![v681.toNat, 0, v682.toNat]
def k0_cond15 (k0_t13 : Fin k0_t13_loop.trips) : BitVec 1 :=
  let c0_i32_136 : BitVec 32 := 0#32
  let c1_i32_137 : BitVec 32 := 1#32
  let arg41 : BitVec 32 := Scf.iv c0_i32_136 c1_i32_137 k0_t13
  let c15_i32_331 : BitVec 32 := 15#32
  let v362 : BitVec 1 := Scalar.cmpi .eq arg41 c15_i32_331
  let v679 : BitVec 32 := Scalar.extui v362
  let c0_i32_465 : BitVec 32 := 0#32
  let v680 : BitVec 1 := Scalar.cmpi .ne v679 c0_i32_465
  v680

def k0_off71 (k0_t16 : Fin k0_t16_loop.trips) : Fin 3 → Nat :=
  let c0_466 : Index := 0#32
  let c0_467 : Index := 0#32
  let c0_i32_424 : BitVec 32 := 0#32
  let c1_i32_426 : BitVec 32 := 1#32
  let arg42 : BitVec 32 := Scf.iv c0_i32_424 c1_i32_426 k0_t16
  let c256_i32_451 : BitVec 32 := 256#32
  let v638 : BitVec 32 := Scalar.muli arg42 c256_i32_451
  let v639 : BitVec 32 := v638
  let v681 : Index := Scalar.indexCast v639
  ![0, 0, v681.toNat]
@[reducible] def k0_t17_loop : Scf.Loop 32 :=
  let c0_i32_472 : BitVec 32 := 0#32
  let c4_i32_473 : BitVec 32 := 4#32
  let v692 : BitVec 32 := Scalar.addi c0_i32_472 c4_i32_473
  let c1_i32_474 : BitVec 32 := 1#32
  ⟨c0_i32_472, v692, c1_i32_474⟩
def k0_mult21 (k0_t17 : Fin k0_t17_loop.trips) : BitVec 32 :=
  let c0_i32_472 : BitVec 32 := 0#32
  let c1_i32_474 : BitVec 32 := 1#32
  let arg43 : BitVec 32 := Scf.iv c0_i32_472 c1_i32_474 k0_t17
  let c512_i32_496 : BitVec 32 := 512#32
  let v717 : BitVec 32 := Scalar.muli arg43 c512_i32_496
  v717
def k0_off72 (k0_t17 : Fin k0_t17_loop.trips) : Fin 3 → Nat :=
  let c0_497 : Index := 0#32
  let c0_i32_472 : BitVec 32 := 0#32
  let c1_i32_474 : BitVec 32 := 1#32
  let arg43 : BitVec 32 := Scf.iv c0_i32_472 c1_i32_474 k0_t17
  let c512_i32_496 : BitVec 32 := 512#32
  let v717 : BitVec 32 := Scalar.muli arg43 c512_i32_496
  let v718 : BitVec 32 := v717
  let v719 : Index := Scalar.indexCast v718
  let c0_498 : Index := 0#32
  ![0, v719.toNat, 0]
def k0_off73 (k0_t16 : Fin k0_t16_loop.trips) (k0_t17 : Fin k0_t17_loop.trips) : Fin 3 → Nat :=
  let c0_503 : Index := 0#32
  let c0_i32_472 : BitVec 32 := 0#32
  let c1_i32_474 : BitVec 32 := 1#32
  let arg43 : BitVec 32 := Scf.iv c0_i32_472 c1_i32_474 k0_t17
  let c512_i32_496 : BitVec 32 := 512#32
  let v717 : BitVec 32 := Scalar.muli arg43 c512_i32_496
  let v718 : BitVec 32 := v717
  let v733 : Index := Scalar.indexCast v718
  let c0_i32_424 : BitVec 32 := 0#32
  let c1_i32_426 : BitVec 32 := 1#32
  let arg42 : BitVec 32 := Scf.iv c0_i32_424 c1_i32_426 k0_t16
  let c256_i32_451 : BitVec 32 := 256#32
  let v638 : BitVec 32 := Scalar.muli arg42 c256_i32_451
  let v639 : BitVec 32 := v638
  let v734 : Index := Scalar.indexCast v639
  ![0, v733.toNat, v734.toNat]
def k0_off74 (k0_t16 : Fin k0_t16_loop.trips) : Fin 3 → Nat :=
  let c0_i32_477 : BitVec 32 := 0#32
  let c0_i32_479 : BitVec 32 := 0#32
  let c0_i32_424 : BitVec 32 := 0#32
  let c1_i32_426 : BitVec 32 := 1#32
  let arg42 : BitVec 32 := Scf.iv c0_i32_424 c1_i32_426 k0_t16
  let c256_i32_451 : BitVec 32 := 256#32
  let v638 : BitVec 32 := Scalar.muli arg42 c256_i32_451
  let v639 : BitVec 32 := v638
  ![0, 0, v639.toNat]
def k0_off75 (k0_t16 : Fin k0_t16_loop.trips) : Fin 3 → Nat :=
  let c1_481 : Index := 1#32
  let c0_482 : Index := 0#32
  let c0_i32_424 : BitVec 32 := 0#32
  let c1_i32_426 : BitVec 32 := 1#32
  let arg42 : BitVec 32 := Scf.iv c0_i32_424 c1_i32_426 k0_t16
  let c256_i32_451 : BitVec 32 := 256#32
  let v638 : BitVec 32 := Scalar.muli arg42 c256_i32_451
  let v639 : BitVec 32 := v638
  let v699 : Index := Scalar.indexCast v639
  ![1, 0, v699.toNat]
@[reducible] def k0_t18_loop : Scf.Loop 32 :=
  let c0_i32_487 : BitVec 32 := 0#32
  let c4_i32_488 : BitVec 32 := 4#32
  let v710 : BitVec 32 := Scalar.addi c0_i32_487 c4_i32_488
  let c1_i32_489 : BitVec 32 := 1#32
  ⟨c0_i32_487, v710, c1_i32_489⟩
def k0_mult22 (k0_t18 : Fin k0_t18_loop.trips) : BitVec 32 :=
  let c0_i32_487 : BitVec 32 := 0#32
  let c1_i32_489 : BitVec 32 := 1#32
  let arg43 : BitVec 32 := Scf.iv c0_i32_487 c1_i32_489 k0_t18
  let c512_i32_496 : BitVec 32 := 512#32
  let v717 : BitVec 32 := Scalar.muli arg43 c512_i32_496
  v717
def k0_off76 (k0_t18 : Fin k0_t18_loop.trips) : Fin 3 → Nat :=
  let c1_497 : Index := 1#32
  let c0_i32_487 : BitVec 32 := 0#32
  let c1_i32_489 : BitVec 32 := 1#32
  let arg43 : BitVec 32 := Scf.iv c0_i32_487 c1_i32_489 k0_t18
  let c512_i32_496 : BitVec 32 := 512#32
  let v717 : BitVec 32 := Scalar.muli arg43 c512_i32_496
  let v718 : BitVec 32 := v717
  let v719 : Index := Scalar.indexCast v718
  let c0_498 : Index := 0#32
  ![1, v719.toNat, 0]
def k0_off77 (k0_t16 : Fin k0_t16_loop.trips) (k0_t18 : Fin k0_t18_loop.trips) : Fin 3 → Nat :=
  let c1_503 : Index := 1#32
  let c0_i32_487 : BitVec 32 := 0#32
  let c1_i32_489 : BitVec 32 := 1#32
  let arg43 : BitVec 32 := Scf.iv c0_i32_487 c1_i32_489 k0_t18
  let c512_i32_496 : BitVec 32 := 512#32
  let v717 : BitVec 32 := Scalar.muli arg43 c512_i32_496
  let v718 : BitVec 32 := v717
  let v733 : Index := Scalar.indexCast v718
  let c0_i32_424 : BitVec 32 := 0#32
  let c1_i32_426 : BitVec 32 := 1#32
  let arg42 : BitVec 32 := Scf.iv c0_i32_424 c1_i32_426 k0_t16
  let c256_i32_451 : BitVec 32 := 256#32
  let v638 : BitVec 32 := Scalar.muli arg42 c256_i32_451
  let v639 : BitVec 32 := v638
  let v734 : Index := Scalar.indexCast v639
  ![1, v733.toNat, v734.toNat]
def k0_off78 (k0_t16 : Fin k0_t16_loop.trips) : Fin 3 → Nat :=
  let c1_i32_492 : BitVec 32 := 1#32
  let c0_i32_494 : BitVec 32 := 0#32
  let c0_i32_424 : BitVec 32 := 0#32
  let c1_i32_426 : BitVec 32 := 1#32
  let arg42 : BitVec 32 := Scf.iv c0_i32_424 c1_i32_426 k0_t16
  let c256_i32_451 : BitVec 32 := 256#32
  let v638 : BitVec 32 := Scalar.muli arg42 c256_i32_451
  let v639 : BitVec 32 := v638
  ![1, 0, v639.toNat]
def k0_off79 (k0_t13 : Fin k0_t13_loop.trips) : Fin 3 → Nat :=
  let c0_i32_136 : BitVec 32 := 0#32
  let c1_i32_137 : BitVec 32 := 1#32
  let arg41 : BitVec 32 := Scf.iv c0_i32_136 c1_i32_137 k0_t13
  let c0_i32_429 : BitVec 32 := 0#32
  let c1536_i32_430 : BitVec 32 := 1536#32
  ![arg41.toNat, 0, 1536]
def k0_mult23 (k0_t13 : Fin k0_t13_loop.trips) : BitVec 32 :=
  let c0_i32_136 : BitVec 32 := 0#32
  let c1_i32_137 : BitVec 32 := 1#32
  let arg41 : BitVec 32 := Scf.iv c0_i32_136 c1_i32_137 k0_t13
  let c8_i32_436 : BitVec 32 := 8#32
  let v603 : BitVec 32 := Scalar.divsi arg41 c8_i32_436
  let c8_i32_437 : BitVec 32 := 8#32
  let v604 : BitVec 32 := Scalar.muli v603 c8_i32_437
  v604
def k0_off80 (k0_t13 : Fin k0_t13_loop.trips) : Fin 2 → Nat :=
  let c0_i32_136 : BitVec 32 := 0#32
  let c1_i32_137 : BitVec 32 := 1#32
  let arg41 : BitVec 32 := Scf.iv c0_i32_136 c1_i32_137 k0_t13
  let c8_i32_436 : BitVec 32 := 8#32
  let v603 : BitVec 32 := Scalar.divsi arg41 c8_i32_436
  let c8_i32_437 : BitVec 32 := 8#32
  let v604 : BitVec 32 := Scalar.muli v603 c8_i32_437
  let v605 : BitVec 32 := v604
  let v606 : Index := Scalar.indexCast v605
  let c1536_438 : Index := 1536#32
  ![v606.toNat, 1536]
def k0_off81 (k0_t13 : Fin k0_t13_loop.trips) : Fin 3 → Nat :=
  let c0_441 : Index := 0#32
  let c0_i32_136 : BitVec 32 := 0#32
  let c1_i32_137 : BitVec 32 := 1#32
  let arg41 : BitVec 32 := Scf.iv c0_i32_136 c1_i32_137 k0_t13
  let c8_i32 : BitVec 32 := 8#32
  let v363 : BitVec 32 := Scalar.muli arg41 c8_i32
  let v364 : BitVec 32 := v363
  let v619 : Index := Scalar.indexCast v364
  let c1536_442 : Index := 1536#32
  ![0, v619.toNat, 1536]
def k0_off82 (k0_t13 : Fin k0_t13_loop.trips) : Fin 3 → Nat :=
  let c1_443 : Index := 1#32
  let c0_i32_136 : BitVec 32 := 0#32
  let c1_i32_137 : BitVec 32 := 1#32
  let arg41 : BitVec 32 := Scf.iv c0_i32_136 c1_i32_137 k0_t13
  let c8_i32 : BitVec 32 := 8#32
  let v363 : BitVec 32 := Scalar.muli arg41 c8_i32
  let v364 : BitVec 32 := v363
  let v624 : Index := Scalar.indexCast v364
  let c1536_444 : Index := 1536#32
  ![1, v624.toNat, 1536]
def k0_cond16 (k0_t13 : Fin k0_t13_loop.trips) : BitVec 1 :=
  let c0_i32_136 : BitVec 32 := 0#32
  let c1_i32_137 : BitVec 32 := 1#32
  let arg41 : BitVec 32 := Scf.iv c0_i32_136 c1_i32_137 k0_t13
  let c15_i32_331 : BitVec 32 := 15#32
  let v362 : BitVec 1 := Scalar.cmpi .eq arg41 c15_i32_331
  let true_445 : BitVec 1 := 1#1
  let v628 : BitVec 1 := Scalar.xori v362 true_445
  let v629 : BitVec 32 := Scalar.extui v628
  let c0_i32_446 : BitVec 32 := 0#32
  let v630 : BitVec 1 := Scalar.cmpi .ne v629 c0_i32_446
  v630

def k0_off83 (k0_t13 : Fin k0_t13_loop.trips) : Fin 3 → Nat :=
  let c0_i32_136 : BitVec 32 := 0#32
  let c1_i32_137 : BitVec 32 := 1#32
  let arg41 : BitVec 32 := Scf.iv c0_i32_136 c1_i32_137 k0_t13
  let c1_i32_447 : BitVec 32 := 1#32
  let v631 : BitVec 32 := Scalar.addi arg41 c1_i32_447
  let c0_i32_449 : BitVec 32 := 0#32
  let c1536_i32_450 : BitVec 32 := 1536#32
  ![v631.toNat, 0, 1536]
@[reducible] def k0_t19_loop : Scf.Loop 32 :=
  let c0_i32_147 : BitVec 32 := 0#32
  let c4_i32_148 : BitVec 32 := 4#32
  let v185 : BitVec 32 := Scalar.addi c0_i32_147 c4_i32_148
  let c1_i32_149 : BitVec 32 := 1#32
  ⟨c0_i32_147, v185, c1_i32_149⟩
def k0_mult24 (k0_t19 : Fin k0_t19_loop.trips) : BitVec 32 :=
  let c0_i32_147 : BitVec 32 := 0#32
  let c1_i32_149 : BitVec 32 := 1#32
  let arg41 : BitVec 32 := Scf.iv c0_i32_147 c1_i32_149 k0_t19
  let c512_i32_331 : BitVec 32 := 512#32
  let v362 : BitVec 32 := Scalar.muli arg41 c512_i32_331
  v362
def k0_off84 (k0_t19 : Fin k0_t19_loop.trips) : Fin 3 → Nat :=
  let c0_332 : Index := 0#32
  let c0_i32_147 : BitVec 32 := 0#32
  let c1_i32_149 : BitVec 32 := 1#32
  let arg41 : BitVec 32 := Scf.iv c0_i32_147 c1_i32_149 k0_t19
  let c512_i32_331 : BitVec 32 := 512#32
  let v362 : BitVec 32 := Scalar.muli arg41 c512_i32_331
  let v363 : BitVec 32 := v362
  let v364 : Index := Scalar.indexCast v363
  let c0_333 : Index := 0#32
  ![0, v364.toNat, 0]
def k0_off85 (k0_t19 : Fin k0_t19_loop.trips) : Fin 3 → Nat :=
  let c0_338 : Index := 0#32
  let c0_i32_147 : BitVec 32 := 0#32
  let c1_i32_149 : BitVec 32 := 1#32
  let arg41 : BitVec 32 := Scf.iv c0_i32_147 c1_i32_149 k0_t19
  let c512_i32_331 : BitVec 32 := 512#32
  let v362 : BitVec 32 := Scalar.muli arg41 c512_i32_331
  let v363 : BitVec 32 := v362
  let v378 : Index := Scalar.indexCast v363
  let c1536_339 : Index := 1536#32
  ![0, v378.toNat, 1536]
@[reducible] def k0_t20_loop : Scf.Loop 32 :=
  let c0_i32_167 : BitVec 32 := 0#32
  let c4_i32_168 : BitVec 32 := 4#32
  let v200 : BitVec 32 := Scalar.addi c0_i32_167 c4_i32_168
  let c1_i32_169 : BitVec 32 := 1#32
  ⟨c0_i32_167, v200, c1_i32_169⟩
def k0_mult25 (k0_t20 : Fin k0_t20_loop.trips) : BitVec 32 :=
  let c0_i32_167 : BitVec 32 := 0#32
  let c1_i32_169 : BitVec 32 := 1#32
  let arg41 : BitVec 32 := Scf.iv c0_i32_167 c1_i32_169 k0_t20
  let c512_i32_331 : BitVec 32 := 512#32
  let v362 : BitVec 32 := Scalar.muli arg41 c512_i32_331
  v362
def k0_off86 (k0_t20 : Fin k0_t20_loop.trips) : Fin 3 → Nat :=
  let c1_332 : Index := 1#32
  let c0_i32_167 : BitVec 32 := 0#32
  let c1_i32_169 : BitVec 32 := 1#32
  let arg41 : BitVec 32 := Scf.iv c0_i32_167 c1_i32_169 k0_t20
  let c512_i32_331 : BitVec 32 := 512#32
  let v362 : BitVec 32 := Scalar.muli arg41 c512_i32_331
  let v363 : BitVec 32 := v362
  let v364 : Index := Scalar.indexCast v363
  let c0_333 : Index := 0#32
  ![1, v364.toNat, 0]
def k0_off87 (k0_t20 : Fin k0_t20_loop.trips) : Fin 3 → Nat :=
  let c1_338 : Index := 1#32
  let c0_i32_167 : BitVec 32 := 0#32
  let c1_i32_169 : BitVec 32 := 1#32
  let arg41 : BitVec 32 := Scf.iv c0_i32_167 c1_i32_169 k0_t20
  let c512_i32_331 : BitVec 32 := 512#32
  let v362 : BitVec 32 := Scalar.muli arg41 c512_i32_331
  let v363 : BitVec 32 := v362
  let v378 : Index := Scalar.indexCast v363
  let c1536_339 : Index := 1536#32
  ![1, v378.toNat, 1536]
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2048x1664 : Shape := ⟨3, ![2, 2048, 1664]⟩
abbrev S2 : Shape := ⟨1, ![2]⟩
abbrev S1664x128 : Shape := ⟨2, ![1664, 128]⟩
abbrev S16x1664x8192 : Shape := ⟨3, ![16, 1664, 8192]⟩
abbrev S16x8192 : Shape := ⟨2, ![16, 8192]⟩
abbrev S16x8192x1664 : Shape := ⟨3, ![16, 8192, 1664]⟩
abbrev S16x1664 : Shape := ⟨2, ![16, 1664]⟩
abbrev S2x128x1664 : Shape := ⟨3, ![2, 128, 1664]⟩
abbrev S2x16x8x1664 : Shape := ⟨4, ![2, 16, 8, 1664]⟩
abbrev S2x16x8 : Shape := ⟨3, ![2, 16, 8]⟩
abbrev S2x16x8x8192 : Shape := ⟨4, ![2, 16, 8, 8192]⟩
abbrev S1x2048x1664 : Shape := ⟨3, ![1, 2048, 1664]⟩
abbrev S2048x1664 : Shape := ⟨2, ![2048, 1664]⟩
abbrev S2048x128 : Shape := ⟨2, ![2048, 128]⟩
abbrev S1 : Shape := ⟨1, ![1]⟩
abbrev S128 : Shape := ⟨1, ![128]⟩
abbrev S1x128 : Shape := ⟨2, ![1, 128]⟩
abbrev S128x1664 : Shape := ⟨2, ![128, 1664]⟩
abbrev S128x1 : Shape := ⟨2, ![128, 1]⟩
abbrev S128x252 : Shape := ⟨2, ![128, 252]⟩
abbrev S16x8x1664 : Shape := ⟨3, ![16, 8, 1664]⟩
abbrev S16x8x8192 : Shape := ⟨3, ![16, 8, 8192]⟩
abbrev S16x8x1 : Shape := ⟨3, ![16, 8, 1]⟩
abbrev S16x1x8192 : Shape := ⟨3, ![16, 1, 8192]⟩
abbrev S128x8192 : Shape := ⟨2, ![128, 8192]⟩
abbrev S16x1x1664 : Shape := ⟨3, ![16, 1, 1664]⟩
abbrev S2048 : Shape := ⟨1, ![2048]⟩
abbrev S2048x1 : Shape := ⟨2, ![2048, 1]⟩
abbrev S1x128x1664 : Shape := ⟨3, ![1, 128, 1664]⟩
abbrev S1x16x8x1664 : Shape := ⟨4, ![1, 16, 8, 1664]⟩
abbrev S16x8 : Shape := ⟨2, ![16, 8]⟩
abbrev S1x16x8 : Shape := ⟨3, ![1, 16, 8]⟩
abbrev S1x16x8x8192 : Shape := ⟨4, ![1, 16, 8, 8192]⟩

abbrev nBuf : Space → Nat
  | .hbm => 13
  | .vmem => 12
  | .smem => 1
  | _ => 0

abbrev bufTy : (tb : Table) → Fin (tcTables nBuf tb) → BufTy
  | .hbm, ⟨0, _⟩ => ⟨S2x2048x1664, .bf16⟩
  | .hbm, ⟨1, _⟩ => ⟨S2, .i32⟩
  | .hbm, ⟨2, _⟩ => ⟨S1664x128, .bf16⟩
  | .hbm, ⟨3, _⟩ => ⟨S16x1664x8192, .fp8e4m3⟩
  | .hbm, ⟨4, _⟩ => ⟨S16x8192, .f32⟩
  | .hbm, ⟨5, _⟩ => ⟨S16x8192x1664, .fp8e4m3⟩
  | .hbm, ⟨6, _⟩ => ⟨S16x1664, .f32⟩
  | .hbm, ⟨7, _⟩ => ⟨S2x2048x1664, .bf16⟩
  | .hbm, ⟨8, _⟩ => ⟨S2x128x1664, .bf16⟩
  | .hbm, ⟨9, _⟩ => ⟨S2x16x8x1664, .fp8e4m3⟩
  | .hbm, ⟨10, _⟩ => ⟨S2x16x8, .f32⟩
  | .hbm, ⟨11, _⟩ => ⟨S2x16x8x8192, .fp8e4m3⟩
  | .hbm, ⟨12, _⟩ => ⟨S2x16x8, .f32⟩
  | .local _ .vmem, ⟨0, _⟩ => ⟨S2x2048x1664, .bf16⟩
  | .local _ .vmem, ⟨1, _⟩ => ⟨S1664x128, .bf16⟩
  | .local _ .vmem, ⟨2, _⟩ => ⟨S16x1664x8192, .fp8e4m3⟩
  | .local _ .vmem, ⟨3, _⟩ => ⟨S16x8192, .f32⟩
  | .local _ .vmem, ⟨4, _⟩ => ⟨S16x8192x1664, .fp8e4m3⟩
  | .local _ .vmem, ⟨5, _⟩ => ⟨S16x1664, .f32⟩
  | .local _ .vmem, ⟨6, _⟩ => ⟨S2x2048x1664, .bf16⟩
  | .local _ .vmem, ⟨7, _⟩ => ⟨S2x128x1664, .bf16⟩
  | .local _ .vmem, ⟨8, _⟩ => ⟨S2x16x8x1664, .fp8e4m3⟩
  | .local _ .vmem, ⟨9, _⟩ => ⟨S2x16x8, .f32⟩
  | .local _ .vmem, ⟨10, _⟩ => ⟨S2x16x8x8192, .fp8e4m3⟩
  | .local _ .vmem, ⟨11, _⟩ => ⟨S2x16x8, .f32⟩
  | .local _ .smem, ⟨0, _⟩ => ⟨S2, .i32⟩
  | _, _ => ⟨S2x2048x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1664x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1664x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x8192x1664 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1664 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x2048x1664 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x1664 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x16x8x1664 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x16x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x16x8x8192 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x16x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Pre.lean ====
/-
  The precondition, read element by element.
-/
module

public import proofs.«01_k».proof.Pre_in_buffer
public import Idealize.ShloMosaic.Lib.ReduceAll
public import Idealize.ShloMosaic.Lib.Affine
public import Idealize.ShloMosaic.Lib.Tactic

@[expose] public section

noncomputable section

namespace Cert.Proof

open Idealize.ShloMosaic Cert.Pre_in_buffer

/-- The precondition's shape relations. -/
instance preFacts : Cert.Pre_in_buffer.Facts where
  bcast_S_S2 := by decide
  reducesTo_S2_S_d0 := by decide
  h_S_ := by decide

/-- The precondition says that no length exceeds 2048. -/
theorem lengths_le {F : FTy → Type} [FloatOps F] (a0 : FVec F S2x2048x1664 .bf16) (a1 : IVec S2 32) (a2 : FVec F S1664x128 .bf16)
    (a3 : FVec F S16x1664x8192 .fp8e4m3) (a4 : FVec F S16x8192 .f32) (a5 : FVec F S16x8192x1664 .fp8e4m3) (a6 : FVec F S16x1664 .f32)
    (h : Cert.Pre_in_buffer.fn a0 a1 a2 a3 a4 a5 a6 = fun _ => 1#1) (j : S2.Idx) : (a1 j).toInt ≤ 2048 := by
  have h' := congrFun h (fun a => a.elim0)
  dsimp only [Cert.Pre_in_buffer.fn] at h'
  have e := Host.reduce_andi_all _ _ _ _ _ h' j
  exact (IntOp.cmpi_sle).1 e

end Cert.Proof

end
-- ==== Proof.KernelIdeal.Base.lean ====
/-
  The vocabulary of the run: a memref's window held at LOGICAL contents, and the rules of the machine's operations
  (load, store, transfer, wait) stated over it.
-/
module

public import proofs.«01_k».proof.Proof.Gen.KernelIdeal.Launch
public import proofs.«01_k».proof.Proof.Gen.KernelIdeal.Skeleton
public import Idealize.ShloMosaic.Lib.Pipeline.KitQuiescent
public import Idealize.ShloMosaic.Lib.Ring
public import Idealize.ShloMosaic.Lib.Affine
public import Idealize.ShloMosaic.Lib.Tactic
public import Idealize.ShloMosaic.Lib.Exec

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-- The rest of the kernel, run on core `c` to the postcondition `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Windows at logical contents -/

section At
variable {sp : Space} {s : Shape} {e : EltTy}

/-- The indices `S` of the memref `M` are held at share `q`, reading `v` there. -/
def At (c : Dev nD) (M : Memref sig .tc sp s e) (S : Finset s.Idx) (q : PosShare TreeShare) (v : s.Idx → Elt F e) : sProp 𝕄 :=
  M.view.loc (c : Thread nD τ) ↦[M.view.setOn S]{q} M.view.rep v

theorem at_of (c : Dev nD) (M : Memref sig .tc sp s e) (S : Finset s.Idx) (q : PosShare TreeShare)
    (f : Buf (Elt F) (M.view.loc (c : Thread nD τ))) (v : s.Idx → Elt F e) (h : ∀ i ∈ S, M.view.read (Elt F) f i = v i) :
    (M.view.loc (c : Thread nD τ) ↦[M.view.setOn S]{q} f : sProp 𝕄) = At c M S q v :=
  pointsTo_congr fun i hi => by
    obtain ⟨x, hx, rfl⟩ := Finset.mem_map.mp hi
    rw [View.rep_emb, ← h x hx, View.read_apply, cast_cast, cast_eq]

theorem at_congr (c : Dev nD) (M : Memref sig .tc sp s e) {S : Finset s.Idx} (q : PosShare TreeShare)
    {v w : s.Idx → Elt F e} (h : ∀ i ∈ S, v i = w i) : (At c M S q v : sProp 𝕄) = At c M S q w :=
  at_of c M S q _ w fun i hi => by rw [View.read_rep]; exact h i hi

theorem at_union (c : Dev nD) (M : Memref sig .tc sp s e) {S T : Finset s.Idx} (h : Disjoint S T) (q : PosShare TreeShare)
    (v : s.Idx → Elt F e) : (At c M (S ∪ T) q v : sProp 𝕄) ⊣⊢ iprop(At c M S q v ∗ At c M T q v) := by
  unfold At View.setOn
  rw [Finset.map_union]
  exact pointsTo_union ((Finset.disjoint_map _).mpr h)

/-- Splitting `S` into the part in `T` and the rest. -/
theorem at_split (c : Dev nD) (M : Memref sig .tc sp s e) {S : Finset s.Idx} (T : Finset s.Idx) (h : T ⊆ S) (q : PosShare TreeShare)
    (v : s.Idx → Elt F e) : (At c M S q v : sProp 𝕄) ⊣⊢ iprop(At c M T q v ∗ At c M (S \ T) q v) := by
  have := at_union (F := F) c M (S := T) (T := S \ T) Finset.disjoint_sdiff q v
  rwa [Finset.union_sdiff_of_subset h] at this

theorem at_empty (c : Dev nD) (M : Memref sig .tc sp s e) (q : PosShare TreeShare) (v : s.Idx → Elt F e) :
    (At c M ∅ q v : sProp 𝕄) = BI.emp := by
  unfold At View.setOn; rw [Finset.map_empty]; exact pointsTo_empty

/-- Two held windows, at different contents, joined. -/
theorem at_join (c : Dev nD) (M : Memref sig .tc sp s e) {S T U : Finset s.Idx} (h : Disjoint S T) (hU : S ∪ T = U) (q : PosShare TreeShare)
    {v w u : s.Idx → Elt F e} (hv : ∀ i ∈ S, v i = u i) (hw : ∀ i ∈ T, w i = u i) :
    iprop(At c M S q v ∗ At c M T q w) ⊢ (At c M U q u : sProp 𝕄) := by
  rw [at_congr c M q hv, at_congr c M q hw, ← hU]; exact (at_union c M h q u).2

/-- Held at contents nobody asks for. -/
def Any (c : Dev nD) (M : Memref sig .tc sp s e) (S : Finset s.Idx) : sProp 𝕄 := iprop(∃ v, At (F := F) c M S fullShare v)

theorem any_of (c : Dev nD) (M : Memref sig .tc sp s e) (S : Finset s.Idx) (v : s.Idx → Elt F e) :
    At c M S fullShare v ⊢ (Any (F := F) c M S : sProp 𝕄) := by
  unfold Any; iintro H; iexists v; iexact H

theorem any_join (c : Dev nD) (M : Memref sig .tc sp s e) {S T U : Finset s.Idx} (h : Disjoint S T) (hU : S ∪ T = U) :
    iprop(Any c M S ∗ Any c M T) ⊢ (Any (F := F) c M U : sProp 𝕄) := by
  classical
  unfold Any
  iintro ⟨⟨%v, H⟩, ⟨%w, K⟩⟩
  iexists (fun i => if i ∈ S then v i else w i)
  iapply (at_join c M h hU fullShare (v := v) (w := w) (fun i hi => by simp [hi])
    (fun i hi => by simp [Finset.disjoint_right.mp h hi]))
  isplitl [H]
  · iexact H
  · iexact K

theorem any_split (c : Dev nD) (M : Memref sig .tc sp s e) {S : Finset s.Idx} (T : Finset s.Idx) (h : T ⊆ S) :
    Any c M S ⊢ (iprop(Any (F := F) c M T ∗ Any c M (S \ T)) : sProp 𝕄) := by
  unfold Any
  iintro ⟨%v, H⟩
  ihave H := (at_split c M T h fullShare v).1 $$ H
  icases H with ⟨H, K⟩
  isplitl [H]
  · iexists v; iexact H
  · iexists v; iexact K

/-- The contents of the box of size `size` at `off`. -/
def slc {α : Type} [Nonempty α] {s : Shape} (v : s.Idx → α) (off size : Fin s.rank → Nat) : (⟨s.rank, size⟩ : Shape).Idx → α :=
  open Classical in
  fun j => if h : ∀ a, off a + (j a).val < s.size a then v (fun a => ⟨off a + (j a).val, h a⟩) else Classical.arbitrary α

theorem slc_unit {α : Type} [Nonempty α] {s : Shape} (v : s.Idx → α) (off size : Fin s.rank → Nat) (h : ∀ a, off a + size a ≤ s.size a)
    (j : (⟨s.rank, size⟩ : Shape).Idx) : v ((Rect.unit (s := s) off size h).idx j) = slc v off size j := by
  have hj : ∀ a, off a + (j a).val < s.size a := fun a => by have h1 : (j a).val < size a := (j a).isLt; have := h a; omega
  unfold slc; rw [dif_pos hj]; congr 1; funext a; apply Fin.ext
  exact congrArg (off a + ·) (Nat.one_mul _)

/-- `load` of a box. -/
theorem wp_load_at (c : Dev nD) {cs : CoreSpace} {s : Shape} {e : EltTy} {M : Memref sig .tc cs s e} {S : Finset s.Idx} {q : PosShare TreeShare} {v : s.Idx → Elt F e}
    {off size : Fin s.rank → Nat} {h : ∀ a, off a + size a ≤ s.size a} {hl} {α : Type}
    {k : ((⟨s.rank, size⟩ : Shape).Idx → Elt F e) → Prog (TpuEff nD τ sig (Elt F) Λ₀ .tc) α} {Q : α → sProp 𝕄}
    (hS : (Rect.unit (s := s) off size h).set ⊆ S) :
    (At c M S q v : sProp 𝕄) ⊢ iprop((At c M S q v -∗ WP c (k (slc v off size)) Q)
      -∗ WP c (.op (.load M (Rect.unit (s := s) off size h).toLoadRect hl) k) Q) := by
  unfold At
  iintro H Hk
  iapply (wp_load 𝒱₀ (c : Thread nD τ) none Set.univ (m := M) (S := M.view.setOn S) (Finset.map_subset_map.mpr hS)) $$ H
  iintro H
  rw [show M.view.readAt (Elt F) (Rect.unit (s := s) off size h).toLoadRect (M.view.rep v) = slc v off size from by
    rw [View.readAt_rep]; exact funext fun j => slc_unit v off size h j]
  iapply Hk $$ H

/-- `store` of a box: any contents that agree with the stored box on it, and with the old ones off it. -/
theorem wp_store_at (c : Dev nD) {cs : CoreSpace} {s : Shape} {e : EltTy} {M : Memref sig .tc cs s e} {S : Finset s.Idx} {v : s.Idx → Elt F e} (v' : s.Idx → Elt F e)
    {off size : Fin s.rank → Nat} {h : ∀ a, off a + size a ≤ s.size a} {w : (⟨s.rank, size⟩ : Shape).Idx → Elt F e} {hx hm} {α : Type}
    {k : PUnit → Prog (TpuEff nD τ sig (Elt F) Λ₀ .tc) α} {Q : α → sProp 𝕄}
    (hS : (Rect.unit (s := s) off size h).set ⊆ S)
    (h1 : ∀ j, v' ((Rect.unit (s := s) off size h).idx j) = w j)
    (h2 : ∀ i ∈ S, i ∉ (Rect.unit (s := s) off size h).set → v' i = v i) :
    (At c M S fullShare v : sProp 𝕄) ⊢ iprop((At c M S fullShare v' -∗ WP c (k ⟨⟩) Q)
      -∗ WP c (.op (.store M (Rect.unit (s := s) off size h) w Finset.univ hx hm) k) Q) := by
  iintro H Hk
  iapply (wp_store 𝒱₀ (c : Thread nD τ) none Set.univ (S := M.view.setOn S) (f := M.view.rep v) (by
    rw [View.setOn_univ, View.set_slice]; exact Finset.map_subset_map.mpr hS)) $$ [H]
  · unfold At; iexact H
  iintro H
  iapply Hk
  iapply (entails_of_eq (at_of c M S fullShare _ v' ?_)) $$ H
  intro i hi
  by_cases hr : i ∈ (Rect.unit (s := s) off size h).set
  · obtain ⟨j, rfl⟩ := (Rect.unit (s := s) off size h).exists_idx_of_mem hr
    rw [h1]
    exact View.read_slice_write_emb (v := M.view) _ _ w (Finset.mem_univ j)
  · rw [h2 i hi hr, View.read_slice_write_of_not_mem, View.read_rep]
    rw [Rect.map_emb_univ]; exact hr

/-- A slice, squeezed, held whole is the box held in the memref it is cut from. -/
theorem at_window (c : Dev nD) {sp : Space} {s s' : Shape} {e : EltTy} (M : Memref sig .tc sp s e) (r : Rect s) (hr : ∀ a, r.stride a = 1)
    (hq : r.shape.Squeezes s') (q : PosShare TreeShare) (v : s.Idx → Elt F e) (w : s'.Idx → Elt F e)
    (h : ∀ j, w j = v (r.idx (Shape.reshapeEquiv hq.numel_eq j))) :
    (At c ((M.slice r hr).squeeze s' hq) Finset.univ q w : sProp 𝕄) = At c M r.set q v := by
  rw [← at_of c ((M.slice r hr).squeeze s' hq) Finset.univ q (M.view.rep v) w (fun j _ => by
    rw [h]
    exact congrFun (View.read_rep M.view v) (r.idx (Shape.reshapeEquiv hq.numel_eq j)))]
  unfold At
  congr 1
  have : ((M.slice r hr).squeeze s' hq).view.setOn Finset.univ = (M.slice r hr).view.set := View.map_univ_equiv_trans _ _
  rw [this]
  exact View.set_slice M.view r

end At

/-! ## Transfers -/

/-- The transfer in flight on the core's cell `sm`, of `N` units, delivering `D` at its wait. -/
abbrev Fl (c : Dev nD) (sm : DmaSem sig) (N : ℕ) (D : sProp 𝕄) : sProp 𝕄 :=
  Flight countersEmb (c : Thread nD τ) (SemLoc.dma sm) () N D

/-- The core's cell `sm` at zero. -/
abbrev Cell (c : Dev nD) (sm : DmaSem sig) : sProp 𝕄 := semVal ((c : Thread nD τ), SemLoc.dma sm) 0

/-- What the core may have waited on so far. -/
def Owe (c : Dev nD) : sProp 𝕄 := iprop(∃ W : Waits sig Unit, owes (Val := Elt F) (Name := ℕ) (U := UU nD τ) (Lvl := ℕ) (c : Thread nD τ) 0 W)

/-- A local transfer on a free cell. -/
theorem wp_dma_at (c : Dev nD) {sp sp' : Space} {s : Shape} {e : EltTy} {src : Memref sig .tc sp s e} {dst : Memref sig .tc sp' s e}
    {sm sm0 : DmaSem sig} (hsm : sm = sm0) {q : PosShare TreeShare} {v u : s.Idx → Elt F e} {h1 h2 h3} {α : Type}
    {k : PUnit → Prog (TpuEff nD τ sig (Elt F) Λ₀ .tc) α} {Q : α → sProp 𝕄} (hpos : 0 < s.numel)
    (N : ℕ) (hN : dst.view.dmaCredit = N) (D : sProp 𝕄)
    (hD : iprop(At c dst Finset.univ fullShare v ∗ At c src Finset.univ q v) ⊢ D) :
    iprop(At c src Finset.univ q v ∗ At c dst Finset.univ fullShare u ∗ Cell c sm0)
      ⊢ iprop((Fl c sm0 N D -∗ WP c (k ⟨⟩) Q)
        -∗ WP c (.op (.enqueueDma src (.here dst) (.dma sm) h1 h2 h3) k) Q) := by
  subst hsm
  iintro ⟨Hs, Hd, Hc⟩ Hk
  iapply (wp_dmaLocal countersEmb 𝒱₀ (c : Thread nD τ) none () (dst := dst) (sm := .dma sm) N hN (by rw [← hN]; exact dst.view.dmaCredit_pos hpos) (Finset.Subset.refl _)) $$ [Hs Hd Hc]
  · unfold At; isplitl [Hs]; · iexact Hs
    isplitl [Hd]; · iexact Hd
    iexact Hc
  iintro Hf
  iapply Hk
  iapply (Flight_mono countersEmb (c : Thread nD τ) ?_) $$ Hf
  refine BIBase.Entails.trans ?_ hD
  rw [← View.setOn_univ, at_of c dst Finset.univ fullShare _ v (fun i _ => by
    rw [View.read_write_univ]
    exact congrFun (View.read_rep src.view v) i)]
  exact BIBase.Entails.rfl

/-- The wait for the one transfer in flight on a cell. -/
theorem wp_wait_at (c : Dev nD) {sp sp' : Space} {s s' : Shape} {e e' : EltTy} {src : Memref sig .tc sp s' e'} {dst : Memref sig .tc sp' s e}
    {sm sm0 : DmaSem sig} (hsm : sm = sm0) {h1 h2} {α : Type}
    {k : PUnit → Prog (TpuEff nD τ sig (Elt F) Λ₀ .tc) α} {Q : α → sProp 𝕄}
    (N : ℕ) (hN : dst.view.dmaCredit = N) (D : sProp 𝕄) :
    iprop(Fl c sm0 N D ∗ Owe c)
      ⊢ iprop((iprop(D ∗ Cell c sm0 ∗ Owe c) -∗ WP c (k ⟨⟩) Q)
        -∗ WP c (.op (.waitDma2 sm src dst h1 h2) k) Q) := by
  subst hsm
  unfold Owe
  iintro ⟨Hf, ⟨%W, HW⟩⟩ Hk
  iapply (wp_waitLocal countersEmb 𝒱₀ (c : Thread nD τ) none () hN) $$ [Hf HW]
  · isplitl [Hf]; · iexact Hf
    iexact HW
  iintro ⟨HD, Hc, HW⟩
  iapply Hk
  isplitl [HD]; · iexact HD
  isplitl [Hc]; · iexact Hc
  iexists _; iexact HW

/-- The one cell a unit slice of a semaphore array names. -/
theorem sem_at {s : Shape} (a : DmaSems sig s) (off size : Fin s.rank → Nat) (h : ∀ i, off i + size i ≤ s.size i)
    (hq : (Rect.unit (s := s) off size h).shape.Squeezes S_) (x : s.Idx) (hx : ∀ i, off i = (x i).val) (h1 : ∀ i, size i = 1) :
    ((a.slice (Rect.unit (s := s) off size h)).squeeze S_ hq).sem = a.ix x := by
  show a.ix ((Rect.unit (s := s) off size h).emb _) = a.ix x
  congr 1; funext i; apply Fin.ext
  rw [Rect.emb_apply]
  have hlt : ((Shape.reshapeEquiv hq.numel_eq (fun i => i.elim0) i).val) < 1 := Nat.lt_of_lt_of_eq (Fin.isLt _) (h1 i)
  rw [Nat.lt_one_iff.mp hlt]
  exact hx i

end Cert.KernelIdeal.Hand

end
-- ==== Proof.KernelIdeal.Windows.lean ====
/-
  Boxes of an array: reading one (`slc`), overwriting one (`put`), holding one at known contents (`Win`), and the
  machine's operations over them.
-/
module

public import proofs.«01_k».proof.Proof.KernelIdeal.Base
public import Idealize.ShloMosaic.Lib.MixedBatch
public import Idealize.ShloMosaic.Lib.SparseCore.Scatter

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (UU nD τ) ℕ

/-! ## Boxes -/

/-- The indices of the box of size `size` at `off`. -/
def bx (s : Shape) (off size : Fin s.rank → Nat) : Finset s.Idx :=
  Finset.univ.filter fun i => ∀ a, off a ≤ (i a).val ∧ (i a).val < off a + size a

theorem mem_bx {s : Shape} {off size : Fin s.rank → Nat} {i : s.Idx} :
    i ∈ bx s off size ↔ ∀ a, off a ≤ (i a).val ∧ (i a).val < off a + size a := by
  unfold bx; simp

theorem bx_unit {s : Shape} {off size : Fin s.rank → Nat} (h : ∀ a, off a + size a ≤ s.size a) :
    (Rect.unit (s := s) off size h).set = bx s off size := by
  ext i; rw [Rect.mem_set_unit, mem_bx]

theorem bx_disjoint {s : Shape} {off size off' size' : Fin s.rank → Nat} (a : Fin s.rank)
    (h : off a + size a ≤ off' a ∨ off' a + size' a ≤ off a) : Disjoint (bx s off size) (bx s off' size') := by
  rw [Finset.disjoint_left]; intro i hi hj
  have h1 := mem_bx.mp hi a; have h2 := mem_bx.mp hj a; omega

theorem bx_subset {s : Shape} {off size off' size' : Fin s.rank → Nat}
    (h : ∀ a, off' a ≤ off a ∧ off a + size a ≤ off' a + size' a) : bx s off size ⊆ bx s off' size' := by
  intro i hi; rw [mem_bx] at hi ⊢; intro a; have := hi a; have := h a; omega

/-- `v` with the box at `off` overwritten by `w`. -/
def put {α : Type} {s : Shape} (v : s.Idx → α) (off size : Fin s.rank → Nat) (w : (⟨s.rank, size⟩ : Shape).Idx → α) : s.Idx → α :=
  fun i => if h : ∀ a, off a ≤ (i a).val ∧ (i a).val < off a + size a
    then w (fun a => ⟨(i a).val - off a, by have := h a; show _ < size a; omega⟩) else v i

theorem put_unit {α : Type} {s : Shape} (v : s.Idx → α) (off size : Fin s.rank → Nat) (w : (⟨s.rank, size⟩ : Shape).Idx → α)
    (h : ∀ a, off a + size a ≤ s.size a) (j : (⟨s.rank, size⟩ : Shape).Idx) :
    put v off size w ((Rect.unit (s := s) off size h).idx j) = w j := by
  have e : ∀ a, (((Rect.unit (s := s) off size h).idx j) a).val = off a + (j a).val := fun a => congrArg (off a + ·) (Nat.one_mul _)
  have hj : ∀ a, off a ≤ (((Rect.unit (s := s) off size h).idx j) a).val ∧ (((Rect.unit (s := s) off size h).idx j) a).val < off a + size a := fun a => by
    have h1 : (j a).val < size a := (j a).isLt
    rw [e]; omega
  unfold put; rw [dif_pos hj]; congr 1; funext a; apply Fin.ext
  show _ - off a = (j a).val
  rw [e]; omega

theorem put_out {α : Type} {s : Shape} (v : s.Idx → α) (off size : Fin s.rank → Nat) (w : (⟨s.rank, size⟩ : Shape).Idx → α)
    {i : s.Idx} (h : i ∉ bx s off size) : put v off size w i = v i := by
  unfold put; rw [dif_neg (fun hh => h (mem_bx.mpr hh))]

section
variable {α : Type} [Nonempty α] {s : Shape}

theorem slc_congr {v w : s.Idx → α} {off size : Fin s.rank → Nat} (h : ∀ i ∈ bx s off size, v i = w i) : slc v off size = slc w off size := by
  funext j; unfold slc; split
  · rename_i hj
    exact h _ (mem_bx.mpr fun a => ⟨Nat.le_add_right _ _, Nat.add_lt_add_left (j a).isLt _⟩)
  · rfl

theorem slc_put (v : s.Idx → α) {off size : Fin s.rank → Nat} (w : (⟨s.rank, size⟩ : Shape).Idx → α) (h : ∀ a, off a + size a ≤ s.size a) :
    slc (put v off size w) off size = w := by
  funext j; rw [← slc_unit _ off size h j, put_unit]

theorem slc_put_ne (v : s.Idx → α) {off size off' size' : Fin s.rank → Nat} (w : (⟨s.rank, size⟩ : Shape).Idx → α) (a : Fin s.rank)
    (h : off a + size a ≤ off' a ∨ off' a + size' a ≤ off a) : slc (put v off size w) off' size' = slc v off' size' :=
  slc_congr fun i hi => put_out v off size w (fun hj => Finset.disjoint_left.mp (bx_disjoint a h) hj hi)

theorem put_slc_agree {v u : s.Idx → α} {off size : Fin s.rank → Nat} (hin : ∀ a, off a + size a ≤ s.size a) {i : s.Idx} (hi : i ∈ bx s off size)
    (h : slc v off size = slc u off size) : v i = u i := by
  rw [← bx_unit hin] at hi
  obtain ⟨j, rfl⟩ := (Rect.unit (s := s) off size hin).exists_idx_of_mem hi
  rw [slc_unit v off size hin j, slc_unit u off size hin j, h]

end

/-! ## Holding boxes -/

section At
variable {sp : Space} {s : Shape} {e : EltTy}

/-- The box at `off` is held at share `q`, holding `w`. -/
def Win (c : Dev nD) (M : Memref sig .tc sp s e) (off size : Fin s.rank → Nat) (q : PosShare TreeShare)
    (w : (⟨s.rank, size⟩ : Shape).Idx → Elt F e) : sProp 𝕄 :=
  iprop(∃ v, ⌜slc v off size = w⌝ ∗ At (F := F) c M (bx s off size) q v)

theorem win_any (c : Dev nD) (M : Memref sig .tc sp s e) (off size : Fin s.rank → Nat) (w) :
    Win c M off size fullShare w ⊢ (Any (F := F) c M (bx s off size) : sProp 𝕄) := by
  unfold Win Any; iintro ⟨%v, -, H⟩; iexists v; iexact H

instance at_storable (c : Dev nD) (M : Memref sig .tc sp s e) (S : Finset s.Idx) (q : PosShare TreeShare) (v : s.Idx → Elt F e) :
    Storable (upEmb : UEmb _ 𝕄) (At (F := F) c M S q v) := by unfold At; infer_instance
instance any_storable (c : Dev nD) (M : Memref sig .tc sp s e) (S : Finset s.Idx) :
    Storable (upEmb : UEmb _ 𝕄) (Any (F := F) c M S) := by unfold Any; infer_instance
instance win_storable (c : Dev nD) (M : Memref sig .tc sp s e) (off size : Fin s.rank → Nat) (q : PosShare TreeShare)
    (w : (⟨s.rank, size⟩ : Shape).Idx → Elt F e) :
    Storable (upEmb : UEmb _ 𝕄) (Win (F := F) c M off size q w) := by unfold Win; infer_instance

theorem bigSep_ins {ι : Type} [DecidableEq ι] {a : ι} {T : Finset ι} (ha : a ∉ T) (Φ : ι → sProp 𝕄) :
    bigSep (insert a T) Φ = iprop(Φ a ∗ bigSep T Φ) := bigSep_insert ha

/-- Disjoint pieces held apart, or together. -/
theorem at_pieces {ι : Type} [DecidableEq ι] (c : Dev nD) (M : Memref sig .tc sp s e) (q : PosShare TreeShare) (v : s.Idx → Elt F e) (S : ι → Finset s.Idx)
    (hd : ∀ i j, i ≠ j → Disjoint (S i) (S j)) (T : Finset ι) :
    (At c M (T.biUnion S) q v : sProp 𝕄) ⊣⊢ bigSep T (fun i => At (F := F) c M (S i) q v) := by
  induction T using Finset.induction_on with
  | empty => rw [Finset.biUnion_empty, at_empty, bigSep_empty]
  | insert a T ha ih =>
    rw [Finset.biUnion_insert, bigSep_ins ha]
    have hdis : Disjoint (S a) (T.biUnion S) := by
      rw [Finset.disjoint_biUnion_right]; intro j hj; exact hd a j (fun h => ha (h ▸ hj))
    constructor
    · iintro H
      ihave H := (at_union c M hdis q v).1 $$ H
      icases H with ⟨H, K⟩
      isplitl [H]; · iexact H
      iapply ih.1 $$ K
    · iintro ⟨H, K⟩
      ihave K := ih.2 $$ K
      iapply (at_union c M hdis q v).2
      isplitl [H]; · iexact H
      iexact K

/-- Disjoint pieces, each at contents with a property, held together. -/
theorem pieces_join {ι : Type} [DecidableEq ι] (c : Dev nD) (M : Memref sig .tc sp s e) (S : ι → Finset s.Idx) (P : ι → (s.Idx → Elt F e) → Prop)
    (hd : ∀ i j, i ≠ j → Disjoint (S i) (S j)) (hP : ∀ i v w, (∀ x ∈ S i, v x = w x) → P i v → P i w) (T : Finset ι) :
    (bigSep T (fun i => iprop(∃ v, ⌜P i v⌝ ∗ At (F := F) c M (S i) fullShare v)) : sProp 𝕄)
      ⊢ iprop(∃ v, ⌜∀ i ∈ T, P i v⌝ ∗ At (F := F) c M (T.biUnion S) fullShare v) := by
  classical
  induction T using Finset.induction_on with
  | empty =>
    rw [bigSep_empty]
    iintro H
    iexists (fun _ => Classical.arbitrary _)
    isplitr; · ipureintro; intro i hi; exact absurd hi (Finset.notMem_empty i)
    rw [Finset.biUnion_empty, at_empty]; iexact H
  | insert a T ha ih =>
    rw [Finset.biUnion_insert, bigSep_ins ha]
    have hdis : Disjoint (S a) (T.biUnion S) := by
      rw [Finset.disjoint_biUnion_right]; intro j hj; exact hd a j (fun h => ha (h ▸ hj))
    iintro ⟨⟨%v, %hv, H⟩, K⟩
    ihave K := ih $$ K
    icases K with ⟨%w, %hw, K⟩
    have h1 : ∀ x ∈ S a, v x = (fun x => if x ∈ S a then v x else w x) x := fun x hx => by simp [hx]
    have h2 : ∀ x ∈ T.biUnion S, w x = (fun x => if x ∈ S a then v x else w x) x := fun x hx => by
      simp [Finset.disjoint_right.mp hdis hx]
    iexists (fun x => if x ∈ S a then v x else w x)
    isplitr
    · ipureintro; intro i hi
      rcases Finset.mem_insert.mp hi with rfl | hi
      · exact hP _ _ _ h1 hv
      · exact hP _ _ _ (fun x hx => h2 x (Finset.mem_biUnion.mpr ⟨i, hi, hx⟩)) (hw i hi)
    iapply (at_join c M hdis rfl fullShare h1 h2)
    isplitl [H]; · iexact H
    iexact K

end At

/-! ## The program's operations -/

theorem WP_bind (c : Dev nD) {α β : Type} (p : Prog (TpuEff nD τ sig (Elt F) Λ₀ .tc) α) (k : α → Prog (TpuEff nD τ sig (Elt F) Λ₀ .tc) β) (Q : β → sProp 𝕄) :
    WP (F := F) c (p >>= k) Q = WP c p (fun a => WP c (k a) Q) := wp_bind ..

theorem WP_done (c : Dev nD) {α : Type} (a : α) (Q : α → sProp 𝕄) : Q a ⊢ WP (F := F) c (.ret a) Q := by
  show _ ⊢ wp _ _ _ _ _
  rw [wp_ret]; iintro H; imodintro; iexact H

theorem WP_pure (c : Dev nD) {α : Type} (a : α) (Q : α → sProp 𝕄) : Q a ⊢ WP (F := F) c (pure a) Q := WP_done c a Q

theorem WP_mono (c : Dev nD) {α : Type} (p : Prog (TpuEff nD τ sig (Elt F) Λ₀ .tc) α) {Q R : α → sProp 𝕄} (h : ∀ a, Q a ⊢ R a) :
    WP (F := F) c p Q ⊢ WP c p R := by
  iintro H
  iapply (wp_wand_r frame (wpE (defs₀ (F := F)) 𝒱₀ (c : Thread nD τ) none) Set.univ)
  isplitl [H]; · iexact H
  iintro %a H
  iapply (h a) $$ H

theorem wp_assume_at (c : Dev nD) {P : Prop} {d : Decidable P} {α : Type} {k : PLift P → Prog (TpuEff nD τ sig (Elt F) Λ₀ .tc) α} {Q : α → sProp 𝕄} (h : P) :
    WP (F := F) c (k ⟨h⟩) Q ⊢ WP c (.op (.assume P d) k) Q := wp_assume 𝒱₀ (c : Thread nD τ) none Set.univ h

theorem wp_load_all (c : Dev nD) {cs : CoreSpace} {s : Shape} {e : EltTy} {M : Memref sig .tc cs s e} {q : PosShare TreeShare} {v : s.Idx → Elt F e}
    {off size : Fin s.rank → Nat} {h : ∀ a, off a + size a ≤ s.size a} {hl} {α : Type}
    {k : ((⟨s.rank, size⟩ : Shape).Idx → Elt F e) → Prog (TpuEff nD τ sig (Elt F) Λ₀ .tc) α} {Q : α → sProp 𝕄} :
    (At c M Finset.univ q v : sProp 𝕄) ⊢ iprop((At c M Finset.univ q v -∗ WP c (k (slc v off size)) Q)
      -∗ WP c (.op (.load M (Rect.unit (s := s) off size h).toLoadRect hl) k) Q) :=
  wp_load_at c (Finset.subset_univ _)

/-- A load of a box whose own box is held. -/
theorem wp_load_bx (c : Dev nD) {cs : CoreSpace} {s : Shape} {e : EltTy} {M : Memref sig .tc cs s e} {q : PosShare TreeShare} {v : s.Idx → Elt F e}
    {S : Finset s.Idx}
    {off size : Fin s.rank → Nat} {h : ∀ a, off a + size a ≤ s.size a} {hl} {α : Type}
    {k : ((⟨s.rank, size⟩ : Shape).Idx → Elt F e) → Prog (TpuEff nD τ sig (Elt F) Λ₀ .tc) α} {Q : α → sProp 𝕄} (hS : bx s off size ⊆ S) :
    (At c M S q v : sProp 𝕄) ⊢ iprop((At c M S q v -∗ WP c (k (slc v off size)) Q)
      -∗ WP c (.op (.load M (Rect.unit (s := s) off size h).toLoadRect hl) k) Q) :=
  wp_load_at c (by rw [bx_unit]; exact hS)

theorem wp_put_bx (c : Dev nD) {cs : CoreSpace} {s : Shape} {e : EltTy} {M : Memref sig .tc cs s e} {v : s.Idx → Elt F e} {S : Finset s.Idx}
    {off size : Fin s.rank → Nat} {h : ∀ a, off a + size a ≤ s.size a} {w : (⟨s.rank, size⟩ : Shape).Idx → Elt F e} {hx hm} {α : Type}
    {k : PUnit → Prog (TpuEff nD τ sig (Elt F) Λ₀ .tc) α} {Q : α → sProp 𝕄} (hS : bx s off size ⊆ S) :
    (At c M S fullShare v : sProp 𝕄) ⊢ iprop((At c M S fullShare (put v off size w) -∗ WP c (k ⟨⟩) Q)
      -∗ WP c (.op (.store M (Rect.unit (s := s) off size h) w Finset.univ hx hm) k) Q) :=
  wp_store_at c (put v off size w) (by rw [bx_unit]; exact hS) (put_unit v off size w h)
    (fun i _ hi => put_out v off size w (by rw [← bx_unit h]; exact hi))

theorem wp_put_all (c : Dev nD) {cs : CoreSpace} {s : Shape} {e : EltTy} {M : Memref sig .tc cs s e} {v : s.Idx → Elt F e}
    {off size : Fin s.rank → Nat} {h : ∀ a, off a + size a ≤ s.size a} {w : (⟨s.rank, size⟩ : Shape).Idx → Elt F e} {hx hm} {α : Type}
    {k : PUnit → Prog (TpuEff nD τ sig (Elt F) Λ₀ .tc) α} {Q : α → sProp 𝕄} :
    (At c M Finset.univ fullShare v : sProp 𝕄) ⊢ iprop((At c M Finset.univ fullShare (put v off size w) -∗ WP c (k ⟨⟩) Q)
      -∗ WP c (.op (.store M (Rect.unit (s := s) off size h) w Finset.univ hx hm) k) Q) := wp_put_bx c (Finset.subset_univ _)

/-- The one index of a one-element vector. -/
def z1 : (⟨S2.rank, S1.size⟩ : Shape).Idx := fun a => ⟨0, by have : a = 0 := Subsingleton.elim _ _; subst this; decide⟩

/-- The scalar load of a length. -/
theorem wp_word (c : Dev nD) {M : Memref sig .tc .smem S2 .i32} {q : PosShare TreeShare} {v : S2.Idx → Elt F .i32}
    {off : Fin 1 → Nat} {h : ∀ a, off a + S1.size a ≤ S2.size a} {h1 hp} {α : Type}
    {k : Elt F .i32 → Prog (TpuEff nD τ sig (Elt F) Λ₀ .tc) α} {Q : α → sProp 𝕄} :
    (At c M Finset.univ q v : sProp 𝕄) ⊢ iprop((At c M Finset.univ q v -∗ WP c (k (slc v off S1.size z1)) Q)
      -∗ WP c (smemLoad M (Rect.unit (s := S2) off S1.size h) h1 hp >>= k) Q) := by
  unfold smemLoad smemLoadElt
  simp only [Prog.bind_op, Prog.bind_ret]
  iintro H Hk
  iapply (wp_load_at c (M := M) (S := Finset.univ) (Finset.subset_univ _)) $$ H
  iintro H
  ihave Hk := Hk $$ H
  have e : ∀ j : (⟨S2.rank, S1.size⟩ : Shape).Idx, j = z1 := fun j => by
    funext a; apply Fin.ext
    have h1 : (j a).val < S1.size a := (j a).isLt
    have h2 : S1.size a = 1 := by have : a = 0 := Subsingleton.elim _ _; subst this; rfl
    show (j a).val = 0
    omega
  rw [e (Shape.Idx.first _)]
  iexact Hk

/-- The same as the last thing done. -/
theorem wp_word_last (c : Dev nD) {M : Memref sig .tc .smem S2 .i32} {q : PosShare TreeShare} {v : S2.Idx → Elt F .i32}
    {off : Fin 1 → Nat} {h : ∀ a, off a + S1.size a ≤ S2.size a} {h1 hp} {Q : Elt F .i32 → sProp 𝕄} :
    (At c M Finset.univ q v : sProp 𝕄) ⊢ iprop((At c M Finset.univ q v -∗ Q (slc v off S1.size z1))
      -∗ WP c (smemLoad M (Rect.unit (s := S2) off S1.size h) h1 hp) Q) := by
  have e : (smemLoad M (Rect.unit (s := S2) off S1.size h) h1 hp : Prog (TpuEff nD τ sig (Elt F) Λ₀ .tc) _) = smemLoad M (Rect.unit (s := S2) off S1.size h) h1 hp >>= fun a => .ret a := by
    unfold smemLoad smemLoadElt
    simp only [Prog.bind_op, Prog.bind_ret]
  rw [e]
  iintro H Hk
  iapply (wp_word c) $$ H
  iintro H
  iapply WP_done
  iapply Hk $$ H

/-- A transfer of a box (squeezed) to a box (squeezed). -/
theorem wp_dma_win (c : Dev nD) {sp sp' : Space} {s s' t : Shape} {e : EltTy} {M : Memref sig .tc sp s e} {M' : Memref sig .tc sp' s' e}
    {off size : Fin s.rank → Nat} {off' size' : Fin s'.rank → Nat} {h : ∀ a, off a + size a ≤ s.size a} {h' : ∀ a, off' a + size' a ≤ s'.size a}
    {hr hr'} {hq : (Rect.unit (s := s) off size h).shape.Squeezes t} {hq' : (Rect.unit (s := s') off' size' h').shape.Squeezes t}
    {sm sm0 : DmaSem sig} (hsm : sm = sm0) {q : PosShare TreeShare} {S : Finset s.Idx} {v : s.Idx → Elt F e} {h1 h2 h3} {α : Type}
    {k : PUnit → Prog (TpuEff nD τ sig (Elt F) Λ₀ .tc) α} {Q : α → sProp 𝕄} (hpos : 0 < t.numel)
    (N : ℕ) (hN : ((M'.slice (Rect.unit (s := s') off' size' h') hr').squeeze t hq').view.dmaCredit = N) (hS : bx s off size ⊆ S)
    (w : (⟨s'.rank, size'⟩ : Shape).Idx → Elt F e)
    (hw : ∀ j : t.Idx, w (Shape.reshapeEquiv hq'.numel_eq j) = slc v off size (Shape.reshapeEquiv hq.numel_eq j)) :
    iprop(At c M S q v ∗ Any c M' (bx s' off' size') ∗ Cell c sm0)
      ⊢ iprop((Fl c sm0 N iprop(Win (F := F) c M' off' size' fullShare w ∗ At c M S q v) -∗ WP c (k ⟨⟩) Q)
        -∗ WP c (.op (.enqueueDma ((M.slice (Rect.unit (s := s) off size h) hr).squeeze t hq)
            (.here ((M'.slice (Rect.unit (s := s') off' size' h') hr').squeeze t hq')) (.dma sm) h1 h2 h3) k) Q) := by
  unfold Any
  iintro ⟨Hs, ⟨%u, Hd⟩, Hc⟩ Hk
  ihave Hs := (at_split c M (bx s off size) hS q v).1 $$ Hs
  icases Hs with ⟨Hs, Hr⟩
  have es := at_window c M (Rect.unit (s := s) off size h) hr hq q v (fun j => slc v off size (Shape.reshapeEquiv hq.numel_eq j)) (fun j => (slc_unit v off size h _).symm)
  have ed := at_window c M' (Rect.unit (s := s') off' size' h') hr' hq' fullShare u (fun j => slc u off' size' (Shape.reshapeEquiv hq'.numel_eq j)) (fun j => (slc_unit u off' size' h' _).symm)
  rw [bx_unit] at es ed
  ihave Hs := (entails_of_eq es.symm) $$ Hs
  ihave Hd := (entails_of_eq ed.symm) $$ Hd
  iapply (wp_dma_at c hsm hpos N hN _ BIBase.Entails.rfl) $$ [Hs Hd Hc]
  · isplitl [Hs]; · iexact Hs
    isplitl [Hd]; · iexact Hd
    iexact Hc
  iintro Hf
  iapply Hk
  ihave Hf := (Flight_frame countersEmb (c : Thread nD τ)) $$ [Hr Hf]
  · isplitl [Hr]; · iexact Hr
    iexact Hf
  iapply (Flight_mono countersEmb (c : Thread nD τ) ?_) $$ Hf
  iintro ⟨Hr, Hd, Hs⟩
  isplitl [Hd]
  · unfold Win
    iexists (put u off' size' w)
    isplitr; · ipureintro; exact slc_put u w h'
    rw [← bx_unit h', ← at_window c M' _ hr' hq' fullShare (put u off' size' w) (fun j => slc v off size (Shape.reshapeEquiv hq.numel_eq j))
      (fun j => by rw [put_unit, hw])]
    iexact Hd
  ihave Hs := (entails_of_eq es) $$ Hs
  iapply (at_split c M (bx s off size) hS q v).2
  isplitl [Hs]; · iexact Hs
  iexact Hr

/-- A transfer of a box (squeezed) to a whole memref. -/
theorem wp_dma_whole (c : Dev nD) {sp sp' : Space} {s t : Shape} {e : EltTy} {M : Memref sig .tc sp s e} {M' : Memref sig .tc sp' t e}
    {off size : Fin s.rank → Nat} {h : ∀ a, off a + size a ≤ s.size a}
    {hr} {hq : (Rect.unit (s := s) off size h).shape.Squeezes t}
    {sm sm0 : DmaSem sig} (hsm : sm = sm0) {q : PosShare TreeShare} {S : Finset s.Idx} {v : s.Idx → Elt F e} {h1 h2 h3} {α : Type}
    {k : PUnit → Prog (TpuEff nD τ sig (Elt F) Λ₀ .tc) α} {Q : α → sProp 𝕄} (hpos : 0 < t.numel)
    (N : ℕ) (hN : M'.view.dmaCredit = N) (hS : bx s off size ⊆ S) :
    iprop(At c M S q v ∗ Any c M' Finset.univ ∗ Cell c sm0)
      ⊢ iprop((Fl c sm0 N iprop(At (F := F) c M' Finset.univ fullShare (fun j => slc v off size (Shape.reshapeEquiv hq.numel_eq j)) ∗ At c M S q v) -∗ WP c (k ⟨⟩) Q)
        -∗ WP c (.op (.enqueueDma ((M.slice (Rect.unit (s := s) off size h) hr).squeeze t hq) (.here M') (.dma sm) h1 h2 h3) k) Q) := by
  unfold Any
  iintro ⟨Hs, ⟨%u, Hd⟩, Hc⟩ Hk
  ihave Hs := (at_split c M (bx s off size) hS q v).1 $$ Hs
  icases Hs with ⟨Hs, Hr⟩
  have es := at_window c M (Rect.unit (s := s) off size h) hr hq q v (fun j => slc v off size (Shape.reshapeEquiv hq.numel_eq j)) (fun j => (slc_unit v off size h _).symm)
  rw [bx_unit] at es
  ihave Hs := (entails_of_eq es.symm) $$ Hs
  iapply (wp_dma_at c hsm hpos N hN _ BIBase.Entails.rfl) $$ [Hs Hd Hc]
  · isplitl [Hs]; · iexact Hs
    isplitl [Hd]; · iexact Hd
    iexact Hc
  iintro Hf
  iapply Hk
  ihave Hf := (Flight_frame countersEmb (c : Thread nD τ)) $$ [Hr Hf]
  · isplitl [Hr]; · iexact Hr
    iexact Hf
  iapply (Flight_mono countersEmb (c : Thread nD τ) ?_) $$ Hf
  iintro ⟨Hr, Hd, Hs⟩
  isplitl [Hd]; · iexact Hd
  ihave Hs := (entails_of_eq es) $$ Hs
  iapply (at_split c M (bx s off size) hS q v).2
  isplitl [Hs]; · iexact Hs
  iexact Hr

/-- A transfer of a whole memref to a whole memref. -/
theorem wp_dma_full (c : Dev nD) {sp sp' : Space} {t : Shape} {e : EltTy} {M : Memref sig .tc sp t e} {M' : Memref sig .tc sp' t e}
    {sm sm0 : DmaSem sig} (hsm : sm = sm0) {q : PosShare TreeShare} {v : t.Idx → Elt F e} {h1 h2 h3} {α : Type}
    {k : PUnit → Prog (TpuEff nD τ sig (Elt F) Λ₀ .tc) α} {Q : α → sProp 𝕄} (hpos : 0 < t.numel)
    (N : ℕ) (hN : M'.view.dmaCredit = N) :
    iprop(At c M Finset.univ q v ∗ Any c M' Finset.univ ∗ Cell c sm0)
      ⊢ iprop((Fl c sm0 N iprop(At (F := F) c M' Finset.univ fullShare v ∗ At c M Finset.univ q v) -∗ WP c (k ⟨⟩) Q)
        -∗ WP c (.op (.enqueueDma M (.here M') (.dma sm) h1 h2 h3) k) Q) := by
  unfold Any
  iintro ⟨Hs, ⟨%u, Hd⟩, Hc⟩ Hk
  iapply (wp_dma_at c hsm hpos N hN _ BIBase.Entails.rfl) $$ [Hs Hd Hc]
  · isplitl [Hs]; · iexact Hs
    isplitl [Hd]; · iexact Hd
    iexact Hc
  iexact Hk

/-- A loop with an invariant over the number of trips made. -/
theorem WP_for (c : Dev nD) (l : Scf.Loop 32) (hok : l.OK) {α β : Type} (init : α)
    (body : Fin l.trips → α → Prog (TpuEff nD τ sig (Elt F) Λ₀ .tc) α) (I : ℕ → α → sProp 𝕄)
    {k : α → Prog (TpuEff nD τ sig (Elt F) Λ₀ .tc) β} {Q : β → sProp 𝕄}
    (hbody : ∀ (j : Fin l.trips) acc, I j.val acc ⊢ WP c (body j acc) (fun a => I (j.val + 1) a)) :
    I 0 init ⊢ iprop((∀ acc, I l.trips acc -∗ WP c (k acc) Q) -∗ WP c (Scf.Loop.for l hok init body >>= k) Q) := by
  rw [WP_bind]
  iintro HI HK
  iapply (Scf.wp_for frame (wpE (defs₀ (F := F)) 𝒱₀ (c : Thread nD τ) none) Set.univ l.lb l.ub l.st hok init body I hbody)
  isplitl [HI] <;> iassumption

end Cert.KernelIdeal.Hand

end
-- ==== Proof.KernelIdeal.Words.lean ====
/-
  The kernel's index arithmetic in closed form: the block loops that run over a length read from memory, the
  offsets of every window, and the conditions of the expert loop.
-/
module

public import proofs.«01_k».proof.Proof.KernelIdeal.Base

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic

section Length
variable (v : BitVec 32)
open Affine

private theorem toInt_of {x : BitVec 32} {e : Int} (h : IsInt x e) : x.toInt = e := by
  delta Affine.IsInt at h; exact h

/-- The number of 512-row blocks a length reaches: block `t` is among them exactly when `512·t` is below the length. -/
theorem blocks_word (hv : v.toInt ≤ 2048) : ∃ d : Int, IsInt (Scalar.divsi (Scalar.addi v 511#32) 512#32) d ∧ -2 ^ 31 ≤ d ∧ d ≤ 4 ∧
    ∀ t : ℕ, (t : Int) < d ↔ 512 * (t : Int) < v.toInt := by
  have hr := word_range v
  by_cases h : 0 ≤ v.toInt + 511
  · have ha : IsInt (Scalar.addi v 511#32) (v.toInt + 511) :=
      addi (word v) (ofNat (e := 511) 511 ⟨rfl, by decide⟩) ⟨rfl, by omega, by omega⟩
    exact ⟨(v.toInt + 511) / 512, divsi ha (ofNat (e := 512) 512 ⟨rfl, by decide⟩) ⟨rfl, h, by omega⟩, by omega, by omega, fun t => by omega⟩
  · have ha : (Scalar.addi v 511#32).toInt = v.toInt + 511 :=
      toInt_of (addi (word v) (ofNat (e := 511) 511 ⟨rfl, by decide⟩) ⟨rfl, by omega, by omega⟩)
    have hd : (Scalar.divsi (Scalar.addi v 511#32) 512#32).toInt ≤ 0 := by
      have hc : ¬ IntOp.SDivCorner (Scalar.addi v 511#32) 512#32 := by
        rintro (h0 | ⟨-, h1⟩)
        · exact absurd h0 (by decide)
        · exact absurd h1 (by decide)
      have h5 : (512#32).toInt = 512 := by decide
      rw [Scalar.divsi, IntOp.divsi, if_neg hc, BitVec.toInt_sdiv_of_ne_or_ne _ _ (.inr (by decide)), ha, h5]
      have : (v.toInt + 511).tdiv 512 = -((-(v.toInt + 511)).tdiv 512) := by rw [Int.neg_tdiv]; omega
      rw [this, Int.tdiv_eq_ediv_of_nonneg (by omega)]
      omega
    have hr' := word_range (Scalar.divsi (Scalar.addi v 511#32) 512#32)
    exact ⟨_, word _, by omega, by omega, fun t => by omega⟩

/-- The block loops' bounds: runnable, at most four trips, none in the remainder loop, and a trip for exactly the
    blocks the length reaches. -/
theorem trips_facts (hv : v.toInt ≤ 2048) : (k0_t1_loop v).OK ∧ (k0_t2_loop v).OK ∧ (k0_t1_loop v).trips ≤ 4 ∧ (k0_t2_loop v).trips = 0
    ∧ ∀ t : ℕ, t < (k0_t1_loop v).trips ↔ 512 * (t : Int) < v.toInt := by
  obtain ⟨d, hd, h0, h4, ht⟩ := blocks_word v hv
  have hz : IsInt 0#32 0 := ofNat (e := 0) 0 ⟨rfl, by decide⟩
  have h1 : IsInt 1#32 1 := ofNat (e := 1) 1 ⟨rfl, by decide⟩
  have e1 : IsInt (Scalar.subi (Scalar.divsi (Scalar.addi v 511#32) 512#32) 0#32) d := subi hd hz ⟨by omega, by omega, by omega⟩
  have e2 := divsi_one (e := d) e1 h1 ⟨rfl, rfl⟩
  have e3 := muli (e := d) e2 h1 ⟨by omega, by omega, by omega⟩
  have hu : IsInt (k0_t1_loop v).ub d := addi (e := d) hz e3 ⟨by omega, by omega, by omega⟩
  have hu' : IsInt (k0_t2_loop v).ub d := addi (e := d) hz e1 ⟨by omega, by omega, by omega⟩
  have e : (k0_t1_loop v).trips = d.toNat := by
    unfold Scf.Loop.trips Scf.trips; rw [toInt_of hu, show (k0_t1_loop v).lb.toInt = 0 from toInt_of hz, show (k0_t1_loop v).st.toInt = 1 from toInt_of h1]
    congr 1; omega
  refine ⟨ok hz hu h1 (by omega), ok hu hu' h1 (by omega), by omega, trips_eq hu hu' h1 0 (by omega), fun t => ?_⟩
  rw [e, ← ht]; omega

theorem iv_toNat : ∀ n < 4, (Scf.iv 0#32 1#32 n).toNat = n := by decide
theorem iv512_toNat : ∀ n < 4, (Scalar.muli (Scf.iv 0#32 1#32 n) 512#32).toNat = 512 * n := by decide

theorem words_x : ∀ (b : Fin 2) (t : Fin 4), S2x2048x1664.WholeWordsAt (EltTy.packing .bf16) ![b.val, 512 * t.val, 0] S1x512x1664.size (fun _ => 1) := by
  decide

theorem inb_cell (b t : ℕ) (hb : b < 2) (ht : t < 4) : ∀ a : Fin 2, (![b, t] : Fin 2 → ℕ) a + (![1, 1] : Fin 2 → ℕ) a ≤ (![2, 4] : Fin 2 → ℕ) a := by
  intro a; fin_cases a
  · show b + 1 ≤ 2; omega
  · show t + 1 ≤ 4; omega

theorem inb_box (b t : ℕ) (hb : b < 2) (ht : t < 4) (w w' : ℕ) (hw : w' ≤ w) : ∀ a : Fin 3, (![b, 512 * t, 0] : Fin 3 → ℕ) a + (![1, 512, w'] : Fin 3 → ℕ) a ≤ (![2, 2048, w] : Fin 3 → ℕ) a := by
  intro a; fin_cases a
  · show b + 1 ≤ 2; omega
  · show 512 * t + 512 ≤ 2048; omega
  · show 0 + w' ≤ w; omega

theorem off1_eq (h4 : (k0_t1_loop v).trips ≤ 4) (k : Fin (k0_t1_loop v).trips) : k0_off1 v k = ![0, k.val] := by
  have hk : k.val < 4 := Nat.lt_of_lt_of_le k.isLt h4
  exact congrArg (fun n : ℕ => (![0, n] : Fin 2 → ℕ)) (iv_toNat k.val hk)
theorem off2_eq (h4 : (k0_t1_loop v).trips ≤ 4) (k : Fin (k0_t1_loop v).trips) : k0_off2 v k = ![0, 512 * k.val, 0] := by
  have hk : k.val < 4 := Nat.lt_of_lt_of_le k.isLt h4
  exact congrArg (fun n : ℕ => (![0, n, 0] : Fin 3 → ℕ)) (iv512_toNat k.val hk)
theorem off3_eq (h4 : (k0_t1_loop v).trips ≤ 4) (k : Fin (k0_t1_loop v).trips) : k0_off3 v k = ![0, 512 * k.val, 0] := by
  have hk : k.val < 4 := Nat.lt_of_lt_of_le k.isLt h4
  exact congrArg (fun n : ℕ => (![0, n, 0] : Fin 3 → ℕ)) (iv512_toNat k.val hk)
theorem off4_eq (h4 : (k0_t1_loop v).trips ≤ 4) (k : Fin (k0_t1_loop v).trips) : k0_off4 v k = ![0, 512 * k.val, 0] := by
  have hk : k.val < 4 := Nat.lt_of_lt_of_le k.isLt h4
  exact congrArg (fun n : ℕ => (![0, n, 0] : Fin 3 → ℕ)) (iv512_toNat k.val hk)
theorem off9_eq (h4 : (k0_t1_loop v).trips ≤ 4) (k : Fin (k0_t3_loop v).trips) : k0_off9 v k = ![0, 512 * k.val, 0] := by
  have hk : k.val < 4 := Nat.lt_of_lt_of_le k.isLt h4
  exact congrArg (fun n : ℕ => (![0, n, 0] : Fin 3 → ℕ)) (iv512_toNat k.val hk)
theorem off11_eq (h4 : (k0_t1_loop v).trips ≤ 4) (k : Fin (k0_t5_loop v).trips) : k0_off11 v k = ![0, 512 * k.val, 0] := by
  have hk : k.val < 4 := Nat.lt_of_lt_of_le k.isLt h4
  exact congrArg (fun n : ℕ => (![0, n, 0] : Fin 3 → ℕ)) (iv512_toNat k.val hk)
theorem off12_eq (h4 : (k0_t1_loop v).trips ≤ 4) (k : Fin (k0_t5_loop v).trips) : k0_off12 v k = ![0, 512 * k.val, 0] := by
  have hk : k.val < 4 := Nat.lt_of_lt_of_le k.isLt h4
  exact congrArg (fun n : ℕ => (![0, n, 0] : Fin 3 → ℕ)) (iv512_toNat k.val hk)
theorem off15_eq (h4 : (k0_t1_loop v).trips ≤ 4) (k : Fin (k0_t7_loop v).trips) : k0_off15 v k = ![1, k.val] := by
  have hk : k.val < 4 := Nat.lt_of_lt_of_le k.isLt h4
  exact congrArg (fun n : ℕ => (![1, n] : Fin 2 → ℕ)) (iv_toNat k.val hk)
theorem off16_eq (h4 : (k0_t1_loop v).trips ≤ 4) (k : Fin (k0_t7_loop v).trips) : k0_off16 v k = ![1, 512 * k.val, 0] := by
  have hk : k.val < 4 := Nat.lt_of_lt_of_le k.isLt h4
  exact congrArg (fun n : ℕ => (![1, n, 0] : Fin 3 → ℕ)) (iv512_toNat k.val hk)
theorem off17_eq (h4 : (k0_t1_loop v).trips ≤ 4) (k : Fin (k0_t7_loop v).trips) : k0_off17 v k = ![1, 512 * k.val, 0] := by
  have hk : k.val < 4 := Nat.lt_of_lt_of_le k.isLt h4
  exact congrArg (fun n : ℕ => (![1, n, 0] : Fin 3 → ℕ)) (iv512_toNat k.val hk)
theorem off18_eq (h4 : (k0_t1_loop v).trips ≤ 4) (k : Fin (k0_t7_loop v).trips) : k0_off18 v k = ![1, 512 * k.val, 0] := by
  have hk : k.val < 4 := Nat.lt_of_lt_of_le k.isLt h4
  exact congrArg (fun n : ℕ => (![1, n, 0] : Fin 3 → ℕ)) (iv512_toNat k.val hk)
theorem off23_eq (h4 : (k0_t1_loop v).trips ≤ 4) (k : Fin (k0_t9_loop v).trips) : k0_off23 v k = ![1, 512 * k.val, 0] := by
  have hk : k.val < 4 := Nat.lt_of_lt_of_le k.isLt h4
  exact congrArg (fun n : ℕ => (![1, n, 0] : Fin 3 → ℕ)) (iv512_toNat k.val hk)
theorem off25_eq (h4 : (k0_t1_loop v).trips ≤ 4) (k : Fin (k0_t11_loop v).trips) : k0_off25 v k = ![1, 512 * k.val, 0] := by
  have hk : k.val < 4 := Nat.lt_of_lt_of_le k.isLt h4
  exact congrArg (fun n : ℕ => (![1, n, 0] : Fin 3 → ℕ)) (iv512_toNat k.val hk)
theorem off26_eq (h4 : (k0_t1_loop v).trips ≤ 4) (k : Fin (k0_t11_loop v).trips) : k0_off26 v k = ![1, 512 * k.val, 0] := by
  have hk : k.val < 4 := Nat.lt_of_lt_of_le k.isLt h4
  exact congrArg (fun n : ℕ => (![1, n, 0] : Fin 3 → ℕ)) (iv512_toNat k.val hk)

/-- A length that fits the buffers passes the kernel's checks. -/
theorem chk1_holds (hv : v.toInt ≤ 2048) : k0_chk1 v := by
  have h := trips_facts v hv
  refine ⟨?_, ?_, ?_, ?_, ?_, ?_, ?_, ?_, ?_, ?_, ?_, ?_, ?_, ?_, ?_, ?_, ?_, ?_, ?_, ?_, ?_, ?_, ?_, ?_, ?_, ?_, ?_, ?_⟩
  · exact h.1
  · exact fun k => by have hk : k.val < 4 := Nat.lt_of_lt_of_le k.isLt h.2.2.1; rw [off1_eq v h.2.2.1 k]; exact inb_cell 0 k.val (by omega) hk
  · exact fun k => by have hk : k.val < 4 := Nat.lt_of_lt_of_le k.isLt h.2.2.1; rw [off2_eq v h.2.2.1 k]; exact inb_box 0 k.val (by omega) hk 1664 1664 (Nat.le_refl _)
  · exact fun k hi => (Rect.wholeWords_iff_at _ _).mpr (by have hk : k.val < 4 := Nat.lt_of_lt_of_le k.isLt h.2.2.1; exact Eq.mpr (congrArg (fun o => S2x2048x1664.WholeWordsAt EltTy.bf16.packing o S1x512x1664.size fun _ => 1) (off2_eq v h.2.2.1 k)) (words_x 0 ⟨k.val, hk⟩))
  · exact fun k => Dvd.intro k.val (iv512_toNat k.val (Nat.lt_of_lt_of_le k.isLt h.2.2.1)).symm
  · exact fun k => by have hk : k.val < 4 := Nat.lt_of_lt_of_le k.isLt h.2.2.1; rw [off3_eq v h.2.2.1 k]; exact inb_box 0 k.val (by omega) hk 1664 1664 (Nat.le_refl _)
  · exact fun k => by have hk : k.val < 4 := Nat.lt_of_lt_of_le k.isLt h.2.2.1; rw [off4_eq v h.2.2.1 k]; exact inb_box 0 k.val (by omega) hk 128 128 (Nat.le_refl _)
  · exact h.2.1
  · exact fun k => absurd k.isLt (by have := h.2.2.2.1; exact fun hk => absurd (Nat.lt_of_lt_of_eq hk this) (Nat.not_lt_zero _))
  · exact fun k => absurd k.isLt (by have := h.2.2.2.1; exact fun hk => absurd (Nat.lt_of_lt_of_eq hk this) (Nat.not_lt_zero _))
  · exact fun k => absurd k.isLt (by have := h.2.2.2.1; exact fun hk => absurd (Nat.lt_of_lt_of_eq hk this) (Nat.not_lt_zero _))
  · exact fun k => absurd k.isLt (by have := h.2.2.2.1; exact fun hk => absurd (Nat.lt_of_lt_of_eq hk this) (Nat.not_lt_zero _))
  · exact fun k => absurd k.isLt (by have := h.2.2.2.1; exact fun hk => absurd (Nat.lt_of_lt_of_eq hk this) (Nat.not_lt_zero _))
  · exact fun k => absurd k.isLt (by have := h.2.2.2.1; exact fun hk => absurd (Nat.lt_of_lt_of_eq hk this) (Nat.not_lt_zero _))
  · exact h.1
  · exact fun k => Dvd.intro k.val (iv512_toNat k.val (Nat.lt_of_lt_of_le k.isLt h.2.2.1)).symm
  · exact fun k => by have hk : k.val < 4 := Nat.lt_of_lt_of_le k.isLt h.2.2.1; rw [off9_eq v h.2.2.1 k]; exact inb_box 0 k.val (by omega) hk 128 128 (Nat.le_refl _)
  · exact h.2.1
  · exact fun k => absurd k.isLt (by have := h.2.2.2.1; exact fun hk => absurd (Nat.lt_of_lt_of_eq hk this) (Nat.not_lt_zero _))
  · exact fun k => absurd k.isLt (by have := h.2.2.2.1; exact fun hk => absurd (Nat.lt_of_lt_of_eq hk this) (Nat.not_lt_zero _))
  · exact h.1
  · exact fun k => Dvd.intro k.val (iv512_toNat k.val (Nat.lt_of_lt_of_le k.isLt h.2.2.1)).symm
  · exact fun k => by have hk : k.val < 4 := Nat.lt_of_lt_of_le k.isLt h.2.2.1; rw [off11_eq v h.2.2.1 k]; exact inb_box 0 k.val (by omega) hk 128 128 (Nat.le_refl _)
  · exact fun k => by have hk : k.val < 4 := Nat.lt_of_lt_of_le k.isLt h.2.2.1; rw [off12_eq v h.2.2.1 k]; exact inb_box 0 k.val (by omega) hk 1664 1664 (Nat.le_refl _)
  · exact h.2.1
  · exact fun k => absurd k.isLt (by have := h.2.2.2.1; exact fun hk => absurd (Nat.lt_of_lt_of_eq hk this) (Nat.not_lt_zero _))
  · exact fun k => absurd k.isLt (by have := h.2.2.2.1; exact fun hk => absurd (Nat.lt_of_lt_of_eq hk this) (Nat.not_lt_zero _))
  · exact fun k => absurd k.isLt (by have := h.2.2.2.1; exact fun hk => absurd (Nat.lt_of_lt_of_eq hk this) (Nat.not_lt_zero _))

/-- A length that fits the buffers passes the kernel's checks. -/
theorem chk2_holds (hv : v.toInt ≤ 2048) : k0_chk2 v := by
  have h := trips_facts v hv
  refine ⟨?_, ?_, ?_, ?_, ?_, ?_, ?_, ?_, ?_, ?_, ?_, ?_, ?_, ?_, ?_, ?_, ?_, ?_, ?_, ?_, ?_, ?_, ?_, ?_, ?_, ?_, ?_, ?_⟩
  · exact h.1
  · exact fun k => by have hk : k.val < 4 := Nat.lt_of_lt_of_le k.isLt h.2.2.1; rw [off15_eq v h.2.2.1 k]; exact inb_cell 1 k.val (by omega) hk
  · exact fun k => by have hk : k.val < 4 := Nat.lt_of_lt_of_le k.isLt h.2.2.1; rw [off16_eq v h.2.2.1 k]; exact inb_box 1 k.val (by omega) hk 1664 1664 (Nat.le_refl _)
  · exact fun k hi => (Rect.wholeWords_iff_at _ _).mpr (by have hk : k.val < 4 := Nat.lt_of_lt_of_le k.isLt h.2.2.1; exact Eq.mpr (congrArg (fun o => S2x2048x1664.WholeWordsAt EltTy.bf16.packing o S1x512x1664.size fun _ => 1) (off16_eq v h.2.2.1 k)) (words_x 1 ⟨k.val, hk⟩))
  · exact fun k => Dvd.intro k.val (iv512_toNat k.val (Nat.lt_of_lt_of_le k.isLt h.2.2.1)).symm
  · exact fun k => by have hk : k.val < 4 := Nat.lt_of_lt_of_le k.isLt h.2.2.1; rw [off17_eq v h.2.2.1 k]; exact inb_box 1 k.val (by omega) hk 1664 1664 (Nat.le_refl _)
  · exact fun k => by have hk : k.val < 4 := Nat.lt_of_lt_of_le k.isLt h.2.2.1; rw [off18_eq v h.2.2.1 k]; exact inb_box 1 k.val (by omega) hk 128 128 (Nat.le_refl _)
  · exact h.2.1
  · exact fun k => absurd k.isLt (by have := h.2.2.2.1; exact fun hk => absurd (Nat.lt_of_lt_of_eq hk this) (Nat.not_lt_zero _))
  · exact fun k => absurd k.isLt (by have := h.2.2.2.1; exact fun hk => absurd (Nat.lt_of_lt_of_eq hk this) (Nat.not_lt_zero _))
  · exact fun k => absurd k.isLt (by have := h.2.2.2.1; exact fun hk => absurd (Nat.lt_of_lt_of_eq hk this) (Nat.not_lt_zero _))
  · exact fun k => absurd k.isLt (by have := h.2.2.2.1; exact fun hk => absurd (Nat.lt_of_lt_of_eq hk this) (Nat.not_lt_zero _))
  · exact fun k => absurd k.isLt (by have := h.2.2.2.1; exact fun hk => absurd (Nat.lt_of_lt_of_eq hk this) (Nat.not_lt_zero _))
  · exact fun k => absurd k.isLt (by have := h.2.2.2.1; exact fun hk => absurd (Nat.lt_of_lt_of_eq hk this) (Nat.not_lt_zero _))
  · exact h.1
  · exact fun k => Dvd.intro k.val (iv512_toNat k.val (Nat.lt_of_lt_of_le k.isLt h.2.2.1)).symm
  · exact fun k => by have hk : k.val < 4 := Nat.lt_of_lt_of_le k.isLt h.2.2.1; rw [off23_eq v h.2.2.1 k]; exact inb_box 1 k.val (by omega) hk 128 128 (Nat.le_refl _)
  · exact h.2.1
  · exact fun k => absurd k.isLt (by have := h.2.2.2.1; exact fun hk => absurd (Nat.lt_of_lt_of_eq hk this) (Nat.not_lt_zero _))
  · exact fun k => absurd k.isLt (by have := h.2.2.2.1; exact fun hk => absurd (Nat.lt_of_lt_of_eq hk this) (Nat.not_lt_zero _))
  · exact h.1
  · exact fun k => Dvd.intro k.val (iv512_toNat k.val (Nat.lt_of_lt_of_le k.isLt h.2.2.1)).symm
  · exact fun k => by have hk : k.val < 4 := Nat.lt_of_lt_of_le k.isLt h.2.2.1; rw [off25_eq v h.2.2.1 k]; exact inb_box 1 k.val (by omega) hk 128 128 (Nat.le_refl _)
  · exact fun k => by have hk : k.val < 4 := Nat.lt_of_lt_of_le k.isLt h.2.2.1; rw [off26_eq v h.2.2.1 k]; exact inb_box 1 k.val (by omega) hk 1664 1664 (Nat.le_refl _)
  · exact h.2.1
  · exact fun k => absurd k.isLt (by have := h.2.2.2.1; exact fun hk => absurd (Nat.lt_of_lt_of_eq hk this) (Nat.not_lt_zero _))
  · exact fun k => absurd k.isLt (by have := h.2.2.2.1; exact fun hk => absurd (Nat.lt_of_lt_of_eq hk this) (Nat.not_lt_zero _))
  · exact fun k => absurd k.isLt (by have := h.2.2.2.1; exact fun hk => absurd (Nat.lt_of_lt_of_eq hk this) (Nat.not_lt_zero _))

end Length

theorem off29_eq : ∀ (k0_t13 : Fin k0_t13_loop.trips), k0_off29 k0_t13 = ![0, (k0_t13.val * 8), 0] := by decide
theorem off30_eq : ∀ (k0_t13 : Fin k0_t13_loop.trips), k0_off30 k0_t13 = ![1, (k0_t13.val * 8), 0] := by decide
theorem off31_eq : ∀ (k0_t13 : Fin k0_t13_loop.trips), k0_off31 k0_t13 = ![0, k0_t13.val, 0, 0] := by decide
theorem off32_eq : ∀ (k0_t13 : Fin k0_t13_loop.trips), k0_off32 k0_t13 = ![0, (k0_t13.val * 8), 0] := by decide
theorem off33_eq : ∀ (k0_t13 : Fin k0_t13_loop.trips), k0_off33 k0_t13 = ![1, k0_t13.val, 0, 0] := by decide
theorem off34_eq : ∀ (k0_t13 : Fin k0_t13_loop.trips), k0_off34 k0_t13 = ![1, (k0_t13.val * 8), 0] := by decide
theorem off35_eq : ∀ (k0_t13 : Fin k0_t13_loop.trips), k0_off35 k0_t13 = ![((k0_t13.val * 256) / 2048)] := by decide
theorem off36_eq : ∀ (k0_t13 : Fin k0_t13_loop.trips), k0_off36 k0_t13 = ![((k0_t13.val * 256) / 2048), ((k0_t13.val * 256) % 2048), 0] := by decide
theorem off37_eq : ∀ (k0_t13 : Fin k0_t13_loop.trips), k0_off37 k0_t13 = ![((k0_t13.val * 256) / 2048)] := by decide
theorem off38_eq : ∀ (k0_t13 : Fin k0_t13_loop.trips), k0_off38 k0_t13 = ![((k0_t13.val * 256) / 2048), ((k0_t13.val * 256) % 2048), 0] := by decide
theorem off39_eq : ∀ (k0_t14 : Fin k0_t14_loop.trips), k0_off39 k0_t14 = ![k0_t14.val] := by decide
theorem off40_eq : ∀ (k0_t14 : Fin k0_t14_loop.trips), k0_off40 k0_t14 = ![k0_t14.val, 0, 0] := by decide
theorem off41_eq : ∀ (k0_t13 : Fin k0_t13_loop.trips) (k0_t14 : Fin k0_t14_loop.trips), k0_off41 k0_t13 k0_t14 = ![k0_t13.val, 0, (k0_t14.val * 1664)] := by decide
theorem off42_eq : ∀ (k0_t14 : Fin k0_t14_loop.trips), k0_off42 k0_t14 = ![k0_t14.val, 0, 0] := by decide
theorem off43_eq : ∀ (k0_t13 : Fin k0_t13_loop.trips) (k0_t14 : Fin k0_t14_loop.trips), k0_off43 k0_t13 k0_t14 = ![((k0_t13.val / 8) * 8), (k0_t14.val * 1664)] := by decide
theorem off44_eq : ∀ (k0_t14 : Fin k0_t14_loop.trips), k0_off44 k0_t14 = ![0, (k0_t14.val * 1664)] := by decide
theorem off45_eq : ∀ (k0_t14 : Fin k0_t14_loop.trips), k0_off45 k0_t14 = ![k0_t14.val] := by decide
theorem off46_eq : ∀ (k0_t14 : Fin k0_t14_loop.trips), k0_off46 k0_t14 = ![k0_t14.val, 0, 0] := by decide
theorem off47_eq : ∀ (k0_t13 : Fin k0_t13_loop.trips) (k0_t14 : Fin k0_t14_loop.trips), k0_off47 k0_t13 k0_t14 = ![(k0_t13.val + 1), 0, (k0_t14.val * 1664)] := by decide
theorem off48_eq : ∀ (k0_t13 : Fin k0_t13_loop.trips), k0_off48 k0_t13 = ![k0_t13.val, 0, 6656] := by decide
theorem off49_eq : ∀ (k0_t13 : Fin k0_t13_loop.trips), k0_off49 k0_t13 = ![((k0_t13.val / 8) * 8), 6656] := by decide
theorem off50_eq : ∀ (k0_t13 : Fin k0_t13_loop.trips), k0_off50 k0_t13 = ![(k0_t13.val + 1), 0, 6656] := by decide
theorem off51_eq : ∀ (k0_t13 : Fin k0_t13_loop.trips), 0 < k0_t13.val → k0_off51 k0_t13 = ![0, (k0_t13.val - 1), 0, 0] := by decide
theorem off52_eq : ∀ (k0_t13 : Fin k0_t13_loop.trips), 0 < k0_t13.val → k0_off52 k0_t13 = ![1, (k0_t13.val - 1), 0, 0] := by decide
theorem off53_eq : ∀ (k0_t15 : Fin k0_t15_loop.trips), k0_off53 k0_t15 = ![0, (k0_t15.val * 1024)] := by decide
theorem off54_eq : ∀ (k0_t15 : Fin k0_t15_loop.trips), k0_off54 k0_t15 = ![0, (k0_t15.val * 1024)] := by decide
theorem off55_eq : ∀ (k0_t15 : Fin k0_t15_loop.trips), k0_off55 k0_t15 = ![0, 0, (k0_t15.val * 1024)] := by decide
theorem off56_eq : ∀ (k0_t15 : Fin k0_t15_loop.trips), k0_off56 k0_t15 = ![1, 0, (k0_t15.val * 1024)] := by decide
theorem off57_eq : ∀ (k0_t13 : Fin k0_t13_loop.trips), k0_off57 k0_t13 = ![0, (k0_t13.val * 8), 0] := by decide
theorem off58_eq : ∀ (k0_t13 : Fin k0_t13_loop.trips), k0_off58 k0_t13 = ![0, k0_t13.val, 0, 0] := by decide
theorem off59_eq : ∀ (k0_t13 : Fin k0_t13_loop.trips), k0_off59 k0_t13 = ![1, (k0_t13.val * 8), 0] := by decide
theorem off60_eq : ∀ (k0_t13 : Fin k0_t13_loop.trips), k0_off60 k0_t13 = ![1, k0_t13.val, 0, 0] := by decide
theorem off61_eq : ∀ (k0_t16 : Fin k0_t16_loop.trips), k0_off61 k0_t16 = ![k0_t16.val] := by decide
theorem off62_eq : ∀ (k0_t16 : Fin k0_t16_loop.trips), k0_off62 k0_t16 = ![k0_t16.val, 0, 0] := by decide
theorem off63_eq : ∀ (k0_t13 : Fin k0_t13_loop.trips) (k0_t16 : Fin k0_t16_loop.trips), k0_off63 k0_t13 k0_t16 = ![k0_t13.val, 0, (k0_t16.val * 256)] := by decide
theorem off64_eq : ∀ (k0_t16 : Fin k0_t16_loop.trips), k0_off64 k0_t16 = ![k0_t16.val, 0, 0] := by decide
theorem off65_eq : ∀ (k0_t13 : Fin k0_t13_loop.trips) (k0_t16 : Fin k0_t16_loop.trips), k0_off65 k0_t13 k0_t16 = ![((k0_t13.val / 8) * 8), (k0_t16.val * 256)] := by decide
theorem off66_eq : ∀ (k0_t13 : Fin k0_t13_loop.trips) (k0_t16 : Fin k0_t16_loop.trips), k0_off66 k0_t13 k0_t16 = ![0, (k0_t13.val * 8), (k0_t16.val * 256)] := by decide
theorem off67_eq : ∀ (k0_t13 : Fin k0_t13_loop.trips) (k0_t16 : Fin k0_t16_loop.trips), k0_off67 k0_t13 k0_t16 = ![1, (k0_t13.val * 8), (k0_t16.val * 256)] := by decide
theorem off68_eq : ∀ (k0_t16 : Fin k0_t16_loop.trips), k0_off68 k0_t16 = ![k0_t16.val] := by decide
theorem off69_eq : ∀ (k0_t16 : Fin k0_t16_loop.trips), k0_off69 k0_t16 = ![k0_t16.val, 0, 0] := by decide
theorem off70_eq : ∀ (k0_t13 : Fin k0_t13_loop.trips) (k0_t16 : Fin k0_t16_loop.trips), k0_off70 k0_t13 k0_t16 = ![(k0_t13.val + 1), 0, (k0_t16.val * 256)] := by decide
theorem off71_eq : ∀ (k0_t16 : Fin k0_t16_loop.trips), k0_off71 k0_t16 = ![0, 0, (k0_t16.val * 256)] := by decide
theorem off72_eq : ∀ (k0_t17 : Fin k0_t17_loop.trips), k0_off72 k0_t17 = ![0, (k0_t17.val * 512), 0] := by decide
theorem off73_eq : ∀ (k0_t16 : Fin k0_t16_loop.trips) (k0_t17 : Fin k0_t17_loop.trips), k0_off73 k0_t16 k0_t17 = ![0, (k0_t17.val * 512), (k0_t16.val * 256)] := by decide
theorem off74_eq : ∀ (k0_t16 : Fin k0_t16_loop.trips), k0_off74 k0_t16 = ![0, 0, (k0_t16.val * 256)] := by decide
theorem off75_eq : ∀ (k0_t16 : Fin k0_t16_loop.trips), k0_off75 k0_t16 = ![1, 0, (k0_t16.val * 256)] := by decide
theorem off76_eq : ∀ (k0_t18 : Fin k0_t18_loop.trips), k0_off76 k0_t18 = ![1, (k0_t18.val * 512), 0] := by decide
theorem off77_eq : ∀ (k0_t16 : Fin k0_t16_loop.trips) (k0_t18 : Fin k0_t18_loop.trips), k0_off77 k0_t16 k0_t18 = ![1, (k0_t18.val * 512), (k0_t16.val * 256)] := by decide
theorem off78_eq : ∀ (k0_t16 : Fin k0_t16_loop.trips), k0_off78 k0_t16 = ![1, 0, (k0_t16.val * 256)] := by decide
theorem off79_eq : ∀ (k0_t13 : Fin k0_t13_loop.trips), k0_off79 k0_t13 = ![k0_t13.val, 0, 1536] := by decide
theorem off80_eq : ∀ (k0_t13 : Fin k0_t13_loop.trips), k0_off80 k0_t13 = ![((k0_t13.val / 8) * 8), 1536] := by decide
theorem off81_eq : ∀ (k0_t13 : Fin k0_t13_loop.trips), k0_off81 k0_t13 = ![0, (k0_t13.val * 8), 1536] := by decide
theorem off82_eq : ∀ (k0_t13 : Fin k0_t13_loop.trips), k0_off82 k0_t13 = ![1, (k0_t13.val * 8), 1536] := by decide
theorem off83_eq : ∀ (k0_t13 : Fin k0_t13_loop.trips), k0_off83 k0_t13 = ![(k0_t13.val + 1), 0, 1536] := by decide
theorem off84_eq : ∀ (k0_t19 : Fin k0_t19_loop.trips), k0_off84 k0_t19 = ![0, (k0_t19.val * 512), 0] := by decide
theorem off85_eq : ∀ (k0_t19 : Fin k0_t19_loop.trips), k0_off85 k0_t19 = ![0, (k0_t19.val * 512), 1536] := by decide
theorem off86_eq : ∀ (k0_t20 : Fin k0_t20_loop.trips), k0_off86 k0_t20 = ![1, (k0_t20.val * 512), 0] := by decide
theorem off87_eq : ∀ (k0_t20 : Fin k0_t20_loop.trips), k0_off87 k0_t20 = ![1, (k0_t20.val * 512), 1536] := by decide

theorem cond11_iff : ∀ k0_t13 : Fin k0_t13_loop.trips, k0_cond11 k0_t13 = 1#1 ↔ k0_t13.val ≠ 15 := by decide
theorem cond12_iff : ∀ k0_t13 : Fin k0_t13_loop.trips, k0_cond12 k0_t13 = 1#1 ↔ k0_t13.val ≠ 15 := by decide
theorem cond13_iff : ∀ k0_t13 : Fin k0_t13_loop.trips, k0_cond13 k0_t13 = 1#1 ↔ 0 < k0_t13.val := by decide
theorem cond14_iff : ∀ k0_t13 : Fin k0_t13_loop.trips, k0_cond14 k0_t13 = 1#1 ↔ k0_t13.val ≠ 15 := by decide
theorem cond15_iff : ∀ k0_t13 : Fin k0_t13_loop.trips, k0_cond15 k0_t13 = 1#1 ↔ k0_t13.val = 15 := by decide
theorem cond16_iff : ∀ k0_t13 : Fin k0_t13_loop.trips, k0_cond16 k0_t13 = 1#1 ↔ k0_t13.val ≠ 15 := by decide
theorem trips13 : k0_t13_loop.trips = 16 := by decide
theorem trips14 : k0_t14_loop.trips = 4 := by decide
theorem trips15 : k0_t15_loop.trips = 8 := by decide
theorem trips16 : k0_t16_loop.trips = 6 := by decide
theorem trips17 : k0_t17_loop.trips = 4 := by decide
theorem trips18 : k0_t18_loop.trips = 4 := by decide
theorem trips19 : k0_t19_loop.trips = 4 := by decide
theorem trips20 : k0_t20_loop.trips = 4 := by decide

end Cert.KernelIdeal.Hand

end
-- ==== Proof.KernelIdeal.Args.lean ====
/-
  The kernel's memrefs and semaphore arrays under short names, its printed parts and loop bodies at them, and the
  cells the semaphore arrays consist of.
-/
module

public import proofs.«01_k».proof.Proof.KernelIdeal.Windows
public import proofs.«01_k».proof.Proof.KernelIdeal.Words
public import proofs.«01_k».proof.Proof.Gen.KernelIdeal.Frame

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg Window)
open Idealize.ShloMosaic.Transfers

variable {F : FTy → Type} [FloatOps F]

local notation "𝕄" => MT nD τ sig Unit (Elt F) ℕ (UU nD τ) ℕ

def A0 : Memref sig .tc .smem S2 .i32 := win0_0.stage (cfg0.slots t0_0 0)
theorem hA0 : A0.IsWhole := hstage0_0 0
def A1 : Memref sig .tc .hbm S2x2048x1664 .bf16 := Memref.whole main_arg0
theorem hA1 : A1.IsWhole := Memref.isWhole_whole _
def A2 : Memref sig .tc .hbm S1664x128 .bf16 := Memref.whole main_arg2
theorem hA2 : A2.IsWhole := Memref.isWhole_whole _
def A3 : Memref sig .tc .hbm S16x1664x8192 .fp8e4m3 := Memref.whole main_arg3
theorem hA3 : A3.IsWhole := Memref.isWhole_whole _
def A4 : Memref sig .tc .hbm S16x8192 .f32 := Memref.whole main_arg4
theorem hA4 : A4.IsWhole := Memref.isWhole_whole _
def A5 : Memref sig .tc .hbm S16x8192x1664 .fp8e4m3 := Memref.whole main_arg5
theorem hA5 : A5.IsWhole := Memref.isWhole_whole _
def A6 : Memref sig .tc .hbm S16x1664 .f32 := Memref.whole main_arg6
theorem hA6 : A6.IsWhole := Memref.isWhole_whole _
def A7 : Memref sig .tc .hbm S2x2048x1664 .bf16 := Memref.whole main_v0_0
theorem hA7 : A7.IsWhole := Memref.isWhole_whole _
def A8 : Memref sig .tc .hbm S2x128x1664 .bf16 := Memref.whole main_v0_1
theorem hA8 : A8.IsWhole := Memref.isWhole_whole _
def A9 : Memref sig .tc .hbm S2x16x8x1664 .fp8e4m3 := Memref.whole main_v0_2
theorem hA9 : A9.IsWhole := Memref.isWhole_whole _
def A10 : Memref sig .tc .hbm S2x16x8 .f32 := Memref.whole main_v0_3
theorem hA10 : A10.IsWhole := Memref.isWhole_whole _
def A11 : Memref sig .tc .hbm S2x16x8x8192 .fp8e4m3 := Memref.whole main_v0_4
theorem hA11 : A11.IsWhole := Memref.isWhole_whole _
def A12 : Memref sig .tc .hbm S2x16x8 .f32 := Memref.whole main_v0_5
theorem hA12 : A12.IsWhole := Memref.isWhole_whole _
def A13 : Memref sig .tc .vmem S2x2048x1664 .bf16 := Memref.whole cc0_scratch0
theorem hA13 : A13.IsWhole := Memref.isWhole_whole _
def A14 : Memref sig .tc .vmem S1664x128 .bf16 := Memref.whole cc0_scratch1
theorem hA14 : A14.IsWhole := Memref.isWhole_whole _
def A15 : Memref sig .tc .vmem S4x1664x1664 .fp8e4m3 := Memref.whole cc0_scratch2
theorem hA15 : A15.IsWhole := Memref.isWhole_whole _
def A16 : Memref sig .tc .vmem S1664x1536 .fp8e4m3 := Memref.whole cc0_scratch3
theorem hA16 : A16.IsWhole := Memref.isWhole_whole _
def A17 : Memref sig .tc .vmem S16x8192 .f32 := Memref.whole cc0_scratch4
theorem hA17 : A17.IsWhole := Memref.isWhole_whole _
def A18 : Memref sig .tc .vmem S6x8192x256 .fp8e4m3 := Memref.whole cc0_scratch5
theorem hA18 : A18.IsWhole := Memref.isWhole_whole _
def A19 : Memref sig .tc .vmem S8192x128 .fp8e4m3 := Memref.whole cc0_scratch6
theorem hA19 : A19.IsWhole := Memref.isWhole_whole _
def A20 : Memref sig .tc .vmem S16x1664 .f32 := Memref.whole cc0_scratch7
theorem hA20 : A20.IsWhole := Memref.isWhole_whole _
def A21 : Memref sig .tc .vmem S2x2048x128 .f32 := Memref.whole cc0_scratch8
theorem hA21 : A21.IsWhole := Memref.isWhole_whole _
def A22 : Memref sig .tc .vmem S2x2048x128 .bf16 := Memref.whole cc0_scratch9
theorem hA22 : A22.IsWhole := Memref.isWhole_whole _
def A23 : Memref sig .tc .vmem S2x128x1664 .f32 := Memref.whole cc0_scratch10
theorem hA23 : A23.IsWhole := Memref.isWhole_whole _
def A24 : Memref sig .tc .vmem S16x8192 .f32 := Memref.whole cc0_scratch11
theorem hA24 : A24.IsWhole := Memref.isWhole_whole _
def A25 : Memref sig .tc .vmem S32x8192 .fp8e4m3 := Memref.whole cc0_scratch12
theorem hA25 : A25.IsWhole := Memref.isWhole_whole _
def A26 : Memref sig .tc .vmem S2x128x1664 .f32 := Memref.whole cc0_scratch13
theorem hA26 : A26.IsWhole := Memref.isWhole_whole _
def A27 : Memref sig .tc .vmem S2x128x1664 .bf16 := Memref.whole cc0_scratch14
theorem hA27 : A27.IsWhole := Memref.isWhole_whole _
def A28 : Memref sig .tc .vmem S2x16x8x1664 .fp8e4m3 := Memref.whole cc0_scratch15
theorem hA28 : A28.IsWhole := Memref.isWhole_whole _
def A29 : Memref sig .tc .vmem S2x8x8192 .fp8e4m3 := Memref.whole cc0_scratch16
theorem hA29 : A29.IsWhole := Memref.isWhole_whole _
def A30 : Memref sig .tc .vmem S2x128x128 .f32 := Memref.whole cc0_scratch17
theorem hA30 : A30.IsWhole := Memref.isWhole_whole _
def A31 : Memref sig .tc .vmem S2x128x128 .f32 := Memref.whole cc0_scratch18
theorem hA31 : A31.IsWhole := Memref.isWhole_whole _
def A32 : Memref sig .tc .vmem S2x16x8 .f32 := Memref.whole cc0_scratch19
theorem hA32 : A32.IsWhole := Memref.isWhole_whole _
def A33 : Memref sig .tc .vmem S2x16x8 .f32 := Memref.whole cc0_scratch20
theorem hA33 : A33.IsWhole := Memref.isWhole_whole _
def A34 : DmaSems sig S2x4 := cc0_scratch21
def A35 : DmaSems sig S5 := cc0_scratch22
def A36 : DmaSems sig S7 := cc0_scratch23
def A37 : DmaSems sig S3 := cc0_scratch24
def A38 : DmaSems sig S2 := cc0_scratch25
def A39 : DmaSems sig S2 := cc0_scratch26
def A40 : DmaSems sig S4 := cc0_scratch27

abbrev P1 := k0_part1 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P2 := k0_part2 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P3 := k0_part3 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P4 := k0_part4 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P5 := k0_part5 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P6 := k0_part6 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P7 := k0_part7 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P8 := k0_part8 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P9 := k0_part9 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P10 := k0_part10 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P11 := k0_part11 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P12 := k0_part12 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P13 := k0_part13 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P14 := k0_part14 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P15 := k0_part15 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P16 := k0_part16 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P17 := k0_part17 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P18 := k0_part18 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P19 := k0_part19 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P20 := k0_part20 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P21 := k0_part21 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P22 := k0_part22 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev P23 := k0_part23 (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B1 := k0_t1_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B2 := k0_t2_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B3 := k0_t3_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B4 := k0_t4_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B5 := k0_t5_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B6 := k0_t6_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B7 := k0_t7_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B8 := k0_t8_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B9 := k0_t9_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B10 := k0_t10_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B11 := k0_t11_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B12 := k0_t12_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B13 := k0_t13_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B14 := k0_t14_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B15 := k0_t15_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B16 := k0_t16_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B17 := k0_t17_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B18 := k0_t18_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B19 := k0_t19_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev B20 := k0_t20_body (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40
abbrev Body := cc0_soft_moe (F := F) A0 hA0 A1 hA1 A2 hA2 A3 hA3 A4 hA4 A5 hA5 A6 hA6 A7 hA7 A8 hA8 A9 hA9 A10 hA10 A11 hA11 A12 hA12 A13 hA13 A14 hA14 A15 hA15 A16 hA16 A17 hA17 A18 hA18 A19 hA19 A20 hA20 A21 hA21 A22 hA22 A23 hA23 A24 hA24 A25 hA25 A26 hA26 A27 hA27 A28 hA28 A29 hA29 A30 hA30 A31 hA31 A32 hA32 A33 hA33 A34 A35 A36 A37 A38 A39 A40

/-! ## The semaphore cells -/

def c34 (b : Fin 2) (t : Fin 4) : DmaSem sig := A34.ix (fun a => match a with | ⟨0, _⟩ => b | ⟨1, _⟩ => t)
theorem sem34 (off : Fin 2 → ℕ) (h hq) (b : Fin 2) (t : Fin 4) (e : off = ![b.val, t.val]) :
    ((A34.slice (Rect.unit (s := S2x4) off S1x1.size h)).squeeze S_ hq).sem = c34 b t := by
  subst e; exact sem_at A34 _ _ h hq _ (fun i => by fin_cases i <;> rfl) (fun i => by fin_cases i <;> rfl)

def c35 (k : Fin 5) : DmaSem sig := A35.ix (fun a => match a with | ⟨0, _⟩ => k)
theorem sem35 (off : Fin 1 → ℕ) (h hq) (k : Fin 5) (e : off = ![k.val]) :
    ((A35.slice (Rect.unit (s := S5) off S1.size h)).squeeze S_ hq).sem = c35 k := by
  subst e; exact sem_at A35 _ _ h hq _ (fun i => by fin_cases i; rfl) (fun i => by fin_cases i; rfl)

def c36 (k : Fin 7) : DmaSem sig := A36.ix (fun a => match a with | ⟨0, _⟩ => k)
theorem sem36 (off : Fin 1 → ℕ) (h hq) (k : Fin 7) (e : off = ![k.val]) :
    ((A36.slice (Rect.unit (s := S7) off S1.size h)).squeeze S_ hq).sem = c36 k := by
  subst e; exact sem_at A36 _ _ h hq _ (fun i => by fin_cases i; rfl) (fun i => by fin_cases i; rfl)

def c37 (k : Fin 3) : DmaSem sig := A37.ix (fun a => match a with | ⟨0, _⟩ => k)
theorem sem37 (off : Fin 1 → ℕ) (h hq) (k : Fin 3) (e : off = ![k.val]) :
    ((A37.slice (Rect.unit (s := S3) off S1.size h)).squeeze S_ hq).sem = c37 k := by
  subst e; exact sem_at A37 _ _ h hq _ (fun i => by fin_cases i; rfl) (fun i => by fin_cases i; rfl)

def c38 (k : Fin 2) : DmaSem sig := A38.ix (fun a => match a with | ⟨0, _⟩ => k)
theorem sem38 (off : Fin 1 → ℕ) (h hq) (k : Fin 2) (e : off = ![k.val]) :
    ((A38.slice (Rect.unit (s := S2) off S1.size h)).squeeze S_ hq).sem = c38 k := by
  subst e; exact sem_at A38 _ _ h hq _ (fun i => by fin_cases i; rfl) (fun i => by fin_cases i; rfl)

def c39 (k : Fin 2) : DmaSem sig := A39.ix (fun a => match a with | ⟨0, _⟩ => k)
theorem sem39 (off : Fin 1 → ℕ) (h hq) (k : Fin 2) (e : off = ![k.val]) :
    ((A39.slice (Rect.unit (s := S2) off S1.size h)).squeeze S_ hq).sem = c39 k := by
  subst e; exact sem_at A39 _ _ h hq _ (fun i => by fin_cases i; rfl) (fun i => by fin_cases i; rfl)

def c40 (k : Fin 4) : DmaSem sig := A40.ix (fun a => match a with | ⟨0, _⟩ => k)
theorem sem40 (off : Fin 1 → ℕ) (h hq) (k : Fin 4) (e : off = ![k.val]) :
    ((A40.slice (Rect.unit (s := S4) off S1.size h)).squeeze S_ hq).sem = c40 k := by
  subst e; exact sem_at A40 _ _ h hq _ (fun i => by fin_cases i; rfl) (fun i => by fin_cases i; rfl)

end Cert.KernelIdeal.Hand

end
-- ==== Proof.KernelIdeal.Copies.lean ====
/-
  The copies that bring the inputs in: the tokens by blocks, the weights by chunks.
-/
module

public import proofs.«01_k».proof.Proof.KernelIdeal.Args

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (UU nD τ) ℕ

theorem ne_elt (e : EltTy) : Nonempty (Elt F e) := inferInstance
instance ne_f32 : Nonempty (Elt F .f32) := ne_elt .f32
instance ne_bf16 : Nonempty (Elt F .bf16) := ne_elt .bf16
instance ne_fp8 : Nonempty (Elt F .fp8e4m3) := ne_elt .fp8e4m3
instance ne_i32 : Nonempty (Elt F .i32) := ne_elt .i32

/-- What the kernel is given: the lengths, the tokens, the gate, and the two experts' weights with their scales. -/
structure Inp (F : FTy → Type) where
  LEN : S2.Idx → Elt F .i32
  X : S2x2048x1664.Idx → Elt F .bf16
  PHI : S1664x128.Idx → Elt F .bf16
  W1 : S16x1664x8192.Idx → Elt F .fp8e4m3
  W1S : S16x8192.Idx → Elt F .f32
  W2 : S16x8192x1664.Idx → Elt F .fp8e4m3
  W2S : S16x1664.Idx → Elt F .f32

variable (I : Inp F)

/-- The length of batch `b`. -/
abbrev len (b : ℕ) : Elt F .i32 := slc I.LEN ![b] S1.size z1

/-! ## The tokens, in eight copies -/

def N13 : ℕ := A13.view.ref.dmaCredit S512x1664 .bf16

/-- The copy of block `t` of batch `b`: in flight when the length reaches it, else never started. -/
def XF (c : Dev nD) (b : Fin 2) (t : Fin 4) : sProp 𝕄 :=
  if 512 * (t.val : Int) < (len I b.val).toInt then
    Fl c (c34 b t) N13 iprop(Win (F := F) c A13 ![b.val, 512 * t.val, 0] S1x512x1664.size fullShare (slc I.X ![b.val, 512 * t.val, 0] S1x512x1664.size)
      ∗ At c A1 (bx _ ![b.val, 512 * t.val, 0] S1x512x1664.size) fullShare I.X)
  else iprop(Any (F := F) c A13 (bx _ ![b.val, 512 * t.val, 0] S1x512x1664.size)
      ∗ At c A1 (bx _ ![b.val, 512 * t.val, 0] S1x512x1664.size) fullShare I.X ∗ Cell c (c34 b t))

/-- Before it. -/
def XP (c : Dev nD) (b : Fin 2) (t : Fin 4) : sProp 𝕄 :=
  iprop(Any (F := F) c A13 (bx _ ![b.val, 512 * t.val, 0] S1x512x1664.size)
      ∗ At c A1 (bx _ ![b.val, 512 * t.val, 0] S1x512x1664.size) fullShare I.X ∗ Cell c (c34 b t))

theorem x_start (c : Dev nD) (b : Fin 2) (t : Fin 4) {P : Prop} {d : Decidable P} (hP : P ↔ 512 * (t.val : Int) < (len I b.val).toInt)
    {off off' : Fin 3 → ℕ} (ho : off = ![b.val, 512 * t.val, 0]) (ho' : off' = ![b.val, 512 * t.val, 0])
    {h : ∀ a, off a + S1x512x1664.size a ≤ S2x2048x1664.size a} {h' : ∀ a, off' a + S1x512x1664.size a ≤ S2x2048x1664.size a} {hr hr' hq hq'}
    {sm : DmaSem sig} (hsm : sm = c34 b t) {h1 h2 h3} {α : Type}
    {k : PUnit → Prog (TpuEff nD τ sig (Elt F) Λ₀ .tc) α} {Q : α → sProp 𝕄} :
    XP I c b t ⊢ iprop((XF I c b t -∗ WP c (k ⟨⟩) Q) -∗
      WP c (if P then Prog.op (.enqueueDma ((A1.slice (Rect.unit (s := S2x2048x1664) off S1x512x1664.size h) hr).squeeze S512x1664 hq)
            (.here ((A13.slice (Rect.unit (s := S2x2048x1664) off' S1x512x1664.size h') hr').squeeze S512x1664 hq')) (.dma sm) h1 h2 h3)
          k else k ⟨⟩) Q) := by
  subst ho; subst ho'
  unfold XP XF
  iintro ⟨Hd, Hs, Hc⟩ Hk
  by_cases hp : P
  · rw [if_pos hp, if_pos (hP.mp hp)]
    iapply (wp_dma_win c hsm (by decide) N13 rfl (Finset.Subset.refl _) (slc I.X ![b.val, 512 * t.val, 0] S1x512x1664.size) (fun _ => rfl)) $$ [Hd Hs Hc]
    · isplitl [Hs]; · iexact Hs
      isplitl [Hd]; · iexact Hd
      iexact Hc
    iexact Hk
  · rw [if_neg hp, if_neg (fun hh => hp (hP.mpr hh))]
    iapply Hk
    isplitl [Hd]; · iexact Hd
    isplitl [Hs]; · iexact Hs
    iexact Hc

/-! ## The weights' chunks -/

def N15 : ℕ := A15.view.ref.dmaCredit S1664x1664 .fp8e4m3

/-- Chunk `j` of expert `e`'s first weights on its way to slot `j`. -/
def W1F (c : Dev nD) (e : ℕ) (j : Fin 4) : sProp 𝕄 :=
  Fl c (c35 (j.castLE (by decide))) N15 iprop(Win (F := F) c A15 ![j.val, 0, 0] S1x1664x1664.size fullShare (fun i => slc I.W1 ![e, 0, j.val * 1664] S1x1664x1664.size i)
    ∗ At c A3 Finset.univ (shareTok fullShare 5 (j.castLE (by decide))) I.W1)

/-- Slot `j` free. -/
def W1P (c : Dev nD) (j : Fin 4) : sProp 𝕄 :=
  iprop(At c A3 Finset.univ (shareTok fullShare 5 (j.castLE (by decide))) I.W1 ∗ Any (F := F) c A15 (bx _ ![j.val, 0, 0] S1x1664x1664.size) ∗ Cell c (c35 (j.castLE (by decide))))

theorem W1_start (c : Dev nD) (e : ℕ) (j : Fin 4)
    {off off' : Fin 3 → ℕ} (ho : off = ![e, 0, j.val * 1664]) (ho' : off' = ![j.val, 0, 0])
    {h : ∀ a, off a + S1x1664x1664.size a ≤ S16x1664x8192.size a} {h' : ∀ a, off' a + S1x1664x1664.size a ≤ S4x1664x1664.size a} {hr hr' hq hq'}
    {sm : DmaSem sig} (hsm : sm = c35 (j.castLE (by decide))) {h1 h2 h3} {α : Type}
    {k : PUnit → Prog (TpuEff nD τ sig (Elt F) Λ₀ .tc) α} {Q : α → sProp 𝕄} :
    W1P I c j ⊢ iprop((W1F I c e j -∗ WP c (k ⟨⟩) Q) -∗
      WP c (Prog.op (.enqueueDma ((A3.slice (Rect.unit (s := S16x1664x8192) off S1x1664x1664.size h) hr).squeeze S1664x1664 hq)
            (.here ((A15.slice (Rect.unit (s := S4x1664x1664) off' S1x1664x1664.size h') hr').squeeze S1664x1664 hq')) (.dma sm) h1 h2 h3) k) Q) := by
  subst ho; subst ho'
  unfold W1P W1F
  exact wp_dma_win c hsm (by decide) N15 rfl (Finset.subset_univ _) _ (fun _ => rfl)

def N16 : ℕ := A16.view.ref.dmaCredit S1664x1536 .fp8e4m3

/-- The last columns of expert `e`'s first weights. -/
def T1V (e : ℕ) : S1664x1536.Idx → Elt F .fp8e4m3 :=
  fun j => slc I.W1 ![e, 0, 6656] S1x1664x1536.size (Shape.reshapeEquiv (show S1664x1536.numel = S1x1664x1536.numel from squeezes_S1x1664x1536_S1664x1536.numel_eq) j)

def T1F (c : Dev nD) (e : ℕ) : sProp 𝕄 :=
  Fl c (c35 4) N16 iprop(At (F := F) c A16 Finset.univ fullShare (T1V I e) ∗ At c A3 Finset.univ (shareTok fullShare 5 4) I.W1)

def T1P (c : Dev nD) : sProp 𝕄 :=
  iprop(At c A3 Finset.univ (shareTok fullShare 5 4) I.W1 ∗ Any (F := F) c A16 Finset.univ ∗ Cell c (c35 4))

theorem T1_start (c : Dev nD) (e : ℕ) {off : Fin 3 → ℕ} (ho : off = ![e, 0, 6656])
    {h : ∀ a, off a + S1x1664x1536.size a ≤ S16x1664x8192.size a} {hr hq}
    {sm : DmaSem sig} (hsm : sm = c35 4) {h1 h2 h3} {α : Type}
    {k : PUnit → Prog (TpuEff nD τ sig (Elt F) Λ₀ .tc) α} {Q : α → sProp 𝕄} :
    T1P I c ⊢ iprop((T1F I c e -∗ WP c (k ⟨⟩) Q) -∗
      WP c (Prog.op (.enqueueDma ((A3.slice (Rect.unit (s := S16x1664x8192) off S1x1664x1536.size h) hr).squeeze S1664x1536 hq)
            (.here A16) (.dma sm) h1 h2 h3) k) Q) := by
  subst ho
  unfold T1P T1F T1V
  exact wp_dma_whole c hsm (by decide) N16 rfl (Finset.subset_univ _)

def N18 : ℕ := A18.view.ref.dmaCredit S8192x256 .fp8e4m3

/-- Chunk `j` of expert `e`'s second weights on its way to slot `j`. -/
def W2F (c : Dev nD) (e : ℕ) (j : Fin 6) : sProp 𝕄 :=
  Fl c (c36 (j.castLE (by decide))) N18 iprop(Win (F := F) c A18 ![j.val, 0, 0] S1x8192x256.size fullShare (fun i => slc I.W2 ![e, 0, j.val * 256] S1x8192x256.size i)
    ∗ At c A5 Finset.univ (shareTok fullShare 7 (j.castLE (by decide))) I.W2)

/-- Slot `j` free. -/
def W2P (c : Dev nD) (j : Fin 6) : sProp 𝕄 :=
  iprop(At c A5 Finset.univ (shareTok fullShare 7 (j.castLE (by decide))) I.W2 ∗ Any (F := F) c A18 (bx _ ![j.val, 0, 0] S1x8192x256.size) ∗ Cell c (c36 (j.castLE (by decide))))

theorem W2_start (c : Dev nD) (e : ℕ) (j : Fin 6)
    {off off' : Fin 3 → ℕ} (ho : off = ![e, 0, j.val * 256]) (ho' : off' = ![j.val, 0, 0])
    {h : ∀ a, off a + S1x8192x256.size a ≤ S16x8192x1664.size a} {h' : ∀ a, off' a + S1x8192x256.size a ≤ S6x8192x256.size a} {hr hr' hq hq'}
    {sm : DmaSem sig} (hsm : sm = c36 (j.castLE (by decide))) {h1 h2 h3} {α : Type}
    {k : PUnit → Prog (TpuEff nD τ sig (Elt F) Λ₀ .tc) α} {Q : α → sProp 𝕄} :
    W2P I c j ⊢ iprop((W2F I c e j -∗ WP c (k ⟨⟩) Q) -∗
      WP c (Prog.op (.enqueueDma ((A5.slice (Rect.unit (s := S16x8192x1664) off S1x8192x256.size h) hr).squeeze S8192x256 hq)
            (.here ((A18.slice (Rect.unit (s := S6x8192x256) off' S1x8192x256.size h') hr').squeeze S8192x256 hq')) (.dma sm) h1 h2 h3) k) Q) := by
  subst ho; subst ho'
  unfold W2P W2F
  exact wp_dma_win c hsm (by decide) N18 rfl (Finset.subset_univ _) _ (fun _ => rfl)

def N19 : ℕ := A19.view.ref.dmaCredit S8192x128 .fp8e4m3

/-- The last columns of expert `e`'s second weights. -/
def T2V (e : ℕ) : S8192x128.Idx → Elt F .fp8e4m3 :=
  fun j => slc I.W2 ![e, 0, 1536] S1x8192x128.size (Shape.reshapeEquiv (show S8192x128.numel = S1x8192x128.numel from squeezes_S1x8192x128_S8192x128.numel_eq) j)

def T2F (c : Dev nD) (e : ℕ) : sProp 𝕄 :=
  Fl c (c36 6) N19 iprop(At (F := F) c A19 Finset.univ fullShare (T2V I e) ∗ At c A5 Finset.univ (shareTok fullShare 7 6) I.W2)

def T2P (c : Dev nD) : sProp 𝕄 :=
  iprop(At c A5 Finset.univ (shareTok fullShare 7 6) I.W2 ∗ Any (F := F) c A19 Finset.univ ∗ Cell c (c36 6))

theorem T2_start (c : Dev nD) (e : ℕ) {off : Fin 3 → ℕ} (ho : off = ![e, 0, 1536])
    {h : ∀ a, off a + S1x8192x128.size a ≤ S16x8192x1664.size a} {hr hq}
    {sm : DmaSem sig} (hsm : sm = c36 6) {h1 h2 h3} {α : Type}
    {k : PUnit → Prog (TpuEff nD τ sig (Elt F) Λ₀ .tc) α} {Q : α → sProp 𝕄} :
    T2P I c ⊢ iprop((T2F I c e -∗ WP c (k ⟨⟩) Q) -∗
      WP c (Prog.op (.enqueueDma ((A5.slice (Rect.unit (s := S16x8192x1664) off S1x8192x128.size h) hr).squeeze S8192x128 hq)
            (.here A19) (.dma sm) h1 h2 h3) k) Q) := by
  subst ho
  unfold T2P T2F T2V
  exact wp_dma_whole c hsm (by decide) N19 rfl (Finset.subset_univ _)

end Cert.KernelIdeal.Hand

end
-- ==== Proof.KernelIdeal.Phase0.lean ====
/-
  The copies started before anything is computed, and the first wait.
-/
module

public import proofs.«01_k».proof.Proof.KernelIdeal.Copies

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (UU nD τ) ℕ

variable (I : Inp F)

/-- A whole copy in flight. -/
def FC (c : Dev nD) {sp sp' : Space} {t : Shape} {e : EltTy} (sm : DmaSem sig) (M : Memref sig .tc sp t e) (M' : Memref sig .tc sp' t e) (v : t.Idx → Elt F e) : sProp 𝕄 :=
  Fl c sm M'.view.dmaCredit iprop(At (F := F) c M' Finset.univ fullShare v ∗ At c M Finset.univ fullShare v)

theorem full_start (c : Dev nD) {sp sp' : Space} {t : Shape} {e : EltTy} {M : Memref sig .tc sp t e} {M' : Memref sig .tc sp' t e}
    {sm sm0 : DmaSem sig} (hsm : sm = sm0) {v : t.Idx → Elt F e} {h1 h2 h3} {α : Type}
    {k : PUnit → Prog (TpuEff nD τ sig (Elt F) Λ₀ .tc) α} {Q : α → sProp 𝕄} (hpos : 0 < t.numel) :
    iprop(At c M Finset.univ fullShare v ∗ Any c M' Finset.univ ∗ Cell c sm0)
      ⊢ iprop((FC c sm0 M M' v -∗ WP c (k ⟨⟩) Q) -∗ WP c (.op (.enqueueDma M (.here M') (.dma sm) h1 h2 h3) k) Q) :=
  wp_dma_full c hsm hpos _ rfl

theorem full_wait (c : Dev nD) {sp sp' : Space} {t : Shape} {e : EltTy} {M : Memref sig .tc sp t e} {M' : Memref sig .tc sp' t e}
    {sm sm0 : DmaSem sig} (hsm : sm = sm0) {v : t.Idx → Elt F e} {h1 h2} {α : Type}
    {k : PUnit → Prog (TpuEff nD τ sig (Elt F) Λ₀ .tc) α} {Q : α → sProp 𝕄} :
    iprop(FC c sm0 M M' v ∗ Owe c)
      ⊢ iprop((iprop((At c M' Finset.univ fullShare v ∗ At c M Finset.univ fullShare v) ∗ Cell c sm0 ∗ Owe c) -∗ WP c (k ⟨⟩) Q)
        -∗ WP c (.op (.waitDma2 sm M M' h1 h2) k) Q) :=
  wp_wait_at c hsm _ rfl _

/-- Scalar comparison as the kernel spells it. -/
theorem sgt_iff (x y : BitVec 32) : Iff (Scalar.cmpi .ne (Scalar.extui (Scalar.cmpi .sgt x y)) 0#32 = 1#1) (y.toInt < x.toInt) := by
  have e : Scalar.cmpi .sgt x y = BitVec.ofBool (decide (y.toInt < x.toInt)) := rfl
  rw [e]
  by_cases h : y.toInt < x.toInt
  · simp only [h]; decide
  · simp only [h]; decide

theorem part11_wp (c : Dev nD) {Q : _ → sProp 𝕄} :
    iprop(At c A0 Finset.univ fullShare I.LEN ∗ At c A2 Finset.univ fullShare I.PHI ∗ Any c A14 Finset.univ ∗ Cell c (c37 0) ∗ XP I c 0 0 ∗ XP I c 0 1 ∗ XP I c 0 2 ∗ XP I c 0 3 ∗ XP I c 1 0 ∗ XP I c 1 1 ∗ XP I c 1 2) ⊢ iprop((iprop(At c A0 Finset.univ fullShare I.LEN ∗ FC c (c37 0) A2 A14 I.PHI ∗ XF I c 0 0 ∗ XF I c 0 1 ∗ XF I c 0 2 ∗ XF I c 0 3 ∗ XF I c 1 0 ∗ XF I c 1 1 ∗ XF I c 1 2) -∗ Q ⟨⟩) -∗ WP c (P11 (F := F)) Q) := by
  simp only [P11, k0_part11_eq_skeleton, k0_part11_skel, Prog.lift, Prog.bind_op, Prog.bind_ret]
  iintro ⟨HL, HP, HPd, HPc, X00, X01, X02, X03, X10, X11, X12⟩ Hk
  iapply (full_start c (sem37 _ _ _ 0 rfl) (by decide)) $$ [HP HPd HPc]
  · isplitl [HP]; · iexact HP
    isplitl [HPd]; · iexact HPd
    iexact HPc
  iintro HP
  iapply (wp_word c) $$ HL
  iintro HL
  iapply (x_start I c 0 0 (sgt_iff _ _) rfl rfl (sem34 _ _ _ 0 0 rfl)) $$ X00
  iintro X00
  iapply (wp_word c) $$ HL
  iintro HL
  iapply (x_start I c 0 1 (sgt_iff _ _) rfl rfl (sem34 _ _ _ 0 1 rfl)) $$ X01
  iintro X01
  iapply (wp_word c) $$ HL
  iintro HL
  iapply (x_start I c 0 2 (sgt_iff _ _) rfl rfl (sem34 _ _ _ 0 2 rfl)) $$ X02
  iintro X02
  iapply (wp_word c) $$ HL
  iintro HL
  iapply (x_start I c 0 3 (sgt_iff _ _) rfl rfl (sem34 _ _ _ 0 3 rfl)) $$ X03
  iintro X03
  iapply (wp_word c) $$ HL
  iintro HL
  iapply (x_start I c 1 0 (sgt_iff _ _) rfl rfl (sem34 _ _ _ 1 0 rfl)) $$ X10
  iintro X10
  iapply (wp_word c) $$ HL
  iintro HL
  iapply (x_start I c 1 1 (sgt_iff _ _) rfl rfl (sem34 _ _ _ 1 1 rfl)) $$ X11
  iintro X11
  iapply (wp_word c) $$ HL
  iintro HL
  iapply (x_start I c 1 2 (sgt_iff _ _) rfl rfl (sem34 _ _ _ 1 2 rfl)) $$ X12
  iintro X12
  iapply WP_done
  iapply Hk
  isplitl [HL]; · iexact HL
  isplitl [HP]; · iexact HP
  isplitl [X00]; · iexact X00
  isplitl [X01]; · iexact X01
  isplitl [X02]; · iexact X02
  isplitl [X03]; · iexact X03
  isplitl [X10]; · iexact X10
  isplitl [X11]; · iexact X11
  iexact X12

theorem part12_wp (c : Dev nD) {Q : _ → sProp 𝕄} :
    iprop(At c A0 Finset.univ fullShare I.LEN ∗ XP I c 1 3 ∗ At c A4 Finset.univ fullShare I.W1S ∗ Any c A17 Finset.univ ∗ Cell c (c37 1) ∗ At c A6 Finset.univ fullShare I.W2S ∗ Any c A20 Finset.univ ∗ Cell c (c37 2) ∗ W1P I c 0 ∗ W1P I c 1 ∗ W1P I c 2) ⊢ iprop((iprop(At c A0 Finset.univ fullShare I.LEN ∗ XF I c 1 3 ∗ FC c (c37 1) A4 A17 I.W1S ∗ FC c (c37 2) A6 A20 I.W2S ∗ W1F I c 0 0 ∗ W1F I c 0 1 ∗ W1F I c 0 2) -∗ Q ⟨⟩) -∗ WP c (P12 (F := F)) Q) := by
  simp only [P12, k0_part12_eq_skeleton, k0_part12_skel, Prog.lift, Prog.bind_op, Prog.bind_ret]
  iintro ⟨HL, X13, HA, HAd, HAc, HB, HBd, HBc, W10, W11, W12⟩ Hk
  iapply (wp_word c) $$ HL
  iintro HL
  iapply (x_start I c 1 3 (sgt_iff _ _) rfl rfl (sem34 _ _ _ 1 3 rfl)) $$ X13
  iintro X13
  iapply (full_start c (sem37 _ _ _ 1 rfl) (by decide)) $$ [HA HAd HAc]
  · isplitl [HA]; · iexact HA
    isplitl [HAd]; · iexact HAd
    iexact HAc
  iintro HA
  iapply (full_start c (sem37 _ _ _ 2 rfl) (by decide)) $$ [HB HBd HBc]
  · isplitl [HB]; · iexact HB
    isplitl [HBd]; · iexact HBd
    iexact HBc
  iintro HB
  iapply (W1_start I c 0 0 rfl rfl (sem35 _ _ _ 0 rfl)) $$ W10
  iintro W10
  iapply (W1_start I c 0 1 rfl rfl (sem35 _ _ _ 1 rfl)) $$ W11
  iintro W11
  iapply (W1_start I c 0 2 rfl rfl (sem35 _ _ _ 2 rfl)) $$ W12
  iintro W12
  iapply WP_done
  iapply Hk
  isplitl [HL]; · iexact HL
  isplitl [X13]; · iexact X13
  isplitl [HA]; · iexact HA
  isplitl [HB]; · iexact HB
  isplitl [W10]; · iexact W10
  isplitl [W11]; · iexact W11
  iexact W12

theorem part13_wp (c : Dev nD) {Q : _ → sProp 𝕄} :
    iprop(W1P I c 3 ∗ T1P I c ∗ W2P I c 0 ∗ W2P I c 1) ⊢ iprop((iprop(W1F I c 0 3 ∗ T1F I c 0 ∗ W2F I c 0 0 ∗ W2F I c 0 1) -∗ Q ⟨⟩) -∗ WP c (P13 (F := F)) Q) := by
  simp only [P13, k0_part13_eq_skeleton, k0_part13_skel, Prog.lift, Prog.bind_op, Prog.bind_ret]
  iintro ⟨W13, T1, W20, W21⟩ Hk
  iapply (W1_start I c 0 3 rfl rfl (sem35 _ _ _ 3 rfl)) $$ W13
  iintro W13
  iapply (T1_start I c 0 rfl (sem35 _ _ _ 4 rfl)) $$ T1
  iintro T1
  iapply (W2_start I c 0 0 rfl rfl (sem36 _ _ _ 0 rfl)) $$ W20
  iintro W20
  iapply (W2_start I c 0 1 rfl rfl (sem36 _ _ _ 1 rfl)) $$ W21
  iintro W21
  iapply WP_done
  iapply Hk
  isplitl [W13]; · iexact W13
  isplitl [T1]; · iexact T1
  isplitl [W20]; · iexact W20
  iexact W21

theorem part14_wp (c : Dev nD) {Q : _ → sProp 𝕄} :
    iprop(At c A0 Finset.univ fullShare I.LEN ∗ FC c (c37 0) A2 A14 I.PHI ∗ Owe c ∗ T2P I c ∗ W2P I c 2 ∗ W2P I c 3 ∗ W2P I c 4 ∗ W2P I c 5) ⊢ iprop((iprop(At c A0 Finset.univ fullShare I.LEN ∗ At c A14 Finset.univ fullShare I.PHI ∗ At c A2 Finset.univ fullShare I.PHI ∗ Cell c (c37 0) ∗ Owe c ∗ T2F I c 0 ∗ W2F I c 0 2 ∗ W2F I c 0 3 ∗ W2F I c 0 4 ∗ W2F I c 0 5) -∗ Q (len I 0)) -∗ WP c (P14 (F := F)) Q) := by
  simp only [P14, k0_part14_eq_skeleton, k0_part14_skel, Prog.lift, Prog.bind_op, Prog.bind_ret]
  iintro ⟨HL, HP, HO, T2, W22, W23, W24, W25⟩ Hk
  iapply (W2_start I c 0 2 rfl rfl (sem36 _ _ _ 2 rfl)) $$ W22
  iintro W22
  iapply (W2_start I c 0 3 rfl rfl (sem36 _ _ _ 3 rfl)) $$ W23
  iintro W23
  iapply (W2_start I c 0 4 rfl rfl (sem36 _ _ _ 4 rfl)) $$ W24
  iintro W24
  iapply (W2_start I c 0 5 rfl rfl (sem36 _ _ _ 5 rfl)) $$ W25
  iintro W25
  iapply (T2_start I c 0 rfl (sem36 _ _ _ 6 rfl)) $$ T2
  iintro T2
  iapply (full_wait c (sem37 _ _ _ 0 rfl)) $$ [HP HO]
  · isplitl [HP]; · iexact HP
    iexact HO
  iintro ⟨⟨HPd, HP⟩, HPc, HO⟩
  iapply (wp_word_last c) $$ HL
  iintro HL
  iapply Hk
  isplitl [HL]; · iexact HL
  isplitl [HPd]; · iexact HPd
  isplitl [HP]; · iexact HP
  isplitl [HPc]; · iexact HPc
  isplitl [HO]; · iexact HO
  isplitl [T2]; · iexact T2
  isplitl [W22]; · iexact W22
  isplitl [W23]; · iexact W23
  isplitl [W24]; · iexact W24
  iexact W25

end Cert.KernelIdeal.Hand

end
-- ==== Proof.KernelIdeal.Phase1.lean ====
/-
  The logits, their masked maximum and sum, and the slots' inputs, batch by batch.
-/
module

public import proofs.«01_k».proof.Proof.KernelIdeal.Phase0

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (UU nD τ) ℕ

variable (I : Inp F)

/-! ## What is computed, block by block -/

/-- The number of blocks batch `b`'s tokens take. -/
abbrev nb (b : ℕ) : ℕ := (k0_t1_loop (len I b)).trips

/-- The logits of block `t`. -/
def LGB (b t : ℕ) : FVec F S1x512x128 .f32 :=
  k0_pay45 (slc I.X ![b, 512 * t, 0] S1x512x1664.size) (slc I.PHI ![0, 0] S1664x128.size)

/-- The running maximum after `k` blocks. -/
def MX (b : ℕ) : ℕ → FVec F S1x128 .f32
  | 0 => k0_pay43
  | k + 1 => if h : k < nb I b then k0_pay46 (len I b) ⟨k, h⟩ (MX b k) (slc I.X ![b, 512 * k, 0] S1x512x1664.size) (slc I.PHI ![0, 0] S1664x128.size) else MX b k

/-- The running sum of the exponentials after `k` blocks. -/
def LX (b : ℕ) : ℕ → FVec F S1x128 .f32
  | 0 => k0_pay50
  | k + 1 => if h : k < nb I b then k0_pay51 (len I b) (MX I b (nb I b)) ⟨k, h⟩ (LX b k) (LGB I b k) else LX b k

/-- The slots' accumulated inputs after `k` blocks. -/
def SX (b : ℕ) : ℕ → FVec F S1x128x1664 .f32
  | 0 => k0_pay54
  | k + 1 => if h : k < nb I b then k0_pay55 (len I b) (MX I b (nb I b)) (LX I b (nb I b)) ⟨k, h⟩ (LGB I b k) (SX b k) (slc I.X ![b, 512 * k, 0] S1x512x1664.size) else SX b k

theorem MX_succ (b k : ℕ) (h : k < nb I b) : MX I b (k + 1) = k0_pay46 (len I b) ⟨k, h⟩ (MX I b k) (slc I.X ![b, 512 * k, 0] S1x512x1664.size) (slc I.PHI ![0, 0] S1664x128.size) := by
  rw [MX, dif_pos h]
theorem LX_succ (b k : ℕ) (h : k < nb I b) : LX I b (k + 1) = k0_pay51 (len I b) (MX I b (nb I b)) ⟨k, h⟩ (LX I b k) (LGB I b k) := by
  rw [LX, dif_pos h]
theorem SX_succ (b k : ℕ) (h : k < nb I b) : SX I b (k + 1) = k0_pay55 (len I b) (MX I b (nb I b)) (LX I b (nb I b)) ⟨k, h⟩ (LGB I b k) (SX I b k) (slc I.X ![b, 512 * k, 0] S1x512x1664.size) := by
  rw [SX, dif_pos h]

/-- The first `n` blocks of batch `b` hold their logits. -/
def LGF (b n : ℕ) (G : S2x2048x128.Idx → Elt F .f32) : Prop := ∀ t < n, slc G ![b, 512 * t, 0] S1x512x128.size = LGB I b t

theorem slc_put_at {α : Type} [Nonempty α] {s : Shape} (v : s.Idx → α) {off off' size : Fin s.rank → ℕ} (ho : off = off') (w : (⟨s.rank, size⟩ : Shape).Idx → α)
    (h : ∀ a, off' a + size a ≤ s.size a) : slc (put v off size w) off' size = w := by
  subst ho; exact slc_put v w h

theorem LGF_put {b k : ℕ} {G} (hb : b < 2) (hk : k < 4) {off : Fin 3 → ℕ} (ho : off = ![b, 512 * k, 0]) (h : LGF I b k G) : LGF I b (k + 1) (put G off S1x512x128.size (LGB I b k)) := by
  subst ho
  intro t ht
  rcases Nat.lt_succ_iff_lt_or_eq.mp ht with h1 | rfl
  · rw [slc_put_ne _ _ 1 (Or.inr (show 512 * t + 512 ≤ 512 * k by omega))]; exact h t h1
  · exact slc_put _ _ (inb_box b t hb hk 128 128 (by omega))

theorem LGF_other {b b' n : ℕ} {G} (hb : b ≠ b') {off : Fin 3 → ℕ} (ho : off 0 = b') (w) (h : LGF I b n G) : LGF I b n (put G off S1x512x128.size w) := by
  intro t ht
  rw [slc_put_ne _ _ 0 (show off 0 + 1 ≤ b ∨ b + 1 ≤ off 0 by omega)]; exact h t ht

theorem XF_on (c : Dev nD) (b : Fin 2) (t : Fin 4) (h : 512 * (t.val : Int) < (len I b.val).toInt) : XF I c b t =
    Fl c (c34 b t) N13 iprop(Win (F := F) c A13 ![b.val, 512 * t.val, 0] S1x512x1664.size fullShare (slc I.X ![b.val, 512 * t.val, 0] S1x512x1664.size)
      ∗ At c A1 (bx _ ![b.val, 512 * t.val, 0] S1x512x1664.size) fullShare I.X) := if_pos h
theorem XF_off (c : Dev nD) (b : Fin 2) (t : Fin 4) (h : ¬ 512 * (t.val : Int) < (len I b.val).toInt) : XF I c b t = XP I c b t := if_neg h

/-- A block of tokens that has arrived. -/
def XH (c : Dev nD) (b : Fin 2) (t : Fin 4) : sProp 𝕄 :=
  iprop((Win (F := F) c A13 ![b.val, 512 * t.val, 0] S1x512x1664.size fullShare (slc I.X ![b.val, 512 * t.val, 0] S1x512x1664.size)
      ∗ At c A1 (bx _ ![b.val, 512 * t.val, 0] S1x512x1664.size) fullShare I.X) ∗ Cell c (c34 b t))

/-- The blocks of batch `b`, the first `k` of them arrived. -/
def Xs (c : Dev nD) (b : Fin 2) (k : ℕ) : sProp 𝕄 := bigSep Finset.univ (fun t : Fin 4 => if t.val < k then XH I c b t else XF I c b t)

theorem Xs_take (c : Dev nD) (b : Fin 2) (k : ℕ) (hk : k < 4) :
    Xs I c b k ⊢ iprop(XF I c b ⟨k, hk⟩ ∗ (XH I c b ⟨k, hk⟩ -∗ Xs I c b (k + 1))) := by
  have h := bigSep_univ_update (Φ := fun t : Fin 4 => if t.val < k then XH I c b t else XF I c b t)
    (Ψ := fun t : Fin 4 => if t.val < k + 1 then XH I c b t else XF I c b t) ⟨k, hk⟩ (fun j hj => by
      have : j.val ≠ k := fun e => hj (Fin.ext e)
      by_cases h1 : j.val < k
      · rw [if_pos h1, if_pos (by omega)]
      · rw [if_neg h1, if_neg (by omega)])
  dsimp only at h
  rw [if_neg (Nat.lt_irrefl k), if_pos (Nat.lt_succ_self k)] at h
  exact h

theorem Xs_look (c : Dev nD) (b : Fin 2) (n k : ℕ) (hk : k < 4) (hn : k < n) :
    Xs I c b n ⊢ iprop(XH I c b ⟨k, hk⟩ ∗ (XH I c b ⟨k, hk⟩ -∗ Xs I c b n)) := by
  have h := bigSep_univ_update (Φ := fun t : Fin 4 => if t.val < n then XH I c b t else XF I c b t)
    (Ψ := fun t : Fin 4 => if t.val < n then XH I c b t else XF I c b t) ⟨k, hk⟩ (fun j hj => rfl)
  dsimp only at h
  rw [if_pos hn] at h
  exact h

theorem WP_for_none (c : Dev nD) (l : Scf.Loop 32) (hok : l.OK) {α β : Type} (init : α)
    (body : Fin l.trips → α → Prog (TpuEff nD τ sig (Elt F) Λ₀ .tc) α) (h0 : l.trips = 0)
    {k : α → Prog (TpuEff nD τ sig (Elt F) Λ₀ .tc) β} {Q : β → sProp 𝕄} :
    WP c (k init) Q ⊢ WP c (Scf.Loop.for l hok init body >>= k) Q := by
  iintro H
  iapply (WP_for c l hok init body (fun _ a => iprop(⌜a = init⌝ ∗ WP c (k init) Q)) (fun j => absurd j.isLt (by omega))) $$ [H]
  · isplitr; · ipureintro; rfl
    iexact H
  iintro %acc ⟨%e, H⟩
  subst e
  iexact H

/-! ## Batch 0 -/

theorem t1_wp (c : Dev nD) (hv : (len I 0).toInt ≤ 2048) (hw : k0_chk1 (len I 0))  (R : (S2x2048x128.Idx → Elt F .f32) → Prop)
    (hR : ∀ G off w, off 0 = 0 → R G → R (put G off S1x512x128.size w)) {β : Type}
    {k : _ → Prog (TpuEff nD τ sig (Elt F) Λ₀ .tc) β} {Q : β → sProp 𝕄} :
    iprop(At c A14 Finset.univ fullShare I.PHI ∗ Owe c ∗ Xs I c 0 0 ∗ (∃ G, ⌜R G⌝ ∗ At c A21 Finset.univ fullShare G))
    ⊢ iprop((iprop(At c A14 Finset.univ fullShare I.PHI ∗ Owe c ∗ Xs I c 0 (nb I 0) ∗ (∃ G, ⌜R G ∧ LGF I 0 (nb I 0) G⌝ ∗ At c A21 Finset.univ fullShare G)) -∗ WP c (k (MX I 0 (nb I 0))) Q)
      -∗ WP c (Scf.Loop.for (k0_t1_loop (len I 0)) (k0_t1_ok (len I 0) hw) k0_pay43 (B1 (F := F) (len I 0) hw ) >>= k) Q) := by
  have hf := trips_facts (len I 0) hv
  iintro ⟨HP, HO, HX, ⟨%G, %hG, HG⟩⟩ Hk
  iapply (WP_for c _ _ _ _ (fun k m => iprop(⌜MX I 0 k = m⌝ ∗ At c A14 Finset.univ fullShare I.PHI ∗ Owe c ∗ Xs I c 0 k ∗ (∃ G, ⌜R G ∧ LGF I 0 k G⌝ ∗ At c A21 Finset.univ fullShare G))) ?_) $$ [HP HO HX HG]
  rotate_left
  · isplitr; · ipureintro; rfl
    isplitl [HP]; · iexact HP
    isplitl [HO]; · iexact HO
    isplitl [HX]; · iexact HX
    iexists G
    isplitr; · ipureintro; exact ⟨hG, fun t ht => absurd ht (Nat.not_lt_zero t)⟩
    iexact HG
  · iintro %acc ⟨%e, H⟩
    subst e
    iapply Hk $$ H
  intro j acc
  have hj : j.val < 4 := Nat.lt_of_lt_of_le j.isLt hf.2.2.1
  simp only [B1, k0_t1_body, Prog.lift, Prog.bind_op, Prog.bind_ret]
  iintro ⟨%e, HP, HO, HX, ⟨%G, %hG, HG⟩⟩
  subst e
  ihave HX := (Xs_take I c 0 j.val hj) $$ HX
  icases HX with ⟨HF, HX⟩
  ihave HF := (entails_of_eq (XF_on I c 0 ⟨j.val, hj⟩ ((hf.2.2.2.2 j.val).mp j.isLt))) $$ HF
  iapply (wp_wait_at c (sem34 _ _ _ 0 ⟨j.val, hj⟩ (off1_eq _ hf.2.2.1 j)) N13 rfl _) $$ [HF HO]
  · isplitl [HF]; · iexact HF
    iexact HO
  iintro ⟨⟨HW, HA⟩, HC, HO⟩
  unfold Win
  icases HW with ⟨%u, %hu, HW⟩
  iapply (wp_load_bx c (by rw [off3_eq _ hf.2.2.1 j]; exact Finset.Subset.refl _)) $$ HW
  iintro HW
  iapply (wp_load_all c) $$ HP
  iintro HP
  iapply (wp_load_all c) $$ HG
  iintro HG
  iapply (wp_put_all c) $$ HG
  iintro HG
  have e1 : slc u (k0_off3 (len I 0) j) S1x512x1664.size = slc I.X ![0, 512 * j.val, 0] S1x512x1664.size := by
    rw [off3_eq _ hf.2.2.1 j]; exact hu
  have e2 : k0_pay45 (slc u (k0_off3 (len I 0) j) S1x512x1664.size) (slc I.PHI ![0, 0] S1664x128.size) = LGB I 0 j.val := by rw [e1]; rfl
  have e3 : k0_pay46 (len I 0) j (MX I 0 j.val) (slc u (k0_off3 (len I 0) j) S1x512x1664.size) (slc I.PHI ![0, 0] S1664x128.size) = MX I 0 (j.val + 1) := by
    rw [e1]; exact (MX_succ I 0 j.val j.isLt).symm
  iapply WP_pure
  isplitr; · ipureintro; exact e3.symm
  isplitl [HP]; · iexact HP
  isplitl [HO]; · iexact HO
  isplitl [HX HW HA HC]
  · iapply HX
    unfold XH Win
    isplitl [HW HA]
    · isplitl [HW]
      · iexists u
        isplitr; · ipureintro; exact hu
        iexact HW
      iexact HA
    iexact HC
  iexists _
  isplitr
  rotate_left
  · iexact HG
  ipureintro
  refine ⟨hR _ _ _ ?_ hG.1, ?_⟩
  · rw [off4_eq _ hf.2.2.1 j]; rfl
  · exact (congrArg (fun w => LGF I 0 (j.val + 1) (put G (k0_off4 (len I 0) j) S1x512x128.size w)) e2).mpr (LGF_put I (by decide) hj (off4_eq _ hf.2.2.1 j) hG.2)

theorem t3_wp (c : Dev nD) (hv : (len I 0).toInt ≤ 2048) (hw : k0_chk1 (len I 0))  (G : S2x2048x128.Idx → Elt F .f32)
    (hG : LGF I 0 (nb I 0) G) {β : Type}
    {k : _ → Prog (TpuEff nD τ sig (Elt F) Λ₀ .tc) β} {Q : β → sProp 𝕄} :
    At c A21 Finset.univ fullShare G
    ⊢ iprop((At c A21 Finset.univ fullShare G -∗ WP c (k (LX I 0 (nb I 0))) Q)
      -∗ WP c (Scf.Loop.for (k0_t3_loop (len I 0)) (k0_t3_ok (len I 0) hw) k0_pay50 (B3 (F := F) (len I 0) hw  (MX I 0 (nb I 0))) >>= k) Q) := by
  have hf := trips_facts (len I 0) hv
  iintro HG Hk
  iapply (WP_for c _ _ _ _ (fun k m => iprop(⌜LX I 0 k = m⌝ ∗ At c A21 Finset.univ fullShare G)) ?_) $$ [HG]
  rotate_left
  · isplitr; · ipureintro; rfl
    iexact HG
  · iintro %acc ⟨%e, H⟩
    subst e
    iapply Hk $$ H
  intro j acc
  simp only [B3, k0_t3_body, Prog.lift, Prog.bind_op, Prog.bind_ret]
  iintro ⟨%e, HG⟩
  subst e
  iapply (wp_load_all c) $$ HG
  iintro HG
  have e1 : slc G (k0_off9 (len I 0) j) S1x512x128.size = LGB I 0 j.val := by
    rw [off9_eq _ hf.2.2.1 j]; exact hG j.val j.isLt
  have e3 : k0_pay51 (len I 0) (MX I 0 (nb I 0)) j (LX I 0 j.val) (slc G (k0_off9 (len I 0) j) S1x512x128.size) = LX I 0 (j.val + 1) := by
    rw [e1]; exact (LX_succ I 0 j.val j.isLt).symm
  iapply WP_pure
  isplitr; · ipureintro; exact e3.symm
  iexact HG

theorem t5_wp (c : Dev nD) (hv : (len I 0).toInt ≤ 2048) (hw : k0_chk1 (len I 0))  (G : S2x2048x128.Idx → Elt F .f32)
    (hG : LGF I 0 (nb I 0) G) (R : (S2x128x1664.Idx → Elt F .f32) → Prop)
    (hR : ∀ G off w, off 0 = 0 → R G → R (put G off S1x128x1664.size w)) {β : Type}
    {k : _ → Prog (TpuEff nD τ sig (Elt F) Λ₀ .tc) β} {Q : β → sProp 𝕄} :
    iprop(At c A21 Finset.univ fullShare G ∗ Xs I c 0 (nb I 0) ∗ (∃ H : S2x128x1664.Idx → Elt F .f32, ⌜R H ∧ slc H ![0, 0, 0] S1x128x1664.size = SX I 0 0⌝ ∗ At c A23 Finset.univ fullShare H))
    ⊢ iprop((iprop(At c A21 Finset.univ fullShare G ∗ Xs I c 0 (nb I 0) ∗ (∃ H : S2x128x1664.Idx → Elt F .f32, ⌜R H ∧ slc H ![0, 0, 0] S1x128x1664.size = SX I 0 (nb I 0)⌝ ∗ At c A23 Finset.univ fullShare H)) -∗ WP c (k ⟨⟩) Q)
      -∗ WP c (Scf.Loop.for (k0_t5_loop (len I 0)) (k0_t5_ok (len I 0) hw) ⟨⟩ (B5 (F := F) (len I 0) hw  (MX I 0 (nb I 0)) (LX I 0 (nb I 0))) >>= k) Q) := by
  have hf := trips_facts (len I 0) hv
  iintro H Hk
  iapply (WP_for c _ _ _ _ (fun k m => iprop(At c A21 Finset.univ fullShare G ∗ Xs I c 0 (nb I 0) ∗ (∃ H : S2x128x1664.Idx → Elt F .f32, ⌜R H ∧ slc H ![0, 0, 0] S1x128x1664.size = SX I 0 k⌝ ∗ At c A23 Finset.univ fullShare H))) ?_) $$ [H]
  rotate_left
  · iexact H
  · iintro %acc H
    iapply Hk $$ H
  intro j acc
  have hj : j.val < 4 := Nat.lt_of_lt_of_le j.isLt hf.2.2.1
  simp only [B5, k0_t5_body, Prog.lift, Prog.bind_op, Prog.bind_ret]
  iintro ⟨HG, HX, ⟨%H, %hH, HH⟩⟩
  iapply (wp_load_all c) $$ HG
  iintro HG
  iapply (wp_load_all c) $$ HH
  iintro HH
  ihave HX := (Xs_look I c 0 _ j.val hj j.isLt) $$ HX
  unfold XH Win
  icases HX with ⟨⟨⟨⟨%u, %hu, HW⟩, HA⟩, HC⟩, HX⟩
  iapply (wp_load_bx c (by rw [off12_eq _ hf.2.2.1 j]; exact Finset.Subset.refl _)) $$ HW
  iintro HW
  iapply (wp_load_all c) $$ HH
  iintro HH
  iapply (wp_put_all c) $$ HH
  iintro HH
  have e1 : slc G (k0_off11 (len I 0) j) S1x512x128.size = LGB I 0 j.val := by
    rw [off11_eq _ hf.2.2.1 j]; exact hG j.val j.isLt
  have e2 : slc u (k0_off12 (len I 0) j) S1x512x1664.size = slc I.X ![0, 512 * j.val, 0] S1x512x1664.size := by
    rw [off12_eq _ hf.2.2.1 j]; exact hu
  iapply WP_pure
  isplitl [HG]; · iexact HG
  isplitl [HX HW HA HC]
  · iapply HX
    isplitl [HW HA]
    · isplitl [HW]
      · iexists u
        isplitr; · ipureintro; exact hu
        iexact HW
      iexact HA
    iexact HC
  iexists _
  isplitr
  rotate_left
  · iexact HH
  ipureintro
  refine ⟨hR _ _ _ rfl hH.1, (slc_put _ _ inb_S2x128x1664_S1x128x1664_0_0_0).trans ?_⟩
  rw [e1, e2, hH.2]
  exact (SX_succ I 0 j.val j.isLt).symm

/-! ## Batch 1 -/

theorem t7_wp (c : Dev nD) (hv : (len I 1).toInt ≤ 2048) (hw : k0_chk2 (len I 1)) (w : BitVec 32) (R : (S2x2048x128.Idx → Elt F .f32) → Prop)
    (hR : ∀ G off w, off 0 = 1 → R G → R (put G off S1x512x128.size w)) {β : Type}
    {k : _ → Prog (TpuEff nD τ sig (Elt F) Λ₀ .tc) β} {Q : β → sProp 𝕄} :
    iprop(At c A14 Finset.univ fullShare I.PHI ∗ Owe c ∗ Xs I c 1 0 ∗ (∃ G, ⌜R G⌝ ∗ At c A21 Finset.univ fullShare G))
    ⊢ iprop((iprop(At c A14 Finset.univ fullShare I.PHI ∗ Owe c ∗ Xs I c 1 (nb I 1) ∗ (∃ G, ⌜R G ∧ LGF I 1 (nb I 1) G⌝ ∗ At c A21 Finset.univ fullShare G)) -∗ WP c (k (MX I 1 (nb I 1))) Q)
      -∗ WP c (Scf.Loop.for (k0_t7_loop (len I 1)) (k0_t7_ok (len I 1) hw) k0_pay57 (B7 (F := F) (len I 1) hw w) >>= k) Q) := by
  have hf := trips_facts (len I 1) hv
  iintro ⟨HP, HO, HX, ⟨%G, %hG, HG⟩⟩ Hk
  iapply (WP_for c _ _ _ _ (fun k m => iprop(⌜MX I 1 k = m⌝ ∗ At c A14 Finset.univ fullShare I.PHI ∗ Owe c ∗ Xs I c 1 k ∗ (∃ G, ⌜R G ∧ LGF I 1 k G⌝ ∗ At c A21 Finset.univ fullShare G))) ?_) $$ [HP HO HX HG]
  rotate_left
  · isplitr; · ipureintro; rfl
    isplitl [HP]; · iexact HP
    isplitl [HO]; · iexact HO
    isplitl [HX]; · iexact HX
    iexists G
    isplitr; · ipureintro; exact ⟨hG, fun t ht => absurd ht (Nat.not_lt_zero t)⟩
    iexact HG
  · iintro %acc ⟨%e, H⟩
    subst e
    iapply Hk $$ H
  intro j acc
  have hj : j.val < 4 := Nat.lt_of_lt_of_le j.isLt hf.2.2.1
  simp only [B7, k0_t7_body, Prog.lift, Prog.bind_op, Prog.bind_ret]
  iintro ⟨%e, HP, HO, HX, ⟨%G, %hG, HG⟩⟩
  subst e
  ihave HX := (Xs_take I c 1 j.val hj) $$ HX
  icases HX with ⟨HF, HX⟩
  ihave HF := (entails_of_eq (XF_on I c 1 ⟨j.val, hj⟩ ((hf.2.2.2.2 j.val).mp j.isLt))) $$ HF
  iapply (wp_wait_at c (sem34 _ _ _ 1 ⟨j.val, hj⟩ (off15_eq _ hf.2.2.1 j)) N13 rfl _) $$ [HF HO]
  · isplitl [HF]; · iexact HF
    iexact HO
  iintro ⟨⟨HW, HA⟩, HC, HO⟩
  unfold Win
  icases HW with ⟨%u, %hu, HW⟩
  iapply (wp_load_bx c (by rw [off17_eq _ hf.2.2.1 j]; exact Finset.Subset.refl _)) $$ HW
  iintro HW
  iapply (wp_load_all c) $$ HP
  iintro HP
  iapply (wp_load_all c) $$ HG
  iintro HG
  iapply (wp_put_all c) $$ HG
  iintro HG
  have e1 : slc u (k0_off17 (len I 1) j) S1x512x1664.size = slc I.X ![1, 512 * j.val, 0] S1x512x1664.size := by
    rw [off17_eq _ hf.2.2.1 j]; exact hu
  have e2 : k0_pay59 (slc u (k0_off17 (len I 1) j) S1x512x1664.size) (slc I.PHI ![0, 0] S1664x128.size) = LGB I 1 j.val := by rw [e1]; rfl
  have e3 : k0_pay60 (len I 1) j (MX I 1 j.val) (slc u (k0_off17 (len I 1) j) S1x512x1664.size) (slc I.PHI ![0, 0] S1664x128.size) = MX I 1 (j.val + 1) := by
    rw [e1]; exact (MX_succ I 1 j.val j.isLt).symm
  iapply WP_pure
  isplitr; · ipureintro; exact e3.symm
  isplitl [HP]; · iexact HP
  isplitl [HO]; · iexact HO
  isplitl [HX HW HA HC]
  · iapply HX
    unfold XH Win
    isplitl [HW HA]
    · isplitl [HW]
      · iexists u
        isplitr; · ipureintro; exact hu
        iexact HW
      iexact HA
    iexact HC
  iexists _
  isplitr
  rotate_left
  · iexact HG
  ipureintro
  refine ⟨hR _ _ _ ?_ hG.1, ?_⟩
  · rw [off18_eq _ hf.2.2.1 j]; rfl
  · exact (congrArg (fun w => LGF I 1 (j.val + 1) (put G (k0_off18 (len I 1) j) S1x512x128.size w)) e2).mpr (LGF_put I (by decide) hj (off18_eq _ hf.2.2.1 j) hG.2)

theorem t9_wp (c : Dev nD) (hv : (len I 1).toInt ≤ 2048) (hw : k0_chk2 (len I 1)) (w : BitVec 32) (G : S2x2048x128.Idx → Elt F .f32)
    (hG : LGF I 1 (nb I 1) G) {β : Type}
    {k : _ → Prog (TpuEff nD τ sig (Elt F) Λ₀ .tc) β} {Q : β → sProp 𝕄} :
    At c A21 Finset.univ fullShare G
    ⊢ iprop((At c A21 Finset.univ fullShare G -∗ WP c (k (LX I 1 (nb I 1))) Q)
      -∗ WP c (Scf.Loop.for (k0_t9_loop (len I 1)) (k0_t9_ok (len I 1) hw) k0_pay64 (B9 (F := F) (len I 1) hw w (MX I 1 (nb I 1))) >>= k) Q) := by
  have hf := trips_facts (len I 1) hv
  iintro HG Hk
  iapply (WP_for c _ _ _ _ (fun k m => iprop(⌜LX I 1 k = m⌝ ∗ At c A21 Finset.univ fullShare G)) ?_) $$ [HG]
  rotate_left
  · isplitr; · ipureintro; rfl
    iexact HG
  · iintro %acc ⟨%e, H⟩
    subst e
    iapply Hk $$ H
  intro j acc
  simp only [B9, k0_t9_body, Prog.lift, Prog.bind_op, Prog.bind_ret]
  iintro ⟨%e, HG⟩
  subst e
  iapply (wp_load_all c) $$ HG
  iintro HG
  have e1 : slc G (k0_off23 (len I 1) j) S1x512x128.size = LGB I 1 j.val := by
    rw [off23_eq _ hf.2.2.1 j]; exact hG j.val j.isLt
  have e3 : k0_pay65 (len I 1) (MX I 1 (nb I 1)) j (LX I 1 j.val) (slc G (k0_off23 (len I 1) j) S1x512x128.size) = LX I 1 (j.val + 1) := by
    rw [e1]; exact (LX_succ I 1 j.val j.isLt).symm
  iapply WP_pure
  isplitr; · ipureintro; exact e3.symm
  iexact HG

theorem t11_wp (c : Dev nD) (hv : (len I 1).toInt ≤ 2048) (hw : k0_chk2 (len I 1)) (w : BitVec 32) (G : S2x2048x128.Idx → Elt F .f32)
    (hG : LGF I 1 (nb I 1) G) (R : (S2x128x1664.Idx → Elt F .f32) → Prop)
    (hR : ∀ G off w, off 0 = 1 → R G → R (put G off S1x128x1664.size w)) {β : Type}
    {k : _ → Prog (TpuEff nD τ sig (Elt F) Λ₀ .tc) β} {Q : β → sProp 𝕄} :
    iprop(At c A21 Finset.univ fullShare G ∗ Xs I c 1 (nb I 1) ∗ (∃ H : S2x128x1664.Idx → Elt F .f32, ⌜R H ∧ slc H ![1, 0, 0] S1x128x1664.size = SX I 1 0⌝ ∗ At c A23 Finset.univ fullShare H))
    ⊢ iprop((iprop(At c A21 Finset.univ fullShare G ∗ Xs I c 1 (nb I 1) ∗ (∃ H : S2x128x1664.Idx → Elt F .f32, ⌜R H ∧ slc H ![1, 0, 0] S1x128x1664.size = SX I 1 (nb I 1)⌝ ∗ At c A23 Finset.univ fullShare H)) -∗ WP c (k ⟨⟩) Q)
      -∗ WP c (Scf.Loop.for (k0_t11_loop (len I 1)) (k0_t11_ok (len I 1) hw) ⟨⟩ (B11 (F := F) (len I 1) hw w (MX I 1 (nb I 1)) (LX I 1 (nb I 1))) >>= k) Q) := by
  have hf := trips_facts (len I 1) hv
  iintro H Hk
  iapply (WP_for c _ _ _ _ (fun k m => iprop(At c A21 Finset.univ fullShare G ∗ Xs I c 1 (nb I 1) ∗ (∃ H : S2x128x1664.Idx → Elt F .f32, ⌜R H ∧ slc H ![1, 0, 0] S1x128x1664.size = SX I 1 k⌝ ∗ At c A23 Finset.univ fullShare H))) ?_) $$ [H]
  rotate_left
  · iexact H
  · iintro %acc H
    iapply Hk $$ H
  intro j acc
  have hj : j.val < 4 := Nat.lt_of_lt_of_le j.isLt hf.2.2.1
  simp only [B11, k0_t11_body, Prog.lift, Prog.bind_op, Prog.bind_ret]
  iintro ⟨HG, HX, ⟨%H, %hH, HH⟩⟩
  iapply (wp_load_all c) $$ HG
  iintro HG
  iapply (wp_load_all c) $$ HH
  iintro HH
  ihave HX := (Xs_look I c 1 _ j.val hj j.isLt) $$ HX
  unfold XH Win
  icases HX with ⟨⟨⟨⟨%u, %hu, HW⟩, HA⟩, HC⟩, HX⟩
  iapply (wp_load_bx c (by rw [off26_eq _ hf.2.2.1 j]; exact Finset.Subset.refl _)) $$ HW
  iintro HW
  iapply (wp_load_all c) $$ HH
  iintro HH
  iapply (wp_put_all c) $$ HH
  iintro HH
  have e1 : slc G (k0_off25 (len I 1) j) S1x512x128.size = LGB I 1 j.val := by
    rw [off25_eq _ hf.2.2.1 j]; exact hG j.val j.isLt
  have e2 : slc u (k0_off26 (len I 1) j) S1x512x1664.size = slc I.X ![1, 512 * j.val, 0] S1x512x1664.size := by
    rw [off26_eq _ hf.2.2.1 j]; exact hu
  iapply WP_pure
  isplitl [HG]; · iexact HG
  isplitl [HX HW HA HC]
  · iapply HX
    isplitl [HW HA]
    · isplitl [HW]
      · iexists u
        isplitr; · ipureintro; exact hu
        iexact HW
      iexact HA
    iexact HC
  iexists _
  isplitr
  rotate_left
  · iexact HH
  ipureintro
  refine ⟨hR _ _ _ rfl hH.1, (slc_put _ _ inb_S2x128x1664_S1x128x1664_1_0_0).trans ?_⟩
  rw [e1, e2, hH.2]
  exact (SX_succ I 1 j.val j.isLt).symm

/-! ## The two parts -/

theorem part15_wp (c : Dev nD) (hv0 : (len I 0).toInt ≤ 2048) (hv1 : (len I 1).toInt ≤ 2048) {Q : _ → sProp 𝕄} :
    iprop(At c A0 Finset.univ fullShare I.LEN ∗ At c A14 Finset.univ fullShare I.PHI ∗ Owe c ∗ Xs I c 0 0 ∗ Any c A21 Finset.univ ∗ Any c A23 Finset.univ)
    ⊢ iprop((iprop(At c A0 Finset.univ fullShare I.LEN ∗ At c A14 Finset.univ fullShare I.PHI ∗ Owe c ∗ Xs I c 0 (nb I 0)
        ∗ (∃ G, ⌜LGF I 0 (nb I 0) G⌝ ∗ At c A21 Finset.univ fullShare G) ∗ (∃ H : S2x128x1664.Idx → Elt F .f32, ⌜slc H ![0, 0, 0] S1x128x1664.size = SX I 0 (nb I 0)⌝ ∗ At c A23 Finset.univ fullShare H))
        -∗ Q ⟨len I 1, chk2_holds _ hv1, Scalar.addi (len I 1) 511#32⟩) -∗ WP c (P15 (F := F) (len I 0)) Q) := by
  have hf0 := trips_facts (len I 0) hv0
  simp only [P15, k0_part15_eq_skeleton, k0_part15_skel, Prog.lift, Prog.bind_op, Prog.bind_ret]
  unfold Any
  iintro ⟨HL, HP, HO, HX0, ⟨%G, HG⟩, ⟨%H, HH⟩⟩ Hk
  iapply (wp_assume_at c (chk1_holds _ hv0))
  iapply (t1_wp I c hv0 _  (fun _ => True) (fun _ _ _ _ _ => trivial)) $$ [HP HO HX0 HG]
  · isplitl [HP]; · iexact HP
    isplitl [HO]; · iexact HO
    isplitl [HX0]; · iexact HX0
    iexists G
    isplitr; · ipureintro; trivial
    iexact HG
  iintro ⟨HP, HO, HX0, ⟨%G, %hG, HG⟩⟩
  iapply (WP_for_none c _ _ _ _ hf0.2.2.2.1)
  iapply (t3_wp I c hv0 _  G hG.2) $$ HG
  iintro HG
  iapply (WP_for_none c _ _ _ _ hf0.2.2.2.1)
  iapply (wp_load_all c) $$ HH
  iintro HH
  iapply (wp_put_all c) $$ HH
  iintro HH
  iapply (t5_wp I c hv0 _  G hG.2 (fun _ => True) (fun _ _ _ _ _ => trivial)) $$ [HG HX0 HH]
  · isplitl [HG]; · iexact HG
    isplitl [HX0]; · iexact HX0
    iexists _
    isplitr
    rotate_left
    · iexact HH
    ipureintro; exact ⟨trivial, slc_put _ _ inb_S2x128x1664_S1x128x1664_0_0_0⟩
  iintro ⟨HG, HX0, ⟨%H, %hH, HH⟩⟩
  iapply (WP_for_none c _ _ _ _ hf0.2.2.2.1)
  iapply (wp_word c) $$ HL
  iintro HL
  iapply (wp_assume_at c (chk2_holds _ hv1))
  iapply WP_pure
  iapply Hk
  isplitl [HL]; · iexact HL
  isplitl [HP]; · iexact HP
  isplitl [HO]; · iexact HO
  isplitl [HX0]; · iexact HX0
  isplitl [HG]
  · iexists G
    isplitr; · ipureintro; exact hG.2
    iexact HG
  iexists H
  isplitr; · ipureintro; exact hH.2
  iexact HH

theorem part16_wp (c : Dev nD) (hv1 : (len I 1).toInt ≤ 2048) (hw : k0_chk2 (len I 1)) (w : BitVec 32) (n0 : ℕ) (x0 : FVec F S1x128x1664 .f32) {Q : _ → sProp 𝕄} :
    iprop(At c A14 Finset.univ fullShare I.PHI ∗ Owe c ∗ Xs I c 1 0
        ∗ (∃ G, ⌜LGF I 0 n0 G⌝ ∗ At c A21 Finset.univ fullShare G) ∗ (∃ H : S2x128x1664.Idx → Elt F .f32, ⌜slc H ![0, 0, 0] S1x128x1664.size = x0⌝ ∗ At c A23 Finset.univ fullShare H)
        ∗ FC c (c37 1) A4 A17 I.W1S ∗ FC c (c37 2) A6 A20 I.W2S)
    ⊢ iprop((iprop(At c A14 Finset.univ fullShare I.PHI ∗ Owe c ∗ Xs I c 1 (nb I 1)
        ∗ (∃ G, ⌜LGF I 0 n0 G ∧ LGF I 1 (nb I 1) G⌝ ∗ At c A21 Finset.univ fullShare G)
        ∗ (∃ H : S2x128x1664.Idx → Elt F .f32, ⌜slc H ![0, 0, 0] S1x128x1664.size = x0 ∧ slc H ![1, 0, 0] S1x128x1664.size = SX I 1 (nb I 1)⌝ ∗ At c A23 Finset.univ fullShare H)
        ∗ ((At c A17 Finset.univ fullShare I.W1S ∗ At c A4 Finset.univ fullShare I.W1S) ∗ Cell c (c37 1))
        ∗ ((At c A20 Finset.univ fullShare I.W2S ∗ At c A6 Finset.univ fullShare I.W2S) ∗ Cell c (c37 2)))
        -∗ Q ⟨⟩) -∗ WP c (P16 (F := F) (len I 1) hw w) Q) := by
  have hf1 := trips_facts (len I 1) hv1
  simp only [P16, k0_part16_eq_skeleton, k0_part16_skel, Prog.lift, Prog.bind_op, Prog.bind_ret]
  iintro ⟨HP, HO, HX1, ⟨%G, %hG, HG⟩, ⟨%H, %hH, HH⟩, HA, HB⟩ Hk
  iapply (t7_wp I c hv1 _ w (LGF I 0 n0) (fun G off v ho h => LGF_other I (by decide) ho v h)) $$ [HP HO HX1 HG]
  · isplitl [HP]; · iexact HP
    isplitl [HO]; · iexact HO
    isplitl [HX1]; · iexact HX1
    iexists G
    isplitr; · ipureintro; exact hG
    iexact HG
  iintro ⟨HP, HO, HX1, ⟨%G, %hG, HG⟩⟩
  iapply (WP_for_none c _ _ _ _ hf1.2.2.2.1)
  iapply (t9_wp I c hv1 _ w G hG.2) $$ HG
  iintro HG
  iapply (WP_for_none c _ _ _ _ hf1.2.2.2.1)
  iapply (wp_load_all c) $$ HH
  iintro HH
  iapply (wp_put_all c) $$ HH
  iintro HH
  iapply (t11_wp I c hv1 _ w G hG.2 (fun H : S2x128x1664.Idx → Elt F .f32 => slc H ![0, 0, 0] S1x128x1664.size = x0) (fun H off v ho h => (slc_put_ne _ _ 0 (Or.inr (show 0 + 1 ≤ off 0 by omega))).trans h)) $$ [HG HX1 HH]
  · isplitl [HG]; · iexact HG
    isplitl [HX1]; · iexact HX1
    iexists _
    isplitr
    rotate_left
    · iexact HH
    ipureintro; exact ⟨(slc_put_ne _ _ 0 (Or.inr (by decide))).trans hH, slc_put _ _ inb_S2x128x1664_S1x128x1664_1_0_0⟩
  iintro ⟨HG, HX1, ⟨%H, %hH, HH⟩⟩
  iapply (WP_for_none c _ _ _ _ hf1.2.2.2.1)
  iapply (full_wait c (sem37 _ _ _ 1 rfl)) $$ [HA HO]
  · isplitl [HA]; · iexact HA
    iexact HO
  iintro ⟨HA, HAc, HO⟩
  iapply (full_wait c (sem37 _ _ _ 2 rfl)) $$ [HB HO]
  · isplitl [HB]; · iexact HB
    iexact HO
  iintro ⟨HB, HBc, HO⟩
  iapply WP_pure
  iapply Hk
  isplitl [HP]; · iexact HP
  isplitl [HO]; · iexact HO
  isplitl [HX1]; · iexact HX1
  isplitl [HG]
  · iexists G
    isplitr; · ipureintro; exact hG
    iexact HG
  isplitl [HH]
  · iexists H
    isplitr; · ipureintro; exact hH
    iexact HH
  isplitl [HA HAc]
  · isplitl [HA]; · iexact HA
    iexact HAc
  isplitl [HB]; · iexact HB
  iexact HBc

end Cert.KernelIdeal.Hand

end
-- ==== Proof.KernelIdeal.Vals.lean ====
/-
  What each of the kernel's buffers comes to hold, as functions of what it is given.
-/
module

public import proofs.«01_k».proof.Proof.KernelIdeal.Phase1

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (UU nD τ) ℕ

variable (I : Inp F)

/-! ## Tilings -/

/-- The array whose box number `q` of size `size` holds `w q`. -/
def tiled {α : Type} {s : Shape} (size : Fin s.rank → ℕ) (hpos : ∀ a, 0 < size a) (w : (Fin s.rank → ℕ) → (⟨s.rank, size⟩ : Shape).Idx → α) : s.Idx → α :=
  fun i => w (fun a => (i a).val / size a) (fun a => ⟨(i a).val % size a, Nat.mod_lt _ (hpos a)⟩)

theorem slc_tiled {α : Type} [Nonempty α] {s : Shape} {size : Fin s.rank → ℕ} {hpos : ∀ a, 0 < size a} {w : (Fin s.rank → ℕ) → (⟨s.rank, size⟩ : Shape).Idx → α}
    {off : Fin s.rank → ℕ} (q : Fin s.rank → ℕ) (hq : ∀ a, off a = q a * size a) (h : ∀ a, off a + size a ≤ s.size a) : slc (tiled size hpos w) off size = w q := by
  funext j
  have hj : ∀ a, off a + (j a).val < s.size a := fun a => by have h1 : (j a).val < size a := (j a).isLt; have := h a; omega
  have h1 : ∀ a, (j a).val < size a := fun a => (j a).isLt
  unfold slc; rw [dif_pos hj]
  unfold tiled
  have e1 : (fun a => (off a + (j a).val) / size a) = q := by
    funext a; rw [hq, Nat.add_comm, Nat.add_mul_div_right _ _ (hpos a), Nat.div_eq_of_lt (h1 a), Nat.zero_add]
  have e2 : (fun a => (⟨(off a + (j a).val) % size a, Nat.mod_lt _ (hpos a)⟩ : Fin (size a))) = j := by
    funext a; apply Fin.ext
    show (off a + (j a).val) % size a = _
    rw [hq, Nat.add_comm, Nat.add_mul_mod_self_right, Nat.mod_eq_of_lt (h1 a)]
  show w (fun a => (off a + (j a).val) / size a) (fun a => (⟨(off a + (j a).val) % size a, Nat.mod_lt _ (hpos a)⟩ : Fin (size a))) = w q j
  rw [e1, e2]

/-- `G` is `V` at the indices satisfying `P`. -/
def Agree {α : Type} {s : Shape} (P : s.Idx → Prop) (G V : s.Idx → α) : Prop := ∀ i, P i → G i = V i

theorem agree_put {α : Type} [Nonempty α] {s : Shape} {P : s.Idx → Prop} {G V : s.Idx → α} (P' : s.Idx → Prop) {off size : Fin s.rank → ℕ} {w : (⟨s.rank, size⟩ : Shape).Idx → α}
    (hG : Agree P G V) (h : ∀ a, off a + size a ≤ s.size a) (hw : w = slc V off size)
    (hP : ∀ i, P' i → P i ∨ ∀ a, off a ≤ (i a).val ∧ (i a).val < off a + size a) : Agree P' (put G off size w) V := by
  intro i hi
  by_cases hb : i ∈ bx s off size
  · exact put_slc_agree h hb ((slc_put G w h).trans hw)
  · rw [put_out G off size w hb]
    exact hG i ((hP i hi).resolve_right (fun hh => hb (mem_bx.mpr hh)))

theorem agree_slc {α : Type} [Nonempty α] {s : Shape} {P : s.Idx → Prop} {G V : s.Idx → α} {off size : Fin s.rank → ℕ} (hG : Agree P G V)
    (hP : ∀ i : s.Idx, (∀ a, off a ≤ (i a).val ∧ (i a).val < off a + size a) → P i) : slc G off size = slc V off size :=
  slc_congr fun i hi => hG i (hP i (mem_bx.mp hi))

theorem agree_all {α : Type} {s : Shape} {P : s.Idx → Prop} {G V : s.Idx → α} (hG : Agree P G V) (hP : ∀ i, P i) : G = V := funext fun i => hG i (hP i)

/-! ## What the kernel's buffers come to hold -/

/-- The logits. -/
def LGV : S2x2048x128.Idx → Elt F .f32 := tiled (s := S2x2048x128) S1x512x128.size (by decide) (fun q => LGB I (q 0) (q 1))

/-- The slots' inputs. -/
def XSV : S2x128x1664.Idx → Elt F .f32 := tiled (s := S2x128x1664) S1x128x1664.size (by decide) (fun q => SX I (q 0) (nb I (q 0)))

/-- The loop counter as a word. -/
abbrev wd (e : ℕ) : BitVec 32 := Scf.iv 0#32 1#32 e

/-- The two batches' slots of an expert, one above the other; their scales' exponents; and the quantised rows. -/
def V371 (e : ℕ) : FVec F S16x1664 .f32 := k0_pay9 (slc (XSV I) ![0, e * 8, 0] S1x8x1664.size) (slc (XSV I) ![1, e * 8, 0] S1x8x1664.size)
def V399 (e : ℕ) : IVec S16x1 32 := k0_pay10 (slc (XSV I) ![0, e * 8, 0] S1x8x1664.size) (slc (XSV I) ![1, e * 8, 0] S1x8x1664.size)
def V401 (e : ℕ) : IVec S16x1 32 := k0_pay11 (slc (XSV I) ![0, e * 8, 0] S1x8x1664.size) (slc (XSV I) ![1, e * 8, 0] S1x8x1664.size)
def V404 (e : ℕ) : FVec F S16x1 .f32 := k0_pay12 (V401 I e) 23#32
def V418 (e : ℕ) : FVec F S32x1664 .fp8e4m3 := k0_pay14 (V371 I e) (V399 I e)

/-- The slots' codes and scales. -/
def SCV : S2x16x8x1664.Idx → Elt F .fp8e4m3 := tiled (s := S2x16x8x1664) S1x1x8x1664.size (by decide)
  (fun q => if q 0 = 0 then k0_pay15 (V371 I (q 1)) (V399 I (q 1)) else k0_pay17 (V371 I (q 1)) (V399 I (q 1)))
def SSC : S2x128x128.Idx → Elt F .f32 := tiled (s := S2x128x128) S1x8x128.size (by decide)
  (fun q => if q 0 = 0 then k0_pay16 (V401 I (q 1)) 23#32 else k0_pay19 (k0_pay18 (V401 I (q 1)) 23#32))

/-- The combine weights, 256 tokens to an expert's turn. -/
def CMB (e : ℕ) : FVec F S1x256x128 .bf16 :=
  if ((e * 256 % 2048 : ℕ) : Int) < (len I (e * 256 / 2048)).toInt then k0_pay20 (slc (LGV I) ![e * 256 / 2048, e * 256 % 2048, 0] S1x256x128.size) else k0_pay21
def CMV : S2x2048x128.Idx → Elt F .bf16 := tiled (s := S2x2048x128) S1x256x128.size (by decide) (fun q => CMB I (q 0 * 8 + q 1))

/-- The hidden layer by column chunks, and the running maximum of its rows. -/
def HB (e j : ℕ) : FVec F S16x1664 .f32 :=
  k0_pay1 (wd e) (V404 I e) (V418 I e) (slc I.W1 ![e, 0, j * 1664] S1x1664x1664.size) (slc I.W1S ![e / 8 * 8, j * 1664] S8x1664.size)
def CX (e : ℕ) : ℕ → FVec F S16x128 .f32
  | 0 => k0_pay22
  | j + 1 => k0_pay24 (CX e j) (HB I e j)
def V470 (e : ℕ) : FVec F S16x1536 .f32 := k0_pay25 (V404 I e) (V418 I e) (T1V I e)
def V475 (e : ℕ) : Vec F S8x1536 .f32 := slc I.W1S ![e / 8 * 8, 6656] S8x1536.size
def zf : F .f32 := Scalar.ofBits .f32 0x00000000#32
def HT (e : ℕ) : FVec F S16x1536 .f32 := k0_pay28 (V470 I e) (V475 I e) (k0_pay26 (wd e)) zf
def HV (e : ℕ) : S16x8192.Idx → Elt F .f32 :=
  put (s := S16x8192) (tiled (s := S16x8192) S16x1664.size (by decide) (fun q => k0_pay23 (HB I e (q 1)))) ![0, 6656] S16x1536.size (HT I e)
def V526 (e : ℕ) : FVec F S16x1 .f32 := k0_pay29 (CX I e 4) (V470 I e) (V475 I e) (k0_pay26 (wd e)) zf
def V527 : IVec S16x256 32 := iota .tc S16x256 32 [1] iota_S16x256_d1_w32
def V556 (e : ℕ) : FVec F S16x1 .f32 := k0_pay31 (V526 I e) V527 23#32
def V566 (e : ℕ) : FVec F S8x1 .f32 := k0_pay36 (V526 I e) V527 23#32

/-- The hidden codes: as the second product reads them, and as they are returned. -/
def HQ (e : ℕ) : S32x8192.Idx → Elt F .fp8e4m3 := tiled (s := S32x8192) S32x1024.size (by decide)
  (fun q => k0_pay33 (V526 I e) V527 23#32 (slc (HV I e) ![0, q 1 * 1024] S16x1024.size))
def HC (e : ℕ) : S2x8x8192.Idx → Elt F .fp8e4m3 := tiled (s := S2x8x8192) S1x8x1024.size (by decide)
  (fun q => if q 0 = 0 then k0_pay34 (V526 I e) V527 23#32 (slc (HV I e) ![0, q 2 * 1024] S16x1024.size)
    else k0_pay35 (V526 I e) V527 23#32 (slc (HV I e) ![0, q 2 * 1024] S16x1024.size))
def HCW (b e : ℕ) : S1x1x8x8192.Idx → Elt F .fp8e4m3 := fun i => slc (HC I e) ![b, 0, 0] S1x8x8192.size (Shape.reshapeEquiv (s := S1x8x8192) (s' := S1x1x8x8192) (by decide) i)
def HCV : S2x16x8x8192.Idx → Elt F .fp8e4m3 := tiled (s := S2x16x8x8192) S1x1x8x8192.size (by decide) (fun q => HCW I (q 0) (q 1))
def HSC : S2x128x128.Idx → Elt F .f32 := tiled (s := S2x128x128) S1x8x128.size (by decide)
  (fun q => if q 0 = 0 then k0_pay37 (V566 I (q 1)) else k0_pay38 (V556 I (q 1)))

/-- The experts' outputs. -/
def YB (b e f : ℕ) : FVec F S1x8x256 .f32 :=
  if b = 0 then k0_pay7 (wd e) (V556 I e) (slc I.W2 ![e, 0, f * 256] S1x8192x256.size) (slc (HQ I e) ![0, 0] S32x8192.size) (slc I.W2S ![e / 8 * 8, f * 256] S8x256.size)
  else k0_pay39 (k0_pay8 (wd e) (V556 I e) (slc I.W2 ![e, 0, f * 256] S1x8192x256.size) (slc (HQ I e) ![0, 0] S32x8192.size) (slc I.W2S ![e / 8 * 8, f * 256] S8x256.size))
def YT (b e : ℕ) : FVec F S1x8x128 .f32 :=
  if b = 0 then k0_pay41 (wd e) (V556 I e) (T2V I e) (slc (HQ I e) ![0, 0] S32x8192.size) (slc I.W2S ![e / 8 * 8, 1536] S8x128.size)
  else k0_pay42 (wd e) (V556 I e) (T2V I e) (slc (HQ I e) ![0, 0] S32x8192.size) (slc I.W2S ![e / 8 * 8, 1536] S8x128.size)
def YV : S2x128x1664.Idx → Elt F .f32 := fun i =>
  if (i 2).val < 1536 then tiled (s := S2x128x1664) S1x8x256.size (by decide) (fun q => YB I (q 0) (q 1) (q 2)) i
  else tiled (s := S2x128x1664) S1x8x128.size (by decide) (fun q => YT I (q 0) (q 1)) i
def ZB (b f : ℕ) : FVec F S1x128x256 .bf16 := k0_pay2 (slc (YV I) ![b, 0, f * 256] S1x128x256.size)
def ZT (b : ℕ) : FVec F S1x128x128 .bf16 := k0_pay72 (slc (YV I) ![b, 0, 1536] S1x128x128.size)
def ZV : S2x128x1664.Idx → Elt F .bf16 := fun i =>
  if (i 2).val < 1536 then tiled (s := S2x128x1664) S1x128x256.size (by decide) (fun q => ZB I (q 0) (q 2)) i
  else tiled (s := S2x128x1664) S1x128x128.size (by decide) (fun q => ZT I (q 0)) i

/-- The tokens' outputs. -/
def OB (b f k : ℕ) : FVec F S1x512x256 .bf16 :=
  if h : k < k0_t17_loop.trips then k0_pay3 (ZB I b f) ⟨k, h⟩ (slc (CMV I) ![b, k * 512, 0] S1x512x128.size) (len I b) else fun _ => Classical.arbitrary _
def OT (b k : ℕ) : FVec F S1x512x128 .bf16 :=
  if h : k < k0_t19_loop.trips then k0_pay73 (ZT I b) ⟨k, h⟩ (slc (CMV I) ![b, k * 512, 0] S1x512x128.size) (len I b) else fun _ => Classical.arbitrary _
def OV : S2x2048x1664.Idx → Elt F .bf16 := fun i =>
  if (i 2).val < 1536 then tiled (s := S2x2048x1664) S1x512x256.size (by decide) (fun q => OB I (q 0) (q 2) (q 1)) i
  else tiled (s := S2x2048x1664) S1x512x128.size (by decide) (fun q => OT I (q 0) (q 1)) i

/-- The scales, one per slot. -/
def SSV : S2x16x8.Idx → Elt F .f32 := tiled (s := S2x16x8) S1x16x8.size (by decide)
  (fun q => if q 0 = 0 then k0_pay78 (slc (SSC I) ![0, 0, 0] S1x128x128.size) else k0_pay81 k0_pay77 (k0_pay79 (slc (SSC I) ![1, 0, 0] S1x128x128.size)) k0_pay80)
def HSV : S2x16x8.Idx → Elt F .f32 := tiled (s := S2x16x8) S1x16x8.size (by decide)
  (fun q => if q 0 = 0 then k0_pay82 k0_pay77 (slc (HSC I) ![0, 0, 0] S1x128x128.size) else k0_pay83 k0_pay77 (slc (HSC I) ![1, 0, 0] S1x128x128.size))

/-! ## Reading their boxes -/

/-- Checks on three coordinates. -/
theorem all3 {P : Fin 3 → Prop} (h0 : P 0) (h1 : P 1) (h2 : P 2) : ∀ a, P a := fun a => by fin_cases a; exacts [h0, h1, h2]
theorem all2 {P : Fin 2 → Prop} (h0 : P 0) (h1 : P 1) : ∀ a, P a := fun a => by fin_cases a; exacts [h0, h1]
theorem all4 {P : Fin 4 → Prop} (h0 : P 0) (h1 : P 1) (h2 : P 2) (h3 : P 3) : ∀ a, P a := fun a => by fin_cases a; exacts [h0, h1, h2, h3]

theorem lgv_slc {b t : ℕ} (hb : b < 2) (ht : t < 4) : slc (LGV I) ![b, 512 * t, 0] S1x512x128.size = LGB I b t :=
  slc_tiled (s := S2x2048x128) ![b, t, 0] (all3 (show b = b * 1 by omega) (show 512 * t = t * 512 by omega) (show 0 = 0 * 128 by omega))
    (all3 (show b + 1 ≤ 2 by omega) (show 512 * t + 512 ≤ 2048 by omega) (show 0 + 128 ≤ 128 by omega))
theorem xsv_slc {b : ℕ} (hb : b < 2) : slc (XSV I) ![b, 0, 0] S1x128x1664.size = SX I b (nb I b) :=
  slc_tiled (s := S2x128x1664) ![b, 0, 0] (all3 (show b = b * 1 by omega) (show 0 = 0 * 128 by omega) (show 0 = 0 * 1664 by omega))
    (all3 (show b + 1 ≤ 2 by omega) (show 0 + 128 ≤ 128 by omega) (show 0 + 1664 ≤ 1664 by omega))
theorem scv_slc {b e : ℕ} (hb : b < 2) (he : e < 16) : slc (SCV I) ![b, e, 0, 0] S1x1x8x1664.size = if b = 0 then k0_pay15 (V371 I e) (V399 I e) else k0_pay17 (V371 I e) (V399 I e) :=
  slc_tiled (s := S2x16x8x1664) ![b, e, 0, 0] (all4 (show b = b * 1 by omega) (show e = e * 1 by omega) (show 0 = 0 * 8 by omega) (show 0 = 0 * 1664 by omega))
    (all4 (show b + 1 ≤ 2 by omega) (show e + 1 ≤ 16 by omega) (show 0 + 8 ≤ 8 by omega) (show 0 + 1664 ≤ 1664 by omega))
theorem ssc_slc {b e : ℕ} (hb : b < 2) (he : e < 16) : slc (SSC I) ![b, e * 8, 0] S1x8x128.size = if b = 0 then k0_pay16 (V401 I e) 23#32 else k0_pay19 (k0_pay18 (V401 I e) 23#32) :=
  slc_tiled (s := S2x128x128) ![b, e, 0] (all3 (show b = b * 1 by omega) (show e * 8 = e * 8 by omega) (show 0 = 0 * 128 by omega))
    (all3 (show b + 1 ≤ 2 by omega) (show e * 8 + 8 ≤ 128 by omega) (show 0 + 128 ≤ 128 by omega))
theorem hsc_slc {b e : ℕ} (hb : b < 2) (he : e < 16) : slc (HSC I) ![b, e * 8, 0] S1x8x128.size = if b = 0 then k0_pay37 (V566 I e) else k0_pay38 (V556 I e) :=
  slc_tiled (s := S2x128x128) ![b, e, 0] (all3 (show b = b * 1 by omega) (show e * 8 = e * 8 by omega) (show 0 = 0 * 128 by omega))
    (all3 (show b + 1 ≤ 2 by omega) (show e * 8 + 8 ≤ 128 by omega) (show 0 + 128 ≤ 128 by omega))
theorem cmv_slc {e : ℕ} (he : e < 16) : slc (CMV I) ![e * 256 / 2048, e * 256 % 2048, 0] S1x256x128.size = CMB I e :=
  (slc_tiled (s := S2x2048x128) ![e / 8, e % 8, 0] (all3 (show e * 256 / 2048 = e / 8 * 1 by omega) (show e * 256 % 2048 = e % 8 * 256 by omega) (show 0 = 0 * 128 by omega))
    (all3 (show e * 256 / 2048 + 1 ≤ 2 by omega) (show e * 256 % 2048 + 256 ≤ 2048 by omega) (show 0 + 128 ≤ 128 by omega))).trans
    (congrArg (CMB I) (show e / 8 * 8 + e % 8 = e by omega))
theorem hv_slc {e j : ℕ} (hj : j < 4) : slc (HV I e) ![0, j * 1664] S16x1664.size = k0_pay23 (HB I e j) :=
  (slc_put_ne _ _ 1 (Or.inr (show j * 1664 + 1664 ≤ 6656 by omega))).trans
    (slc_tiled (s := S16x8192) ![0, j] (all2 (show 0 = 0 * 16 by omega) (show j * 1664 = j * 1664 by omega)) (all2 (show 0 + 16 ≤ 16 by omega) (show j * 1664 + 1664 ≤ 8192 by omega)))
theorem hv_slc_tail {e : ℕ} : slc (HV I e) ![0, 6656] S16x1536.size = HT I e :=
  slc_put _ _ (all2 (show 0 + 16 ≤ 16 by omega) (show 6656 + 1536 ≤ 8192 by omega))
theorem hq_slc {e k : ℕ} (hk : k < 8) : slc (HQ I e) ![0, k * 1024] S32x1024.size = k0_pay33 (V526 I e) V527 23#32 (slc (HV I e) ![0, k * 1024] S16x1024.size) :=
  slc_tiled (s := S32x8192) ![0, k] (all2 (show 0 = 0 * 32 by omega) (show k * 1024 = k * 1024 by omega)) (all2 (show 0 + 32 ≤ 32 by omega) (show k * 1024 + 1024 ≤ 8192 by omega))
theorem hc_slc {e b k : ℕ} (hb : b < 2) (hk : k < 8) : slc (HC I e) ![b, 0, k * 1024] S1x8x1024.size = if b = 0 then k0_pay34 (V526 I e) V527 23#32 (slc (HV I e) ![0, k * 1024] S16x1024.size)
    else k0_pay35 (V526 I e) V527 23#32 (slc (HV I e) ![0, k * 1024] S16x1024.size) :=
  slc_tiled (s := S2x8x8192) ![b, 0, k] (all3 (show b = b * 1 by omega) (show 0 = 0 * 8 by omega) (show k * 1024 = k * 1024 by omega))
    (all3 (show b + 1 ≤ 2 by omega) (show 0 + 8 ≤ 8 by omega) (show k * 1024 + 1024 ≤ 8192 by omega))
theorem hcv_slc {b e : ℕ} (hb : b < 2) (he : e < 16) : slc (HCV I) ![b, e, 0, 0] S1x1x8x8192.size = HCW I b e :=
  slc_tiled (s := S2x16x8x8192) ![b, e, 0, 0] (all4 (show b = b * 1 by omega) (show e = e * 1 by omega) (show 0 = 0 * 8 by omega) (show 0 = 0 * 8192 by omega))
    (all4 (show b + 1 ≤ 2 by omega) (show e + 1 ≤ 16 by omega) (show 0 + 8 ≤ 8 by omega) (show 0 + 8192 ≤ 8192 by omega))
theorem yv_slc {b e f : ℕ} (hb : b < 2) (he : e < 16) (hf : f < 6) : slc (YV I) ![b, e * 8, f * 256] S1x8x256.size = YB I b e f :=
  (slc_congr fun i hi => if_pos (by have h2 : f * 256 ≤ (i 2).val ∧ (i 2).val < f * 256 + 256 := mem_bx.mp hi 2; omega)).trans
    (slc_tiled (s := S2x128x1664) ![b, e, f] (all3 (show b = b * 1 by omega) (show e * 8 = e * 8 by omega) (show f * 256 = f * 256 by omega))
      (all3 (show b + 1 ≤ 2 by omega) (show e * 8 + 8 ≤ 128 by omega) (show f * 256 + 256 ≤ 1664 by omega)))
theorem yv_slc_tail {b e : ℕ} (hb : b < 2) (he : e < 16) : slc (YV I) ![b, e * 8, 1536] S1x8x128.size = YT I b e :=
  (slc_congr fun i hi => if_neg (by have h2 : 1536 ≤ (i 2).val ∧ (i 2).val < 1536 + 128 := mem_bx.mp hi 2; omega)).trans
    (slc_tiled (s := S2x128x1664) ![b, e, 12] (all3 (show b = b * 1 by omega) (show e * 8 = e * 8 by omega) (show 1536 = 12 * 128 by omega))
      (all3 (show b + 1 ≤ 2 by omega) (show e * 8 + 8 ≤ 128 by omega) (show 1536 + 128 ≤ 1664 by omega)))
theorem zv_slc {b f : ℕ} (hb : b < 2) (hf : f < 6) : slc (ZV I) ![b, 0, f * 256] S1x128x256.size = ZB I b f :=
  (slc_congr fun i hi => if_pos (by have h2 : f * 256 ≤ (i 2).val ∧ (i 2).val < f * 256 + 256 := mem_bx.mp hi 2; omega)).trans
    (slc_tiled (s := S2x128x1664) ![b, 0, f] (all3 (show b = b * 1 by omega) (show 0 = 0 * 128 by omega) (show f * 256 = f * 256 by omega))
      (all3 (show b + 1 ≤ 2 by omega) (show 0 + 128 ≤ 128 by omega) (show f * 256 + 256 ≤ 1664 by omega)))
theorem zv_slc_tail {b : ℕ} (hb : b < 2) : slc (ZV I) ![b, 0, 1536] S1x128x128.size = ZT I b :=
  (slc_congr fun i hi => if_neg (by have h2 : 1536 ≤ (i 2).val ∧ (i 2).val < 1536 + 128 := mem_bx.mp hi 2; omega)).trans
    (slc_tiled (s := S2x128x1664) ![b, 0, 12] (all3 (show b = b * 1 by omega) (show 0 = 0 * 128 by omega) (show 1536 = 12 * 128 by omega))
      (all3 (show b + 1 ≤ 2 by omega) (show 0 + 128 ≤ 128 by omega) (show 1536 + 128 ≤ 1664 by omega)))
theorem ov_slc {b f k : ℕ} (hb : b < 2) (hf : f < 6) (hk : k < 4) : slc (OV I) ![b, k * 512, f * 256] S1x512x256.size = OB I b f k :=
  (slc_congr fun i hi => if_pos (by have h2 : f * 256 ≤ (i 2).val ∧ (i 2).val < f * 256 + 256 := mem_bx.mp hi 2; omega)).trans
    (slc_tiled (s := S2x2048x1664) ![b, k, f] (all3 (show b = b * 1 by omega) (show k * 512 = k * 512 by omega) (show f * 256 = f * 256 by omega))
      (all3 (show b + 1 ≤ 2 by omega) (show k * 512 + 512 ≤ 2048 by omega) (show f * 256 + 256 ≤ 1664 by omega)))
theorem ov_slc_tail {b k : ℕ} (hb : b < 2) (hk : k < 4) : slc (OV I) ![b, k * 512, 1536] S1x512x128.size = OT I b k :=
  (slc_congr fun i hi => if_neg (by have h2 : 1536 ≤ (i 2).val ∧ (i 2).val < 1536 + 128 := mem_bx.mp hi 2; omega)).trans
    (slc_tiled (s := S2x2048x1664) ![b, k, 12] (all3 (show b = b * 1 by omega) (show k * 512 = k * 512 by omega) (show 1536 = 12 * 128 by omega))
      (all3 (show b + 1 ≤ 2 by omega) (show k * 512 + 512 ≤ 2048 by omega) (show 1536 + 128 ≤ 1664 by omega)))
theorem ssv_slc {b : ℕ} (hb : b < 2) : slc (SSV I) ![b, 0, 0] S1x16x8.size = if b = 0 then k0_pay78 (slc (SSC I) ![0, 0, 0] S1x128x128.size) else k0_pay81 k0_pay77 (k0_pay79 (slc (SSC I) ![1, 0, 0] S1x128x128.size)) k0_pay80 :=
  slc_tiled (s := S2x16x8) ![b, 0, 0] (all3 (show b = b * 1 by omega) (show 0 = 0 * 16 by omega) (show 0 = 0 * 8 by omega))
    (all3 (show b + 1 ≤ 2 by omega) (show 0 + 16 ≤ 16 by omega) (show 0 + 8 ≤ 8 by omega))
theorem hsv_slc {b : ℕ} (hb : b < 2) : slc (HSV I) ![b, 0, 0] S1x16x8.size = if b = 0 then k0_pay82 k0_pay77 (slc (HSC I) ![0, 0, 0] S1x128x128.size) else k0_pay83 k0_pay77 (slc (HSC I) ![1, 0, 0] S1x128x128.size) :=
  slc_tiled (s := S2x16x8) ![b, 0, 0] (all3 (show b = b * 1 by omega) (show 0 = 0 * 16 by omega) (show 0 = 0 * 8 by omega))
    (all3 (show b + 1 ≤ 2 by omega) (show 0 + 16 ≤ 16 by omega) (show 0 + 8 ≤ 8 by omega))

theorem pay5_eq (v k a l) : k0_pay5 (F := F) v k a l = k0_pay3 v k a l := rfl
theorem pay4_eq (v) : k0_pay4 (F := F) v = k0_pay2 v := rfl
theorem pay76_eq (v k a l) : k0_pay76 (F := F) v k a l = k0_pay73 v k a l := rfl
theorem pay75_eq (v) : k0_pay75 (F := F) (k0_pay74 v) = k0_pay72 v := rfl

end Cert.KernelIdeal.Hand

end
-- ==== Proof.KernelIdeal.Experts1.lean ====
/-
  An expert's turn: its inputs quantised, the combine weights, the hidden layer.
-/
module

public import proofs.«01_k».proof.Proof.KernelIdeal.Vals

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (UU nD τ) ℕ

variable (I : Inp F)

/-! ## Buffers known in part -/

section
variable {sp : Space} {cs : CoreSpace} {s : Shape} {e : EltTy}

/-- The whole of `M`, known to be `V` where `P` holds. -/
def Ag (c : Dev nD) (M : Memref sig .tc sp s e) (P : s.Idx → Prop) (V : s.Idx → Elt F e) : sProp 𝕄 :=
  iprop(∃ G : s.Idx → Elt F e, ⌜Agree P G V⌝ ∗ At (F := F) c M Finset.univ fullShare G)

theorem ag_of_any (c : Dev nD) (M : Memref sig .tc sp s e) {P : s.Idx → Prop} {V : s.Idx → Elt F e} (h : ∀ i, ¬ P i) :
    Any c M Finset.univ ⊢ (Ag (F := F) c M P V : sProp 𝕄) := by
  unfold Any Ag; iintro ⟨%v, H⟩; iexists v
  isplitr; · ipureintro; exact fun i hi => absurd hi (h i)
  iexact H

theorem any_of_ag (c : Dev nD) (M : Memref sig .tc sp s e) {P : s.Idx → Prop} {V : s.Idx → Elt F e} :
    Ag c M P V ⊢ (Any (F := F) c M Finset.univ : sProp 𝕄) := by
  unfold Any Ag; iintro ⟨%v, -, H⟩; iexists v; iexact H

theorem at_of_ag (c : Dev nD) (M : Memref sig .tc sp s e) {P : s.Idx → Prop} {V : s.Idx → Elt F e} (h : ∀ i, P i) :
    Ag c M P V ⊢ (At (F := F) c M Finset.univ fullShare V : sProp 𝕄) := by
  unfold Ag; iintro ⟨%v, %hv, H⟩
  ihave H := (entails_of_eq (at_congr c M fullShare (fun i _ => hv i (h i)))) $$ H
  iexact H

theorem ag_mono (c : Dev nD) (M : Memref sig .tc sp s e) {P P' : s.Idx → Prop} {V V' : s.Idx → Elt F e} (h : ∀ i, P' i → P i ∧ V i = V' i) :
    Ag c M P V ⊢ (Ag (F := F) c M P' V' : sProp 𝕄) := by
  unfold Ag; iintro ⟨%v, %hv, H⟩; iexists v
  isplitr; · ipureintro; exact fun i hi => (hv i (h i hi).1).trans (h i hi).2
  iexact H

/-- A load of a box that is known. -/
theorem ag_load (c : Dev nD) {M : Memref sig .tc cs s e} {P : s.Idx → Prop} {V : s.Idx → Elt F e}
    {off size : Fin s.rank → Nat} {h : ∀ a, off a + size a ≤ s.size a} {hl} {α : Type}
    {k : ((⟨s.rank, size⟩ : Shape).Idx → Elt F e) → Prog (TpuEff nD τ sig (Elt F) Λ₀ .tc) α} {Q : α → sProp 𝕄}
    (hP : ∀ i : s.Idx, (∀ a, off a ≤ (i a).val ∧ (i a).val < off a + size a) → P i) :
    (Ag c M P V : sProp 𝕄) ⊢ iprop((Ag c M P V -∗ WP c (k (slc V off size)) Q)
      -∗ WP c (.op (.load M (Rect.unit (s := s) off size h).toLoadRect hl) k) Q) := by
  unfold Ag; iintro ⟨%G, %hG, H⟩ Hk
  iapply (wp_load_all c) $$ H
  iintro H
  rw [agree_slc hG hP]
  iapply Hk
  iexists G
  isplitr; · ipureintro; exact hG
  iexact H

/-- A load whose value is not needed. -/
theorem ag_skim (c : Dev nD) {M : Memref sig .tc cs s e} {P : s.Idx → Prop} {V : s.Idx → Elt F e}
    {off size : Fin s.rank → Nat} {h : ∀ a, off a + size a ≤ s.size a} {hl} {α : Type}
    {k : ((⟨s.rank, size⟩ : Shape).Idx → Elt F e) → Prog (TpuEff nD τ sig (Elt F) Λ₀ .tc) α} {Q : α → sProp 𝕄} :
    (Ag c M P V : sProp 𝕄) ⊢ iprop((∀ x, Ag c M P V -∗ WP c (k x) Q)
      -∗ WP c (.op (.load M (Rect.unit (s := s) off size h).toLoadRect hl) k) Q) := by
  unfold Ag; iintro ⟨%G, %hG, H⟩ Hk
  iapply (wp_load_all c) $$ H
  iintro H
  iapply Hk
  iexists G
  isplitr; · ipureintro; exact hG
  iexact H

/-- A store of what `V` has there. -/
theorem ag_store (c : Dev nD) {M : Memref sig .tc cs s e} {P : s.Idx → Prop} {V : s.Idx → Elt F e} (P' : s.Idx → Prop)
    {off size : Fin s.rank → Nat} {h : ∀ a, off a + size a ≤ s.size a} {w : (⟨s.rank, size⟩ : Shape).Idx → Elt F e} {hx hm} {α : Type}
    {k : PUnit → Prog (TpuEff nD τ sig (Elt F) Λ₀ .tc) α} {Q : α → sProp 𝕄} (hne : Nonempty (Elt F e)) (hw : w = slc V off size)
    (hP : ∀ i : s.Idx, P' i → P i ∨ ∀ a, off a ≤ (i a).val ∧ (i a).val < off a + size a) :
    (Ag c M P V : sProp 𝕄) ⊢ iprop((Ag c M P' V -∗ WP c (k ⟨⟩) Q)
      -∗ WP c (.op (.store M (Rect.unit (s := s) off size h) w Finset.univ hx hm) k) Q) := by
  unfold Ag; iintro ⟨%G, %hG, H⟩ Hk
  iapply (wp_put_all c) $$ H
  iintro H
  iapply Hk
  iexists _
  isplitr
  rotate_left
  · iexact H
  ipureintro
  exact agree_put P' hG h hw hP
end

/-- A program run before another. -/
theorem wp_seq (c : Dev nD) {α β : Type} {p : Prog (TpuEff nD τ sig (Elt F) Λ₀ .tc) α} {k : α → Prog (TpuEff nD τ sig (Elt F) Λ₀ .tc) β} {Q : β → sProp 𝕄} :
    WP (F := F) c p (fun a => WP c (k a) Q) ⊢ WP (F := F) c (p >>= k) Q := by rw [WP_bind]

/-- A result given under another name. -/
theorem WP_ret (c : Dev nD) {α : Type} {a : α} (a' : α) (h : a = a') {Q : α → sProp 𝕄} : Q a' ⊢ WP (F := F) c (pure a) Q := by
  rw [← h]; exact WP_pure c a Q

/-! ## Slots of the weights during an expert's turn -/

/-- Slot `j` once expert `e`'s chunk has been used. -/
def W1N (c : Dev nD) (e : ℕ) (j : Fin 4) : sProp 𝕄 := if e = 15 then W1P I c j else W1F I c (e + 1) j
def W1s (c : Dev nD) (e k : ℕ) : sProp 𝕄 := bigSep Finset.univ (fun j : Fin 4 => if j.val < k then W1N I c e j else W1F I c e j)
theorem W1s_take (c : Dev nD) (e k : ℕ) (hk : k < 4) :
    W1s I c e k ⊢ iprop(W1F I c e ⟨k, hk⟩ ∗ (W1N I c e ⟨k, hk⟩ -∗ W1s I c e (k + 1))) := by
  have h := bigSep_univ_update (Φ := fun t : Fin 4 => if t.val < k then W1N I c e t else W1F I c e t)
    (Ψ := fun t : Fin 4 => if t.val < k + 1 then W1N I c e t else W1F I c e t) ⟨k, hk⟩ (fun j hj => by
      have : j.val ≠ k := fun e => hj (Fin.ext e)
      by_cases h1 : j.val < k
      · rw [if_pos h1, if_pos (by omega)]
      · rw [if_neg h1, if_neg (by omega)])
  dsimp only at h
  rw [if_neg (Nat.lt_irrefl k), if_pos (Nat.lt_succ_self k)] at h
  exact h

def T1N (c : Dev nD) (e : ℕ) : sProp 𝕄 := if e = 15 then T1P I c else T1F I c (e + 1)

/-! ## The hidden layer -/

theorem part1_wp (c : Dev nD) (e : Fin k0_t13_loop.trips) (j : Fin k0_t14_loop.trips) (hj : j.val < 4) {Q : _ → sProp 𝕄} :
    iprop(Owe c ∗ At c A17 Finset.univ fullShare I.W1S ∗ W1F I c e.val ⟨j.val, hj⟩ ∗ Ag c A24 (fun i => (i 1).val < 1664 * j.val) (HV I e.val))
    ⊢ iprop((∀ x, iprop(Owe c ∗ At c A17 Finset.univ fullShare I.W1S ∗ W1P I c ⟨j.val, hj⟩ ∗ Ag c A24 (fun i => (i 1).val < 1664 * j.val) (HV I e.val))
        -∗ Q ⟨wd j.val, HB I e.val j.val, x⟩) -∗ WP c (P1 (F := F) e (wd e.val) (V404 I e.val) (V418 I e.val) 0#32 1#32 j) Q) := by
  simp only [P1, k0_part1_eq_skeleton, k0_part1_skel, Prog.lift, Prog.bind_op, Prog.bind_ret]
  iintro ⟨HO, HW, HF, HG⟩ Hk
  unfold W1F
  iapply (wp_wait_at c (sem35 _ _ _ (Fin.castLE (by decide) (⟨j.val, hj⟩ : Fin 4)) (off39_eq j)) N15 rfl) $$ [HF HO]
  · isplitl [HF]; · iexact HF
    iexact HO
  unfold Win
  iintro ⟨⟨⟨%u, %hu, HF⟩, HT⟩, HC, HO⟩
  iapply (wp_load_bx c (by rw [off42_eq])) $$ HF
  iintro HF
  iapply (wp_load_all c) $$ HW
  iintro HW
  iapply (ag_skim c) $$ HG
  iintro %x HG
  have e1 : slc u (k0_off42 j) S1x1664x1664.size = slc I.W1 ![e.val, 0, j.val * 1664] S1x1664x1664.size := by rw [off42_eq]; exact hu
  have e2 : slc I.W1S (k0_off43 e j) S8x1664.size = slc I.W1S ![e.val / 8 * 8, j.val * 1664] S8x1664.size := by rw [off43_eq]
  rw [e1, e2]
  iapply (WP_ret c ⟨wd j.val, HB I e.val j.val, x⟩ ?_)
  · rfl
  iapply Hk
  isplitl [HO]; · iexact HO
  isplitl [HW]; · iexact HW
  isplitl [HF HT HC]
  · unfold W1P
    isplitl [HT]; · iexact HT
    isplitl [HF]
    · iapply (any_of c _ _ u) $$ HF
    iexact HC
  iexact HG

theorem t14_wp (c : Dev nD) (e : Fin k0_t13_loop.trips) (v362 : BitVec 1) (v440 : FVec F S8x128 .f32) {β : Type}
    {k : _ → Prog (TpuEff nD τ sig (Elt F) Λ₀ .tc) β} {Q : β → sProp 𝕄} :
    iprop(Owe c ∗ At c A17 Finset.univ fullShare I.W1S ∗ W1s I c e.val 0 ∗ Any c A24 Finset.univ)
    ⊢ iprop((iprop(Owe c ∗ At c A17 Finset.univ fullShare I.W1S ∗ W1s I c e.val 4 ∗ Ag c A24 (fun i => (i 1).val < 6656) (HV I e.val)) -∗ WP c (k (CX I e.val 4)) Q)
      -∗ WP c (Scf.Loop.for k0_t14_loop k0_t14_ok (k0_pay22 (F := F)) (B14 (F := F) e (wd e.val) v362 (V404 I e.val) (V418 I e.val) v440) >>= k) Q) := by
  iintro ⟨HO, HW, HF, HG⟩ Hk
  iapply (WP_for c _ _ _ _ (fun k m => iprop(⌜CX I e.val k = m⌝ ∗ Owe c ∗ At c A17 Finset.univ fullShare I.W1S ∗ W1s I c e.val k ∗ Ag c A24 (fun i => (i 1).val < 1664 * k) (HV I e.val))) ?_) $$ [HO HW HF HG]
  rotate_left
  · isplitr; · ipureintro; rfl
    isplitl [HO]; · iexact HO
    isplitl [HW]; · iexact HW
    isplitl [HF]; · iexact HF
    iapply (ag_of_any c A24 (fun i => by omega)) $$ HG
  · rw [trips14]
    iintro %acc ⟨%e, H⟩
    subst e
    iapply Hk $$ H
  intro j acc
  have hj : j.val < 4 := trips14 ▸ j.isLt
  simp only [B14, k0_t14_body, Prog.lift, Prog.bind_op, Prog.bind_ret]
  iintro ⟨%ea, HO, HW, HF, HG⟩
  subst ea
  ihave HF := (W1s_take I c e.val j.val hj) $$ HF
  icases HF with ⟨HF, HN⟩
  iapply (wp_seq c)
  iapply (part1_wp I c e j hj) $$ [HO HW HF HG]
  · isplitl [HO]; · iexact HO
    isplitl [HW]; · iexact HW
    isplitl [HF]; · iexact HF
    iexact HG
  iintro %x ⟨HO, HW, HF, HG⟩
  iapply (ag_store c (fun i => (i 1).val < 1664 * (j.val + 1)) ne_f32 ?_ ?_) $$ HG
  · rw [off44_eq]; exact (hv_slc I hj).symm
  · rw [off44_eq]
    intro i hi
    by_cases h : (i 1).val < 1664 * j.val
    · exact Or.inl h
    · refine Or.inr (all2 ⟨Nat.zero_le _, ?_⟩ ⟨?_, ?_⟩)
      · show _ < 0 + 16; have : (i 0).val < 16 := (i 0).isLt; omega
      · show j.val * 1664 ≤ _; omega
      · show _ < j.val * 1664 + 1664; omega
  iintro HG
  split
  · rename_i hc
    have he := (cond11_iff e).mp hc
    iapply (W1_start I c (e.val + 1) ⟨j.val, hj⟩ (off47_eq e j) (off46_eq j) (sem35 _ _ _ (Fin.castLE (by decide) (⟨j.val, hj⟩ : Fin 4)) (off45_eq j))) $$ HF
    iintro HF
    iapply WP_pure
    isplitr; · ipureintro; rfl
    isplitl [HO]; · iexact HO
    isplitl [HW]; · iexact HW
    isplitl [HF HN]
    · iapply HN
      unfold W1N; rw [if_neg he]; iexact HF
    iexact HG
  · rename_i hc
    have he : e.val = 15 := by by_contra h; exact hc ((cond11_iff e).mpr h)
    iapply WP_pure
    isplitr; · ipureintro; rfl
    isplitl [HO]; · iexact HO
    isplitl [HW]; · iexact HW
    isplitl [HF HN]
    · iapply HN
      unfold W1N; rw [if_pos he]; iexact HF
    iexact HG

theorem part7_wp (c : Dev nD) (e : Fin k0_t13_loop.trips) (v362 : BitVec 1) {Q : _ → sProp 𝕄} :
    iprop(T1P I c ∗ Ag c A24 (fun i => (i 1).val < 6656) (HV I e.val))
    ⊢ iprop((iprop(T1N I c e.val ∗ At c A24 Finset.univ fullShare (HV I e.val)) -∗ Q ⟨V526 I e.val, V527, 23#32⟩)
       -∗ WP c (P7 (F := F) e (wd e.val) v362 (CX I e.val 4) (V470 I e.val) (V475 I e.val) (k0_pay26 (wd e.val)) zf) Q) := by
  simp only [P7, k0_part7_eq_skeleton, k0_part7_skel, Prog.lift, Prog.bind_op, Prog.bind_ret]
  iintro ⟨HT, HG⟩ Hk
  iapply (ag_skim c) $$ HG
  iintro %x HG
  iapply (ag_store c (fun i => True) ne_f32 ?_ ?_) $$ HG
  · exact (hv_slc_tail I).symm
  · intro i hi
    by_cases h : (i 1).val < 6656
    · exact Or.inl h
    · refine Or.inr (all2 ⟨Nat.zero_le _, ?_⟩ ⟨?_, ?_⟩)
      · show _ < 0 + 16; have : (i 0).val < 16 := (i 0).isLt; omega
      · show 6656 ≤ _; omega
      · exact (i 1).isLt
  iintro HG
  ihave HG := (at_of_ag c A24 (fun _ => trivial)) $$ HG
  split
  · rename_i hc
    have he := (cond12_iff e).mp hc
    iapply (T1_start I c (e.val + 1) (off50_eq e) (sem35 _ _ _ 4 rfl)) $$ HT
    iintro HT
    iapply (WP_ret c ⟨V526 I e.val, V527, 23#32⟩ ?_)
    · rfl
    iapply Hk
    isplitl [HT]
    · unfold T1N; rw [if_neg he]; iexact HT
    iexact HG
  · rename_i hc
    have he : e.val = 15 := by by_contra h; exact hc ((cond12_iff e).mpr h)
    iapply (WP_ret c ⟨V526 I e.val, V527, 23#32⟩ ?_)
    · rfl
    iapply Hk
    isplitl [HT]
    · unfold T1N; rw [if_pos he]; iexact HT
    iexact HG

/-! ## An expert's quantised inputs -/

theorem part4_wp (c : Dev nD) (e : Fin k0_t13_loop.trips) {Q : _ → sProp 𝕄} :
    (At c A23 Finset.univ fullShare (XSV I) : sProp 𝕄)
    ⊢ iprop((At c A23 Finset.univ fullShare (XSV I) -∗ Q ⟨wd e.val, Scalar.cmpi .eq (wd e.val) 15#32, Scalar.muli (wd e.val) 8#32, V371 I e.val, V399 I e.val, V401 I e.val, 23#32⟩)
       -∗ WP c (P4 (F := F) 0#32 1#32 e) Q) := by
  simp only [P4, k0_part4_eq_skeleton, k0_part4_skel, Prog.lift, Prog.bind_op, Prog.bind_ret]
  iintro HG Hk
  iapply (wp_load_all c) $$ HG
  iintro HG
  iapply (wp_load_all c) $$ HG
  iintro HG
  rw [off29_eq, off30_eq]
  iapply (WP_ret c ⟨wd e.val, Scalar.cmpi .eq (wd e.val) 15#32, Scalar.muli (wd e.val) 8#32, V371 I e.val, V399 I e.val, V401 I e.val, 23#32⟩ ?_)
  · rfl
  iapply Hk $$ HG

/-- Rows below `n`, of both batches. -/
abbrev rows (n : ℕ) : S2x16x8x1664.Idx → Prop := fun i => (i 1).val < n

theorem part5_wp (c : Dev nD) (e : Fin k0_t13_loop.trips) (v364 : BitVec 32) {Q : _ → sProp 𝕄} :
    iprop(Ag c A28 (fun i => (i 1).val < e.val) (SCV I) ∗ Ag c A30 (fun i => (i 1).val < e.val * 8) (SSC I))
    ⊢ iprop((iprop(Ag c A28 (fun i => (i 1).val < e.val + 1) (SCV I) ∗ Ag c A30 (fun i => (i 1).val < e.val * 8 ∨ ((i 1).val < e.val * 8 + 8 ∧ (i 0).val = 0)) (SSC I))
        -∗ Q ⟨V404 I e.val, V418 I e.val, k0_pay18 (V401 I e.val) 23#32⟩)
       -∗ WP c (P5 (F := F) e (wd e.val) v364 (V371 I e.val) (V399 I e.val) (V401 I e.val) 23#32) Q) := by
  have he : e.val < 16 := trips13 ▸ e.isLt
  simp only [P5, k0_part5_eq_skeleton, k0_part5_skel, Prog.lift, Prog.bind_op, Prog.bind_ret]
  iintro ⟨HC, HS⟩ Hk
  iapply (ag_skim c) $$ HC
  iintro %x HC
  iapply (ag_store c (fun i => (i 1).val < e.val ∨ ((i 1).val < e.val + 1 ∧ (i 0).val = 0)) ne_fp8 ?_ ?_) $$ HC
  · rw [off31_eq]; exact (scv_slc I (b := 0) (by decide) he).symm
  · rw [off31_eq]; rintro i (hi | hi)
    · exact Or.inl hi
    by_cases h : (i 1).val < e.val
    · exact Or.inl h
    · refine Or.inr (all4 ⟨Nat.zero_le _, ?_⟩ ⟨?_, ?_⟩ ⟨Nat.zero_le _, ?_⟩ ⟨Nat.zero_le _, ?_⟩)
      · show _ < 0 + 1; omega
      · show e.val ≤ _; omega
      · show _ < e.val + 1; omega
      · show _ < 0 + 8; have : (i 2).val < 8 := (i 2).isLt; omega
      · show _ < 0 + 1664; have : (i 3).val < 1664 := (i 3).isLt; omega
  iintro HC
  iapply (ag_skim c) $$ HS
  iintro %x HS
  iapply (ag_store c (fun i => (i 1).val < e.val * 8 ∨ ((i 1).val < e.val * 8 + 8 ∧ (i 0).val = 0)) ne_f32 ?_ ?_) $$ HS
  · rw [off32_eq]; exact (ssc_slc I (b := 0) (by decide) he).symm
  · rw [off32_eq]; rintro i (hi | hi)
    · exact Or.inl hi
    by_cases h : (i 1).val < e.val * 8
    · exact Or.inl h
    · refine Or.inr (all3 ⟨Nat.zero_le _, ?_⟩ ⟨?_, ?_⟩ ⟨Nat.zero_le _, ?_⟩)
      · show _ < 0 + 1; omega
      · show e.val * 8 ≤ _; omega
      · show _ < e.val * 8 + 8; omega
      · show _ < 0 + 128; have : (i 2).val < 128 := (i 2).isLt; omega
  iintro HS
  iapply (ag_skim c) $$ HC
  iintro %x HC
  iapply (ag_store c (fun i => (i 1).val < e.val + 1) ne_fp8 ?_ ?_) $$ HC
  · rw [off33_eq]; exact (scv_slc I (b := 1) (by decide) he).symm
  · rw [off33_eq]; intro i hi
    have h0 : (i 0).val < 2 := (i 0).isLt
    by_cases h : (i 1).val < e.val ∨ ((i 1).val < e.val + 1 ∧ (i 0).val = 0)
    · exact Or.inl h
    · refine Or.inr (all4 ⟨?_, ?_⟩ ⟨?_, ?_⟩ ⟨Nat.zero_le _, ?_⟩ ⟨Nat.zero_le _, ?_⟩)
      · show 1 ≤ _; omega
      · show _ < 1 + 1; omega
      · show e.val ≤ _; omega
      · show _ < e.val + 1; omega
      · show _ < 0 + 8; have : (i 2).val < 8 := (i 2).isLt; omega
      · show _ < 0 + 1664; have : (i 3).val < 1664 := (i 3).isLt; omega
  iintro HC
  iapply (ag_skim c) $$ HS
  iintro %x HS
  iapply (WP_ret c ⟨V404 I e.val, V418 I e.val, k0_pay18 (V401 I e.val) 23#32⟩ ?_)
  · rfl
  iapply Hk
  isplitl [HC]; · iexact HC
  iexact HS

/-- The tokens of an expert's turn, against the length. -/
theorem turn_lt : ∀ e : Fin k0_t13_loop.trips, (Scalar.remsi (Scalar.muli (wd e.val) 256#32) 2048#32).toInt = ((e.val * 256 % 2048 : ℕ) : Int) := by decide

theorem slt_iff (x y : BitVec 32) : Iff (Scalar.cmpi .ne (Scalar.extui (Scalar.cmpi .slt x y)) 0#32 = 1#1) (x.toInt < y.toInt) := by
  have e : Scalar.cmpi .slt x y = BitVec.ofBool (decide (x.toInt < y.toInt)) := rfl
  rw [e]
  by_cases h : x.toInt < y.toInt
  · rw [decide_eq_true h]; exact ⟨fun _ => h, fun _ => by decide⟩
  · rw [decide_eq_false h]; exact ⟨fun hh => absurd hh (by decide), fun hh => absurd hh h⟩
theorem sge_iff (x y : BitVec 32) : Iff (Scalar.cmpi .ne (Scalar.extui (Scalar.cmpi .sge x y)) 0#32 = 1#1) (y.toInt ≤ x.toInt) := by
  have e : Scalar.cmpi .sge x y = BitVec.ofBool (decide (y.toInt ≤ x.toInt)) := rfl
  rw [e]
  by_cases h : y.toInt ≤ x.toInt
  · rw [decide_eq_true h]; exact ⟨fun _ => h, fun _ => by decide⟩
  · rw [decide_eq_false h]; exact ⟨fun hh => absurd hh (by decide), fun hh => absurd hh h⟩

/-- The rows of the combine weights the first `e` experts have written. -/
abbrev CP (e : ℕ) : S2x2048x128.Idx → Prop := fun i => (i 0).val * 2048 + (i 1).val < e * 256

theorem cp_step {e : ℕ} (he : e < 16) (i : S2x2048x128.Idx) (hi : CP (e + 1) i) :
    CP e i ∨ ∀ a, (![e * 256 / 2048, e * 256 % 2048, 0] : Fin 3 → ℕ) a ≤ (i a).val ∧ (i a).val < (![e * 256 / 2048, e * 256 % 2048, 0] : Fin 3 → ℕ) a + S1x256x128.size a := by
  have h0 : (i 0).val < 2 := (i 0).isLt
  have h1 : (i 1).val < 2048 := (i 1).isLt
  have h2 : (i 2).val < 128 := (i 2).isLt
  by_cases h : CP e i
  · exact Or.inl h
  · unfold CP at h hi
    refine Or.inr (all3 ⟨?_, ?_⟩ ⟨?_, ?_⟩ ⟨Nat.zero_le _, ?_⟩)
    · show e * 256 / 2048 ≤ (i 0).val; omega
    · show (i 0).val < e * 256 / 2048 + 1; omega
    · show e * 256 % 2048 ≤ (i 1).val; omega
    · show (i 1).val < e * 256 % 2048 + 256; omega
    · show (i 2).val < 0 + 128; omega

/-- Where the logits have been computed. -/
abbrev LP : S2x2048x128.Idx → Prop := fun i => (i 1).val / 512 < nb I (i 0).val

theorem cmb_some (c : Dev nD) (e : Fin k0_t13_loop.trips) (hl : ∀ b, b < 2 → ∀ t : ℕ, t < nb I b ↔ 512 * (t : Int) < (len I b).toInt)
    {P : Prop} {d : Decidable P} (hP : Iff P (((e.val * 256 % 2048 : ℕ) : Int) < (len I (e.val * 256 / 2048)).toInt))
    {h h' h'' hl1 hl2 hx hm} {α : Type} {k : Prog (TpuEff nD τ sig (Elt F) Λ₀ .tc) α} {Q : α → sProp 𝕄} :
    iprop(Ag c A21 (LP I) (LGV I) ∗ Ag c A22 (CP e.val) (CMV I))
    ⊢ iprop((iprop(Ag c A21 (LP I) (LGV I) ∗ Ag c A22 (fun i => if P then CP (e.val + 1) i else CP e.val i) (CMV I)) -∗ WP c k Q)
      -∗ WP c (if P then Prog.op (.load A21 (Rect.unit (s := S2x2048x128) (k0_off36 e) S1x256x128.size h).toLoadRect hl1)
        (fun v => Prog.op (.load A22 (Rect.unit (s := S2x2048x128) (k0_off36 e) S1x256x128.size h').toLoadRect hl2)
        (fun _ => Prog.op (.store A22 (Rect.unit (s := S2x2048x128) (k0_off36 e) S1x256x128.size h'') (k0_pay20 v) Finset.univ hx hm) (fun _ => k))) else k) Q) := by
  have he : e.val < 16 := trips13 ▸ e.isLt
  iintro ⟨HG, HM⟩ Hk
  by_cases hp : P
  · simp only [if_pos hp]
    have hlt := hP.mp hp
    iapply (ag_load c ?_) $$ HG
    · rw [off36_eq]
      intro i hi
      have h0 : e.val * 256 / 2048 ≤ (i 0).val ∧ (i 0).val < e.val * 256 / 2048 + 1 := hi 0
      have h1 : e.val * 256 % 2048 ≤ (i 1).val ∧ (i 1).val < e.val * 256 % 2048 + 256 := hi 1
      have e0 : (i 0).val = e.val * 256 / 2048 := by omega
      show (i 1).val / 512 < nb I (i 0).val
      rw [e0, hl _ (by omega)]
      have : 512 * ((i 1).val / 512) ≤ e.val * 256 % 2048 := by omega
      refine lt_of_le_of_lt ?_ hlt
      exact_mod_cast this
    iintro HG
    iapply (ag_skim c) $$ HM
    iintro %x HM
    iapply (ag_store c (CP (e.val + 1)) ne_bf16 ?_ ?_) $$ HM
    · rw [off36_eq]; refine ((cmv_slc I he).trans ?_).symm
      exact if_pos hlt
    · rw [off36_eq]; exact cp_step he
    iintro HM
    iapply Hk
    isplitl [HG]; · iexact HG
    iexact HM
  · simp only [if_neg hp]
    iapply Hk
    isplitl [HG]; · iexact HG
    iexact HM

theorem cmb_none (c : Dev nD) (e : Fin k0_t13_loop.trips)
    {P P' : Prop} {d : Decidable P} {d' : Decidable P'} (hP : Iff P (((e.val * 256 % 2048 : ℕ) : Int) < (len I (e.val * 256 / 2048)).toInt)) (hP' : Iff P' (¬ P))
    {h' h'' hl2 hx hm} {α : Type} {k : Prog (TpuEff nD τ sig (Elt F) Λ₀ .tc) α} {Q : α → sProp 𝕄} :
    (Ag c A22 (fun i => if P then CP (e.val + 1) i else CP e.val i) (CMV I))
    ⊢ iprop((Ag c A22 (CP (e.val + 1)) (CMV I) -∗ WP c k Q)
      -∗ WP c (if P' then Prog.op (.load A22 (Rect.unit (s := S2x2048x128) (k0_off38 e) S1x256x128.size h').toLoadRect hl2)
        (fun _ => Prog.op (.store A22 (Rect.unit (s := S2x2048x128) (k0_off38 e) S1x256x128.size h'') (k0_pay21 (F := F)) Finset.univ hx hm) (fun _ => k)) else k) Q) := by
  have he : e.val < 16 := trips13 ▸ e.isLt
  iintro HM Hk
  by_cases hp : P
  · rw [if_neg (fun hh => hP'.mp hh hp)]
    simp only [if_pos hp]
    iapply Hk $$ HM
  · rw [if_pos (hP'.mpr hp)]
    simp only [if_neg hp]
    iapply (ag_skim c) $$ HM
    iintro %x HM
    iapply (ag_store c (CP (e.val + 1)) ne_bf16 ?_ ?_) $$ HM
    · rw [off38_eq]; refine ((cmv_slc I he).trans ?_).symm
      exact if_neg (fun hh => hp (hP.mpr hh))
    · rw [off38_eq]; exact cp_step he
    iexact Hk

/-- The box of the whole. -/
theorem slc_whole {α : Type} [Nonempty α] {s : Shape} (v : s.Idx → α) (off : Fin s.rank → ℕ) (h : ∀ a, off a = 0) : slc v off s.size = v := by
  funext j
  have hj : ∀ a, off a + (j a).val < s.size a := fun a => by rw [h a]; simpa using (j a).isLt
  unfold slc; rw [dif_pos hj]
  congr 1; funext a; apply Fin.ext; show off a + (j a).val = _; rw [h a, Nat.zero_add]

theorem part6_wp (c : Dev nD) (e : Fin k0_t13_loop.trips) (hl : ∀ b, b < 2 → ∀ t : ℕ, t < nb I b ↔ 512 * (t : Int) < (len I b).toInt) (v362 : BitVec 1) {Q : _ → sProp 𝕄} :
    iprop(Owe c ∗ At c A0 Finset.univ fullShare I.LEN ∗ At c A17 Finset.univ fullShare I.W1S ∗ Ag c A21 (LP I) (LGV I) ∗ Ag c A22 (CP e.val) (CMV I)
      ∗ Ag c A30 (fun i => (i 1).val < e.val * 8 ∨ ((i 1).val < e.val * 8 + 8 ∧ (i 0).val = 0)) (SSC I) ∗ W1s I c e.val 0 ∗ T1F I c e.val ∗ Any c A24 Finset.univ)
    ⊢ iprop((iprop(Owe c ∗ At c A0 Finset.univ fullShare I.LEN ∗ At c A17 Finset.univ fullShare I.W1S ∗ Ag c A21 (LP I) (LGV I) ∗ Ag c A22 (CP (e.val + 1)) (CMV I)
      ∗ Ag c A30 (fun i => (i 1).val < (e.val + 1) * 8) (SSC I) ∗ W1s I c e.val 4 ∗ T1P I c ∗ Ag c A24 (fun i => (i 1).val < 6656) (HV I e.val))
        -∗ Q ⟨CX I e.val 4, V470 I e.val, V475 I e.val, k0_pay26 (wd e.val), zf⟩)
       -∗ WP c (P6 (F := F) e (wd e.val) v362 (V404 I e.val) (V418 I e.val) (k0_pay18 (V401 I e.val) 23#32)) Q) := by
  have he : e.val < 16 := trips13 ▸ e.isLt
  simp only [P6, k0_part6_eq_skeleton, k0_part6_skel, Prog.lift, Prog.bind_op, Prog.bind_ret]
  iintro ⟨HO, HL, HW, HG, HM, HS, HF, HT, HH⟩ Hk
  iapply (ag_store c (fun i => (i 1).val < (e.val + 1) * 8) ne_f32 ?_ ?_) $$ HS
  · rw [off34_eq]; exact (ssc_slc I (b := 1) (by decide) he).symm
  · rw [off34_eq]; intro i hi
    have h0 : (i 0).val < 2 := (i 0).isLt
    by_cases h : (i 1).val < e.val * 8 ∨ ((i 1).val < e.val * 8 + 8 ∧ (i 0).val = 0)
    · exact Or.inl h
    · refine Or.inr (all3 ⟨?_, ?_⟩ ⟨?_, ?_⟩ ⟨Nat.zero_le _, ?_⟩)
      · show 1 ≤ _; omega
      · show _ < 1 + 1; omega
      · show e.val * 8 ≤ _; omega
      · show _ < e.val * 8 + 8; omega
      · show _ < 0 + 128; have : (i 2).val < 128 := (i 2).isLt; omega
  iintro HS
  iapply (wp_word c) $$ HL
  iintro HL
  have hc : slc I.LEN (k0_off35 e) S1.size z1 = len I (e.val * 256 / 2048) := by rw [off35_eq]
  have hc' : slc I.LEN (k0_off37 e) S1.size z1 = len I (e.val * 256 / 2048) := by rw [off37_eq]
  rw [hc]
  have hP := (slt_iff (Scalar.remsi (Scalar.muli (wd e.val) 256#32) 2048#32) (len I (e.val * 256 / 2048))).trans (by rw [turn_lt e])
  iapply (cmb_some I c e hl hP) $$ [HG HM]
  · isplitl [HG]; · iexact HG
    iexact HM
  iintro ⟨HG, HM⟩
  iapply (wp_word c) $$ HL
  iintro HL
  rw [hc']
  iapply (cmb_none I c e hP ?_) $$ HM
  · refine (sge_iff _ _).trans ?_
    rw [slt_iff]; omega
  iintro HM
  iapply (t14_wp I c e v362 _) $$ [HO HW HF HH]
  · isplitl [HO]; · iexact HO
    isplitl [HW]; · iexact HW
    isplitl [HF]; · iexact HF
    iexact HH
  iintro ⟨HO, HW, HF, HH⟩
  unfold T1F
  iapply (wp_wait_at c (sem35 _ _ _ 4 rfl) N16 rfl) $$ [HT HO]
  · isplitl [HT]; · iexact HT
    iexact HO
  iintro ⟨⟨HA, HT⟩, HC, HO⟩
  iapply (wp_load_all c) $$ HA
  iintro HA
  iapply (wp_load_all c) $$ HW
  iintro HW
  rw [off49_eq, slc_whole (T1V I e.val) ![0, 0] (by decide)]
  iapply (WP_ret c ⟨CX I e.val 4, V470 I e.val, V475 I e.val, k0_pay26 (wd e.val), zf⟩ ?_)
  · rfl
  iapply Hk
  isplitl [HO]; · iexact HO
  isplitl [HL]; · iexact HL
  isplitl [HW]; · iexact HW
  isplitl [HG]; · iexact HG
  isplitl [HM]; · iexact HM
  isplitl [HS]; · iexact HS
  isplitl [HF]; · iexact HF
  isplitl [HA HT HC]
  · unfold T1P
    isplitl [HT]; · iexact HT
    isplitl [HA]; · iapply (any_of c A16 _ _) $$ HA
    iexact HC
  iexact HH

end Cert.KernelIdeal.Hand

end
-- ==== Proof.KernelIdeal.Experts2.lean ====
/-
  An expert's turn: the hidden layer quantised and copied out; the output's copies.
-/
module

public import proofs.«01_k».proof.Proof.KernelIdeal.Experts1

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (UU nD τ) ℕ

variable (I : Inp F)

/-! ## The hidden codes' two copies out -/

def N11 : ℕ := A11.view.ref.dmaCredit S8x8192 .fp8e4m3

/-- Expert `e`'s hidden codes of batch `b`, delivered. -/
abbrev HWin (c : Dev nD) (b : Fin 2) (e : ℕ) : sProp 𝕄 := Win (F := F) c A11 ![b.val, e, 0, 0] S1x1x8x8192.size fullShare (fun i => HCW I b.val e i)

/-- The result with the first `n` experts' delivered. -/
def Hm (c : Dev nD) (b : Fin 2) (n : ℕ) : sProp 𝕄 :=
  bigSep Finset.univ (fun j : Fin 16 => if j.val < n then HWin I c b j.val else Any (F := F) c A11 (bx _ ![b.val, j.val, 0, 0] S1x1x8x8192.size))

theorem Hm_take (c : Dev nD) (b : Fin 2) (k : ℕ) (hk : k < 16) :
    Hm I c b k ⊢ iprop(Any (F := F) c A11 (bx _ ![b.val, k, 0, 0] S1x1x8x8192.size) ∗ (HWin I c b k -∗ Hm I c b (k + 1))) := by
  have h := bigSep_univ_update (Φ := fun j : Fin 16 => if j.val < k then HWin I c b j.val else Any (F := F) c A11 (bx _ ![b.val, j.val, 0, 0] S1x1x8x8192.size))
    (Ψ := fun j : Fin 16 => if j.val < k + 1 then HWin I c b j.val else Any (F := F) c A11 (bx _ ![b.val, j.val, 0, 0] S1x1x8x8192.size)) ⟨k, hk⟩ (fun j hj => by
      have : j.val ≠ k := fun e => hj (Fin.ext e)
      by_cases h1 : j.val < k
      · rw [if_pos h1, if_pos (by omega)]
      · rw [if_neg h1, if_neg (by omega)])
  dsimp only at h
  rw [if_neg (Nat.lt_irrefl k), if_pos (Nat.lt_succ_self k)] at h
  exact h

/-- The half of the staging buffer for batch `b`. -/
abbrev half (b : ℕ) : Finset S2x8x8192.Idx := bx S2x8x8192 ![b, 0, 0] S1x8x8192.size

theorem half_union : half 0 ∪ half 1 = Finset.univ := by
  ext i
  simp only [Finset.mem_union, Finset.mem_univ, iff_true]
  have h0 : (i 0).val < 2 := (i 0).isLt
  have h1 : (i 1).val < 8 := (i 1).isLt
  have h2 : (i 2).val < 8192 := (i 2).isLt
  by_cases h : (i 0).val = 0
  · exact Or.inl (mem_bx.mpr (all3 ⟨Nat.zero_le _, show _ < 0 + 1 by omega⟩ ⟨Nat.zero_le _, show _ < 0 + 8 by omega⟩ ⟨Nat.zero_le _, show _ < 0 + 8192 by omega⟩))
  · exact Or.inr (mem_bx.mpr (all3 ⟨show 1 ≤ _ by omega, show _ < 1 + 1 by omega⟩ ⟨Nat.zero_le _, show _ < 0 + 8 by omega⟩ ⟨Nat.zero_le _, show _ < 0 + 8192 by omega⟩))
theorem half_disjoint : Disjoint (half 0) (half 1) := bx_disjoint 0 (Or.inl (by decide))

/-- Between turns: the copy of the turn before still in flight. -/
def HF (c : Dev nD) (b : Fin 2) (e : ℕ) : sProp 𝕄 :=
  if e = 0 then iprop(Hm I c b 0 ∗ Any (F := F) c A29 (half b.val) ∗ Cell c (c38 b))
  else iprop((HWin I c b (e - 1) -∗ Hm I c b e) ∗ Fl c (c38 b) N11 iprop(HWin I c b (e - 1) ∗ At c A29 (half b.val) fullShare (HC I (e - 1))))

theorem hc_start (c : Dev nD) (b : Fin 2) (e : ℕ) (he : e < 16) {off : Fin 4 → ℕ} {off' : Fin 3 → ℕ} (ho : off = ![b.val, e, 0, 0]) (ho' : off' = ![b.val, 0, 0])
    {h : ∀ a, off a + S1x1x8x8192.size a ≤ S2x16x8x8192.size a} {h' : ∀ a, off' a + S1x8x8192.size a ≤ S2x8x8192.size a} {hr hr' hq hq'}
    {sm : DmaSem sig} (hsm : sm = c38 b) {h1 h2 h3} {α : Type}
    {k : PUnit → Prog (TpuEff nD τ sig (Elt F) Λ₀ .tc) α} {Q : α → sProp 𝕄} :
    iprop(Hm I c b e ∗ At c A29 (half b.val) fullShare (HC I e) ∗ Cell c (c38 b)) ⊢ iprop((HF I c b (e + 1) -∗ WP c (k ⟨⟩) Q) -∗
      WP c (Prog.op (.enqueueDma ((A29.slice (Rect.unit (s := S2x8x8192) off' S1x8x8192.size h') hr').squeeze S8x8192 hq')
            (.here ((A11.slice (Rect.unit (s := S2x16x8x8192) off S1x1x8x8192.size h) hr).squeeze S8x8192 hq)) (.dma sm) h1 h2 h3) k) Q) := by
  subst ho; subst ho'
  iintro ⟨HM, HA, HC⟩ Hk
  ihave HM := (Hm_take I c b e he) $$ HM
  icases HM with ⟨Hd, HM⟩
  iapply (wp_dma_win c hsm (by decide) N11 rfl (Finset.Subset.refl _) (fun i => HCW I b.val e i) (fun j => ?_)) $$ [Hd HA HC]
  · unfold HCW
    rw [Shape.reshapeEquiv_reshapeEquiv]
  · isplitl [HA]; · iexact HA
    isplitl [Hd]; · iexact Hd
    iexact HC
  iintro HF
  iapply Hk
  unfold HF
  rw [if_neg (Nat.succ_ne_zero e)]
  isplitl [HM]; · iexact HM
  iexact HF

theorem hc_wait (c : Dev nD) (b : Fin 2) (e : ℕ) (he : 0 < e) {sp : Space} {s' : Shape} {e' : EltTy} {src : Memref sig .tc sp s' e'}
    {off : Fin 4 → ℕ} {h : ∀ a, off a + S1x1x8x8192.size a ≤ S2x16x8x8192.size a} {hr hq}
    {sm : DmaSem sig} (hsm : sm = c38 b) {h1 h2} {α : Type}
    {k : PUnit → Prog (TpuEff nD τ sig (Elt F) Λ₀ .tc) α} {Q : α → sProp 𝕄} :
    iprop(HF I c b e ∗ Owe c) ⊢ iprop((iprop((Hm I c b e ∗ Any (F := F) c A29 (half b.val) ∗ Cell c (c38 b)) ∗ Owe c) -∗ WP c (k ⟨⟩) Q) -∗
      WP c (.op (.waitDma2 sm src ((A11.slice (Rect.unit (s := S2x16x8x8192) off S1x1x8x8192.size h) hr).squeeze S8x8192 hq) h1 h2) k) Q) := by
  unfold HF
  rw [if_neg (by omega)]
  iintro ⟨⟨HM, HF⟩, HO⟩ Hk
  iapply (wp_wait_at c hsm N11 rfl) $$ [HF HO]
  · isplitl [HF]; · iexact HF
    iexact HO
  iintro ⟨⟨HW, HA⟩, HC, HO⟩
  iapply Hk
  isplitr [HO]
  · isplitl [HM HW]; · iapply HM $$ HW
    isplitl [HA]; · iapply (any_of c A29 _ _) $$ HA
    iexact HC
  iexact HO

/-! ## The hidden layer quantised -/

theorem t15_wp (c : Dev nD) (e : Fin k0_t13_loop.trips) {β : Type}
    {k : _ → Prog (TpuEff nD τ sig (Elt F) Λ₀ .tc) β} {Q : β → sProp 𝕄} :
    iprop(At c A24 Finset.univ fullShare (HV I e.val) ∗ Any c A25 Finset.univ ∗ Any c A29 Finset.univ)
    ⊢ iprop((iprop(At c A24 Finset.univ fullShare (HV I e.val) ∗ At c A25 Finset.univ fullShare (HQ I e.val) ∗ At c A29 Finset.univ fullShare (HC I e.val)) -∗ WP c (k ⟨⟩) Q)
      -∗ WP c (Scf.Loop.for k0_t15_loop k0_t15_ok ⟨⟩ (B15 (F := F) e (wd e.val) (V526 I e.val) V527 23#32) >>= k) Q) := by
  iintro ⟨HG, HA, HB⟩ Hk
  iapply (WP_for c _ _ _ _ (fun k m => iprop(At c A24 Finset.univ fullShare (HV I e.val) ∗ Ag c A25 (fun i => (i 1).val < 1024 * k) (HQ I e.val) ∗ Ag c A29 (fun i => (i 2).val < 1024 * k) (HC I e.val))) ?_) $$ [HG HA HB]
  rotate_left
  · isplitl [HG]; · iexact HG
    isplitl [HA]; · iapply (ag_of_any c A25 (fun i => by omega)) $$ HA
    iapply (ag_of_any c A29 (fun i => by omega)) $$ HB
  · rw [trips15]
    iintro %acc ⟨HG, HA, HB⟩
    iapply Hk
    isplitl [HG]; · iexact HG
    isplitl [HA]; · iapply (at_of_ag c A25 (fun i => show (i 1).val < 1024 * 8 from (i 1).isLt)) $$ HA
    iapply (at_of_ag c A29 (fun i => show (i 2).val < 1024 * 8 from (i 2).isLt)) $$ HB
  intro j acc
  have hj : j.val < 8 := trips15 ▸ j.isLt
  simp only [B15, k0_t15_body, Prog.lift, Prog.bind_op, Prog.bind_ret]
  iintro ⟨HG, HA, HB⟩
  iapply (wp_load_all c) $$ HG
  iintro HG
  iapply (ag_skim c) $$ HA
  iintro %x HA
  iapply (ag_store c (fun i => (i 1).val < 1024 * (j.val + 1)) ne_fp8 ?_ ?_) $$ HA
  · rw [off53_eq, off54_eq]; exact (hq_slc I hj).symm
  · rw [off54_eq]
    intro i hi
    by_cases h : (i 1).val < 1024 * j.val
    · exact Or.inl h
    · refine Or.inr (all2 ⟨Nat.zero_le _, ?_⟩ ⟨?_, ?_⟩)
      · show _ < 0 + 32; have : (i 0).val < 32 := (i 0).isLt; omega
      · show j.val * 1024 ≤ _; omega
      · show _ < j.val * 1024 + 1024; omega
  iintro HA
  iapply (ag_skim c) $$ HB
  iintro %x HB
  iapply (ag_store c (fun i => (i 2).val < 1024 * j.val ∨ ((i 2).val < 1024 * (j.val + 1) ∧ (i 0).val = 0)) ne_fp8 ?_ ?_) $$ HB
  · rw [off53_eq, off55_eq]; exact (hc_slc I (b := 0) (by decide) hj).symm
  · rw [off55_eq]
    rintro i (hi | hi)
    · exact Or.inl hi
    by_cases h : (i 2).val < 1024 * j.val
    · exact Or.inl h
    · refine Or.inr (all3 ⟨Nat.zero_le _, ?_⟩ ⟨Nat.zero_le _, ?_⟩ ⟨?_, ?_⟩)
      · show _ < 0 + 1; omega
      · show _ < 0 + 8; have : (i 1).val < 8 := (i 1).isLt; omega
      · show j.val * 1024 ≤ _; omega
      · show _ < j.val * 1024 + 1024; omega
  iintro HB
  iapply (ag_skim c) $$ HB
  iintro %x HB
  iapply (ag_store c (fun i => (i 2).val < 1024 * (j.val + 1)) ne_fp8 ?_ ?_) $$ HB
  · rw [off53_eq, off56_eq]; exact (hc_slc I (b := 1) (by decide) hj).symm
  · rw [off56_eq]
    intro i hi
    have h0 : (i 0).val < 2 := (i 0).isLt
    by_cases h : (i 2).val < 1024 * j.val ∨ ((i 2).val < 1024 * (j.val + 1) ∧ (i 0).val = 0)
    · exact Or.inl h
    · refine Or.inr (all3 ⟨?_, ?_⟩ ⟨Nat.zero_le _, ?_⟩ ⟨?_, ?_⟩)
      · show 1 ≤ _; omega
      · show _ < 1 + 1; omega
      · show _ < 0 + 8; have : (i 1).val < 8 := (i 1).isLt; omega
      · show j.val * 1024 ≤ _; omega
      · show _ < j.val * 1024 + 1024; omega
  iintro HB
  iapply WP_pure
  isplitl [HG]; · iexact HG
  isplitl [HA]; · iexact HA
  iexact HB

theorem part8_wp (c : Dev nD) (e : Fin k0_t13_loop.trips) {Q : _ → sProp 𝕄} :
    iprop(Owe c ∗ HF I c 0 e.val ∗ HF I c 1 e.val ∗ At c A24 Finset.univ fullShare (HV I e.val) ∗ Any c A25 Finset.univ)
    ⊢ iprop((iprop(Owe c ∗ (Hm I c 0 e.val ∗ Cell c (c38 0)) ∗ (Hm I c 1 e.val ∗ Cell c (c38 1)) ∗ At c A24 Finset.univ fullShare (HV I e.val)
        ∗ At c A25 Finset.univ fullShare (HQ I e.val) ∗ At c A29 Finset.univ fullShare (HC I e.val)) -∗ Q ⟨V556 I e.val, V566 I e.val⟩)
       -∗ WP c (P8 (F := F) e (wd e.val) (V526 I e.val) V527 23#32) Q) := by
  simp only [P8, k0_part8_eq_skeleton, k0_part8_skel, Prog.lift, Prog.bind_op, Prog.bind_ret]
  iintro ⟨HO, H0, H1, HG, HA⟩ Hk
  split
  · rename_i hc
    have he := (cond13_iff e).mp hc
    iapply (hc_wait I c 0 e.val he (sem38 _ _ _ 0 rfl)) $$ [H0 HO]
    · isplitl [H0]; · iexact H0
      iexact HO
    iintro ⟨⟨H0, HX, HC0⟩, HO⟩
    iapply (hc_wait I c 1 e.val he (sem38 _ _ _ 1 rfl)) $$ [H1 HO]
    · isplitl [H1]; · iexact H1
      iexact HO
    iintro ⟨⟨H1, HY, HC1⟩, HO⟩
    ihave HB := (any_join c A29 half_disjoint half_union) $$ [HX HY]
    · isplitl [HX]; · iexact HX
      iexact HY
    iapply (t15_wp I c e) $$ [HG HA HB]
    · isplitl [HG]; · iexact HG
      isplitl [HA]; · iexact HA
      iexact HB
    iintro ⟨HG, HA, HB⟩
    iapply (WP_ret c ⟨V556 I e.val, V566 I e.val⟩ ?_)
    · rfl
    iapply Hk
    isplitl [HO]; · iexact HO
    isplitl [H0 HC0]
    · isplitl [H0]; · iexact H0
      iexact HC0
    isplitl [H1 HC1]
    · isplitl [H1]; · iexact H1
      iexact HC1
    isplitl [HG]; · iexact HG
    isplitl [HA]; · iexact HA
    iexact HB
  · rename_i hc
    have he : e.val = 0 := by by_contra h; exact hc ((cond13_iff e).mpr (by omega))
    have hz : ∀ b, HF I c b e.val = iprop(Hm I c b 0 ∗ Any (F := F) c A29 (half b.val) ∗ Cell c (c38 b)) := fun b => by unfold HF; rw [if_pos he]
    ihave H0 := (entails_of_eq (hz 0)) $$ H0
    ihave H1 := (entails_of_eq (hz 1)) $$ H1
    icases H0 with ⟨H0, HX, HC0⟩
    icases H1 with ⟨H1, HY, HC1⟩
    ihave HB := (any_join c A29 half_disjoint half_union) $$ [HX HY]
    · isplitl [HX]; · iexact HX
      iexact HY
    iapply (t15_wp I c e) $$ [HG HA HB]
    · isplitl [HG]; · iexact HG
      isplitl [HA]; · iexact HA
      iexact HB
    iintro ⟨HG, HA, HB⟩
    iapply (WP_ret c ⟨V556 I e.val, V566 I e.val⟩ ?_)
    · rfl
    iapply Hk
    isplitl [HO]; · iexact HO
    isplitl [H0 HC0]
    · isplitl [H0]; · rw [he]; iexact H0
      iexact HC0
    isplitl [H1 HC1]
    · isplitl [H1]; · rw [he]; iexact H1
      iexact HC1
    isplitl [HG]; · iexact HG
    isplitl [HA]; · iexact HA
    iexact HB

/-! ## The output's copies, seven to a batch on one cell -/

/-- The columns of copy `f`: six of 256, and the last 128. -/
abbrev oo (b : ℕ) (f : ℕ) : Fin 3 → ℕ := ![b, 0, f * 256]
def ow (f : ℕ) : Fin 3 → ℕ := if f < 6 then S1x2048x256.size else S1x2048x128.size
def NO (f : Fin 7) : ℕ := if f.val < 6 then A7.view.ref.dmaCredit S2048x256 .bf16 else A7.view.ref.dmaCredit S2048x128 .bf16

theorem NO_pos (f : Fin 7) : 0 < NO f := by
  unfold NO; split
  · exact sig.dmaCredit_pos _ _ _ _ _ (by decide)
  · exact sig.dmaCredit_pos _ _ _ _ _ (by decide)

/-- What copy `f` delivers. -/
def OD (c : Dev nD) (b : Fin 2) (f : Fin 7) : sProp 𝕄 :=
  iprop(Win (F := F) c A7 (oo b.val f.val) (ow f.val) fullShare (slc (OV I) (oo b.val f.val) (ow f.val)) ∗ Any (F := F) c A13 (bx _ (oo b.val f.val) (ow f.val)))

instance od_storable (c : Dev nD) (b : Fin 2) (f : Fin 7) : Storable (upEmb : UEmb _ 𝕄) (OD I c b f) := by unfold OD; infer_instance

def MB (c : Dev nD) (b : Fin 2) (n u : ℕ) : sProp 𝕄 := MixedBatch countersEmb (c : Thread nD τ) (SemLoc.dma (c39 b)) () NO (OD I c b) n u

/-- A transfer of the batch, over whole memrefs. -/
theorem wp_mixed_at (c : Dev nD) (b : Fin 2) {sp sp' : Space} {s : Shape} {e : EltTy} {src : Memref sig .tc sp s e} {dst : Memref sig .tc sp' s e}
    {sm : DmaSem sig} (hsm : sm = c39 b) {q : PosShare TreeShare} {v u : s.Idx → Elt F e} {h1 h2 h3} {α : Type}
    {k : PUnit → Prog (TpuEff nD τ sig (Elt F) Λ₀ .tc) α} {Q : α → sProp 𝕄} (n : ℕ) (hn : n < 7)
    (hN : dst.view.dmaCredit = NO ⟨n, hn⟩)
    (hD : iprop(At c dst Finset.univ fullShare v ∗ At c src Finset.univ q v) ⊢ OD I c b ⟨n, hn⟩) :
    iprop(At c src Finset.univ q v ∗ At c dst Finset.univ fullShare u ∗ MB I c b n 0)
      ⊢ iprop((MB I c b (n + 1) 0 -∗ WP c (k ⟨⟩) Q)
        -∗ WP c (.op (.enqueueDma src (.here dst) (.dma sm) h1 h2 h3) k) Q) := by
  subst hsm
  unfold MB
  iintro ⟨Hs, Hd, Hc⟩ Hk
  iapply (wp_dmaMixedBatch countersEmb 𝒱₀ (c : Thread nD τ) none () NO (dst := dst) (sm := .dma (c39 b)) (Finset.Subset.refl _) hn hN (Nat.zero_le _) ?_) $$ [Hs Hd Hc]
  rotate_left
  · unfold At; isplitl [Hs]; · iexact Hs
    isplitl [Hd]; · iexact Hd
    iexact Hc
  · iexact Hk
  refine BIBase.Entails.trans ?_ hD
  rw [← View.setOn_univ, at_of c dst Finset.univ fullShare _ v (fun i _ => by
    rw [View.read_write_univ]
    exact congrFun (View.read_rep src.view v) i)]
  exact BIBase.Entails.rfl

/-- Copy `n` of batch `b`. -/
theorem out_start (c : Dev nD) (b : Fin 2) (n : ℕ) (hn : n < 7) {t : Shape} {off size : Fin 3 → ℕ} (ho : off = oo b.val n) (hs : size = ow n)
    {h h' : ∀ a, off a + size a ≤ S2x2048x1664.size a} {hr hr'} {hq hq' : (Rect.unit (s := S2x2048x1664) off size h).shape.Squeezes t}
    (hN : ((A7.slice (Rect.unit (s := S2x2048x1664) off size h) hr).squeeze t hq).view.dmaCredit = NO ⟨n, hn⟩)
    {sm : DmaSem sig} (hsm : sm = c39 b) {h1 h2 h3} {α : Type} {G : S2x2048x1664.Idx → Elt F .bf16} (hG : slc G (oo b.val n) (ow n) = slc (OV I) (oo b.val n) (ow n))
    {k : PUnit → Prog (TpuEff nD τ sig (Elt F) Λ₀ .tc) α} {Q : α → sProp 𝕄} :
    iprop(At c A13 (bx _ (oo b.val n) (ow n)) fullShare G ∗ Any c A7 (bx _ (oo b.val n) (ow n)) ∗ MB I c b n 0) ⊢ iprop((MB I c b (n + 1) 0 -∗ WP c (k ⟨⟩) Q) -∗
      WP c (Prog.op (.enqueueDma ((A13.slice (Rect.unit (s := S2x2048x1664) off size h') hr').squeeze t hq')
            (.here ((A7.slice (Rect.unit (s := S2x2048x1664) off size h) hr).squeeze t hq)) (.dma sm) h1 h2 h3) k) Q) := by
  subst ho; subst hs
  unfold Any
  iintro ⟨Hs, ⟨%u, Hd⟩, Hc⟩ Hk
  have es := at_window c A13 (Rect.unit (s := S2x2048x1664) (oo b.val n) (ow n) h') hr' hq' fullShare G (fun j => slc G (oo b.val n) (ow n) (Shape.reshapeEquiv hq'.numel_eq j)) (fun j => (slc_unit G _ _ h' _).symm)
  have ed := at_window c A7 (Rect.unit (s := S2x2048x1664) (oo b.val n) (ow n) h) hr hq fullShare u (fun j => slc u (oo b.val n) (ow n) (Shape.reshapeEquiv hq.numel_eq j)) (fun j => (slc_unit u _ _ h _).symm)
  have ed' := at_window c A7 (Rect.unit (s := S2x2048x1664) (oo b.val n) (ow n) h) hr hq fullShare G (fun j => slc G (oo b.val n) (ow n) (Shape.reshapeEquiv hq.numel_eq j)) (fun j => (slc_unit G _ _ h _).symm)
  rw [bx_unit] at es ed ed'
  ihave Hs := (entails_of_eq es.symm) $$ Hs
  ihave Hd := (entails_of_eq ed.symm) $$ Hd
  iapply (wp_mixed_at I c b hsm n hn hN ?_) $$ [Hs Hd Hc]
  rotate_left
  · isplitl [Hs]; · iexact Hs
    isplitl [Hd]; · iexact Hd
    iexact Hc
  · iexact Hk
  iintro ⟨Hd, Hs⟩
  ihave Hs := (entails_of_eq es) $$ Hs
  ihave Hd := (entails_of_eq ed') $$ Hd
  unfold OD Win
  isplitl [Hd]
  · iexists G
    isplitr; · ipureintro; exact hG
    iexact Hd
  iapply (any_of c A13 _ _) $$ Hs

/-- A wait of the batch that is not its last. -/
theorem out_wait (c : Dev nD) (b : Fin 2) (n : ℕ) (hn : n < 7) {sp sp' : Space} {s s' : Shape} {e e' : EltTy} {src : Memref sig .tc sp s' e'} {dst : Memref sig .tc sp' s e}
    {sm : DmaSem sig} (hsm : sm = c39 b) (hN : dst.view.dmaCredit = NO ⟨n, hn⟩) {h1 h2} {α : Type}
    {k : PUnit → Prog (TpuEff nD τ sig (Elt F) Λ₀ .tc) α} {Q : α → sProp 𝕄} :
    iprop(MB I c b 7 (sumTo NO n) ∗ Owe c) ⊢ iprop((iprop(MB I c b 7 (sumTo NO (n + 1)) ∗ Owe c) -∗ WP c (k ⟨⟩) Q)
        -∗ WP c (.op (.waitDma2 sm src dst h1 h2) k) Q) := by
  subst hsm
  unfold MB Owe
  iintro ⟨Hf, ⟨%W, HW⟩⟩ Hk
  have hle : sumTo NO n + NO ⟨n, hn⟩ ≤ sumTo NO 7 := by
    rw [← sumTo_succ NO hn]
    have : ∀ m, m ≤ 6 → sumTo NO (m + 1) ≤ sumTo NO 7 := by
      intro m hm
      obtain rfl | rfl | rfl | rfl | rfl | rfl | rfl : m = 0 ∨ m = 1 ∨ m = 2 ∨ m = 3 ∨ m = 4 ∨ m = 5 ∨ m = 6 := by omega
      all_goals simp only [sumTo_succ NO (show 0 < 7 by decide), sumTo_succ NO (show 1 < 7 by decide), sumTo_succ NO (show 2 < 7 by decide), sumTo_succ NO (show 3 < 7 by decide),
        sumTo_succ NO (show 4 < 7 by decide), sumTo_succ NO (show 5 < 7 by decide), sumTo_succ NO (show 6 < 7 by decide)]
      all_goals omega
    exact this n (by omega)
  iapply (wp_waitMixedBatch countersEmb 𝒱₀ (c : Thread nD τ) none () hN hle) $$ [Hf HW]
  · isplitl [Hf]; · iexact Hf
    iexact HW
  iintro ⟨Hf, HW⟩
  iapply Hk
  isplitl [Hf]
  · rw [sumTo_succ NO hn]; iexact Hf
  iexists _; iexact HW

/-- Its last wait. -/
theorem out_last (c : Dev nD) (b : Fin 2) {sp sp' : Space} {s s' : Shape} {e e' : EltTy} {src : Memref sig .tc sp s' e'} {dst : Memref sig .tc sp' s e}
    {sm : DmaSem sig} (hsm : sm = c39 b) (hN : dst.view.dmaCredit = NO 6) {h1 h2} {α : Type}
    {k : PUnit → Prog (TpuEff nD τ sig (Elt F) Λ₀ .tc) α} {Q : α → sProp 𝕄} :
    iprop(MB I c b 7 (sumTo NO 6) ∗ Owe c) ⊢ iprop((iprop(bigSep Finset.univ (OD I c b) ∗ Cell c (c39 b) ∗ Owe c) -∗ WP c (k ⟨⟩) Q)
        -∗ WP c (.op (.waitDma2 sm src dst h1 h2) k) Q) := by
  subst hsm
  unfold MB Owe
  iintro ⟨Hf, ⟨%W, HW⟩⟩ Hk
  iapply (wp_waitMixedBatchAll countersEmb 𝒱₀ (c : Thread nD τ) none () hN NO_pos (sumTo_succ NO (show 6 < 7 by decide)).symm) $$ [Hf HW]
  · isplitl [Hf]; · iexact Hf
    iexact HW
  iintro ⟨HD, HC, HW⟩
  iapply Hk
  isplitl [HD]; · iexact HD
  isplitl [HC]; · iexact HC
  iexists _; iexact HW

end Cert.KernelIdeal.Hand

end
-- ==== Proof.KernelIdeal.Experts3.lean ====
/-
  An expert's turn: the second product, and the output once the last expert has run.
-/
module

public import proofs.«01_k».proof.Proof.KernelIdeal.Experts2

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (UU nD τ) ℕ

variable (I : Inp F)

section
variable {sp : Space} {cs : CoreSpace} {s : Shape} {e : EltTy}

/-- Elements `S` of `M`, known to be `V` where `P` holds. -/
def AgS (c : Dev nD) (M : Memref sig .tc sp s e) (S : Finset s.Idx) (P : s.Idx → Prop) (V : s.Idx → Elt F e) : sProp 𝕄 :=
  iprop(∃ G : s.Idx → Elt F e, ⌜∀ i ∈ S, P i → G i = V i⌝ ∗ At (F := F) c M S fullShare G)

theorem agS_of_any (c : Dev nD) (M : Memref sig .tc sp s e) {S : Finset s.Idx} {P : s.Idx → Prop} {V : s.Idx → Elt F e} (h : ∀ i, ¬ P i) :
    Any c M S ⊢ (AgS (F := F) c M S P V : sProp 𝕄) := by
  unfold Any AgS; iintro ⟨%v, H⟩; iexists v
  isplitr; · ipureintro; exact fun i _ hi => absurd hi (h i)
  iexact H

theorem agS_skim (c : Dev nD) {M : Memref sig .tc cs s e} {S : Finset s.Idx} {P : s.Idx → Prop} {V : s.Idx → Elt F e}
    {off size : Fin s.rank → Nat} {h : ∀ a, off a + size a ≤ s.size a} {hl} {α : Type}
    {k : ((⟨s.rank, size⟩ : Shape).Idx → Elt F e) → Prog (TpuEff nD τ sig (Elt F) Λ₀ .tc) α} {Q : α → sProp 𝕄} (hS : bx s off size ⊆ S) :
    (AgS c M S P V : sProp 𝕄) ⊢ iprop((∀ x, AgS c M S P V -∗ WP c (k x) Q)
      -∗ WP c (.op (.load M (Rect.unit (s := s) off size h).toLoadRect hl) k) Q) := by
  unfold AgS; iintro ⟨%G, %hG, H⟩ Hk
  iapply (wp_load_bx c hS) $$ H
  iintro H
  iapply Hk
  iexists G
  isplitr; · ipureintro; exact hG
  iexact H

theorem agS_store (c : Dev nD) {M : Memref sig .tc cs s e} {S : Finset s.Idx} {P : s.Idx → Prop} {V : s.Idx → Elt F e} (P' : s.Idx → Prop)
    {off size : Fin s.rank → Nat} {h : ∀ a, off a + size a ≤ s.size a} {w : (⟨s.rank, size⟩ : Shape).Idx → Elt F e} {hx hm} {α : Type}
    {k : PUnit → Prog (TpuEff nD τ sig (Elt F) Λ₀ .tc) α} {Q : α → sProp 𝕄} (hne : Nonempty (Elt F e)) (hw : w = slc V off size) (hS : bx s off size ⊆ S)
    (hP : ∀ i ∈ S, P' i → P i ∨ ∀ a, off a ≤ (i a).val ∧ (i a).val < off a + size a) :
    (AgS c M S P V : sProp 𝕄) ⊢ iprop((AgS c M S P' V -∗ WP c (k ⟨⟩) Q)
      -∗ WP c (.op (.store M (Rect.unit (s := s) off size h) w Finset.univ hx hm) k) Q) := by
  unfold AgS; iintro ⟨%G, %hG, H⟩ Hk
  iapply (wp_put_bx c hS) $$ H
  iintro H
  iapply Hk
  iexists _
  isplitr
  rotate_left
  · iexact H
  ipureintro
  intro i hi hp
  by_cases hb : i ∈ bx s off size
  · exact put_slc_agree h hb ((slc_put G w h).trans hw)
  · rw [put_out G off size w hb]
    exact hG i hi ((hP i hi hp).resolve_right (fun hh => hb (mem_bx.mpr hh)))
end

/-! ## The output's columns -/

/-- The columns of copy `f`, on both sides, before it. -/
def OP (c : Dev nD) (b : Fin 2) (f : Fin 7) : sProp 𝕄 :=
  iprop(Any (F := F) c A7 (bx _ (oo b.val f.val) (ow f.val)) ∗ Any (F := F) c A13 (bx _ (oo b.val f.val) (ow f.val)))

/-- The first `n` copies under way. -/
def Ob (c : Dev nD) (b : Fin 2) (n : ℕ) : sProp 𝕄 :=
  iprop(MB I c b n 0 ∗ bigSep Finset.univ (fun f : Fin 7 => if f.val < n then BI.emp else OP (F := F) c b f))

/-- The columns computed. -/
def OG (c : Dev nD) (b f : ℕ) : sProp 𝕄 :=
  iprop(∃ G : S2x2048x1664.Idx → Elt F .bf16, ⌜slc G (oo b f) (ow f) = slc (OV I) (oo b f) (ow f)⌝ ∗ At (F := F) c A13 (bx _ (oo b f) (ow f)) fullShare G)

theorem Ob_take (c : Dev nD) (b : Fin 2) (n : ℕ) (hn : n < 7) :
    Ob I c b n ⊢ iprop((Any (F := F) c A7 (bx _ (oo b.val n) (ow n)) ∗ MB I c b n 0 ∗ (MB I c b (n + 1) 0 -∗ Ob I c b (n + 1))) ∗ Any (F := F) c A13 (bx _ (oo b.val n) (ow n))) := by
  have h := bigSep_univ_update (Φ := fun f : Fin 7 => if f.val < n then (BI.emp : sProp 𝕄) else OP (F := F) c b f)
    (Ψ := fun f : Fin 7 => if f.val < n + 1 then (BI.emp : sProp 𝕄) else OP (F := F) c b f) ⟨n, hn⟩ (fun j hj => by
      have : j.val ≠ n := fun e => hj (Fin.ext e)
      by_cases h1 : j.val < n
      · rw [if_pos h1, if_pos (by omega)]
      · rw [if_neg h1, if_neg (by omega)])
  dsimp only at h
  rw [if_neg (Nat.lt_irrefl n), if_pos (Nat.lt_succ_self n)] at h
  unfold Ob
  iintro ⟨HM, HB⟩
  ihave HB := h $$ HB
  unfold OP
  icases HB with ⟨⟨HX, HY⟩, HB⟩
  isplitr [HY]
  · isplitl [HX]; · iexact HX
    isplitl [HM]; · iexact HM
    iintro HM
    isplitl [HM]; · iexact HM
    iapply HB
    iempintro
  iexact HY

theorem out_go (c : Dev nD) (b : Fin 2) (n : ℕ) (hn : n < 7) {t : Shape} {off size : Fin 3 → ℕ} (ho : off = oo b.val n) (hs : size = ow n)
    {h h' : ∀ a, off a + size a ≤ S2x2048x1664.size a} {hr hr'} {hq hq' : (Rect.unit (s := S2x2048x1664) off size h).shape.Squeezes t}
    (hN : ((A7.slice (Rect.unit (s := S2x2048x1664) off size h) hr).squeeze t hq).view.dmaCredit = NO ⟨n, hn⟩)
    {sm : DmaSem sig} (hsm : sm = c39 b) {h1 h2 h3} {α : Type}
    {k : PUnit → Prog (TpuEff nD τ sig (Elt F) Λ₀ .tc) α} {Q : α → sProp 𝕄} :
    iprop((Any (F := F) c A7 (bx _ (oo b.val n) (ow n)) ∗ MB I c b n 0 ∗ (MB I c b (n + 1) 0 -∗ Ob I c b (n + 1))) ∗ OG I c b.val n) ⊢ iprop((Ob I c b (n + 1) -∗ WP c (k ⟨⟩) Q) -∗
      WP c (Prog.op (.enqueueDma ((A13.slice (Rect.unit (s := S2x2048x1664) off size h') hr').squeeze t hq')
            (.here ((A7.slice (Rect.unit (s := S2x2048x1664) off size h) hr).squeeze t hq)) (.dma sm) h1 h2 h3) k) Q) := by
  unfold OG
  iintro ⟨⟨HX, HM, HW⟩, ⟨%G, %hG, HG⟩⟩ Hk
  iapply (out_start I c b n hn ho hs hN hsm hG) $$ [HX HM HG]
  · isplitl [HG]; · iexact HG
    isplitl [HX]; · iexact HX
    iexact HM
  iintro HM
  iapply Hk
  iapply HW $$ HM

theorem t17_wp (c : Dev nD) (e : Fin k0_t13_loop.trips) (f : Fin k0_t16_loop.trips) (hf : f.val < 6) (he : e.val = 15) (hc : k0_cond15 e = 1#1) (w : BitVec 32) {β : Type}
    {k : _ → Prog (TpuEff nD τ sig (Elt F) Λ₀ .tc) β} {Q : β → sProp 𝕄} :
    iprop(At c A0 Finset.univ fullShare I.LEN ∗ Ag c A22 (CP 16) (CMV I) ∗ Any c A13 (bx _ (oo 0 f.val) (ow f.val)))
    ⊢ iprop((iprop(At c A0 Finset.univ fullShare I.LEN ∗ Ag c A22 (CP 16) (CMV I) ∗ OG I c 0 f.val) -∗ WP c (k ⟨⟩) Q)
      -∗ WP c (Scf.Loop.for k0_t17_loop (k0_t17_ok e hc) ⟨⟩ (B17 (F := F) e f w hc (ZB I 0 f.val)) >>= k) Q) := by
  have how : ow f.val = S1x2048x256.size := if_pos hf
  iintro ⟨HL, HM, HX⟩ Hk
  iapply (WP_for c _ _ _ _ (fun k m => iprop(At c A0 Finset.univ fullShare I.LEN ∗ Ag c A22 (CP 16) (CMV I) ∗ AgS c A13 (bx _ (oo 0 f.val) (ow f.val)) (fun i => (i 1).val < 512 * k) (OV I))) ?_) $$ [HL HM HX]
  rotate_left
  · isplitl [HL]; · iexact HL
    isplitl [HM]; · iexact HM
    iapply (agS_of_any c A13 (fun i => by omega)) $$ HX
  · rw [trips17]
    iintro %acc ⟨HL, HM, HX⟩
    iapply Hk
    isplitl [HL]; · iexact HL
    isplitl [HM]; · iexact HM
    unfold OG AgS
    icases HX with ⟨%G, %hG, HX⟩
    iexists G
    isplitr
    · ipureintro
      exact slc_congr fun i hi => hG i hi (show (i 1).val < 512 * 4 from (i 1).isLt)
    iexact HX
  intro j acc
  have hj : j.val < 4 := trips17 ▸ j.isLt
  simp only [B17, k0_t17_body, Prog.lift, Prog.bind_op, Prog.bind_ret]
  iintro ⟨HL, HM, HX⟩
  iapply (ag_load c ?_) $$ HM
  · rw [off72_eq]
    intro i hi
    have h0 : (i 0).val < 2 := (i 0).isLt
    have h1 : (i 1).val < 2048 := (i 1).isLt
    show (i 0).val * 2048 + (i 1).val < 16 * 256
    omega
  iintro HM
  iapply (wp_word c) $$ HL
  iintro HL
  iapply (agS_skim c ?_) $$ HX
  · rw [off73_eq, how]
    exact bx_subset (all3 ⟨show 0 ≤ 0 by omega, show 0 + 1 ≤ 0 + 1 by omega⟩ ⟨Nat.zero_le _, show j.val * 512 + 512 ≤ 0 + 2048 by omega⟩ ⟨show f.val * 256 ≤ f.val * 256 by omega, show f.val * 256 + 256 ≤ f.val * 256 + 256 by omega⟩)
  iintro %x HX
  iapply (agS_store c (fun i => (i 1).val < 512 * (j.val + 1)) ne_bf16 ?_ ?_ ?_) $$ HX
  · rw [off72_eq, off73_eq]
    refine (((ov_slc I (b := 0) (by decide) hf hj).trans ?_)).symm
    unfold OB
    rw [dif_pos (show j.val < k0_t17_loop.trips from j.isLt)]

  · rw [off73_eq, how]
    exact bx_subset (all3 ⟨show 0 ≤ 0 by omega, show 0 + 1 ≤ 0 + 1 by omega⟩ ⟨Nat.zero_le _, show j.val * 512 + 512 ≤ 0 + 2048 by omega⟩ ⟨show f.val * 256 ≤ f.val * 256 by omega, show f.val * 256 + 256 ≤ f.val * 256 + 256 by omega⟩)
  · rw [off73_eq, how]
    intro i hS hi
    have h := mem_bx.mp hS
    by_cases hh : (i 1).val < 512 * j.val
    · exact Or.inl hh
    · refine Or.inr (all3 (h 0) ⟨?_, ?_⟩ (h 2))
      · show j.val * 512 ≤ _; omega
      · show _ < j.val * 512 + 512; omega
  iintro HX
  iapply WP_pure
  isplitl [HL]; · iexact HL
  isplitl [HM]; · iexact HM
  iexact HX

theorem t18_wp (c : Dev nD) (e : Fin k0_t13_loop.trips) (f : Fin k0_t16_loop.trips) (hf : f.val < 6) (he : e.val = 15) (hc : k0_cond15 e = 1#1) (w : BitVec 32) {β : Type}
    {k : _ → Prog (TpuEff nD τ sig (Elt F) Λ₀ .tc) β} {Q : β → sProp 𝕄} :
    iprop(At c A0 Finset.univ fullShare I.LEN ∗ Ag c A22 (CP 16) (CMV I) ∗ Any c A13 (bx _ (oo 1 f.val) (ow f.val)))
    ⊢ iprop((iprop(At c A0 Finset.univ fullShare I.LEN ∗ Ag c A22 (CP 16) (CMV I) ∗ OG I c 1 f.val) -∗ WP c (k ⟨⟩) Q)
      -∗ WP c (Scf.Loop.for k0_t18_loop (k0_t18_ok e hc) ⟨⟩ (B18 (F := F) e f w hc (ZB I 1 f.val)) >>= k) Q) := by
  have how : ow f.val = S1x2048x256.size := if_pos hf
  iintro ⟨HL, HM, HX⟩ Hk
  iapply (WP_for c _ _ _ _ (fun k m => iprop(At c A0 Finset.univ fullShare I.LEN ∗ Ag c A22 (CP 16) (CMV I) ∗ AgS c A13 (bx _ (oo 1 f.val) (ow f.val)) (fun i => (i 1).val < 512 * k) (OV I))) ?_) $$ [HL HM HX]
  rotate_left
  · isplitl [HL]; · iexact HL
    isplitl [HM]; · iexact HM
    iapply (agS_of_any c A13 (fun i => by omega)) $$ HX
  · rw [trips18]
    iintro %acc ⟨HL, HM, HX⟩
    iapply Hk
    isplitl [HL]; · iexact HL
    isplitl [HM]; · iexact HM
    unfold OG AgS
    icases HX with ⟨%G, %hG, HX⟩
    iexists G
    isplitr
    · ipureintro
      exact slc_congr fun i hi => hG i hi (show (i 1).val < 512 * 4 from (i 1).isLt)
    iexact HX
  intro j acc
  have hj : j.val < 4 := trips18 ▸ j.isLt
  simp only [B18, k0_t18_body, Prog.lift, Prog.bind_op, Prog.bind_ret]
  iintro ⟨HL, HM, HX⟩
  iapply (ag_load c ?_) $$ HM
  · rw [off76_eq]
    intro i hi
    have h0 : (i 0).val < 2 := (i 0).isLt
    have h1 : (i 1).val < 2048 := (i 1).isLt
    show (i 0).val * 2048 + (i 1).val < 16 * 256
    omega
  iintro HM
  iapply (wp_word c) $$ HL
  iintro HL
  iapply (agS_skim c ?_) $$ HX
  · rw [off77_eq, how]
    exact bx_subset (all3 ⟨show 1 ≤ 1 by omega, show 1 + 1 ≤ 1 + 1 by omega⟩ ⟨Nat.zero_le _, show j.val * 512 + 512 ≤ 0 + 2048 by omega⟩ ⟨show f.val * 256 ≤ f.val * 256 by omega, show f.val * 256 + 256 ≤ f.val * 256 + 256 by omega⟩)
  iintro %x HX
  iapply (agS_store c (fun i => (i 1).val < 512 * (j.val + 1)) ne_bf16 ?_ ?_ ?_) $$ HX
  · rw [off76_eq, off77_eq]
    refine (((ov_slc I (b := 1) (by decide) hf hj).trans ?_)).symm
    unfold OB
    rw [dif_pos (show j.val < k0_t17_loop.trips from j.isLt)]
    rfl
  · rw [off77_eq, how]
    exact bx_subset (all3 ⟨show 1 ≤ 1 by omega, show 1 + 1 ≤ 1 + 1 by omega⟩ ⟨Nat.zero_le _, show j.val * 512 + 512 ≤ 0 + 2048 by omega⟩ ⟨show f.val * 256 ≤ f.val * 256 by omega, show f.val * 256 + 256 ≤ f.val * 256 + 256 by omega⟩)
  · rw [off77_eq, how]
    intro i hS hi
    have h := mem_bx.mp hS
    by_cases hh : (i 1).val < 512 * j.val
    · exact Or.inl hh
    · refine Or.inr (all3 (h 0) ⟨?_, ?_⟩ (h 2))
      · show j.val * 512 ≤ _; omega
      · show _ < j.val * 512 + 512; omega
  iintro HX
  iapply WP_pure
  isplitl [HL]; · iexact HL
  isplitl [HM]; · iexact HM
  iexact HX

/-- The experts' outputs known when expert `e` has done `k` chunks of columns. -/
abbrev YP (e k : ℕ) : S2x128x1664.Idx → Prop := fun i => (i 1).val < 8 * e ∨ ((i 1).val < 8 * e + 8 ∧ (i 2).val < 256 * k)

theorem part2_wp (c : Dev nD) (e : Fin k0_t13_loop.trips) (f : Fin k0_t16_loop.trips) (hf : f.val < 6) (he : e.val = 15) (w : BitVec 32) (hc : k0_cond15 e = 1#1) {Q : _ → sProp 𝕄} :
    iprop(At c A0 Finset.univ fullShare I.LEN ∗ Ag c A22 (CP 16) (CMV I) ∗ Ag c A26 (YP 15 (f.val + 1)) (YV I) ∗ Ag c A27 (fun i => (i 2).val < 256 * f.val) (ZV I)
      ∗ Ob I c 0 f.val ∗ Any c A13 (bx _ (oo 1 f.val) (ow f.val)))
    ⊢ iprop((iprop(At c A0 Finset.univ fullShare I.LEN ∗ Ag c A22 (CP 16) (CMV I) ∗ Ag c A26 (YP 15 (f.val + 1)) (YV I) ∗ Ag c A27 (fun i => (i 2).val < 256 * (f.val + 1)) (ZV I)
      ∗ Ob I c 0 (f.val + 1) ∗ OG I c 1 f.val) -∗ Q ⟨⟩) -∗ WP c (P2 (F := F) e f w hc) Q) := by
  have how : S1x2048x256.size = ow f.val := (if_pos hf).symm
  simp only [P2, k0_part2_eq_skeleton, k0_part2_skel, Prog.lift, Prog.bind_op, Prog.bind_ret]
  iintro ⟨HL, HM, HY, HZ, HO, HX⟩ Hk
  ihave HO := (Ob_take I c 0 f.val (by omega)) $$ HO
  icases HO with ⟨HO, HX0⟩
  have hy : ∀ (b : ℕ) (i : S2x128x1664.Idx), (∀ a, (![b, 0, f.val * 256] : Fin 3 → ℕ) a ≤ (i a).val ∧ (i a).val < (![b, 0, f.val * 256] : Fin 3 → ℕ) a + S1x128x256.size a) → YP 15 (f.val + 1) i := by
    intro b i hi
    have h1 : (i 1).val < 128 := (i 1).isLt
    have h2 : f.val * 256 ≤ (i 2).val ∧ (i 2).val < f.val * 256 + 256 := hi 2
    unfold YP; omega
  iapply (ag_load c ?_) $$ HY
  · rw [off71_eq]; exact hy 0
  iintro HY
  iapply (ag_skim c) $$ HZ
  iintro %x HZ
  iapply (ag_store c (fun i => (i 2).val < 256 * f.val ∨ ((i 2).val < 256 * f.val + 256 ∧ (i 0).val = 0)) ne_bf16 ?_ ?_) $$ HZ
  · rw [off71_eq]; exact (zv_slc I (b := 0) (by decide) hf).symm
  · rw [off71_eq]; rintro i (hi | hi)
    · exact Or.inl hi
    by_cases h : (i 2).val < 256 * f.val
    · exact Or.inl h
    · refine Or.inr (all3 ⟨Nat.zero_le _, ?_⟩ ⟨Nat.zero_le _, ?_⟩ ⟨?_, ?_⟩)
      · show _ < 0 + 1; omega
      · show _ < 0 + 128; have : (i 1).val < 128 := (i 1).isLt; omega
      · show f.val * 256 ≤ _; omega
      · show _ < f.val * 256 + 256; omega
  iintro HZ
  iapply (ag_load c ?_) $$ HZ
  · rw [off71_eq]
    intro i hi
    have h0 : 0 ≤ (i 0).val ∧ (i 0).val < 0 + 1 := hi 0
    have h2 : f.val * 256 ≤ (i 2).val ∧ (i 2).val < f.val * 256 + 256 := hi 2
    omega
  iintro HZ
  have ez : slc (ZV I) (k0_off71 f) S1x128x256.size = ZB I 0 f.val := by rw [off71_eq]; exact zv_slc I (b := 0) (by decide) hf
  rw [ez]
  iapply (t17_wp I c e f hf he hc w) $$ [HL HM HX0]
  · isplitl [HL]; · iexact HL
    isplitl [HM]; · iexact HM
    iexact HX0
  iintro ⟨HL, HM, HX0⟩
  iapply (out_go I c 0 f.val (by omega) (off74_eq f) how (if_pos hf).symm (sem39 _ _ _ 0 rfl)) $$ [HO HX0]
  · isplitl [HO]; · iexact HO
    iexact HX0
  iintro HO
  iapply (ag_load c ?_) $$ HY
  · rw [off75_eq]; exact hy 1
  iintro HY
  iapply (ag_skim c) $$ HZ
  iintro %x HZ
  iapply (ag_store c (fun i => (i 2).val < 256 * (f.val + 1)) ne_bf16 ?_ ?_) $$ HZ
  · rw [off75_eq]; exact (zv_slc I (b := 1) (by decide) hf).symm
  · rw [off75_eq]; intro i hi
    have h0 : (i 0).val < 2 := (i 0).isLt
    by_cases h : (i 2).val < 256 * f.val ∨ ((i 2).val < 256 * f.val + 256 ∧ (i 0).val = 0)
    · exact Or.inl h
    · refine Or.inr (all3 ⟨?_, ?_⟩ ⟨Nat.zero_le _, ?_⟩ ⟨?_, ?_⟩)
      · show 1 ≤ _; omega
      · show _ < 1 + 1; omega
      · show _ < 0 + 128; have : (i 1).val < 128 := (i 1).isLt; omega
      · show f.val * 256 ≤ _; omega
      · show _ < f.val * 256 + 256; omega
  iintro HZ
  iapply (ag_load c ?_) $$ HZ
  · rw [off75_eq]
    intro i hi
    have h2 : f.val * 256 ≤ (i 2).val ∧ (i 2).val < f.val * 256 + 256 := hi 2
    omega
  iintro HZ
  have ez1 : slc (ZV I) (k0_off75 f) S1x128x256.size = ZB I 1 f.val := by rw [off75_eq]; exact zv_slc I (b := 1) (by decide) hf
  rw [ez1]
  iapply (t18_wp I c e f hf he hc w) $$ [HL HM HX]
  · isplitl [HL]; · iexact HL
    isplitl [HM]; · iexact HM
    iexact HX
  iintro ⟨HL, HM, HX⟩
  iapply WP_pure
  iapply Hk
  isplitl [HL]; · iexact HL
  isplitl [HM]; · iexact HM
  isplitl [HY]; · iexact HY
  isplitl [HZ]; · iexact HZ
  isplitl [HO]; · iexact HO
  iexact HX

/-! ## The second product -/

def W2N (c : Dev nD) (e : ℕ) (j : Fin 6) : sProp 𝕄 := if e = 15 then W2P I c j else W2F I c (e + 1) j
def W2s (c : Dev nD) (e k : ℕ) : sProp 𝕄 := bigSep Finset.univ (fun j : Fin 6 => if j.val < k then W2N I c e j else W2F I c e j)
theorem W2s_take (c : Dev nD) (e k : ℕ) (hk : k < 6) :
    W2s I c e k ⊢ iprop(W2F I c e ⟨k, hk⟩ ∗ (W2N I c e ⟨k, hk⟩ -∗ W2s I c e (k + 1))) := by
  have h := bigSep_univ_update (Φ := fun t : Fin 6 => if t.val < k then W2N I c e t else W2F I c e t)
    (Ψ := fun t : Fin 6 => if t.val < k + 1 then W2N I c e t else W2F I c e t) ⟨k, hk⟩ (fun j hj => by
      have : j.val ≠ k := fun e => hj (Fin.ext e)
      by_cases h1 : j.val < k
      · rw [if_pos h1, if_pos (by omega)]
      · rw [if_neg h1, if_neg (by omega)])
  dsimp only at h
  rw [if_neg (Nat.lt_irrefl k), if_pos (Nat.lt_succ_self k)] at h
  exact h
def T2N (c : Dev nD) (e : ℕ) : sProp 𝕄 := if e = 15 then T2P I c else T2F I c (e + 1)

/-- The second product's chunk `f` of expert `e`, as its second batch's half is left. -/
def Y8 (e f : ℕ) : FVec F S8x256 .f32 :=
  k0_pay8 (wd e) (V556 I e) (slc I.W2 ![e, 0, f * 256] S1x8192x256.size) (slc (HQ I e) ![0, 0] S32x8192.size) (slc I.W2S ![e / 8 * 8, f * 256] S8x256.size)

theorem part3_wp (c : Dev nD) (e : Fin k0_t13_loop.trips) (f : Fin k0_t16_loop.trips) (hf : f.val < 6) (w : BitVec 32) {Q : _ → sProp 𝕄} :
    iprop(Owe c ∗ At c A20 Finset.univ fullShare I.W2S ∗ At c A25 Finset.univ fullShare (HQ I e.val) ∗ W2F I c e.val ⟨f.val, hf⟩ ∗ Ag c A26 (YP e.val f.val) (YV I))
    ⊢ iprop((iprop(Owe c ∗ At c A20 Finset.univ fullShare I.W2S ∗ At c A25 Finset.univ fullShare (HQ I e.val) ∗ W2P I c ⟨f.val, hf⟩
        ∗ Ag c A26 (fun i => YP e.val f.val i ∨ (YP e.val (f.val + 1) i ∧ (i 0).val = 0)) (YV I))
        -∗ Q ⟨wd f.val, Scalar.muli (wd f.val) 256#32, Y8 I e.val f.val⟩) -∗ WP c (P3 (F := F) e (wd e.val) w (V556 I e.val) 0#32 1#32 f) Q) := by
  have he : e.val < 16 := trips13 ▸ e.isLt
  simp only [P3, k0_part3_eq_skeleton, k0_part3_skel, Prog.lift, Prog.bind_op, Prog.bind_ret]
  iintro ⟨HO, HW, HQ, HF, HY⟩ Hk
  unfold W2F
  iapply (wp_wait_at c (sem36 _ _ _ (Fin.castLE (by decide) (⟨f.val, hf⟩ : Fin 6)) (off61_eq f)) N18 rfl) $$ [HF HO]
  · isplitl [HF]; · iexact HF
    iexact HO
  unfold Win
  iintro ⟨⟨⟨%u, %hu, HF⟩, HT⟩, HC, HO⟩
  iapply (wp_load_bx c (by rw [off64_eq])) $$ HF
  iintro HF
  iapply (wp_load_all c) $$ HQ
  iintro HQ
  iapply (wp_load_all c) $$ HW
  iintro HW
  have e1 : slc u (k0_off64 f) S1x8192x256.size = slc I.W2 ![e.val, 0, f.val * 256] S1x8192x256.size := by rw [off64_eq]; exact hu
  have e2 : slc I.W2S (k0_off65 e f) S8x256.size = slc I.W2S ![e.val / 8 * 8, f.val * 256] S8x256.size := by rw [off65_eq]
  rw [e1, e2]
  iapply (ag_skim c) $$ HY
  iintro %x HY
  iapply (ag_store c (fun i => YP e.val f.val i ∨ (YP e.val (f.val + 1) i ∧ (i 0).val = 0)) ne_f32 ?_ ?_) $$ HY
  · rw [off66_eq]; exact (yv_slc I (b := 0) (by decide) he hf).symm
  · rw [off66_eq]; rintro i (hi | hi)
    · exact Or.inl hi
    by_cases h : YP e.val f.val i
    · exact Or.inl h
    · unfold YP at h hi
      refine Or.inr (all3 ⟨Nat.zero_le _, ?_⟩ ⟨?_, ?_⟩ ⟨?_, ?_⟩)
      · show _ < 0 + 1; omega
      · show e.val * 8 ≤ _; omega
      · show _ < e.val * 8 + 8; omega
      · show f.val * 256 ≤ _; omega
      · show _ < f.val * 256 + 256; omega
  iintro HY
  iapply (WP_ret c ⟨wd f.val, Scalar.muli (wd f.val) 256#32, Y8 I e.val f.val⟩ ?_)
  · rfl
  iapply Hk
  isplitl [HO]; · iexact HO
  isplitl [HW]; · iexact HW
  isplitl [HQ]; · iexact HQ
  isplitl [HF HT HC]
  · unfold W2P
    isplitl [HT]; · iexact HT
    isplitl [HF]
    · iapply (any_of c _ _ u) $$ HF
    iexact HC
  iexact HY

/-- How many of the output's copies are under way. -/
def On (e k : ℕ) : ℕ := if e = 15 then k else 0

/-- The state of the second product's loop. -/
def S16 (c : Dev nD) (e k : ℕ) : sProp 𝕄 :=
  iprop(Owe c ∗ At c A0 Finset.univ fullShare I.LEN ∗ At c A20 Finset.univ fullShare I.W2S ∗ At c A25 Finset.univ fullShare (HQ I e) ∗ W2s I c e k ∗ Ag c A26 (YP e k) (YV I)
    ∗ Ag c A22 (CP (e + 1)) (CMV I) ∗ Ag c A27 (fun i => (i 2).val < 256 * On e k) (ZV I) ∗ Ob I c 0 (On e k) ∗ Ob I c 1 (On e k))

theorem t16_wp (c : Dev nD) (e : Fin k0_t13_loop.trips) (v362 : BitVec 1) (v364 : BitVec 32) (v566 : FVec F S8x1 .f32) {β : Type}
    {k : _ → Prog (TpuEff nD τ sig (Elt F) Λ₀ .tc) β} {Q : β → sProp 𝕄} :
    S16 I c e.val 0 ⊢ iprop((S16 I c e.val 6 -∗ WP c (k ⟨⟩) Q)
      -∗ WP c (Scf.Loop.for k0_t16_loop k0_t16_ok ⟨⟩ (B16 (F := F) e (wd e.val) v362 v364 (V556 I e.val) v566) >>= k) Q) := by
  have he16 : e.val < 16 := trips13 ▸ e.isLt
  iintro HS Hk
  iapply (WP_for c _ _ _ _ (fun k m => S16 I c e.val k) ?_) $$ [HS]
  rotate_left
  · iexact HS
  · rw [trips16]
    iintro %acc HS
    iapply Hk $$ HS
  intro f acc
  have hf : f.val < 6 := trips16 ▸ f.isLt
  simp only [B16, k0_t16_body, Prog.lift, Prog.bind_op, Prog.bind_ret]
  unfold S16
  iintro ⟨HO, HL, HW, HQ, HF, HY, HM, HZ, H0, H1⟩
  ihave HF := (W2s_take I c e.val f.val hf) $$ HF
  icases HF with ⟨HF, HN⟩
  iapply (wp_seq c)
  iapply (part3_wp I c e f hf v364) $$ [HO HW HQ HF HY]
  · isplitl [HO]; · iexact HO
    isplitl [HW]; · iexact HW
    isplitl [HQ]; · iexact HQ
    isplitl [HF]; · iexact HF
    iexact HY
  iintro ⟨HO, HW, HQ, HF, HY⟩
  iapply (ag_skim c) $$ HY
  iintro %x HY
  iapply (ag_store c (YP e.val (f.val + 1)) ne_f32 ?_ ?_) $$ HY
  · rw [off67_eq]; exact (yv_slc I (b := 1) (by decide) he16 hf).symm
  · rw [off67_eq]; intro i hi
    have h0 : (i 0).val < 2 := (i 0).isLt
    by_cases h : YP e.val f.val i ∨ (YP e.val (f.val + 1) i ∧ (i 0).val = 0)
    · exact Or.inl h
    · unfold YP at h hi
      refine Or.inr (all3 ⟨?_, ?_⟩ ⟨?_, ?_⟩ ⟨?_, ?_⟩)
      · show 1 ≤ _; omega
      · show _ < 1 + 1; omega
      · show e.val * 8 ≤ _; omega
      · show _ < e.val * 8 + 8; omega
      · show f.val * 256 ≤ _; omega
      · show _ < f.val * 256 + 256; omega
  iintro HY
  split
  · rename_i hc
    have he := (cond14_iff e).mp hc
    iapply (W2_start I c (e.val + 1) ⟨f.val, hf⟩ (off70_eq e f) (off69_eq f) (sem36 _ _ _ (Fin.castLE (by decide) (⟨f.val, hf⟩ : Fin 6)) (off68_eq f))) $$ HF
    iintro HF
    split
    · rename_i hc'; exact absurd ((cond15_iff e).mp hc') he
    iapply WP_pure
    have eo : ∀ k, On e.val k = 0 := fun k => if_neg he
    rw [eo, eo]
    isplitl [HO]; · iexact HO
    isplitl [HL]; · iexact HL
    isplitl [HW]; · iexact HW
    isplitl [HQ]; · iexact HQ
    isplitl [HF HN]
    · iapply HN
      unfold W2N; rw [if_neg he]; iexact HF
    isplitl [HY]; · iexact HY
    isplitl [HM]; · iexact HM
    isplitl [HZ]; · iexact HZ
    isplitl [H0]; · iexact H0
    iexact H1
  · rename_i hc
    have he : e.val = 15 := by by_contra h; exact hc ((cond14_iff e).mpr h)
    have hc' := (cond15_iff e).mpr he
    rw [dif_pos hc']
    have eo : ∀ k, On e.val k = k := fun k => if_pos he
    have e16 : e.val + 1 = 16 := by omega
    rw [eo, eo, e16]
    ihave HY := (ag_mono c A26 (P' := YP 15 (f.val + 1)) (V' := YV I) (fun i hi => ⟨he ▸ hi, rfl⟩)) $$ HY
    ihave H1 := (Ob_take I c 1 f.val (by omega)) $$ H1
    icases H1 with ⟨H1, HX⟩
    iapply (wp_seq c)
    iapply (part2_wp I c e f hf he _ hc') $$ [HL HM HY HZ H0 HX]
    · isplitl [HL]; · iexact HL
      isplitl [HM]; · iexact HM
      isplitl [HY]; · iexact HY
      isplitl [HZ]; · iexact HZ
      isplitl [H0]; · iexact H0
      iexact HX
    iintro ⟨HL, HM, HY, HZ, H0, HX⟩
    iapply (out_go I c 1 f.val (by omega) (off78_eq f) (if_pos hf).symm (if_pos hf).symm (sem39 _ _ _ 1 rfl)) $$ [H1 HX]
    · isplitl [H1]; · iexact H1
      iexact HX
    iintro H1
    iapply WP_pure
    ihave HY := (ag_mono c A26 (P' := YP e.val (f.val + 1)) (V' := YV I) (fun i hi => ⟨he ▸ hi, rfl⟩)) $$ HY
    isplitl [HO]; · iexact HO
    isplitl [HL]; · iexact HL
    isplitl [HW]; · iexact HW
    isplitl [HQ]; · iexact HQ
    isplitl [HF HN]
    · iapply HN
      unfold W2N; rw [if_pos he]; iexact HF
    isplitl [HY]; · iexact HY
    isplitl [HM]; · iexact HM
    isplitl [HZ]; · iexact HZ
    isplitl [H0]; · iexact H0
    iexact H1

end Cert.KernelIdeal.Hand

end
-- ==== Proof.KernelIdeal.Experts4.lean ====
/-
  A whole expert's turn, and the loop over the experts.
-/
module

public import proofs.«01_k».proof.Proof.KernelIdeal.Experts3

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (UU nD τ) ℕ

variable (I : Inp F)

/-! ## A whole turn -/

theorem part9_wp (c : Dev nD) (e : Fin k0_t13_loop.trips) (v362 : BitVec 1) (v364 : BitVec 32) {Q : _ → sProp 𝕄} :
    iprop((Hm I c 0 e.val ∗ Cell c (c38 0)) ∗ (Hm I c 1 e.val ∗ Cell c (c38 1)) ∗ At c A29 Finset.univ fullShare (HC I e.val)
      ∗ Ag c A31 (fun i => (i 1).val < e.val * 8) (HSC I) ∗ S16 I c e.val 0)
    ⊢ iprop((iprop(HF I c 0 (e.val + 1) ∗ HF I c 1 (e.val + 1) ∗ Ag c A31 (fun i => (i 1).val < (e.val + 1) * 8) (HSC I) ∗ S16 I c e.val 6) -∗ Q ⟨⟩)
      -∗ WP c (P9 (F := F) e (wd e.val) v362 v364 (V556 I e.val) (V566 I e.val)) Q) := by
  have he : e.val < 16 := trips13 ▸ e.isLt
  simp only [P9, k0_part9_eq_skeleton, k0_part9_skel, Prog.lift, Prog.bind_op, Prog.bind_ret]
  iintro ⟨⟨H0, C0⟩, ⟨H1, C1⟩, HC, HS, HR⟩ Hk
  iapply (ag_skim c) $$ HS
  iintro %x HS
  iapply (ag_store c (fun i => (i 1).val < e.val * 8 ∨ ((i 1).val < (e.val + 1) * 8 ∧ (i 0).val = 0)) ne_f32 ?_ ?_) $$ HS
  · rw [off57_eq]; exact (hsc_slc I (b := 0) (by decide) he).symm
  · rw [off57_eq]; rintro i (hi | hi)
    · exact Or.inl hi
    by_cases h : (i 1).val < e.val * 8
    · exact Or.inl h
    · refine Or.inr (all3 ⟨Nat.zero_le _, ?_⟩ ⟨?_, ?_⟩ ⟨Nat.zero_le _, ?_⟩)
      · show _ < 0 + 1; omega
      · show e.val * 8 ≤ _; omega
      · show _ < e.val * 8 + 8; omega
      · show _ < 0 + 128; have : (i 2).val < 128 := (i 2).isLt; omega
  iintro HS
  ihave HC := (entails_of_eq (show At c A29 Finset.univ fullShare (HC I e.val) = At c A29 (half 0 ∪ half 1) fullShare (HC I e.val) by rw [half_union])) $$ HC
  ihave HC := (at_union c A29 half_disjoint fullShare (HC I e.val)).1 $$ HC
  icases HC with ⟨HC0, HC1⟩
  iapply (hc_start I c 0 e.val he (off58_eq e) rfl (sem38 _ _ _ 0 rfl)) $$ [H0 HC0 C0]
  · isplitl [H0]; · iexact H0
    isplitl [HC0]; · iexact HC0
    iexact C0
  iintro H0
  iapply (ag_skim c) $$ HS
  iintro %x HS
  iapply (ag_store c (fun i => (i 1).val < (e.val + 1) * 8) ne_f32 ?_ ?_) $$ HS
  · rw [off59_eq]; exact (hsc_slc I (b := 1) (by decide) he).symm
  · rw [off59_eq]; intro i hi
    have h0 : (i 0).val < 2 := (i 0).isLt
    by_cases h : (i 1).val < e.val * 8 ∨ ((i 1).val < (e.val + 1) * 8 ∧ (i 0).val = 0)
    · exact Or.inl h
    · refine Or.inr (all3 ⟨?_, ?_⟩ ⟨?_, ?_⟩ ⟨Nat.zero_le _, ?_⟩)
      · show 1 ≤ _; omega
      · show _ < 1 + 1; omega
      · show e.val * 8 ≤ _; omega
      · show _ < e.val * 8 + 8; omega
      · show _ < 0 + 128; have : (i 2).val < 128 := (i 2).isLt; omega
  iintro HS
  iapply (hc_start I c 1 e.val he (off60_eq e) rfl (sem38 _ _ _ 1 rfl)) $$ [H1 HC1 C1]
  · isplitl [H1]; · iexact H1
    isplitl [HC1]; · iexact HC1
    iexact C1
  iintro H1
  iapply (t16_wp I c e v362 v364 (V566 I e.val)) $$ HR
  iintro HR
  iapply WP_pure
  iapply Hk
  isplitl [H0]; · iexact H0
  isplitl [H1]; · iexact H1
  isplitl [HS]; · iexact HS
  iexact HR

/-- The copies of weights that are under way when turn `e` starts. -/
def W1I (c : Dev nD) (e : ℕ) : sProp 𝕄 := bigSep Finset.univ (fun j : Fin 4 => if e = 16 then W1P I c j else W1F I c e j)
def W2I (c : Dev nD) (e : ℕ) : sProp 𝕄 := bigSep Finset.univ (fun j : Fin 6 => if e = 16 then W2P I c j else W2F I c e j)
def T1I (c : Dev nD) (e : ℕ) : sProp 𝕄 := if e = 16 then T1P I c else T1F I c e
def T2I (c : Dev nD) (e : ℕ) : sProp 𝕄 := if e = 16 then T2P I c else T2F I c e

theorem W1I_in (c : Dev nD) {e : ℕ} (he : e < 16) : W1I I c e = W1s I c e 0 := by
  unfold W1I W1s; congr 1; funext j; rw [if_neg (by omega), if_neg (Nat.not_lt_zero _)]
theorem W2I_in (c : Dev nD) {e : ℕ} (he : e < 16) : W2I I c e = W2s I c e 0 := by
  unfold W2I W2s; congr 1; funext j; rw [if_neg (by omega), if_neg (Nat.not_lt_zero _)]
theorem W1I_out (c : Dev nD) (e : ℕ) : W1s I c e 4 = W1I I c (e + 1) := by
  unfold W1I W1s W1N; congr 1; funext j; rw [if_pos j.isLt]
  by_cases h : e = 15
  · rw [if_pos h, if_pos (by omega)]
  · rw [if_neg h, if_neg (by omega)]
theorem W2I_out (c : Dev nD) (e : ℕ) : W2s I c e 6 = W2I I c (e + 1) := by
  unfold W2I W2s W2N; congr 1; funext j; rw [if_pos j.isLt]
  by_cases h : e = 15
  · rw [if_pos h, if_pos (by omega)]
  · rw [if_neg h, if_neg (by omega)]
theorem T1I_in (c : Dev nD) {e : ℕ} (he : e < 16) : T1I I c e = T1F I c e := if_neg (by omega)
theorem T2I_in (c : Dev nD) {e : ℕ} (he : e < 16) : T2I I c e = T2F I c e := if_neg (by omega)
theorem T1I_out (c : Dev nD) (e : ℕ) : T1N I c e = T1I I c (e + 1) := by
  unfold T1I T1N
  by_cases h : e = 15
  · rw [if_pos h, if_pos (by omega)]
  · rw [if_neg h, if_neg (by omega)]

def Of (e : ℕ) : ℕ := if e = 16 then 6 else 0
theorem Of_in {e : ℕ} (he : e < 16) : Of e = On e 0 := by
  unfold Of On; rw [if_neg (by omega)]; split <;> rfl
theorem Of_out (e : ℕ) : On e 6 = Of (e + 1) := by
  unfold Of On
  by_cases h : e = 15
  · rw [if_pos h, if_pos (by omega)]
  · rw [if_neg h, if_neg (by omega)]

/-- What holds between the experts' turns, `e` of them done. -/
def S13 (c : Dev nD) (e : ℕ) : sProp 𝕄 :=
  iprop(Owe c ∗ At c A0 Finset.univ fullShare I.LEN ∗ At c A17 Finset.univ fullShare I.W1S ∗ At c A20 Finset.univ fullShare I.W2S ∗ At c A23 Finset.univ fullShare (XSV I)
    ∗ Ag c A21 (LP I) (LGV I) ∗ Ag c A22 (CP e) (CMV I) ∗ Ag c A30 (fun i => (i 1).val < e * 8) (SSC I) ∗ Ag c A28 (fun i => (i 1).val < e) (SCV I)
    ∗ Ag c A31 (fun i => (i 1).val < e * 8) (HSC I) ∗ W1I I c e ∗ T1I I c e ∗ W2I I c e ∗ T2I I c e ∗ HF I c 0 e ∗ HF I c 1 e
    ∗ Any c A24 Finset.univ ∗ Any c A25 Finset.univ ∗ Ag c A26 (YP e 0) (YV I) ∗ Ag c A27 (fun i => (i 2).val < 256 * Of e) (ZV I) ∗ Ob I c 0 (Of e) ∗ Ob I c 1 (Of e))

theorem part10_wp (c : Dev nD) (e : Fin k0_t13_loop.trips) (hl : ∀ b, b < 2 → ∀ t : ℕ, t < nb I b ↔ 512 * (t : Int) < (len I b).toInt) {Q : _ → sProp 𝕄} :
    S13 I c e.val ⊢ iprop((S13 I c (e.val + 1) -∗ Q ⟨⟩) -∗ WP c (P10 (F := F) 0#32 1#32 e) Q) := by
  have he : e.val < 16 := trips13 ▸ e.isLt
  simp only [P10, k0_part10_eq_skeleton, k0_part10_skel, Prog.lift, Prog.bind_op, Prog.bind_ret]
  unfold S13
  rw [W1I_in I c he, T1I_in I c he, W2I_in I c he, T2I_in I c he, Of_in he, ← Of_out e.val, ← W2I_out I c e.val, ← W1I_out I c e.val, ← T1I_out I c e.val]
  iintro ⟨HO, HL, HW1, HW2, HX, HG, HM, HSS, HSC, HHS, W1, T1, W2, T2, H0, H1, HH, HQ, HY, HZ, O0, O1⟩ Hk
  iapply (wp_seq c)
  iapply (part4_wp I c e) $$ HX
  iintro HX
  iapply (wp_seq c)
  iapply (part5_wp I c e _) $$ [HSC HSS]
  · isplitl [HSC]; · iexact HSC
    iexact HSS
  iintro ⟨HSC, HSS⟩
  iapply (wp_seq c)
  iapply (part6_wp I c e hl _) $$ [HO HL HW1 HG HM HSS W1 T1 HH]
  · isplitl [HO]; · iexact HO
    isplitl [HL]; · iexact HL
    isplitl [HW1]; · iexact HW1
    isplitl [HG]; · iexact HG
    isplitl [HM]; · iexact HM
    isplitl [HSS]; · iexact HSS
    isplitl [W1]; · iexact W1
    isplitl [T1]; · iexact T1
    iexact HH
  iintro ⟨HO, HL, HW1, HG, HM, HSS, W1, T1, HH⟩
  iapply (wp_seq c)
  iapply (part7_wp I c e _) $$ [T1 HH]
  · isplitl [T1]; · iexact T1
    iexact HH
  iintro ⟨T1, HH⟩
  iapply (wp_seq c)
  iapply (part8_wp I c e) $$ [HO H0 H1 HH HQ]
  · isplitl [HO]; · iexact HO
    isplitl [H0]; · iexact H0
    isplitl [H1]; · iexact H1
    isplitl [HH]; · iexact HH
    iexact HQ
  iintro ⟨HO, H0, H1, HH, HQ, HC⟩
  iapply (wp_seq c)
  iapply (part9_wp I c e _ _) $$ [H0 H1 HC HHS HO HL HW2 HQ W2 HY HM HZ O0 O1]
  · isplitl [H0]; · iexact H0
    isplitl [H1]; · iexact H1
    isplitl [HC]; · iexact HC
    isplitl [HHS]; · iexact HHS
    unfold S16
    isplitl [HO]; · iexact HO
    isplitl [HL]; · iexact HL
    isplitl [HW2]; · iexact HW2
    isplitl [HQ]; · iexact HQ
    isplitl [W2]; · iexact W2
    isplitl [HY]; · iexact HY
    isplitl [HM]; · iexact HM
    isplitl [HZ]; · iexact HZ
    isplitl [O0]; · iexact O0
    iexact O1
  unfold S16
  iintro ⟨H0, H1, HHS, HO, HL, HW2, HQ, W2, HY, HM, HZ, O0, O1⟩
  unfold T2F
  iapply (wp_wait_at c (sem36 _ _ _ 6 rfl) N19 rfl) $$ [T2 HO]
  · isplitl [T2]; · iexact T2
    iexact HO
  iintro ⟨⟨T2, T2T⟩, T2C, HO⟩
  iapply (wp_load_all c) $$ T2
  iintro T2
  iapply (wp_load_all c) $$ HQ
  iintro HQ
  iapply (wp_load_all c) $$ HW2
  iintro HW2
  rw [slc_whole (T2V I e.val) ![0, 0] (all2 rfl rfl), off80_eq]
  iapply (ag_skim c) $$ HY
  iintro %x HY
  iapply (ag_store c (fun i => YP e.val 6 i ∨ (YP (e.val + 1) 0 i ∧ (i 0).val = 0)) ne_f32 ?_ ?_) $$ HY
  · rw [off81_eq]; exact (yv_slc_tail I (b := 0) (by decide) he).symm
  · rw [off81_eq]; rintro i (hi | hi)
    · exact Or.inl hi
    by_cases h : YP e.val 6 i
    · exact Or.inl h
    · unfold YP at h hi
      have h2 : (i 2).val < 1664 := (i 2).isLt
      refine Or.inr (all3 ⟨Nat.zero_le _, ?_⟩ ⟨?_, ?_⟩ ⟨?_, ?_⟩)
      · show _ < 0 + 1; omega
      · show e.val * 8 ≤ _; omega
      · show _ < e.val * 8 + 8; omega
      · show 1536 ≤ _; omega
      · show _ < 1536 + 128; omega
  iintro HY
  iapply (ag_skim c) $$ HY
  iintro %x HY
  iapply (ag_store c (YP (e.val + 1) 0) ne_f32 ?_ ?_) $$ HY
  · rw [off82_eq]; exact (yv_slc_tail I (b := 1) (by decide) he).symm
  · rw [off82_eq]; intro i hi
    have h0 : (i 0).val < 2 := (i 0).isLt
    by_cases h : YP e.val 6 i ∨ (YP (e.val + 1) 0 i ∧ (i 0).val = 0)
    · exact Or.inl h
    · unfold YP at h hi
      have h2 : (i 2).val < 1664 := (i 2).isLt
      refine Or.inr (all3 ⟨?_, ?_⟩ ⟨?_, ?_⟩ ⟨?_, ?_⟩)
      · show 1 ≤ _; omega
      · show _ < 1 + 1; omega
      · show e.val * 8 ≤ _; omega
      · show _ < e.val * 8 + 8; omega
      · show 1536 ≤ _; omega
      · show _ < 1536 + 128; omega
  iintro HY
  split
  · rename_i hc
    have hne := (cond16_iff e).mp hc
    iapply (T2_start I c (e.val + 1) (off83_eq e) (sem36 _ _ _ 6 rfl)) $$ [T2 T2T T2C]
    · unfold T2P
      isplitl [T2T]; · iexact T2T
      isplitl [T2]
      · iapply (any_of c _ _ _) $$ T2
      iexact T2C
    iintro T2
    ihave T2 := (entails_of_eq (show T2F I c (e.val + 1) = T2I I c (e.val + 1) from (if_neg (by omega)).symm)) $$ T2
    iapply WP_pure
    iapply Hk
    isplitl [HO]; · iexact HO
    isplitl [HL]; · iexact HL
    isplitl [HW1]; · iexact HW1
    isplitl [HW2]; · iexact HW2
    isplitl [HX]; · iexact HX
    isplitl [HG]; · iexact HG
    isplitl [HM]; · iexact HM
    isplitl [HSS]; · iexact HSS
    isplitl [HSC]; · iexact HSC
    isplitl [HHS]; · iexact HHS
    isplitl [W1]; · iexact W1
    isplitl [T1]; · iexact T1
    isplitl [W2]; · iexact W2
    isplitl [T2]; · iexact T2
    isplitl [H0]; · iexact H0
    isplitl [H1]; · iexact H1
    isplitl [HH]; · iapply (any_of c _ _ _) $$ HH
    isplitl [HQ]; · iapply (any_of c _ _ _) $$ HQ
    isplitl [HY]; · iexact HY
    isplitl [HZ]; · iexact HZ
    isplitl [O0]; · iexact O0
    iexact O1
  · rename_i hc
    have h15 : e.val = 15 := by by_contra h; exact hc ((cond16_iff e).mpr h)
    ihave T2 : T2P I c $$ [T2 T2T T2C]
    · unfold T2P
      isplitl [T2T]; · iexact T2T
      isplitl [T2]
      · iapply (any_of c _ _ _) $$ T2
      iexact T2C
    ihave T2 := (entails_of_eq (show T2P I c = T2I I c (e.val + 1) from (if_pos (by omega)).symm)) $$ T2
    iapply WP_pure
    iapply Hk
    isplitl [HO]; · iexact HO
    isplitl [HL]; · iexact HL
    isplitl [HW1]; · iexact HW1
    isplitl [HW2]; · iexact HW2
    isplitl [HX]; · iexact HX
    isplitl [HG]; · iexact HG
    isplitl [HM]; · iexact HM
    isplitl [HSS]; · iexact HSS
    isplitl [HSC]; · iexact HSC
    isplitl [HHS]; · iexact HHS
    isplitl [W1]; · iexact W1
    isplitl [T1]; · iexact T1
    isplitl [W2]; · iexact W2
    isplitl [T2]; · iexact T2
    isplitl [H0]; · iexact H0
    isplitl [H1]; · iexact H1
    isplitl [HH]; · iapply (any_of c _ _ _) $$ HH
    isplitl [HQ]; · iapply (any_of c _ _ _) $$ HQ
    isplitl [HY]; · iexact HY
    isplitl [HZ]; · iexact HZ
    isplitl [O0]; · iexact O0
    iexact O1

theorem t13_wp (c : Dev nD) (hl : ∀ b, b < 2 → ∀ t : ℕ, t < nb I b ↔ 512 * (t : Int) < (len I b).toInt) {β : Type}
    {k : _ → Prog (TpuEff nD τ sig (Elt F) Λ₀ .tc) β} {Q : β → sProp 𝕄} :
    S13 I c 0 ⊢ iprop((S13 I c 16 -∗ WP c (k ⟨⟩) Q)
      -∗ WP c (Scf.Loop.for k0_t13_loop k0_t13_ok ⟨⟩ (B13 (F := F)) >>= k) Q) := by
  iintro HS Hk
  iapply (WP_for c _ _ _ _ (fun k m => S13 I c k) ?_) $$ [HS]
  rotate_left
  · iexact HS
  · rw [trips13]
    iintro %acc HS
    iapply Hk $$ HS
  intro e acc
  simp only [B13, k0_t13_body, Prog.lift, Prog.bind_op, Prog.bind_ret]
  iintro HS
  iapply (wp_seq c)
  iapply (part10_wp I c e hl) $$ HS
  iintro HS
  iapply WP_pure
  iexact HS

end Cert.KernelIdeal.Hand

end
-- ==== Proof.KernelIdeal.Phase3.lean ====
/-
  After the experts: the last columns, the scales, and the results copied out.
-/
module

public import proofs.«01_k».proof.Proof.KernelIdeal.Experts4

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (UU nD τ) ℕ

variable (I : Inp F)

theorem t19_wp (c : Dev nD) {β : Type}
    {k : _ → Prog (TpuEff nD τ sig (Elt F) Λ₀ .tc) β} {Q : β → sProp 𝕄} :
    iprop(At c A0 Finset.univ fullShare I.LEN ∗ Ag c A22 (CP 16) (CMV I) ∗ Any c A13 (bx _ (oo 0 6) (ow 6)))
    ⊢ iprop((iprop(At c A0 Finset.univ fullShare I.LEN ∗ Ag c A22 (CP 16) (CMV I) ∗ OG I c 0 6) -∗ WP c (k ⟨⟩) Q)
      -∗ WP c (Scf.Loop.for k0_t19_loop k0_t19_ok ⟨⟩ (B19 (F := F) (ZT I 0)) >>= k) Q) := by
  iintro ⟨HL, HM, HX⟩ Hk
  iapply (WP_for c _ _ _ _ (fun k m => iprop(At c A0 Finset.univ fullShare I.LEN ∗ Ag c A22 (CP 16) (CMV I) ∗ AgS c A13 (bx _ (oo 0 6) (ow 6)) (fun i => (i 1).val < 512 * k) (OV I))) ?_) $$ [HL HM HX]
  rotate_left
  · isplitl [HL]; · iexact HL
    isplitl [HM]; · iexact HM
    iapply (agS_of_any c A13 (fun i => by omega)) $$ HX
  · rw [trips19]
    iintro %acc ⟨HL, HM, HX⟩
    iapply Hk
    isplitl [HL]; · iexact HL
    isplitl [HM]; · iexact HM
    unfold OG AgS
    icases HX with ⟨%G, %hG, HX⟩
    iexists G
    isplitr
    · ipureintro
      exact slc_congr fun i hi => hG i hi (show (i 1).val < 512 * 4 from (i 1).isLt)
    iexact HX
  intro j acc
  have hj : j.val < 4 := trips19 ▸ j.isLt
  simp only [B19, k0_t19_body, Prog.lift, Prog.bind_op, Prog.bind_ret]
  iintro ⟨HL, HM, HX⟩
  iapply (ag_load c ?_) $$ HM
  · intro i hi
    have h0 : (i 0).val < 2 := (i 0).isLt
    have h1 : (i 1).val < 2048 := (i 1).isLt
    show (i 0).val * 2048 + (i 1).val < 16 * 256
    omega
  iintro HM
  iapply (wp_word c) $$ HL
  iintro HL
  iapply (agS_skim c ?_) $$ HX
  · rw [off85_eq]
    exact bx_subset (all3 ⟨show 0 ≤ 0 by omega, show 0 + 1 ≤ 0 + 1 by omega⟩ ⟨Nat.zero_le _, show j.val * 512 + 512 ≤ 0 + 2048 by omega⟩ ⟨show 1536 ≤ 1536 by omega, show 1536 + 128 ≤ 1536 + 128 by omega⟩)
  iintro %x HX
  iapply (agS_store c (fun i => (i 1).val < 512 * (j.val + 1)) ne_bf16 ?_ ?_ ?_) $$ HX
  · rw [off84_eq, off85_eq]
    refine (((ov_slc_tail I (b := 0) (by decide) hj).trans ?_)).symm
    unfold OT
    rw [dif_pos (show j.val < k0_t19_loop.trips from j.isLt)]

  · rw [off85_eq]
    exact bx_subset (all3 ⟨show 0 ≤ 0 by omega, show 0 + 1 ≤ 0 + 1 by omega⟩ ⟨Nat.zero_le _, show j.val * 512 + 512 ≤ 0 + 2048 by omega⟩ ⟨show 1536 ≤ 1536 by omega, show 1536 + 128 ≤ 1536 + 128 by omega⟩)
  · rw [off85_eq]
    intro i hS hi
    have h := mem_bx.mp hS
    by_cases hh : (i 1).val < 512 * j.val
    · exact Or.inl hh
    · refine Or.inr (all3 (h 0) ⟨?_, ?_⟩ (h 2))
      · show j.val * 512 ≤ _; omega
      · show _ < j.val * 512 + 512; omega
  iintro HX
  iapply WP_pure
  isplitl [HL]; · iexact HL
  isplitl [HM]; · iexact HM
  iexact HX

theorem t20_wp (c : Dev nD) (v : FVec F S128x128 .bf16) {β : Type}
    {k : _ → Prog (TpuEff nD τ sig (Elt F) Λ₀ .tc) β} {Q : β → sProp 𝕄} :
    iprop(At c A0 Finset.univ fullShare I.LEN ∗ Ag c A22 (CP 16) (CMV I) ∗ Any c A13 (bx _ (oo 1 6) (ow 6)))
    ⊢ iprop((iprop(At c A0 Finset.univ fullShare I.LEN ∗ Ag c A22 (CP 16) (CMV I) ∗ OG I c 1 6) -∗ WP c (k ⟨⟩) Q)
      -∗ WP c (Scf.Loop.for k0_t20_loop k0_t20_ok ⟨⟩ (B20 (F := F) v (ZT I 1)) >>= k) Q) := by
  iintro ⟨HL, HM, HX⟩ Hk
  iapply (WP_for c _ _ _ _ (fun k m => iprop(At c A0 Finset.univ fullShare I.LEN ∗ Ag c A22 (CP 16) (CMV I) ∗ AgS c A13 (bx _ (oo 1 6) (ow 6)) (fun i => (i 1).val < 512 * k) (OV I))) ?_) $$ [HL HM HX]
  rotate_left
  · isplitl [HL]; · iexact HL
    isplitl [HM]; · iexact HM
    iapply (agS_of_any c A13 (fun i => by omega)) $$ HX
  · rw [trips20]
    iintro %acc ⟨HL, HM, HX⟩
    iapply Hk
    isplitl [HL]; · iexact HL
    isplitl [HM]; · iexact HM
    unfold OG AgS
    icases HX with ⟨%G, %hG, HX⟩
    iexists G
    isplitr
    · ipureintro
      exact slc_congr fun i hi => hG i hi (show (i 1).val < 512 * 4 from (i 1).isLt)
    iexact HX
  intro j acc
  have hj : j.val < 4 := trips20 ▸ j.isLt
  simp only [B20, k0_t20_body, Prog.lift, Prog.bind_op, Prog.bind_ret]
  iintro ⟨HL, HM, HX⟩
  iapply (ag_load c ?_) $$ HM
  · intro i hi
    have h0 : (i 0).val < 2 := (i 0).isLt
    have h1 : (i 1).val < 2048 := (i 1).isLt
    show (i 0).val * 2048 + (i 1).val < 16 * 256
    omega
  iintro HM
  iapply (wp_word c) $$ HL
  iintro HL
  iapply (agS_skim c ?_) $$ HX
  · rw [off87_eq]
    exact bx_subset (all3 ⟨show 1 ≤ 1 by omega, show 1 + 1 ≤ 1 + 1 by omega⟩ ⟨Nat.zero_le _, show j.val * 512 + 512 ≤ 0 + 2048 by omega⟩ ⟨show 1536 ≤ 1536 by omega, show 1536 + 128 ≤ 1536 + 128 by omega⟩)
  iintro %x HX
  iapply (agS_store c (fun i => (i 1).val < 512 * (j.val + 1)) ne_bf16 ?_ ?_ ?_) $$ HX
  · rw [off86_eq, off87_eq]
    refine (((ov_slc_tail I (b := 1) (by decide) hj).trans ?_)).symm
    unfold OT
    rw [dif_pos (show j.val < k0_t19_loop.trips from j.isLt)]
    rfl
  · rw [off87_eq]
    exact bx_subset (all3 ⟨show 1 ≤ 1 by omega, show 1 + 1 ≤ 1 + 1 by omega⟩ ⟨Nat.zero_le _, show j.val * 512 + 512 ≤ 0 + 2048 by omega⟩ ⟨show 1536 ≤ 1536 by omega, show 1536 + 128 ≤ 1536 + 128 by omega⟩)
  · rw [off87_eq]
    intro i hS hi
    have h := mem_bx.mp hS
    by_cases hh : (i 1).val < 512 * j.val
    · exact Or.inl hh
    · refine Or.inr (all3 (h 0) ⟨?_, ?_⟩ (h 2))
      · show j.val * 512 ≤ _; omega
      · show _ < j.val * 512 + 512; omega
  iintro HX
  iapply WP_pure
  isplitl [HL]; · iexact HL
  isplitl [HM]; · iexact HM
  iexact HX

/-- What the experts leave behind that nothing reads any more. -/
def Left (c : Dev nD) : sProp 𝕄 :=
  iprop(At c A17 Finset.univ fullShare I.W1S ∗ At c A20 Finset.univ fullShare I.W2S ∗ At c A23 Finset.univ fullShare (XSV I) ∗ Ag c A21 (LP I) (LGV I)
    ∗ W1I I c 16 ∗ T1I I c 16 ∗ W2I I c 16 ∗ T2I I c 16 ∗ Any c A24 Finset.univ ∗ Any c A25 Finset.univ)

theorem part17_wp (c : Dev nD) (hl : ∀ b, b < 2 → ∀ t : ℕ, t < nb I b ↔ 512 * (t : Int) < (len I b).toInt) {Q : _ → sProp 𝕄} :
    iprop(Any c A25 Finset.univ ∗ (Any c A25 Finset.univ -∗ S13 I c 0))
    ⊢ iprop((iprop(Owe c ∗ At c A0 Finset.univ fullShare I.LEN ∗ Left I c ∗ Ag c A22 (CP 16) (CMV I) ∗ At c A30 Finset.univ fullShare (SSC I) ∗ At c A28 Finset.univ fullShare (SCV I)
        ∗ At c A31 Finset.univ fullShare (HSC I) ∗ HF I c 0 16 ∗ HF I c 1 16 ∗ Ag c A26 (YP 16 0) (YV I) ∗ Ag c A27 (fun i => (i 2).val < 1536 ∨ (i 0).val = 0) (ZV I)
        ∗ Ob I c 0 7 ∗ Ob I c 1 6) -∗ Q (k0_pay74 (slc (YV I) ![1, 0, 1536] S1x128x128.size))) -∗ WP c (P17 (F := F)) Q) := by
  simp only [P17, k0_part17_eq_skeleton, k0_part17_skel, Prog.lift, Prog.bind_op, Prog.bind_ret]
  iintro ⟨HQ, HS⟩ Hk
  ihave HQ := (entails_of_eq (show Any (F := F) c A25 Finset.univ = iprop(∃ v : S32x8192.Idx → Elt F .fp8e4m3, At c A25 Finset.univ fullShare v) from rfl)) $$ HQ
  icases HQ with ⟨%q, HQ⟩
  iapply (wp_load_all c) $$ HQ
  iintro HQ
  iapply (wp_put_all c) $$ HQ
  iintro HQ
  ihave HQ := (any_of c A25 _ _) $$ HQ
  ihave HS := HS $$ HQ
  iapply (t13_wp I c hl) $$ HS
  unfold S13
  iintro ⟨HO, HL, HW1, HW2, HX, HG, HM, HSS, HSC, HHS, W1, T1, W2, T2, H0, H1, HH, HQ, HY, HZ, O0, O1⟩
  ihave O0 := (entails_of_eq (show Ob I c 0 (Of 16) = Ob I c 0 6 from rfl)) $$ O0
  ihave O1 := (entails_of_eq (show Ob I c 1 (Of 16) = Ob I c 1 6 from rfl)) $$ O1
  iapply (ag_load c ?_) $$ HY
  · intro i hi
    exact Or.inl (show (i 1).val < 8 * 16 from (i 1).isLt)
  iintro HY
  iapply (ag_skim c) $$ HZ
  iintro %x HZ
  iapply (ag_store c (fun i => (i 2).val < 1536 ∨ (i 0).val = 0) ne_bf16 ?_ ?_) $$ HZ
  · exact (zv_slc_tail I (b := 0) (by decide)).symm
  · intro i hi
    have h2 : (i 2).val < 1664 := (i 2).isLt
    by_cases h : (i 2).val < 1536
    · exact Or.inl h
    · refine Or.inr (all3 ⟨Nat.zero_le _, ?_⟩ ⟨Nat.zero_le _, ?_⟩ ⟨?_, ?_⟩)
      · show _ < 0 + 1; omega
      · show _ < 0 + 128; have : (i 1).val < 128 := (i 1).isLt; omega
      · show 1536 ≤ _; omega
      · show _ < 1536 + 128; omega
  iintro HZ
  iapply (ag_load c ?_) $$ HZ
  · intro i hi
    have h0 : 0 ≤ (i 0).val ∧ (i 0).val < 0 + 1 := hi 0
    exact Or.inr (by omega)
  iintro HZ
  rw [zv_slc_tail I (b := 0) (by decide)]
  ihave O0 := (Ob_take I c 0 6 (by omega)) $$ O0
  icases O0 with ⟨O0, HX0⟩
  iapply (t19_wp I c) $$ [HL HM HX0]
  · isplitl [HL]; · iexact HL
    isplitl [HM]; · iexact HM
    iexact HX0
  iintro ⟨HL, HM, HX0⟩
  iapply (out_go I c 0 6 (by omega) rfl rfl rfl (sem39 _ _ _ 0 rfl)) $$ [O0 HX0]
  · isplitl [O0]; · iexact O0
    iexact HX0
  iintro O0
  iapply (ag_load c ?_) $$ HY
  · intro i hi
    exact Or.inl (show (i 1).val < 8 * 16 from (i 1).isLt)
  iintro HY
  iapply WP_pure
  iapply Hk
  isplitl [HO]; · iexact HO
  isplitl [HL]; · iexact HL
  isplitl [HW1 HW2 HX HG W1 T1 W2 T2 HH HQ]
  · unfold Left
    isplitl [HW1]; · iexact HW1
    isplitl [HW2]; · iexact HW2
    isplitl [HX]; · iexact HX
    isplitl [HG]; · iexact HG
    isplitl [W1]; · iexact W1
    isplitl [T1]; · iexact T1
    isplitl [W2]; · iexact W2
    isplitl [T2]; · iexact T2
    isplitl [HH]; · iexact HH
    iexact HQ
  isplitl [HM]; · iexact HM
  isplitl [HSS]
  · iapply (at_of_ag c A30 (fun i => show (i 1).val < 128 from (i 1).isLt)) $$ HSS
  isplitl [HSC]
  · iapply (at_of_ag c A28 (fun i => show (i 1).val < 16 from (i 1).isLt)) $$ HSC
  isplitl [HHS]
  · iapply (at_of_ag c A31 (fun i => show (i 1).val < 128 from (i 1).isLt)) $$ HHS
  isplitl [H0]; · iexact H0
  isplitl [H1]; · iexact H1
  isplitl [HY]; · iexact HY
  isplitl [HZ]; · iexact HZ
  isplitl [O0]; · iexact O0
  iexact O1

theorem part18_wp (c : Dev nD) {Q : _ → sProp 𝕄} :
    iprop(At c A0 Finset.univ fullShare I.LEN ∗ Ag c A22 (CP 16) (CMV I) ∗ At c A30 Finset.univ fullShare (SSC I) ∗ Ag c A27 (fun i => (i 2).val < 1536 ∨ (i 0).val = 0) (ZV I)
        ∗ Ob I c 1 6 ∗ Any c A32 Finset.univ)
    ⊢ iprop((iprop(At c A0 Finset.univ fullShare I.LEN ∗ Ag c A22 (CP 16) (CMV I) ∗ At c A30 Finset.univ fullShare (SSC I) ∗ At c A27 Finset.univ fullShare (ZV I)
        ∗ Ob I c 1 7 ∗ Ag c A32 (fun i => (i 0).val = 0) (SSV I)) -∗ Q ⟨k0_pay77, k0_pay79 (slc (SSC I) ![1, 0, 0] S1x128x128.size), k0_pay80⟩)
      -∗ WP c (P18 (F := F) (k0_pay74 (slc (YV I) ![1, 0, 1536] S1x128x128.size))) Q) := by
  simp only [P18, k0_part18_eq_skeleton, k0_part18_skel, Prog.lift, Prog.bind_op, Prog.bind_ret]
  iintro ⟨HL, HM, HSS, HZ, O1, HA⟩ Hk
  iapply (ag_skim c) $$ HZ
  iintro %x HZ
  iapply (ag_store c (fun _ => True) ne_bf16 ?_ ?_) $$ HZ
  · exact (zv_slc_tail I (b := 1) (by decide)).symm
  · intro i hi
    have h0 : (i 0).val < 2 := (i 0).isLt
    have h2 : (i 2).val < 1664 := (i 2).isLt
    by_cases h : (i 2).val < 1536 ∨ (i 0).val = 0
    · exact Or.inl h
    · refine Or.inr (all3 ⟨?_, ?_⟩ ⟨Nat.zero_le _, ?_⟩ ⟨?_, ?_⟩)
      · show 1 ≤ _; omega
      · show _ < 1 + 1; omega
      · show _ < 0 + 128; have : (i 1).val < 128 := (i 1).isLt; omega
      · show 1536 ≤ _; omega
      · show _ < 1536 + 128; omega
  iintro HZ
  iapply (ag_load c ?_) $$ HZ
  · exact fun _ _ => trivial
  iintro HZ
  rw [zv_slc_tail I (b := 1) (by decide)]
  ihave O1 := (Ob_take I c 1 6 (by omega)) $$ O1
  icases O1 with ⟨O1, HX1⟩
  iapply (t20_wp I c _) $$ [HL HM HX1]
  · isplitl [HL]; · iexact HL
    isplitl [HM]; · iexact HM
    iexact HX1
  iintro ⟨HL, HM, HX1⟩
  iapply (out_go I c 1 6 (by omega) rfl rfl rfl (sem39 _ _ _ 1 rfl)) $$ [O1 HX1]
  · isplitl [O1]; · iexact O1
    iexact HX1
  iintro O1
  iapply (wp_load_all c) $$ HSS
  iintro HSS
  ihave HA := (ag_of_any c A32 (P := fun _ => False) (V := SSV I) (fun _ => id)) $$ HA
  iapply (ag_skim c) $$ HA
  iintro %y HA
  iapply (ag_store c (fun i => (i 0).val = 0) ne_f32 ?_ ?_) $$ HA
  · exact (ssv_slc I (b := 0) (by decide)).symm
  · intro i hi
    refine Or.inr (all3 ⟨Nat.zero_le _, ?_⟩ ⟨Nat.zero_le _, ?_⟩ ⟨Nat.zero_le _, ?_⟩)
    · show _ < 0 + 1; omega
    · show _ < 0 + 16; have : (i 1).val < 16 := (i 1).isLt; omega
    · show _ < 0 + 8; have : (i 2).val < 8 := (i 2).isLt; omega
  iintro HA
  iapply (wp_load_all c) $$ HSS
  iintro HSS
  iapply (WP_ret c ⟨k0_pay77, k0_pay79 (slc (SSC I) ![1, 0, 0] S1x128x128.size), k0_pay80⟩ ?_)
  · rfl
  iapply Hk
  isplitl [HL]; · iexact HL
  isplitl [HM]; · iexact HM
  isplitl [HSS]; · iexact HSS
  isplitl [HZ]; · iapply (at_of_ag c A27 (fun i => trivial)) $$ HZ
  isplitl [O1]; · iexact O1
  iexact HA

theorem part19_wp (c : Dev nD) {Q : _ → sProp 𝕄} :
    iprop(Ag c A32 (fun i => (i 0).val = 0) (SSV I) ∗ At c A31 Finset.univ fullShare (HSC I) ∗ Any c A33 Finset.univ ∗ At c A27 Finset.univ fullShare (ZV I)
      ∗ At c A28 Finset.univ fullShare (SCV I) ∗ (Any c A8 Finset.univ ∗ Cell c (c40 0)) ∗ (Any c A9 Finset.univ ∗ Cell c (c40 1)))
    ⊢ iprop((iprop(At c A32 Finset.univ fullShare (SSV I) ∗ At c A31 Finset.univ fullShare (HSC I) ∗ At c A33 Finset.univ fullShare (HSV I)
      ∗ FC c (c40 0) A27 A8 (ZV I) ∗ FC c (c40 1) A28 A9 (SCV I)) -∗ Q ⟨⟩)
      -∗ WP c (P19 (F := F) k0_pay77 (k0_pay79 (slc (SSC I) ![1, 0, 0] S1x128x128.size)) k0_pay80) Q) := by
  simp only [P19, k0_part19_eq_skeleton, k0_part19_skel, Prog.lift, Prog.bind_op, Prog.bind_ret]
  iintro ⟨HA, HB, HC, HZ, HS, ⟨H8, C0⟩, ⟨H9, C1⟩⟩ Hk
  iapply (ag_skim c) $$ HA
  iintro %x HA
  iapply (ag_store c (fun _ => True) ne_f32 ?_ ?_) $$ HA
  · exact (ssv_slc I (b := 1) (by decide)).symm
  · intro i hi
    have h0 : (i 0).val < 2 := (i 0).isLt
    by_cases h : (i 0).val = 0
    · exact Or.inl h
    refine Or.inr (all3 ⟨?_, ?_⟩ ⟨Nat.zero_le _, ?_⟩ ⟨Nat.zero_le _, ?_⟩)
    · show 1 ≤ _; omega
    · show _ < 1 + 1; omega
    · show _ < 0 + 16; have : (i 1).val < 16 := (i 1).isLt; omega
    · show _ < 0 + 8; have : (i 2).val < 8 := (i 2).isLt; omega
  iintro HA
  ihave HA := (at_of_ag c A32 (fun i => trivial)) $$ HA
  iapply (wp_load_all c) $$ HB
  iintro HB
  ihave HC := (ag_of_any c A33 (P := fun _ => False) (V := HSV I) (fun _ => id)) $$ HC
  iapply (ag_skim c) $$ HC
  iintro %y HC
  iapply (ag_store c (fun i => (i 0).val = 0) ne_f32 ?_ ?_) $$ HC
  · exact (hsv_slc I (b := 0) (by decide)).symm
  · intro i hi
    refine Or.inr (all3 ⟨Nat.zero_le _, ?_⟩ ⟨Nat.zero_le _, ?_⟩ ⟨Nat.zero_le _, ?_⟩)
    · show _ < 0 + 1; omega
    · show _ < 0 + 16; have : (i 1).val < 16 := (i 1).isLt; omega
    · show _ < 0 + 8; have : (i 2).val < 8 := (i 2).isLt; omega
  iintro HC
  iapply (wp_load_all c) $$ HB
  iintro HB
  iapply (ag_skim c) $$ HC
  iintro %y HC
  iapply (ag_store c (fun _ => True) ne_f32 ?_ ?_) $$ HC
  · exact (hsv_slc I (b := 1) (by decide)).symm
  · intro i hi
    have h0 : (i 0).val < 2 := (i 0).isLt
    by_cases h : (i 0).val = 0
    · exact Or.inl h
    refine Or.inr (all3 ⟨?_, ?_⟩ ⟨Nat.zero_le _, ?_⟩ ⟨Nat.zero_le _, ?_⟩)
    · show 1 ≤ _; omega
    · show _ < 1 + 1; omega
    · show _ < 0 + 16; have : (i 1).val < 16 := (i 1).isLt; omega
    · show _ < 0 + 8; have : (i 2).val < 8 := (i 2).isLt; omega
  iintro HC
  ihave HC := (at_of_ag c A33 (fun i => trivial)) $$ HC
  iapply (full_start c (sem40 _ _ _ 0 rfl) (by decide)) $$ [HZ H8 C0]
  · isplitl [HZ]; · iexact HZ
    isplitl [H8]; · iexact H8
    iexact C0
  iintro H8
  iapply (full_start c (sem40 _ _ _ 1 rfl) (by decide)) $$ [HS H9 C1]
  · isplitl [HS]; · iexact HS
    isplitl [H9]; · iexact H9
    iexact C1
  iintro H9
  iapply WP_pure
  iapply Hk
  isplitl [HA]; · iexact HA
  isplitl [HB]; · iexact HB
  isplitl [HC]; · iexact HC
  isplitl [H8]; · iexact H8
  iexact H9

theorem part20_wp (c : Dev nD) {Q : _ → sProp 𝕄} :
    iprop(Owe c ∗ (At c A32 Finset.univ fullShare (SSV I) ∗ Any c A10 Finset.univ ∗ Cell c (c40 2)) ∗ (At c A33 Finset.univ fullShare (HSV I) ∗ Any c A12 Finset.univ ∗ Cell c (c40 3))
      ∗ HF I c 0 16 ∗ MB I c 0 7 (sumTo NO 0))
    ⊢ iprop((iprop(Owe c ∗ FC c (c40 2) A32 A10 (SSV I) ∗ FC c (c40 3) A33 A12 (HSV I)
      ∗ (Hm I c 0 16 ∗ Any c A29 (half 0) ∗ Cell c (c38 0)) ∗ MB I c 0 7 (sumTo NO 2)) -∗ Q ⟨⟩)
      -∗ WP c (P20 (F := F)) Q) := by
  simp only [P20, k0_part20_eq_skeleton, k0_part20_skel, Prog.lift, Prog.bind_op, Prog.bind_ret]
  iintro ⟨HO, HA, HB, H0, M0⟩ Hk
  iapply (full_start c (sem40 _ _ _ 2 rfl) (by decide)) $$ HA
  iintro HA
  iapply (full_start c (sem40 _ _ _ 3 rfl) (by decide)) $$ HB
  iintro HB
  iapply (hc_wait I c 0 16 (by omega) (sem38 _ _ _ 0 rfl)) $$ [H0 HO]
  · isplitl [H0]; · iexact H0
    iexact HO
  iintro ⟨H0, HO⟩
  iapply (out_wait I c 0 0 (by omega) (sem39 _ _ _ 0 rfl) rfl) $$ [M0 HO]
  · isplitl [M0]; · iexact M0
    iexact HO
  iintro ⟨M0, HO⟩
  iapply (out_wait I c 0 1 (by omega) (sem39 _ _ _ 0 rfl) rfl) $$ [M0 HO]
  · isplitl [M0]; · iexact M0
    iexact HO
  iintro ⟨M0, HO⟩
  iapply WP_pure
  iapply Hk
  isplitl [HO]; · iexact HO
  isplitl [HA]; · iexact HA
  isplitl [HB]; · iexact HB
  isplitl [H0]; · iexact H0
  iexact M0

theorem part21_wp (c : Dev nD) {Q : _ → sProp 𝕄} :
    iprop(Owe c ∗ MB I c 0 7 (sumTo NO 2))
    ⊢ iprop((iprop(Owe c ∗ (bigSep Finset.univ (OD I c 0) ∗ Cell c (c39 0))) -∗ Q ⟨⟩) -∗ WP c (P21 (F := F)) Q) := by
  simp only [P21, k0_part21_eq_skeleton, k0_part21_skel, Prog.lift, Prog.bind_op, Prog.bind_ret]
  iintro ⟨HO, M0⟩ Hk
  iapply (out_wait I c 0 2 (by omega) (sem39 _ _ _ 0 rfl) rfl) $$ [M0 HO]
  · isplitl [M0]; · iexact M0
    iexact HO
  iintro ⟨M0, HO⟩
  iapply (out_wait I c 0 3 (by omega) (sem39 _ _ _ 0 rfl) rfl) $$ [M0 HO]
  · isplitl [M0]; · iexact M0
    iexact HO
  iintro ⟨M0, HO⟩
  iapply (out_wait I c 0 4 (by omega) (sem39 _ _ _ 0 rfl) rfl) $$ [M0 HO]
  · isplitl [M0]; · iexact M0
    iexact HO
  iintro ⟨M0, HO⟩
  iapply (out_wait I c 0 5 (by omega) (sem39 _ _ _ 0 rfl) rfl) $$ [M0 HO]
  · isplitl [M0]; · iexact M0
    iexact HO
  iintro ⟨M0, HO⟩
  iapply (out_last I c 0 (sem39 _ _ _ 0 rfl) rfl) $$ [M0 HO]
  · isplitl [M0]; · iexact M0
    iexact HO
  iintro ⟨M0, MC, HO⟩
  iapply WP_pure
  iapply Hk
  isplitl [HO]; · iexact HO
  isplitl [M0]; · iexact M0
  iexact MC

theorem part22_wp (c : Dev nD) {Q : _ → sProp 𝕄} :
    iprop(Owe c ∗ HF I c 1 16 ∗ MB I c 1 7 (sumTo NO 0))
    ⊢ iprop((iprop(Owe c ∗ (Hm I c 1 16 ∗ Any c A29 (half 1) ∗ Cell c (c38 1)) ∗ MB I c 1 7 (sumTo NO 3)) -∗ Q ⟨⟩) -∗ WP c (P22 (F := F)) Q) := by
  simp only [P22, k0_part22_eq_skeleton, k0_part22_skel, Prog.lift, Prog.bind_op, Prog.bind_ret]
  iintro ⟨HO, H0, M1⟩ Hk
  iapply (hc_wait I c 1 16 (by omega) (sem38 _ _ _ 1 rfl)) $$ [H0 HO]
  · isplitl [H0]; · iexact H0
    iexact HO
  iintro ⟨H0, HO⟩
  iapply (out_wait I c 1 0 (by omega) (sem39 _ _ _ 1 rfl) rfl) $$ [M1 HO]
  · isplitl [M1]; · iexact M1
    iexact HO
  iintro ⟨M1, HO⟩
  iapply (out_wait I c 1 1 (by omega) (sem39 _ _ _ 1 rfl) rfl) $$ [M1 HO]
  · isplitl [M1]; · iexact M1
    iexact HO
  iintro ⟨M1, HO⟩
  iapply (out_wait I c 1 2 (by omega) (sem39 _ _ _ 1 rfl) rfl) $$ [M1 HO]
  · isplitl [M1]; · iexact M1
    iexact HO
  iintro ⟨M1, HO⟩
  iapply WP_pure
  iapply Hk
  isplitl [HO]; · iexact HO
  isplitl [H0]; · iexact H0
  iexact M1

theorem part23_wp (c : Dev nD) {Q : _ → sProp 𝕄} :
    iprop(Owe c ∗ MB I c 1 7 (sumTo NO 3) ∗ FC c (c40 0) A27 A8 (ZV I) ∗ FC c (c40 1) A28 A9 (SCV I))
    ⊢ iprop((iprop(Owe c ∗ (bigSep Finset.univ (OD I c 1) ∗ Cell c (c39 1)) ∗ ((At c A8 Finset.univ fullShare (ZV I) ∗ At c A27 Finset.univ fullShare (ZV I)) ∗ Cell c (c40 0))
      ∗ ((At c A9 Finset.univ fullShare (SCV I) ∗ At c A28 Finset.univ fullShare (SCV I)) ∗ Cell c (c40 1))) -∗ Q ⟨⟩) -∗ WP c (P23 (F := F)) Q) := by
  simp only [P23, k0_part23_eq_skeleton, k0_part23_skel, Prog.lift, Prog.bind_op, Prog.bind_ret]
  iintro ⟨HO, M1, H8, H9⟩ Hk
  iapply (out_wait I c 1 3 (by omega) (sem39 _ _ _ 1 rfl) rfl) $$ [M1 HO]
  · isplitl [M1]; · iexact M1
    iexact HO
  iintro ⟨M1, HO⟩
  iapply (out_wait I c 1 4 (by omega) (sem39 _ _ _ 1 rfl) rfl) $$ [M1 HO]
  · isplitl [M1]; · iexact M1
    iexact HO
  iintro ⟨M1, HO⟩
  iapply (out_wait I c 1 5 (by omega) (sem39 _ _ _ 1 rfl) rfl) $$ [M1 HO]
  · isplitl [M1]; · iexact M1
    iexact HO
  iintro ⟨M1, HO⟩
  iapply (out_last I c 1 (sem39 _ _ _ 1 rfl) rfl) $$ [M1 HO]
  · isplitl [M1]; · iexact M1
    iexact HO
  iintro ⟨M1, MC, HO⟩
  iapply (full_wait c (sem40 _ _ _ 0 rfl)) $$ [H8 HO]
  · isplitl [H8]; · iexact H8
    iexact HO
  iintro ⟨H8, C8, HO⟩
  iapply (full_wait c (sem40 _ _ _ 1 rfl)) $$ [H9 HO]
  · isplitl [H9]; · iexact H9
    iexact HO
  iintro ⟨H9, C9, HO⟩
  iapply WP_pure
  iapply Hk
  isplitl [HO]; · iexact HO
  isplitl [M1 MC]
  · isplitl [M1]; · iexact M1
    iexact MC
  isplitl [H8 C8]
  · isplitl [H8]; · iexact H8
    iexact C8
  isplitl [H9]; · iexact H9
  iexact C9

end Cert.KernelIdeal.Hand

end
-- ==== Proof.KernelIdeal.Pieces.lean ====
/-
  Memrefs cut into the boxes the copies move, and put together again.
-/
module

public import proofs.«01_k».proof.Proof.KernelIdeal.Phase3

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (UU nD τ) ℕ

variable (I : Inp F)

theorem bs4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bs5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bs6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bs7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem bs_mono {ι : Type} {s : Finset ι} {Φ Ψ : ι → sProp 𝕄} (h : ∀ i ∈ s, Φ i ⊢ Ψ i) : bigSep s Φ ⊢ bigSep s Ψ := BI.bigSep_mono h
theorem bs_sep {ι : Type} (s : Finset ι) (Φ Ψ : ι → sProp 𝕄) : bigSep s (fun i => iprop(Φ i ∗ Ψ i)) = iprop(bigSep s Φ ∗ bigSep s Ψ) := BI.bigSep_sep s Φ Ψ

/-! ## A memref cut into boxes -/

section
variable {sp : Space} {s : Shape} {e : EltTy}

theorem at_toks (c : Dev nD) (M : Memref sig .tc sp s e) (q : PosShare TreeShare) (n : ℕ) (v : s.Idx → Elt F e) :
    (At c M Finset.univ q v : sProp 𝕄) ⊣⊢ iprop(At c M Finset.univ (shareDrop q n) v ∗ bigSep Finset.univ (fun i : Fin n => At c M Finset.univ (shareTok q n i) v)) := by
  unfold At; exact pointsTo_toks q n

theorem row_at {n : ℕ} (c : Dev nD) (M : Memref sig .tc sp s e) (box : Fin n → Finset s.Idx) (hd : ∀ i j, i ≠ j → Disjoint (box i) (box j))
    (hc : ∀ x, ∃ j, x ∈ box j) (q : PosShare TreeShare) (v : s.Idx → Elt F e) :
    (At c M Finset.univ q v : sProp 𝕄) ⊣⊢ bigSep Finset.univ (fun j => At c M (box j) q v) := by
  have h : Finset.univ = (Finset.univ : Finset (Fin n)).biUnion box := by
    ext x; simp only [Finset.mem_univ, true_iff, Finset.mem_biUnion, true_and]; exact hc x
  rw [h]; exact at_pieces c M q v box hd Finset.univ

theorem row_split {n : ℕ} (c : Dev nD) (M : Memref sig .tc sp s e) (box : Fin n → Finset s.Idx) (hd : ∀ i j, i ≠ j → Disjoint (box i) (box j))
    (hc : ∀ x, ∃ j, x ∈ box j) : Any c M Finset.univ ⊢ (bigSep Finset.univ (fun j => Any (F := F) c M (box j)) : sProp 𝕄) := by
  unfold Any
  iintro ⟨%v, H⟩
  ihave H := (row_at c M box hd hc fullShare v).1 $$ H
  iapply (bs_mono fun j _ => any_of c M (box j) v) $$ H

theorem row_join {n : ℕ} (c : Dev nD) (M : Memref sig .tc sp s e) (box : Fin n → Finset s.Idx) (hd : ∀ i j, i ≠ j → Disjoint (box i) (box j))
    (hc : ∀ x, ∃ j, x ∈ box j) : (bigSep Finset.univ (fun j => Any (F := F) c M (box j)) : sProp 𝕄) ⊢ Any c M Finset.univ := by
  have h : Finset.univ = (Finset.univ : Finset (Fin n)).biUnion box := by
    ext x; simp only [Finset.mem_univ, true_iff, Finset.mem_biUnion, true_and]; exact hc x
  iintro H
  ihave H := (bs_mono (s := Finset.univ) (fun (j : Fin n) _ => show Any (F := F) c M (box j) ⊢ iprop(∃ v, ⌜True⌝ ∗ At (F := F) c M (box j) fullShare v) from by
    unfold Any; iintro ⟨%v, H⟩; iexists v; isplitr; · ipureintro; trivial
    iexact H)) $$ H
  ihave H := (pieces_join c M box (fun _ _ => True) hd (fun _ _ _ _ => id) Finset.univ) $$ H
  unfold Any
  icases H with ⟨%v, -, H⟩
  iexists v
  ihave H := (entails_of_eq (show At c M (Finset.univ.biUnion box) fullShare v = At c M Finset.univ fullShare v by rw [← h])) $$ H
  iexact H

/-- Boxes in two rows. -/
theorem grid_at {n : ℕ} (c : Dev nD) (M : Memref sig .tc sp s e) (box : Fin 2 → Fin n → Finset s.Idx) (hd : ∀ b i j, i ≠ j → Disjoint (box b i) (box b j))
    (hr : ∀ i j, Disjoint (box 0 i) (box 1 j)) (hc : ∀ x, ∃ b j, x ∈ box b j) (q : PosShare TreeShare) (v : s.Idx → Elt F e) :
    (At c M Finset.univ q v : sProp 𝕄) ⊣⊢ iprop(bigSep Finset.univ (fun j => At c M (box 0 j) q v) ∗ bigSep Finset.univ (fun j => At c M (box 1 j) q v)) := by
  have h : Finset.univ = (Finset.univ : Finset (Fin n)).biUnion (box 0) ∪ (Finset.univ : Finset (Fin n)).biUnion (box 1) := by
    ext x; simp only [Finset.mem_univ, true_iff, Finset.mem_union, Finset.mem_biUnion, true_and]
    obtain ⟨b, j, hx⟩ := hc x
    fin_cases b
    · exact Or.inl ⟨j, hx⟩
    · exact Or.inr ⟨j, hx⟩
  have hdis : Disjoint ((Finset.univ : Finset (Fin n)).biUnion (box 0)) ((Finset.univ : Finset (Fin n)).biUnion (box 1)) := by
    rw [Finset.disjoint_biUnion_left]; intro i _; rw [Finset.disjoint_biUnion_right]; intro j _; exact hr i j
  have h0 := at_pieces c M q v (box 0) (hd 0) Finset.univ
  have h1 := at_pieces c M q v (box 1) (hd 1) Finset.univ
  have hu := at_union c M hdis q v
  rw [h]
  constructor
  · iintro H
    ihave H := hu.1 $$ H
    icases H with ⟨H, K⟩
    isplitl [H]; · iapply h0.1 $$ H
    iapply h1.1 $$ K
  · iintro ⟨H, K⟩
    iapply hu.2
    isplitl [H]; · iapply h0.2 $$ H
    iapply h1.2 $$ K

theorem grid_split {n : ℕ} (c : Dev nD) (M : Memref sig .tc sp s e) (box : Fin 2 → Fin n → Finset s.Idx) (hd : ∀ b i j, i ≠ j → Disjoint (box b i) (box b j))
    (hr : ∀ i j, Disjoint (box 0 i) (box 1 j)) (hc : ∀ x, ∃ b j, x ∈ box b j) :
    Any c M Finset.univ ⊢ (iprop(bigSep Finset.univ (fun j => Any (F := F) c M (box 0 j)) ∗ bigSep Finset.univ (fun j => Any (F := F) c M (box 1 j))) : sProp 𝕄) := by
  iintro H
  ihave H := (entails_of_eq (show Any (F := F) c M Finset.univ = iprop(∃ v : s.Idx → Elt F e, At c M Finset.univ fullShare v) from rfl)) $$ H
  icases H with ⟨%v, H⟩
  ihave H := (grid_at c M box hd hr hc fullShare v).1 $$ H
  icases H with ⟨H, K⟩
  isplitl [H]
  · iapply (bs_mono fun j _ => any_of c M (box 0 j) v) $$ H
  · iapply (bs_mono fun j _ => any_of c M (box 1 j) v) $$ K

theorem grid_join {n : ℕ} (c : Dev nD) (M : Memref sig .tc sp s e) (box : Fin 2 → Fin n → Finset s.Idx) (hd : ∀ b i j, i ≠ j → Disjoint (box b i) (box b j))
    (hr : ∀ i j, Disjoint (box 0 i) (box 1 j)) (hc : ∀ x, ∃ b j, x ∈ box b j) :
    (iprop(bigSep Finset.univ (fun j => Any (F := F) c M (box 0 j)) ∗ bigSep Finset.univ (fun j => Any (F := F) c M (box 1 j))) : sProp 𝕄) ⊢ Any c M Finset.univ := by
  have h : (Finset.univ : Finset (Fin n)).biUnion (box 0) ∪ (Finset.univ : Finset (Fin n)).biUnion (box 1) = Finset.univ := by
    ext x; simp only [Finset.mem_univ, iff_true, Finset.mem_union, Finset.mem_biUnion, true_and]
    obtain ⟨b, j, hx⟩ := hc x
    fin_cases b
    · exact Or.inl ⟨j, hx⟩
    · exact Or.inr ⟨j, hx⟩
  have hdis : Disjoint ((Finset.univ : Finset (Fin n)).biUnion (box 0)) ((Finset.univ : Finset (Fin n)).biUnion (box 1)) := by
    rw [Finset.disjoint_biUnion_left]; intro i _; rw [Finset.disjoint_biUnion_right]; intro j _; exact hr i j
  have one : ∀ b, (bigSep Finset.univ (fun j => Any (F := F) c M (box b j)) : sProp 𝕄) ⊢ Any c M ((Finset.univ : Finset (Fin n)).biUnion (box b)) := by
    intro b
    iintro H
    ihave H := (bs_mono (s := Finset.univ) (fun (j : Fin n) _ => show Any (F := F) c M (box b j) ⊢ iprop(∃ v, ⌜True⌝ ∗ At (F := F) c M (box b j) fullShare v) from by
      unfold Any; iintro ⟨%v, H⟩; iexists v; isplitr; · ipureintro; trivial
      iexact H)) $$ H
    ihave H := (pieces_join c M (box b) (fun _ _ => True) (hd b) (fun _ _ _ _ => id) Finset.univ) $$ H
    unfold Any
    icases H with ⟨%v, -, H⟩
    iexists v
    iexact H
  iintro ⟨H, K⟩
  iapply (any_join c M hdis h)
  isplitl [H]
  · iapply (one 0) $$ H
  · iapply (one 1) $$ K

/-- A box holding the values of `V`. -/
theorem win_at (c : Dev nD) (M : Memref sig .tc sp s e) {off size : Fin s.rank → ℕ} (h : ∀ a, off a + size a ≤ s.size a) (V : s.Idx → Elt F e)
    {w : (⟨s.rank, size⟩ : Shape).Idx → Elt F e} (hw : w = slc V off size) : Win c M off size fullShare w ⊢ (At (F := F) c M (bx s off size) fullShare V : sProp 𝕄) := by
  unfold Win
  iintro ⟨%v, %hv, H⟩
  ihave H := (entails_of_eq (at_congr c M fullShare (fun i hi => put_slc_agree (v := v) (u := V) h hi (hv.trans hw)))) $$ H
  iexact H
end

/-! ## The tokens' blocks -/

theorem x_hd (b : Fin 2) (i j : Fin 4) (h : i ≠ j) : Disjoint (bx S2x2048x1664 ![b.val, 512 * i.val, 0] S1x512x1664.size) (bx _ ![b.val, 512 * j.val, 0] S1x512x1664.size) := by
  refine bx_disjoint 1 ?_
  show 512 * i.val + 512 ≤ 512 * j.val ∨ 512 * j.val + 512 ≤ 512 * i.val
  have : i.val ≠ j.val := fun e => h (Fin.ext e)
  omega
theorem x_hr (i j : Fin 4) : Disjoint (bx S2x2048x1664 ![(0 : Fin 2).val, 512 * i.val, 0] S1x512x1664.size) (bx _ ![(1 : Fin 2).val, 512 * j.val, 0] S1x512x1664.size) :=
  bx_disjoint 0 (Or.inl (show 0 + 1 ≤ 1 by omega))
theorem x_hc (x : S2x2048x1664.Idx) : ∃ (b : Fin 2) (j : Fin 4), x ∈ bx S2x2048x1664 ![b.val, 512 * j.val, 0] S1x512x1664.size := by
  have h0 : (x 0).val < 2 := (x 0).isLt
  have h1 : (x 1).val < 2048 := (x 1).isLt
  have h2 : (x 2).val < 1664 := (x 2).isLt
  refine ⟨⟨(x 0).val, h0⟩, ⟨(x 1).val / 512, by omega⟩, mem_bx.mpr (all3 ⟨le_refl _, Nat.lt_succ_self _⟩ ⟨?_, ?_⟩ ⟨Nat.zero_le _, ?_⟩)⟩
  · show 512 * ((x 1).val / 512) ≤ _; omega
  · show _ < 512 * ((x 1).val / 512) + 512; omega
  · show _ < 0 + 1664; omega

def Xb (b : Fin 2) (j : Fin 4) : Finset S2x2048x1664.Idx := bx _ ![b.val, 512 * j.val, 0] S1x512x1664.size

theorem x_in (c : Dev nD) : iprop(At c A1 Finset.univ fullShare I.X ∗ Any c A13 Finset.univ ∗ bigSep Finset.univ (fun t => Cell c (c34 0 t)) ∗ bigSep Finset.univ (fun t => Cell c (c34 1 t)))
    ⊢ iprop(bigSep Finset.univ (XP I c 0) ∗ bigSep Finset.univ (XP I c 1)) := by
  have e : ∀ b, bigSep Finset.univ (XP I c b) = iprop(bigSep Finset.univ (fun t => Any (F := F) c A13 (Xb b t)) ∗ bigSep Finset.univ (fun t => At (F := F) c A1 (Xb b t) fullShare I.X) ∗ bigSep Finset.univ (fun t => Cell (F := F) c (c34 b t))) := fun b => by
    rw [show XP I c b = fun t => iprop(Any (F := F) c A13 (Xb b t) ∗ At (F := F) c A1 (Xb b t) fullShare I.X ∗ Cell (F := F) c (c34 b t)) from rfl, bs_sep, bs_sep]
  rw [e, e]
  iintro ⟨H1, H2, C0, C1⟩
  ihave H1 := (grid_at c A1 Xb x_hd x_hr x_hc fullShare I.X).1 $$ H1
  ihave H2 := (grid_split c A13 Xb x_hd x_hr x_hc) $$ H2
  icases H1 with ⟨H10, H11⟩
  icases H2 with ⟨H20, H21⟩
  isplitl [H10 H20 C0]
  · isplitl [H20]; · iexact H20
    isplitl [H10]; · iexact H10
    iexact C0
  · isplitl [H21]; · iexact H21
    isplitl [H11]; · iexact H11
    iexact C1

theorem x_out (c : Dev nD) : iprop(bigSep Finset.univ (XP I c 0) ∗ bigSep Finset.univ (XP I c 1))
    ⊢ iprop(At c A1 Finset.univ fullShare I.X ∗ Any c A13 Finset.univ ∗ bigSep Finset.univ (fun t => Cell c (c34 0 t)) ∗ bigSep Finset.univ (fun t => Cell c (c34 1 t))) := by
  have e : ∀ b, bigSep Finset.univ (XP I c b) = iprop(bigSep Finset.univ (fun t => Any (F := F) c A13 (Xb b t)) ∗ bigSep Finset.univ (fun t => At (F := F) c A1 (Xb b t) fullShare I.X) ∗ bigSep Finset.univ (fun t => Cell (F := F) c (c34 b t))) := fun b => by
    rw [show XP I c b = fun t => iprop(Any (F := F) c A13 (Xb b t) ∗ At (F := F) c A1 (Xb b t) fullShare I.X ∗ Cell (F := F) c (c34 b t)) from rfl, bs_sep, bs_sep]
  rw [e, e]
  iintro ⟨⟨H20, H10, C0⟩, ⟨H21, H11, C1⟩⟩
  isplitl [H10 H11]
  · iapply (grid_at c A1 Xb x_hd x_hr x_hc fullShare I.X).2
    isplitl [H10]; · iexact H10
    iexact H11
  isplitl [H20 H21]
  · iapply (grid_join c A13 Xb x_hd x_hr x_hc)
    isplitl [H20]; · iexact H20
    iexact H21
  isplitl [C0]; · iexact C0
  iexact C1

/-- The blocks read, their memory is free again. -/
theorem x_home (c : Dev nD) (hl : ∀ b, b < 2 → ∀ t : ℕ, t < nb I b ↔ 512 * (t : Int) < (len I b).toInt) (b : Fin 2) :
    Xs I c b (nb I b.val) ⊢ bigSep Finset.univ (XP I c b) := by
  unfold Xs
  refine bs_mono fun t _ => ?_
  split
  · unfold XH XP
    iintro ⟨⟨HX, HA⟩, HC⟩
    isplitl [HX]; · iapply (win_any c _ _ _ _) $$ HX
    isplitl [HA]; · iexact HA
    iexact HC
  · rename_i h
    unfold XF XP
    rw [if_neg (fun h' => h ((hl b.val b.isLt t.val).mpr h'))]

/-! ## The weights' buffers -/

theorem w1_disj (i j : Fin 4) (h : i ≠ j) : Disjoint (bx S4x1664x1664 ![i.val, 0, 0] S1x1664x1664.size) (bx _ ![j.val, 0, 0] S1x1664x1664.size) := by
  refine bx_disjoint 0 ?_
  show i.val + 1 ≤ j.val ∨ j.val + 1 ≤ i.val
  have : i.val ≠ j.val := fun e => h (Fin.ext e)
  omega
theorem w1_cover (x : S4x1664x1664.Idx) : ∃ j : Fin 4, x ∈ bx S4x1664x1664 ![j.val, 0, 0] S1x1664x1664.size := by
  have h1 : (x 1).val < 1664 := (x 1).isLt
  have h2 : (x 2).val < 1664 := (x 2).isLt
  refine ⟨⟨(x 0).val, (x 0).isLt⟩, mem_bx.mpr (all3 ⟨le_refl _, Nat.lt_succ_self _⟩ ⟨Nat.zero_le _, ?_⟩ ⟨Nat.zero_le _, ?_⟩)⟩
  · show _ < 0 + 1664; omega
  · show _ < 0 + 1664; omega
theorem w2_disj (i j : Fin 6) (h : i ≠ j) : Disjoint (bx S6x8192x256 ![i.val, 0, 0] S1x8192x256.size) (bx _ ![j.val, 0, 0] S1x8192x256.size) := by
  refine bx_disjoint 0 ?_
  show i.val + 1 ≤ j.val ∨ j.val + 1 ≤ i.val
  have : i.val ≠ j.val := fun e => h (Fin.ext e)
  omega
theorem w2_cover (x : S6x8192x256.Idx) : ∃ j : Fin 6, x ∈ bx S6x8192x256 ![j.val, 0, 0] S1x8192x256.size := by
  have h1 : (x 1).val < 8192 := (x 1).isLt
  have h2 : (x 2).val < 256 := (x 2).isLt
  refine ⟨⟨(x 0).val, (x 0).isLt⟩, mem_bx.mpr (all3 ⟨le_refl _, Nat.lt_succ_self _⟩ ⟨Nat.zero_le _, ?_⟩ ⟨Nat.zero_le _, ?_⟩)⟩
  · show _ < 0 + 8192; omega
  · show _ < 0 + 256; omega

theorem w1_in (c : Dev nD) : iprop(At c A3 Finset.univ fullShare I.W1 ∗ Any c A15 Finset.univ ∗ Any c A16 Finset.univ ∗ Cell c (c35 0) ∗ Cell c (c35 1) ∗ Cell c (c35 2) ∗ Cell c (c35 3) ∗ Cell c (c35 4))
    ⊢ iprop(bigSep Finset.univ (W1P I c) ∗ T1P I c ∗ At c A3 Finset.univ (shareDrop fullShare 5) I.W1) := by
  rw [bs4 (W1P I c)]
  unfold W1P T1P
  iintro ⟨HA, HB, HT, C0, C1, C2, C3, C4⟩
  ihave HA := (at_toks c A3 fullShare 5 I.W1).1 $$ HA
  ihave HA := (entails_of_eq (congrArg (fun Z => iprop(At c A3 Finset.univ (shareDrop fullShare 5) I.W1 ∗ Z)) (bs5 _))) $$ HA
  icases HA with ⟨HD, K0, K1, K2, K3, K4⟩
  ihave HB := (row_split c A15 (fun j : Fin 4 => bx _ ![j.val, 0, 0] S1x1664x1664.size) w1_disj w1_cover) $$ HB
  ihave HB := (entails_of_eq (bs4 _)) $$ HB
  icases HB with ⟨B0, B1, B2, B3⟩
  isplitl [K0 B0 C0 K1 B1 C1 K2 B2 C2 K3 B3 C3]
  · isplitl [K0 B0 C0]
    · isplitl [K0]; · iexact K0
      isplitl [B0]; · iexact B0
      iexact C0
    isplitl [K1 B1 C1]
    · isplitl [K1]; · iexact K1
      isplitl [B1]; · iexact B1
      iexact C1
    isplitl [K2 B2 C2]
    · isplitl [K2]; · iexact K2
      isplitl [B2]; · iexact B2
      iexact C2
    isplitl [K3]; · iexact K3
    isplitl [B3]; · iexact B3
    iexact C3
  isplitl [K4 HT C4]
  · isplitl [K4]; · iexact K4
    isplitl [HT]; · iexact HT
    iexact C4
  iexact HD

theorem w1_out (c : Dev nD) : iprop(bigSep Finset.univ (W1P I c) ∗ T1P I c ∗ At c A3 Finset.univ (shareDrop fullShare 5) I.W1)
    ⊢ iprop(At c A3 Finset.univ fullShare I.W1 ∗ Any c A15 Finset.univ ∗ Any c A16 Finset.univ ∗ Cell c (c35 0) ∗ Cell c (c35 1) ∗ Cell c (c35 2) ∗ Cell c (c35 3) ∗ Cell c (c35 4)) := by
  rw [bs4 (W1P I c)]
  unfold W1P T1P
  iintro ⟨⟨⟨K0, B0, C0⟩, ⟨K1, B1, C1⟩, ⟨K2, B2, C2⟩, ⟨K3, B3, C3⟩⟩, ⟨K4, HT, C4⟩, HD⟩
  isplitl [HD K0 K1 K2 K3 K4]
  · iapply (at_toks c A3 fullShare 5 I.W1).2
    isplitl [HD]; · iexact HD
    iapply (entails_of_eq (bs5 _).symm)
    isplitl [K0]; · iexact K0
    isplitl [K1]; · iexact K1
    isplitl [K2]; · iexact K2
    isplitl [K3]; · iexact K3
    iexact K4
  isplitl [B0 B1 B2 B3]
  · iapply (row_join c A15 (fun j : Fin 4 => bx _ ![j.val, 0, 0] S1x1664x1664.size) w1_disj w1_cover)
    iapply (entails_of_eq (bs4 _).symm)
    isplitl [B0]; · iexact B0
    isplitl [B1]; · iexact B1
    isplitl [B2]; · iexact B2
    iexact B3
  isplitl [HT]; · iexact HT
  isplitl [C0]; · iexact C0
  isplitl [C1]; · iexact C1
  isplitl [C2]; · iexact C2
  isplitl [C3]; · iexact C3
  iexact C4

theorem w2_in (c : Dev nD) : iprop(At c A5 Finset.univ fullShare I.W2 ∗ Any c A18 Finset.univ ∗ Any c A19 Finset.univ ∗ Cell c (c36 0) ∗ Cell c (c36 1) ∗ Cell c (c36 2) ∗ Cell c (c36 3) ∗ Cell c (c36 4) ∗ Cell c (c36 5) ∗ Cell c (c36 6))
    ⊢ iprop(bigSep Finset.univ (W2P I c) ∗ T2P I c ∗ At c A5 Finset.univ (shareDrop fullShare 7) I.W2) := by
  rw [bs6 (W2P I c)]
  unfold W2P T2P
  iintro ⟨HA, HB, HT, C0, C1, C2, C3, C4, C5, C6⟩
  ihave HA := (at_toks c A5 fullShare 7 I.W2).1 $$ HA
  ihave HA := (entails_of_eq (congrArg (fun Z => iprop(At c A5 Finset.univ (shareDrop fullShare 7) I.W2 ∗ Z)) (bs7 _))) $$ HA
  icases HA with ⟨HD, K0, K1, K2, K3, K4, K5, K6⟩
  ihave HB := (row_split c A18 (fun j : Fin 6 => bx _ ![j.val, 0, 0] S1x8192x256.size) w2_disj w2_cover) $$ HB
  ihave HB := (entails_of_eq (bs6 _)) $$ HB
  icases HB with ⟨B0, B1, B2, B3, B4, B5⟩
  isplitl [K0 B0 C0 K1 B1 C1 K2 B2 C2 K3 B3 C3 K4 B4 C4 K5 B5 C5]
  · isplitl [K0 B0 C0]
    · isplitl [K0]; · iexact K0
      isplitl [B0]; · iexact B0
      iexact C0
    isplitl [K1 B1 C1]
    · isplitl [K1]; · iexact K1
      isplitl [B1]; · iexact B1
      iexact C1
    isplitl [K2 B2 C2]
    · isplitl [K2]; · iexact K2
      isplitl [B2]; · iexact B2
      iexact C2
    isplitl [K3 B3 C3]
    · isplitl [K3]; · iexact K3
      isplitl [B3]; · iexact B3
      iexact C3
    isplitl [K4 B4 C4]
    · isplitl [K4]; · iexact K4
      isplitl [B4]; · iexact B4
      iexact C4
    isplitl [K5]; · iexact K5
    isplitl [B5]; · iexact B5
    iexact C5
  isplitl [K6 HT C6]
  · isplitl [K6]; · iexact K6
    isplitl [HT]; · iexact HT
    iexact C6
  iexact HD

theorem w2_out (c : Dev nD) : iprop(bigSep Finset.univ (W2P I c) ∗ T2P I c ∗ At c A5 Finset.univ (shareDrop fullShare 7) I.W2)
    ⊢ iprop(At c A5 Finset.univ fullShare I.W2 ∗ Any c A18 Finset.univ ∗ Any c A19 Finset.univ ∗ Cell c (c36 0) ∗ Cell c (c36 1) ∗ Cell c (c36 2) ∗ Cell c (c36 3) ∗ Cell c (c36 4) ∗ Cell c (c36 5) ∗ Cell c (c36 6)) := by
  rw [bs6 (W2P I c)]
  unfold W2P T2P
  iintro ⟨⟨⟨K0, B0, C0⟩, ⟨K1, B1, C1⟩, ⟨K2, B2, C2⟩, ⟨K3, B3, C3⟩, ⟨K4, B4, C4⟩, ⟨K5, B5, C5⟩⟩, ⟨K6, HT, C6⟩, HD⟩
  isplitl [HD K0 K1 K2 K3 K4 K5 K6]
  · iapply (at_toks c A5 fullShare 7 I.W2).2
    isplitl [HD]; · iexact HD
    iapply (entails_of_eq (bs7 _).symm)
    isplitl [K0]; · iexact K0
    isplitl [K1]; · iexact K1
    isplitl [K2]; · iexact K2
    isplitl [K3]; · iexact K3
    isplitl [K4]; · iexact K4
    isplitl [K5]; · iexact K5
    iexact K6
  isplitl [B0 B1 B2 B3 B4 B5]
  · iapply (row_join c A18 (fun j : Fin 6 => bx _ ![j.val, 0, 0] S1x8192x256.size) w2_disj w2_cover)
    iapply (entails_of_eq (bs6 _).symm)
    isplitl [B0]; · iexact B0
    isplitl [B1]; · iexact B1
    isplitl [B2]; · iexact B2
    isplitl [B3]; · iexact B3
    isplitl [B4]; · iexact B4
    iexact B5
  isplitl [HT]; · iexact HT
  isplitl [C0]; · iexact C0
  isplitl [C1]; · iexact C1
  isplitl [C2]; · iexact C2
  isplitl [C3]; · iexact C3
  isplitl [C4]; · iexact C4
  isplitl [C5]; · iexact C5
  iexact C6

/-! ## The output's columns, and the hidden codes -/

def Ob' (b : Fin 2) (f : Fin 7) : Finset S2x2048x1664.Idx := bx _ (oo b.val f.val) (ow f.val)

theorem ow_le (f : Fin 7) : Iff (ow f.val 2 = 256 ∧ f.val < 6 ∨ ow f.val 2 = 128 ∧ f.val = 6) True := by revert f; decide
theorem o_fit (b : Fin 2) (f : Fin 7) : ∀ a, oo b.val f.val a + ow f.val a ≤ S2x2048x1664.size a := by revert b f; decide
theorem o_hd (b : Fin 2) (i j : Fin 7) (h : i ≠ j) : Disjoint (Ob' b i) (Ob' b j) := by
  refine bx_disjoint 2 ?_
  show i.val * 256 + ow i.val 2 ≤ j.val * 256 ∨ j.val * 256 + ow j.val 2 ≤ i.val * 256
  have h1 := (ow_le i).mpr trivial
  have h2 := (ow_le j).mpr trivial
  have : i.val ≠ j.val := fun e => h (Fin.ext e)
  omega
theorem o_hr (i j : Fin 7) : Disjoint (Ob' 0 i) (Ob' 1 j) := by
  refine bx_disjoint 0 (Or.inl ?_)
  show 0 + ow i.val 0 ≤ 1
  revert i; decide
theorem o_hc (x : S2x2048x1664.Idx) : ∃ (b : Fin 2) (f : Fin 7), x ∈ Ob' b f := by
  have h0 : (x 0).val < 2 := (x 0).isLt
  have h1 : (x 1).val < 2048 := (x 1).isLt
  have h2 : (x 2).val < 1664 := (x 2).isLt
  have e0 : ∀ f : Fin 7, ow f.val 0 = 1 := by decide
  have e1 : ∀ f : Fin 7, ow f.val 1 = 2048 := by decide
  let f : Fin 7 := ⟨(x 2).val / 256, by omega⟩
  have h := (ow_le f).mpr trivial
  have hf : f.val = (x 2).val / 256 := rfl
  refine ⟨⟨(x 0).val, h0⟩, f, mem_bx.mpr (all3 ⟨le_refl _, ?_⟩ ⟨Nat.zero_le _, ?_⟩ ⟨?_, ?_⟩)⟩
  · show _ < (x 0).val + ow f.val 0; rw [e0]; omega
  · show _ < 0 + ow f.val 1; rw [e1]; omega
  · show f.val * 256 ≤ _; omega
  · show _ < f.val * 256 + ow f.val 2; omega

theorem o_in (c : Dev nD) : iprop(Any c A7 Finset.univ ∗ Any c A13 Finset.univ) ⊢ iprop(bigSep Finset.univ (OP (F := F) c 0) ∗ bigSep Finset.univ (OP (F := F) c 1)) := by
  have e : ∀ b, bigSep Finset.univ (OP (F := F) c b) = iprop(bigSep Finset.univ (fun t => Any (F := F) c A7 (Ob' b t)) ∗ bigSep Finset.univ (fun t => Any (F := F) c A13 (Ob' b t))) := fun b => by
    rw [show OP (F := F) c b = fun t => iprop(Any (F := F) c A7 (Ob' b t) ∗ Any (F := F) c A13 (Ob' b t)) from rfl, bs_sep]
  rw [e, e]
  iintro ⟨H1, H2⟩
  ihave H1 := (grid_split c A7 Ob' o_hd o_hr o_hc) $$ H1
  ihave H2 := (grid_split c A13 Ob' o_hd o_hr o_hc) $$ H2
  icases H1 with ⟨H10, H11⟩
  icases H2 with ⟨H20, H21⟩
  isplitl [H10 H20]
  · isplitl [H10]; · iexact H10
    iexact H20
  · isplitl [H11]; · iexact H11
    iexact H21

theorem o_out (c : Dev nD) : iprop(bigSep Finset.univ (OD I c 0) ∗ bigSep Finset.univ (OD I c 1)) ⊢ iprop(At c A7 Finset.univ fullShare (OV I) ∗ Any c A13 Finset.univ) := by
  have e : ∀ b, bigSep Finset.univ (OD I c b) ⊢ iprop(bigSep Finset.univ (fun t => At (F := F) c A7 (Ob' b t) fullShare (OV I)) ∗ bigSep Finset.univ (fun t => Any (F := F) c A13 (Ob' b t))) := fun b => by
    rw [← bs_sep]
    refine bs_mono fun f _ => ?_
    unfold OD
    iintro ⟨H, K⟩
    isplitl [H]; · iapply (win_at c A7 (o_fit b f) (OV I) rfl) $$ H
    iexact K
  iintro ⟨H0, H1⟩
  ihave H0 := (e 0) $$ H0
  ihave H1 := (e 1) $$ H1
  icases H0 with ⟨H0, K0⟩
  icases H1 with ⟨H1, K1⟩
  isplitl [H0 H1]
  · iapply (grid_at c A7 Ob' o_hd o_hr o_hc fullShare (OV I)).2
    isplitl [H0]; · iexact H0
    iexact H1
  · iapply (grid_join c A13 Ob' o_hd o_hr o_hc)
    isplitl [K0]; · iexact K0
    iexact K1

def Hb (b : Fin 2) (j : Fin 16) : Finset S2x16x8x8192.Idx := bx _ ![b.val, j.val, 0, 0] S1x1x8x8192.size
theorem h_hd (b : Fin 2) (i j : Fin 16) (h : i ≠ j) : Disjoint (Hb b i) (Hb b j) := by
  refine bx_disjoint 1 ?_
  show i.val + 1 ≤ j.val ∨ j.val + 1 ≤ i.val
  have : i.val ≠ j.val := fun e => h (Fin.ext e)
  omega
theorem h_hr (i j : Fin 16) : Disjoint (Hb 0 i) (Hb 1 j) := bx_disjoint 0 (Or.inl (show 0 + 1 ≤ 1 by omega))
theorem h_hc (x : S2x16x8x8192.Idx) : ∃ (b : Fin 2) (f : Fin 16), x ∈ Hb b f := by
  have h2 : (x 2).val < 8 := (x 2).isLt
  have h3 : (x 3).val < 8192 := (x 3).isLt
  refine ⟨⟨(x 0).val, (x 0).isLt⟩, ⟨(x 1).val, (x 1).isLt⟩, mem_bx.mpr (all4 ⟨le_refl _, Nat.lt_succ_self _⟩ ⟨le_refl _, Nat.lt_succ_self _⟩ ⟨Nat.zero_le _, ?_⟩ ⟨Nat.zero_le _, ?_⟩)⟩
  · show _ < 0 + 8; omega
  · show _ < 0 + 8192; omega

theorem h_in (c : Dev nD) : Any c A11 Finset.univ ⊢ iprop(Hm I c 0 0 ∗ Hm I c 1 0) := by
  have e : ∀ b, Hm I c b 0 = bigSep Finset.univ (fun t => Any (F := F) c A11 (Hb b t)) := fun b => by
    unfold Hm; congr 1
  rw [e, e]
  exact grid_split c A11 Hb h_hd h_hr h_hc

theorem h_out (c : Dev nD) : iprop(Hm I c 0 16 ∗ Hm I c 1 16) ⊢ At c A11 Finset.univ fullShare (HCV I) := by
  have e : ∀ b, Hm I c b 16 ⊢ bigSep Finset.univ (fun t => At (F := F) c A11 (Hb b t) fullShare (HCV I)) := fun b => by
    unfold Hm
    refine bs_mono fun j _ => ?_
    rw [if_pos j.isLt]
    unfold HWin
    exact win_at c A11 (all4 (show b.val + 1 ≤ 2 by omega) (show j.val + 1 ≤ 16 by omega) (show 0 + 8 ≤ 8 by omega) (show 0 + 8192 ≤ 8192 by omega)) (HCV I) (hcv_slc I b.isLt j.isLt).symm
  iintro ⟨H0, H1⟩
  ihave H0 := (e 0) $$ H0
  ihave H1 := (e 1) $$ H1
  iapply (grid_at c A11 Hb h_hd h_hr h_hc fullShare (HCV I)).2
  isplitl [H0]; · iexact H0
  iexact H1

/-! ## The first phase's contents -/

theorem lg_ag (c : Dev nD) (hl : ∀ b, b < 2 → nb I b ≤ 4) : iprop(∃ G, ⌜LGF I 0 (nb I 0) G ∧ LGF I 1 (nb I 1) G⌝ ∗ At c A21 Finset.univ fullShare G) ⊢ Ag c A21 (LP I) (LGV I) := by
  iintro ⟨%G, %hG, H⟩
  unfold Ag
  iexists G
  isplitr
  · ipureintro
    intro i hi
    have h0 : (i 0).val < 2 := (i 0).isLt
    have h2 : (i 2).val < 128 := (i 2).isLt
    have hk : (i 1).val / 512 < 4 := lt_of_lt_of_le hi (hl _ h0)
    have hb : LGF I (i 0).val (nb I (i 0).val) G := by
      rcases (show (i 0).val = 0 ∨ (i 0).val = 1 by omega) with h | h <;> rw [h]
      exacts [hG.1, hG.2]
    refine put_slc_agree (s := S2x2048x128) (off := ![(i 0).val, 512 * ((i 1).val / 512), 0]) (size := S1x512x128.size) (all3 (show (i 0).val + 1 ≤ 2 by omega) (show 512 * ((i 1).val / 512) + 512 ≤ 2048 by omega) (show 0 + 128 ≤ 128 by omega)) ?_ ((hb _ hi).trans (lgv_slc I h0 hk).symm)
    refine mem_bx.mpr (all3 ⟨le_refl _, Nat.lt_succ_self _⟩ ⟨?_, ?_⟩ ⟨Nat.zero_le _, ?_⟩)
    · show 512 * ((i 1).val / 512) ≤ _; omega
    · show _ < 512 * ((i 1).val / 512) + 512; omega
    · show _ < 0 + 128; omega
  iexact H

theorem xs_at (c : Dev nD) : iprop(∃ H : S2x128x1664.Idx → Elt F .f32, ⌜slc H ![0, 0, 0] S1x128x1664.size = SX I 0 (nb I 0) ∧ slc H ![1, 0, 0] S1x128x1664.size = SX I 1 (nb I 1)⌝ ∗ At c A23 Finset.univ fullShare H)
    ⊢ At c A23 Finset.univ fullShare (XSV I) := by
  iintro ⟨%G, %hG, H⟩
  have e : G = XSV I := by
    funext i
    have h0 : (i 0).val < 2 := (i 0).isLt
    have h1 : (i 1).val < 128 := (i 1).isLt
    have h2 : (i 2).val < 1664 := (i 2).isLt
    have hb : slc G ![(i 0).val, 0, 0] S1x128x1664.size = SX I (i 0).val (nb I (i 0).val) := by
      rcases (show (i 0).val = 0 ∨ (i 0).val = 1 by omega) with h | h <;> rw [h]
      exacts [hG.1, hG.2]
    refine put_slc_agree (s := S2x128x1664) (off := ![(i 0).val, 0, 0]) (size := S1x128x1664.size) (all3 (show (i 0).val + 1 ≤ 2 by omega) (show 0 + 128 ≤ 128 by omega) (show 0 + 1664 ≤ 1664 by omega)) ?_ (hb.trans (xsv_slc I h0).symm)
    exact mem_bx.mpr (all3 ⟨le_refl _, Nat.lt_succ_self _⟩ ⟨Nat.zero_le _, by show _ < 0 + 128; omega⟩ ⟨Nat.zero_le _, by show _ < 0 + 1664; omega⟩)
  rw [← e]
  iexact H

/-- The batch of the output's copies, none started. -/
theorem mb_alloc (c : Dev nD) (b : Fin 2) {E : Set ℕ} : (Cell (F := F) c (c39 b) : sProp 𝕄) ⊢ |={E}=> MB I c b 0 0 := by
  unfold Cell MB
  exact mixedBatch_alloc' countersEmb (c : Thread nD τ) () NO (OD I c b)

theorem ob_in (c : Dev nD) (b : Fin 2) : iprop(MB I c b 0 0 ∗ bigSep Finset.univ (OP (F := F) c b)) ⊢ Ob I c b 0 := by
  have e : bigSep Finset.univ (OP (F := F) c b) = bigSep Finset.univ (fun f : Fin 7 => if f.val < 0 then (BI.emp : sProp 𝕄) else OP (F := F) c b f) := by
    congr 1
  unfold Ob
  rw [e]

theorem ob_out (c : Dev nD) (b : Fin 2) : Ob I c b 7 ⊢ MB I c b 7 (sumTo NO 0) := by
  unfold Ob
  rw [sumTo_zero]
  iintro ⟨H, K⟩
  iexact H

end Cert.KernelIdeal.Hand

end
-- ==== Proof.KernelIdeal.Body.lean ====
/-
  The whole kernel: its parts one after the other.
-/
module

public import proofs.«01_k».proof.Proof.KernelIdeal.Pieces

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (UU nD τ) ℕ

variable (I : Inp F)

/-- The semaphore cells, at zero. -/
def Cells (c : Dev nD) : sProp 𝕄 :=
  iprop(bigSep Finset.univ (fun t => Cell c (c34 0 t))
    ∗ bigSep Finset.univ (fun t => Cell c (c34 1 t))
    ∗ Cell c (c35 0)
    ∗ Cell c (c35 1)
    ∗ Cell c (c35 2)
    ∗ Cell c (c35 3)
    ∗ Cell c (c35 4)
    ∗ Cell c (c36 0)
    ∗ Cell c (c36 1)
    ∗ Cell c (c36 2)
    ∗ Cell c (c36 3)
    ∗ Cell c (c36 4)
    ∗ Cell c (c36 5)
    ∗ Cell c (c36 6)
    ∗ Cell c (c37 0)
    ∗ Cell c (c37 1)
    ∗ Cell c (c37 2)
    ∗ Cell c (c38 0)
    ∗ Cell c (c38 1)
    ∗ Cell c (c39 0)
    ∗ Cell c (c39 1)
    ∗ Cell c (c40 0)
    ∗ Cell c (c40 1)
    ∗ Cell c (c40 2)
    ∗ Cell c (c40 3))

/-- The scratch memory, of whatever contents. -/
def Scratch (c : Dev nD) : sProp 𝕄 :=
  iprop(Any c A13 Finset.univ ∗ Any c A14 Finset.univ ∗ Any c A15 Finset.univ ∗ Any c A16 Finset.univ ∗ Any c A17 Finset.univ ∗ Any c A18 Finset.univ ∗ Any c A19 Finset.univ ∗ Any c A20 Finset.univ ∗ Any c A21 Finset.univ ∗ Any c A22 Finset.univ ∗ Any c A23 Finset.univ ∗ Any c A24 Finset.univ ∗ Any c A25 Finset.univ ∗ Any c A26 Finset.univ ∗ Any c A27 Finset.univ ∗ Any c A28 Finset.univ ∗ Any c A29 Finset.univ ∗ Any c A30 Finset.univ ∗ Any c A31 Finset.univ ∗ Any c A32 Finset.univ ∗ Any c A33 Finset.univ)

/-- The arguments. -/
def Argum (c : Dev nD) : sProp 𝕄 :=
  iprop(At c A1 Finset.univ fullShare I.X ∗ At c A2 Finset.univ fullShare I.PHI ∗ At c A3 Finset.univ fullShare I.W1 ∗ At c A4 Finset.univ fullShare I.W1S ∗ At c A5 Finset.univ fullShare I.W2 ∗ At c A6 Finset.univ fullShare I.W2S)

/-- The results, of whatever contents. -/
def Blank (c : Dev nD) : sProp 𝕄 :=
  iprop(Any c A7 Finset.univ ∗ Any c A8 Finset.univ ∗ Any c A9 Finset.univ ∗ Any c A10 Finset.univ ∗ Any c A11 Finset.univ ∗ Any c A12 Finset.univ)

/-- The results as the kernel leaves them. -/
def Done (c : Dev nD) : sProp 𝕄 :=
  iprop(At c A7 Finset.univ fullShare (OV I) ∗ At c A8 Finset.univ fullShare (ZV I) ∗ At c A9 Finset.univ fullShare (SCV I) ∗ At c A10 Finset.univ fullShare (SSV I) ∗ At c A11 Finset.univ fullShare (HCV I) ∗ At c A12 Finset.univ fullShare (HSV I))

theorem w1i_16 (c : Dev nD) : W1I I c 16 = bigSep Finset.univ (W1P I c) := rfl
theorem w2i_16 (c : Dev nD) : W2I I c 16 = bigSep Finset.univ (W2P I c) := rfl
theorem t1i_16 (c : Dev nD) : T1I I c 16 = T1P I c := rfl
theorem t2i_16 (c : Dev nD) : T2I I c 16 = T2P I c := rfl

/-- The copies of the first expert's weights, under way. -/
theorem w1i_0 (c : Dev nD) : iprop(W1F I c 0 0 ∗ W1F I c 0 1 ∗ W1F I c 0 2 ∗ W1F I c 0 3) = W1I I c 0 := (bs4 _).symm
theorem w2i_0 (c : Dev nD) : iprop(W2F I c 0 0 ∗ W2F I c 0 1 ∗ W2F I c 0 2 ∗ W2F I c 0 3 ∗ W2F I c 0 4 ∗ W2F I c 0 5) = W2I I c 0 := (bs6 _).symm
theorem xs_0 (c : Dev nD) (b : Fin 2) : iprop(XF I c b 0 ∗ XF I c b 1 ∗ XF I c b 2 ∗ XF I c b 3) = Xs I c b 0 := (bs4 _).symm

theorem hf_0 (c : Dev nD) (b : Fin 2) : iprop(Hm I c b 0 ∗ Any c A29 (half b.val) ∗ Cell c (c38 b)) = HF I c b 0 := rfl

theorem half_rest : half 1 = Finset.univ \ half 0 := by
  rw [← half_union, Finset.union_sdiff_cancel_left half_disjoint]

/-- The whole kernel: it gives the arguments back, leaves every result at its value and every semaphore at zero. -/
theorem body_wp (c : Dev nD) (hv : ∀ b, b < 2 → (len I b).toInt ≤ 2048) {Q : PUnit → sProp 𝕄} :
    iprop(Owe c ∗ At c A0 Finset.univ fullShare I.LEN ∗ Argum I c ∗ Blank c ∗ Scratch c ∗ Cells c)
    ⊢ iprop((iprop(Owe c ∗ At c A0 Finset.univ fullShare I.LEN ∗ Argum I c ∗ Done I c ∗ Scratch c ∗ Cells c) -∗ Q ⟨⟩) -∗ WP c (Body (F := F)) Q) := by
  have hf : ∀ b, b < 2 → _ := fun b hb => trips_facts (len I b) (hv b hb)
  have hl : ∀ b, b < 2 → ∀ t : ℕ, t < nb I b ↔ 512 * (t : Int) < (len I b).toInt := fun b hb => (hf b hb).2.2.2.2
  have hn : ∀ b, b < 2 → nb I b ≤ 4 := fun b hb => (hf b hb).2.2.1
  simp only [Body, cc0_soft_moe_eq_skeleton, cc0_soft_moe_skel, Prog.lift, Prog.bind_op, Prog.bind_ret]
  unfold Cells Scratch Argum Blank
  iintro ⟨HO, L, ⟨X, PHI, HW1, HW1S, HW2, HW2S⟩, ⟨R7, R8, R9, R10, R11, R12⟩, ⟨S13, S14, S15, S16, S17, S18, S19, S20, S21, S22, S23, S24, S25, S26, S27, S28, S29, S30, S31, S32, S33⟩, C34a, C34b, D350, D351, D352, D353, D354, D360, D361, D362, D363, D364, D365, D366, D370, D371, D372, D380, D381, D390, D391, D400, D401, D402, D403⟩ Hk
  imod (mb_alloc I c 0) $$ D390 with M0
  imod (mb_alloc I c 1) $$ D391 with M1
  ihave HX := (x_in I c) $$ [X S13 C34a C34b]
  · isplitl [X]; · iexact X
    isplitl [S13]; · iexact S13
    isplitl [C34a]; · iexact C34a
    iexact C34b
  icases HX with ⟨HX0, HX1⟩
  ihave HX0 := (entails_of_eq (bs4 _)) $$ HX0
  icases HX0 with ⟨X00, X01, X02, X03⟩
  ihave HX1 := (entails_of_eq (bs4 _)) $$ HX1
  icases HX1 with ⟨X10, X11, X12, X13⟩
  ihave HA := (w1_in I c) $$ [HW1 S15 S16 D350 D351 D352 D353 D354]
  · isplitl [HW1]; · iexact HW1
    isplitl [S15]; · iexact S15
    isplitl [S16]; · iexact S16
    isplitl [D350]; · iexact D350
    isplitl [D351]; · iexact D351
    isplitl [D352]; · iexact D352
    isplitl [D353]; · iexact D353
    iexact D354
  icases HA with ⟨HA, T1, K1⟩
  ihave HA := (entails_of_eq (bs4 _)) $$ HA
  icases HA with ⟨W10, W11, W12, W13⟩
  ihave HB := (w2_in I c) $$ [HW2 S18 S19 D360 D361 D362 D363 D364 D365 D366]
  · isplitl [HW2]; · iexact HW2
    isplitl [S18]; · iexact S18
    isplitl [S19]; · iexact S19
    isplitl [D360]; · iexact D360
    isplitl [D361]; · iexact D361
    isplitl [D362]; · iexact D362
    isplitl [D363]; · iexact D363
    isplitl [D364]; · iexact D364
    isplitl [D365]; · iexact D365
    iexact D366
  icases HB with ⟨HB, T2, K2⟩
  ihave HB := (entails_of_eq (bs6 _)) $$ HB
  icases HB with ⟨W20, W21, W22, W23, W24, W25⟩
  iapply (wp_seq c)
  iapply (part11_wp I c) $$ [L PHI S14 D370 X00 X01 X02 X03 X10 X11 X12]
  · isplitl [L]; · iexact L
    isplitl [PHI]; · iexact PHI
    isplitl [S14]; · iexact S14
    isplitl [D370]; · iexact D370
    isplitl [X00]; · iexact X00
    isplitl [X01]; · iexact X01
    isplitl [X02]; · iexact X02
    isplitl [X03]; · iexact X03
    isplitl [X10]; · iexact X10
    isplitl [X11]; · iexact X11
    iexact X12
  iintro ⟨L, FP, X00, X01, X02, X03, X10, X11, X12⟩
  iapply (wp_seq c)
  iapply (part12_wp I c) $$ [L X13 HW1S S17 D371 HW2S S20 D372 W10 W11 W12]
  · isplitl [L]; · iexact L
    isplitl [X13]; · iexact X13
    isplitl [HW1S]; · iexact HW1S
    isplitl [S17]; · iexact S17
    isplitl [D371]; · iexact D371
    isplitl [HW2S]; · iexact HW2S
    isplitl [S20]; · iexact S20
    isplitl [D372]; · iexact D372
    isplitl [W10]; · iexact W10
    isplitl [W11]; · iexact W11
    iexact W12
  iintro ⟨L, X13, FW1, FW2, W10, W11, W12⟩
  iapply (wp_seq c)
  iapply (part13_wp I c) $$ [W13 T1 W20 W21]
  · isplitl [W13]; · iexact W13
    isplitl [T1]; · iexact T1
    isplitl [W20]; · iexact W20
    iexact W21
  iintro ⟨W13, T1, W20, W21⟩
  iapply (wp_seq c)
  iapply (part14_wp I c) $$ [L FP HO T2 W22 W23 W24 W25]
  · isplitl [L]; · iexact L
    isplitl [FP]; · iexact FP
    isplitl [HO]; · iexact HO
    isplitl [T2]; · iexact T2
    isplitl [W22]; · iexact W22
    isplitl [W23]; · iexact W23
    isplitl [W24]; · iexact W24
    iexact W25
  iintro ⟨L, S14, PHI, D370, HO, T2, W22, W23, W24, W25⟩
  ihave HX0 := (entails_of_eq (xs_0 I c 0)) $$ [X00 X01 X02 X03]
  · isplitl [X00]; · iexact X00
    isplitl [X01]; · iexact X01
    isplitl [X02]; · iexact X02
    iexact X03
  ihave HX1 := (entails_of_eq (xs_0 I c 1)) $$ [X10 X11 X12 X13]
  · isplitl [X10]; · iexact X10
    isplitl [X11]; · iexact X11
    isplitl [X12]; · iexact X12
    iexact X13
  iapply (wp_seq c)
  iapply (part15_wp I c (hv 0 (by decide)) (hv 1 (by decide))) $$ [L S14 HO HX0 S21 S23]
  · isplitl [L]; · iexact L
    isplitl [S14]; · iexact S14
    isplitl [HO]; · iexact HO
    isplitl [HX0]; · iexact HX0
    isplitl [S21]; · iexact S21
    iexact S23
  iintro ⟨L, S14, HO, HX0, S21, S23⟩
  iapply (wp_seq c)
  iapply (part16_wp I c (hv 1 (by decide)) _ _ _ _) $$ [S14 HO HX1 S21 S23 FW1 FW2]
  · isplitl [S14]; · iexact S14
    isplitl [HO]; · iexact HO
    isplitl [HX1]; · iexact HX1
    isplitl [S21]; · iexact S21
    isplitl [S23]; · iexact S23
    isplitl [FW1]; · iexact FW1
    iexact FW2
  iintro ⟨S14, HO, HX1, S21, S23, ⟨⟨S17, HW1S⟩, D371⟩, ⟨S20, HW2S⟩, D372⟩
  ihave HX0 := (show Xs I c 0 (nb I 0) ⊢ bigSep Finset.univ (XP I c 0) from x_home I c hl 0) $$ HX0
  ihave HX1 := (show Xs I c 1 (nb I 1) ⊢ bigSep Finset.univ (XP I c 1) from x_home I c hl 1) $$ HX1
  ihave HX := (x_out I c) $$ [HX0 HX1]
  · isplitl [HX0]; · iexact HX0
    iexact HX1
  icases HX with ⟨X, S13, C34a, C34b⟩
  ihave HP := (o_in c) $$ [R7 S13]
  · isplitl [R7]; · iexact R7
    iexact S13
  icases HP with ⟨HP0, HP1⟩
  ihave O0 := (ob_in I c 0) $$ [M0 HP0]
  · isplitl [M0]; · iexact M0
    iexact HP0
  ihave O1 := (ob_in I c 1) $$ [M1 HP1]
  · isplitl [M1]; · iexact M1
    iexact HP1
  ihave S21 := (lg_ag I c hn) $$ S21
  ihave S23 := (xs_at I c) $$ S23
  ihave HH := (h_in I c) $$ R11
  icases HH with ⟨H0, H1⟩
  ihave S29 := (any_split c A29 (half 0) (Finset.subset_univ _)) $$ S29
  icases S29 with ⟨S290, S291⟩
  ihave S291 := (entails_of_eq (show Any (F := F) c A29 (Finset.univ \ half 0) = Any c A29 (half 1) by rw [← half_rest])) $$ S291
  ihave H0 := (entails_of_eq (hf_0 I c 0)) $$ [H0 S290 D380]
  · isplitl [H0]; · iexact H0
    isplitl [S290]; · iexact S290
    iexact D380
  ihave H1 := (entails_of_eq (hf_0 I c 1)) $$ [H1 S291 D381]
  · isplitl [H1]; · iexact H1
    isplitl [S291]; · iexact S291
    iexact D381
  ihave W1 := (entails_of_eq (w1i_0 I c)) $$ [W10 W11 W12 W13]
  · isplitl [W10]; · iexact W10
    isplitl [W11]; · iexact W11
    isplitl [W12]; · iexact W12
    iexact W13
  ihave W2 := (entails_of_eq (w2i_0 I c)) $$ [W20 W21 W22 W23 W24 W25]
  · isplitl [W20]; · iexact W20
    isplitl [W21]; · iexact W21
    isplitl [W22]; · iexact W22
    isplitl [W23]; · iexact W23
    isplitl [W24]; · iexact W24
    iexact W25
  ihave T1 := (entails_of_eq ((T1I_in I c (e := 0) (by decide)).symm)) $$ T1
  ihave T2 := (entails_of_eq ((T2I_in I c (e := 0) (by decide)).symm)) $$ T2
  ihave S22 := (ag_of_any c A22 (P := CP 0) (V := CMV I) (fun i h => by have h' : (i 0).val * 2048 + (i 1).val < 0 * 256 := h; omega)) $$ S22
  ihave S30 := (ag_of_any c A30 (P := fun i => (i 1).val < 0 * 8) (V := SSC I) (fun i h => by have h' : (i 1).val < 0 * 8 := h; omega)) $$ S30
  ihave S31 := (ag_of_any c A31 (P := fun i => (i 1).val < 0 * 8) (V := HSC I) (fun i h => by have h' : (i 1).val < 0 * 8 := h; omega)) $$ S31
  ihave S28 := (ag_of_any c A28 (P := fun i => (i 1).val < 0) (V := SCV I) (fun i h => absurd h (Nat.not_lt_zero _))) $$ S28
  ihave S26 := (ag_of_any c A26 (P := YP 0 0) (V := YV I) (fun i h => by rcases h with h | ⟨-, h⟩ <;> omega)) $$ S26
  ihave S27 := (ag_of_any c A27 (P := fun i => (i 2).val < 256 * Of 0) (V := ZV I) (fun i h => absurd h (Nat.not_lt_zero _))) $$ S27
  iapply (wp_seq c)
  iapply (part17_wp I c hl) $$ [S25 HO L S17 S20 S23 S21 S22 S30 S28 S31 W1 T1 W2 T2 H0 H1 S24 S26 S27 O0 O1]
  · isplitl [S25]; · iexact S25
    unfold S13
    iintro S25
    isplitl [HO]; · iexact HO
    isplitl [L]; · iexact L
    isplitl [S17]; · iexact S17
    isplitl [S20]; · iexact S20
    isplitl [S23]; · iexact S23
    isplitl [S21]; · iexact S21
    isplitl [S22]; · iexact S22
    isplitl [S30]; · iexact S30
    isplitl [S28]; · iexact S28
    isplitl [S31]; · iexact S31
    isplitl [W1]; · iexact W1
    isplitl [T1]; · iexact T1
    isplitl [W2]; · iexact W2
    isplitl [T2]; · iexact T2
    isplitl [H0]; · iexact H0
    isplitl [H1]; · iexact H1
    isplitl [S24]; · iexact S24
    isplitl [S25]; · iexact S25
    isplitl [S26]; · iexact S26
    isplitl [S27]; · iexact S27
    isplitl [O0]; · iexact O0
    iexact O1
  iintro ⟨HO, L, HLeft, S22, S30, S28, S31, H0, H1, S26, S27, O0, O1⟩
  ihave HLeft := (entails_of_eq (show Left I c = iprop(At c A17 Finset.univ fullShare I.W1S ∗ At c A20 Finset.univ fullShare I.W2S ∗ At c A23 Finset.univ fullShare (XSV I) ∗ Ag c A21 (LP I) (LGV I) ∗ W1I I c 16 ∗ T1I I c 16 ∗ W2I I c 16 ∗ T2I I c 16 ∗ Any c A24 Finset.univ ∗ Any c A25 Finset.univ) from rfl)) $$ HLeft
  icases HLeft with ⟨S17, S20, S23, S21, W1, T1, W2, T2, S24, S25⟩
  iapply (wp_seq c)
  iapply (part18_wp I c) $$ [L S22 S30 S27 O1 S32]
  · isplitl [L]; · iexact L
    isplitl [S22]; · iexact S22
    isplitl [S30]; · iexact S30
    isplitl [S27]; · iexact S27
    isplitl [O1]; · iexact O1
    iexact S32
  iintro ⟨L, S22, S30, S27, O1, S32⟩
  iapply (wp_seq c)
  iapply (part19_wp I c) $$ [S32 S31 S33 S27 S28 R8 D400 R9 D401]
  · isplitl [S32]; · iexact S32
    isplitl [S31]; · iexact S31
    isplitl [S33]; · iexact S33
    isplitl [S27]; · iexact S27
    isplitl [S28]; · iexact S28
    isplitl [R8 D400]
    · isplitl [R8]; · iexact R8
      iexact D400
    isplitl [R9]; · iexact R9
    iexact D401
  iintro ⟨S32, S31, S33, F0, F1⟩
  ihave O0 := (ob_out I c 0) $$ O0
  ihave O1 := (ob_out I c 1) $$ O1
  iapply (wp_seq c)
  iapply (part20_wp I c) $$ [HO S32 R10 D402 S33 R12 D403 H0 O0]
  · isplitl [HO]; · iexact HO
    isplitl [S32 R10 D402]
    · isplitl [S32]; · iexact S32
      isplitl [R10]; · iexact R10
      iexact D402
    isplitl [S33 R12 D403]
    · isplitl [S33]; · iexact S33
      isplitl [R12]; · iexact R12
      iexact D403
    isplitl [H0]; · iexact H0
    iexact O0
  iintro ⟨HO, F2, F3, ⟨H0, S290, D380⟩, O0⟩
  iapply (wp_seq c)
  iapply (part21_wp I c) $$ [HO O0]
  · isplitl [HO]; · iexact HO
    iexact O0
  iintro ⟨HO, O0, D390⟩
  iapply (wp_seq c)
  iapply (part22_wp I c) $$ [HO H1 O1]
  · isplitl [HO]; · iexact HO
    isplitl [H1]; · iexact H1
    iexact O1
  iintro ⟨HO, ⟨H1, S291, D381⟩, O1⟩
  iapply (wp_seq c)
  iapply (part23_wp I c) $$ [HO O1 F0 F1]
  · isplitl [HO]; · iexact HO
    isplitl [O1]; · iexact O1
    isplitl [F0]; · iexact F0
    iexact F1
  iintro ⟨HO, ⟨O1, D391⟩, ⟨⟨R8, S27⟩, D400⟩, ⟨R9, S28⟩, D401⟩
  iapply (full_wait c (sem40 _ _ _ 2 rfl)) $$ [F2 HO]
  · isplitl [F2]; · iexact F2
    iexact HO
  iintro ⟨⟨R10, S32⟩, D402, HO⟩
  iapply (full_wait c (sem40 _ _ _ 3 rfl)) $$ [F3 HO]
  · isplitl [F3]; · iexact F3
    iexact HO
  iintro ⟨⟨R12, S33⟩, D403, HO⟩
  ihave W1 := (entails_of_eq (w1i_16 I c)) $$ W1
  ihave W2 := (entails_of_eq (w2i_16 I c)) $$ W2
  ihave T1 := (entails_of_eq (t1i_16 I c)) $$ T1
  ihave T2 := (entails_of_eq (t2i_16 I c)) $$ T2
  ihave HA := (w1_out I c) $$ [W1 T1 K1]
  · isplitl [W1]; · iexact W1
    isplitl [T1]; · iexact T1
    iexact K1
  icases HA with ⟨HW1, S15, S16, D350, D351, D352, D353, D354⟩
  ihave HB := (w2_out I c) $$ [W2 T2 K2]
  · isplitl [W2]; · iexact W2
    isplitl [T2]; · iexact T2
    iexact K2
  icases HB with ⟨HW2, S18, S19, D360, D361, D362, D363, D364, D365, D366⟩
  ihave HP := (o_out I c) $$ [O0 O1]
  · isplitl [O0]; · iexact O0
    iexact O1
  icases HP with ⟨R7, S13⟩
  ihave R11 := (h_out I c) $$ [H0 H1]
  · isplitl [H0]; · iexact H0
    iexact H1
  ihave S29 := (any_join c A29 half_disjoint half_union) $$ [S290 S291]
  · isplitl [S290]; · iexact S290
    iexact S291
  ihave S14 := (any_of c A14 Finset.univ _) $$ S14
  ihave S17 := (any_of c A17 Finset.univ _) $$ S17
  ihave S20 := (any_of c A20 Finset.univ _) $$ S20
  ihave S23 := (any_of c A23 Finset.univ _) $$ S23
  ihave S30 := (any_of c A30 Finset.univ _) $$ S30
  ihave S31 := (any_of c A31 Finset.univ _) $$ S31
  ihave S32 := (any_of c A32 Finset.univ _) $$ S32
  ihave S33 := (any_of c A33 Finset.univ _) $$ S33
  ihave S27 := (any_of c A27 Finset.univ _) $$ S27
  ihave S28 := (any_of c A28 Finset.univ _) $$ S28
  ihave S21 := (any_of_ag c A21) $$ S21
  ihave S22 := (any_of_ag c A22) $$ S22
  ihave S26 := (any_of_ag c A26) $$ S26
  iapply (WP_pure c ⟨⟩)
  iapply Hk
  unfold Done
  isplitl [HO]; · iexact HO
  isplitl [L]; · iexact L
  isplitl [X PHI HW1 HW1S HW2 HW2S]
  · isplitl [X]; · iexact X
    isplitl [PHI]; · iexact PHI
    isplitl [HW1]; · iexact HW1
    isplitl [HW1S]; · iexact HW1S
    isplitl [HW2]; · iexact HW2
    iexact HW2S
  isplitl [R7 R8 R9 R10 R11 R12]
  · isplitl [R7]; · iexact R7
    isplitl [R8]; · iexact R8
    isplitl [R9]; · iexact R9
    isplitl [R10]; · iexact R10
    isplitl [R11]; · iexact R11
    iexact R12
  isplitl [S13 S14 S15 S16 S17 S18 S19 S20 S21 S22 S23 S24 S25 S26 S27 S28 S29 S30 S31 S32 S33]
  · isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    isplitl [S31]; · iexact S31
    isplitl [S32]; · iexact S32
    iexact S33
  isplitl [C34a]; · iexact C34a
  isplitl [C34b]; · iexact C34b
  isplitl [D350]; · iexact D350
  isplitl [D351]; · iexact D351
  isplitl [D352]; · iexact D352
  isplitl [D353]; · iexact D353
  isplitl [D354]; · iexact D354
  isplitl [D360]; · iexact D360
  isplitl [D361]; · iexact D361
  isplitl [D362]; · iexact D362
  isplitl [D363]; · iexact D363
  isplitl [D364]; · iexact D364
  isplitl [D365]; · iexact D365
  isplitl [D366]; · iexact D366
  isplitl [D370]; · iexact D370
  isplitl [D371]; · iexact D371
  isplitl [D372]; · iexact D372
  isplitl [D380]; · iexact D380
  isplitl [D381]; · iexact D381
  isplitl [D390]; · iexact D390
  isplitl [D391]; · iexact D391
  isplitl [D400]; · iexact D400
  isplitl [D401]; · iexact D401
  isplitl [D402]; · iexact D402
  iexact D403

end Cert.KernelIdeal.Hand

end
-- ==== Proof.KernelIdeal.Launch.lean ====
/-
  The launch: from the body to the run of the whole program.
-/
module

public import proofs.«01_k».proof.Proof.KernelIdeal.Body

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

open Idealize.ShloMosaic.Pipeline (Dat BodyObligation)

variable {F : FTy → Type} [FloatOps F]

local notation "𝕄" => MT nD τ sig Unit (Elt F) ℕ (UU nD τ) ℕ

theorem eq_of {A B : sProp 𝕄} (h1 : A ⊢ B) (h2 : B ⊢ A) : A = B := BI.equiv_iff.mp ⟨h1, h2⟩

/-! ## Whole memrefs and the cells, in the launch's terms -/

theorem whole_at {sp : Space} {s : Shape} {e : EltTy} (c : Dev nD) (M : Memref sig .tc sp s e) (hM : M.IsWhole) (q : PosShare TreeShare) (f) :
    ((M.view.loc (c : Thread nD τ) ↦{q} f) : sProp 𝕄) = At c M Finset.univ q (M.view.read (Elt F) f) := by
  rw [← at_of c M Finset.univ q f _ (fun _ _ => rfl), View.setOn_univ, hM.set_eq_univ]

theorem whole_rep {sp : Space} {s : Shape} {e : EltTy} (c : Dev nD) (M : Memref sig .tc sp s e) (hM : M.IsWhole) (q : PosShare TreeShare) (v : s.Idx → Elt F e) :
    (At c M Finset.univ q v : sProp 𝕄) = (M.view.loc (c : Thread nD τ) ↦{q} M.view.rep v) := by
  unfold At; rw [View.setOn_univ, hM.set_eq_univ]

theorem whole_any {sp : Space} {s : Shape} {e : EltTy} (c : Dev nD) (M : Memref sig .tc sp s e) (hM : M.IsWhole) :
    (iprop(∃ f, M.view.loc (c : Thread nD τ) ↦{fullShare} f) : sProp 𝕄) = Any c M Finset.univ := by
  unfold Any
  apply eq_of
  · iintro ⟨%f, H⟩
    iexists (M.view.read (Elt F) f)
    iapply (entails_of_eq (whole_at c M hM fullShare f)) $$ H
  · iintro ⟨%v, H⟩
    iexists (M.view.rep v)
    iapply (entails_of_eq (whole_rep c M hM fullShare v)) $$ H

/-- The kernel's own semaphore cells. -/
abbrev osem0 : Fin 31 → SemLoc sig := ![.dma (c34 0 0), .dma (c34 0 1), .dma (c34 0 2), .dma (c34 0 3), .dma (c34 1 0), .dma (c34 1 1), .dma (c34 1 2), .dma (c34 1 3), .dma (c35 0), .dma (c35 1), .dma (c35 2), .dma (c35 3), .dma (c35 4), .dma (c36 0), .dma (c36 1), .dma (c36 2), .dma (c36 3), .dma (c36 4), .dma (c36 5), .dma (c36 6), .dma (c37 0), .dma (c37 1), .dma (c37 2), .dma (c38 0), .dma (c38 1), .dma (c39 0), .dma (c39 1), .dma (c40 0), .dma (c40 1), .dma (c40 2), .dma (c40 3)]
theorem ownSemFacts0 : Pipeline.OwnSemFacts spec0 osem0 := by decide

theorem cells_eq (c : Dev nD) : (Pipeline.ownSems0 (Ix := Unit) (Name := ℕ) (U := UU nD τ) (Lvl := ℕ) (Val := Elt F) (τ := τ) osem0 c : sProp 𝕄) = Cells c := by
  unfold Cells
  rw [bs4, bs4]
  rw [show (Pipeline.ownSems0 (Ix := Unit) (Name := ℕ) (U := UU nD τ) (Lvl := ℕ) (Val := Elt F) (τ := τ) osem0 c : sProp 𝕄) = iprop(Cell c (c34 0 0) ∗ Cell c (c34 0 1) ∗ Cell c (c34 0 2) ∗ Cell c (c34 0 3) ∗ Cell c (c34 1 0) ∗ Cell c (c34 1 1) ∗ Cell c (c34 1 2) ∗ Cell c (c34 1 3) ∗ Cell c (c35 0) ∗ Cell c (c35 1) ∗ Cell c (c35 2) ∗ Cell c (c35 3) ∗ Cell c (c35 4) ∗ Cell c (c36 0) ∗ Cell c (c36 1) ∗ Cell c (c36 2) ∗ Cell c (c36 3) ∗ Cell c (c36 4) ∗ Cell c (c36 5) ∗ Cell c (c36 6) ∗ Cell c (c37 0) ∗ Cell c (c37 1) ∗ Cell c (c37 2) ∗ Cell c (c38 0) ∗ Cell c (c38 1) ∗ Cell c (c39 0) ∗ Cell c (c39 1) ∗ Cell c (c40 0) ∗ Cell c (c40 1) ∗ Cell c (c40 2) ∗ Cell c (c40 3)) from
    Pipeline.ownSems0_eq_of_list c osem0 [0, 1, 2, 3, 4, 5, 6, 7, 8, 9, 10, 11, 12, 13, 14, 15, 16, 17, 18, 19, 20, 21, 22, 23, 24, 25, 26, 27, 28, 29, 30] (by decide) (by decide)]
  apply eq_of
  · iintro ⟨H0, H1, H2, H3, H4, H5, H6, H7, H8, H9, H10, H11, H12, H13, H14, H15, H16, H17, H18, H19, H20, H21, H22, H23, H24, H25, H26, H27, H28, H29, H30⟩
    isplitl [H0 H1 H2 H3]
    · isplitl [H0]; · iexact H0
      isplitl [H1]; · iexact H1
      isplitl [H2]; · iexact H2
      iexact H3
    isplitl [H4 H5 H6 H7]
    · isplitl [H4]; · iexact H4
      isplitl [H5]; · iexact H5
      isplitl [H6]; · iexact H6
      iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    iexact H30
  · iintro ⟨⟨H0, H1, H2, H3⟩, ⟨H4, H5, H6, H7⟩, H8, H9, H10, H11, H12, H13, H14, H15, H16, H17, H18, H19, H20, H21, H22, H23, H24, H25, H26, H27, H28, H29, H30⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    iexact H30

theorem scratch_eq (c : Dev nD) : (Pipeline.scopedRest (Ix := Unit) (Name := ℕ) (U := UU nD τ) (Lvl := ℕ) (Val := Elt F) spec0 c : sProp 𝕄) = Scratch c := by
  rw [scopedRest0_eq]
  unfold Scratch
  rw [← whole_any c A13 hA13, ← whole_any c A14 hA14, ← whole_any c A15 hA15, ← whole_any c A16 hA16, ← whole_any c A17 hA17, ← whole_any c A18 hA18, ← whole_any c A19 hA19, ← whole_any c A20 hA20, ← whole_any c A21 hA21, ← whole_any c A22 hA22, ← whole_any c A23 hA23, ← whole_any c A24 hA24, ← whole_any c A25 hA25, ← whole_any c A26 hA26, ← whole_any c A27 hA27, ← whole_any c A28 hA28, ← whole_any c A29 hA29, ← whole_any c A30 hA30, ← whole_any c A31 hA31, ← whole_any c A32 hA32, ← whole_any c A33 hA33]
  rfl

/-! ## The run -/

variable (m : (ℓ : Loc nD τ sig) → Buf (Elt F) ℓ) (ρ : Dev nD → PrngReg)

abbrev st0 (t : Fin cfg0.N) : Memref sig .tc .smem S2 .i32 := win0_0.stage (cfg0.slots t 0)

/-- The arguments of core `c`, read off the launch's memory. -/
def inp (c : Dev nD) : Inp F where
  LEN := iblk m c 0 t0_0
  X := A1.view.read (Elt F) (m ((c : Thread nD τ).loc main_arg0))
  PHI := A2.view.read (Elt F) (m ((c : Thread nD τ).loc main_arg2))
  W1 := A3.view.read (Elt F) (m ((c : Thread nD τ).loc main_arg3))
  W1S := A4.view.read (Elt F) (m ((c : Thread nD τ).loc main_arg4))
  W2 := A5.view.read (Elt F) (m ((c : Thread nD τ).loc main_arg5))
  W2S := A6.view.read (Elt F) (m ((c : Thread nD τ).loc main_arg6))

/-- No length exceeds the buffer. -/
def PreOK : Prop := ∀ (c : Dev nD) (j), (m ((c : Thread nD τ).loc main_arg1) j).toInt ≤ 2048

theorem len_ok (h : PreOK m) (c : Dev nD) (b : ℕ) (hb : b < 2) : (len (inp m c) b).toInt ≤ 2048 := by
  have e := slc_unit (inp m c).LEN ![b] S1.size (fun a => by fin_cases a; show b + 1 ≤ 2; omega) z1
  rw [show len (inp m c) b = _ from e.symm]
  generalize (Rect.unit (s := S2) ![b] S1.size _).idx z1 = j
  exact h c (((cfg0.win 0).blk t0_0).view.emb j)

theorem argum_eq (c : Dev nD) : Argum (inp m c) c = (iprop((((c : Thread nD τ).loc main_arg0) ↦{fullShare} m ((c : Thread nD τ).loc main_arg0)) ∗ (((c : Thread nD τ).loc main_arg2) ↦{fullShare} m ((c : Thread nD τ).loc main_arg2)) ∗ (((c : Thread nD τ).loc main_arg3) ↦{fullShare} m ((c : Thread nD τ).loc main_arg3)) ∗ (((c : Thread nD τ).loc main_arg4) ↦{fullShare} m ((c : Thread nD τ).loc main_arg4)) ∗ (((c : Thread nD τ).loc main_arg5) ↦{fullShare} m ((c : Thread nD τ).loc main_arg5)) ∗ (((c : Thread nD τ).loc main_arg6) ↦{fullShare} m ((c : Thread nD τ).loc main_arg6))) : sProp 𝕄) := by
  unfold Argum
  rw [show At c A1 Finset.univ fullShare (inp m c).X = _ from (whole_at c A1 hA1 fullShare (m ((c : Thread nD τ).loc main_arg0))).symm, show At c A2 Finset.univ fullShare (inp m c).PHI = _ from (whole_at c A2 hA2 fullShare (m ((c : Thread nD τ).loc main_arg2))).symm, show At c A3 Finset.univ fullShare (inp m c).W1 = _ from (whole_at c A3 hA3 fullShare (m ((c : Thread nD τ).loc main_arg3))).symm, show At c A4 Finset.univ fullShare (inp m c).W1S = _ from (whole_at c A4 hA4 fullShare (m ((c : Thread nD τ).loc main_arg4))).symm, show At c A5 Finset.univ fullShare (inp m c).W2 = _ from (whole_at c A5 hA5 fullShare (m ((c : Thread nD τ).loc main_arg5))).symm, show At c A6 Finset.univ fullShare (inp m c).W2S = _ from (whole_at c A6 hA6 fullShare (m ((c : Thread nD τ).loc main_arg6))).symm]
  rfl

theorem done_eq (c : Dev nD) : Done (inp m c) c = (iprop((((c : Thread nD τ).loc main_v0_0) ↦{fullShare} A7.view.rep (OV (inp m c))) ∗ (((c : Thread nD τ).loc main_v0_1) ↦{fullShare} A8.view.rep (ZV (inp m c))) ∗ (((c : Thread nD τ).loc main_v0_2) ↦{fullShare} A9.view.rep (SCV (inp m c))) ∗ (((c : Thread nD τ).loc main_v0_3) ↦{fullShare} A10.view.rep (SSV (inp m c))) ∗ (((c : Thread nD τ).loc main_v0_4) ↦{fullShare} A11.view.rep (HCV (inp m c))) ∗ (((c : Thread nD τ).loc main_v0_5) ↦{fullShare} A12.view.rep (HSV (inp m c)))) : sProp 𝕄) := by
  unfold Done
  rw [whole_rep c A7 hA7, whole_rep c A8 hA8, whole_rep c A9 hA9, whole_rep c A10 hA10, whole_rep c A11 hA11, whole_rep c A12 hA12]
  rfl

/-- Before the one point everything is as launched; after it the results are written. -/
def Before (c : Dev nD) : sProp 𝕄 := iprop(Argum (inp m c) c ∗ Blank c ∗ Scratch c ∗ Cells c)
def After (c : Dev nD) : sProp 𝕄 := iprop(Argum (inp m c) c ∗ Done (inp m c) c ∗ Scratch c ∗ Cells c)

def dats (_ : Fin 1) (c : Dev nD) : Dat τ (Elt F) Unit ℕ (UU nD τ) ℕ cfg0 c where
  A w := V m c (Pipeline.arrRef spec0 w)
  after w t := match w with
    | ⟨0, _⟩ => iblk m c 0 t
  Φ t := if t.val = 0 then Before m c else After m c
  q _ := fullShare
  owed _ := 0

theorem phi_first (c : Dev nD) (t : Fin (cfg0.N + 1)) (h : t.val = 0) : (dats m 0 c).Φ t = Before m c := if_pos h
theorem phi_last (c : Dev nD) (t : Fin (cfg0.N + 1)) (h : t.val ≠ 0) : (dats m 0 c).Φ t = After m c := if_neg h

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem after_w0 (c : Dev nD) (t : Fin cfg0.N) : (dats m 0 c).after 0 t = iblk m c 0 t := by dsimp only [dats]

abbrev bodyG (a0 : Memref sig .tc .smem S2 .i32) (h0 : a0.IsWhole) : Prog (TpuEff nD τ sig (Elt F) Λ₀ .tc) PUnit :=
  cc0_soft_moe (F := F) a0 h0 (Memref.whole main_arg0) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v0_0) (Memref.isWhole_whole _) (Memref.whole main_v0_1) (Memref.isWhole_whole _) (Memref.whole main_v0_2) (Memref.isWhole_whole _) (Memref.whole main_v0_3) (Memref.isWhole_whole _) (Memref.whole main_v0_4) (Memref.isWhole_whole _) (Memref.whole main_v0_5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) cc0_scratch21 cc0_scratch22 cc0_scratch23 cc0_scratch24 cc0_scratch25 cc0_scratch26 cc0_scratch27
theorem defs_tc : (defs₀ (F := F)) .tc cfg0.body = fun a => bodyG (win0_0.stage (a.2 0)) (hstage0_0 0) := rfl
theorem prog_at (t : Fin cfg0.N) : (defs₀ (F := F)) .tc cfg0.body (cfg0.bodyArgs t (cfg0.slots t)) = bodyG (st0 t) (hstage0_0 0) :=
  (congrFun defs_tc _).trans rfl
theorem prog_eq : (defs₀ (F := F)) .tc cfg0.body (cfg0.bodyArgs t0_0 (cfg0.slots t0_0)) = Body (F := F) :=
  (prog_at t0_0).trans rfl

theorem len_eq (c : Dev nD) : ((st0 t0_0).view.loc (c : Thread nD τ) ↦[(st0 t0_0).view.set]{fullShare} (st0 t0_0).view.rep (iblk m c 0 t0_0) : sProp 𝕄)
    = At c A0 Finset.univ fullShare (inp m c).LEN := rfl

set_option backward.isDefEq.respectTransparency.types false in
theorem body_obligation (h : PreOK m) (c : Dev nD) : BodyObligation (dats (F := F) m 0 c) (defs₀ (F := F)) 𝒱₀ () Set.univ := fun t => by
  obtain rfl := fin_N0 t
  rw [bigSep_W0, bigSep_W0]
  dsimp only
  simp only [before_w0, after_w0]
  rw [phi_first m c _ rfl, phi_last m c _ (show (Fin.succ t0_0).val ≠ 0 from Nat.succ_ne_zero _)]
  unfold Dat.owesAt Pipeline.owesWithin
  rw [show (dats m 0 c).owed (Fin.castSucc t0_0) = 0 from rfl, show (dats m 0 c).owed (Fin.succ t0_0) = 0 from rfl]
  unfold owns Before After
  iintro ⟨⟨HA, HB, HS, HC⟩, ⟨%W, -, HW⟩, ⟨%d0, %g0, %hg0, Hng⟩⟩
  ihave Hng' := (pointsTo_rep_entails (c : Thread nD τ) (st0 t0_0) g0 fullShare) $$ Hng
  rw [hg0]
  ihave Hng' := (entails_of_eq (len_eq m c)) $$ Hng'
  sl_rw [prog_eq]
  iapply (body_wp (inp m c) c (len_ok m h c)) $$ [Hng' HA HB HS HC HW]
  · isplitl [HW]; · unfold Owe; iexists W; iexact HW
    isplitl [Hng']; · iexact Hng'
    isplitl [HA]; · iexact HA
    isplitl [HB]; · iexact HB
    isplitl [HS]; · iexact HS
    iexact HC
  iintro ⟨HO, Hng, HA, HB, HS, HC⟩
  ihave Hng := (entails_of_eq (len_eq m c).symm) $$ Hng
  ihave HO := (entails_of_eq (show Owe (F := F) c = iprop(∃ W : Waits sig Unit, owes (Val := Elt F) (Name := ℕ) (U := UU nD τ) (Lvl := ℕ) (c : Thread nD τ) 0 W) from rfl)) $$ HO
  icases HO with ⟨%W', HW⟩
  isplitl [HA HB HS HC]
  · isplitl [HA]; · iexact HA
    isplitl [HB]; · iexact HB
    isplitl [HS]; · iexact HS
    iexact HC
  isplitl [HW]
  · iexists W'; isplitr; · ipureintro; exact fun _ _ => Or.inl trivial
    iexact HW
  iexists _; isplitr; · ipureintro; exact View.read_rep _ _
  iexact Hng

def intoΦ (c : Dev nD) : sProp 𝕄 := iprop((Argum (inp m c) c ∗ Blank c) ∗ Pipeline.ownSems0 osem0 c)
def outOfΦ (c : Dev nD) : sProp 𝕄 := iprop(Argum (inp m c) c ∗ Done (inp m c) c)
def u₀ : UU nD τ := (initOf (Pipeline.cells cfgs cellOf_inj) (Pipeline.launchToks cfgs cellOf_inj), 1)

/-- The arguments but the lengths unchanged, the results at their values. -/
def QY (c : Dev nD) (s : MemSt nD τ sig (Elt F)) : Prop :=
  s.mem ((c : Thread nD τ).loc main_arg0) = m ((c : Thread nD τ).loc main_arg0) ∧ s.mem ((c : Thread nD τ).loc main_arg2) = m ((c : Thread nD τ).loc main_arg2) ∧ s.mem ((c : Thread nD τ).loc main_arg3) = m ((c : Thread nD τ).loc main_arg3) ∧ s.mem ((c : Thread nD τ).loc main_arg4) = m ((c : Thread nD τ).loc main_arg4) ∧ s.mem ((c : Thread nD τ).loc main_arg5) = m ((c : Thread nD τ).loc main_arg5) ∧ s.mem ((c : Thread nD τ).loc main_arg6) = m ((c : Thread nD τ).loc main_arg6)
  ∧ s.mem ((c : Thread nD τ).loc main_v0_0) = A7.view.rep (OV (inp m c)) ∧ s.mem ((c : Thread nD τ).loc main_v0_1) = A8.view.rep (ZV (inp m c)) ∧ s.mem ((c : Thread nD τ).loc main_v0_2) = A9.view.rep (SCV (inp m c)) ∧ s.mem ((c : Thread nD τ).loc main_v0_3) = A10.view.rep (SSV (inp m c)) ∧ s.mem ((c : Thread nD τ).loc main_v0_4) = A11.view.rep (HCV (inp m c)) ∧ s.mem ((c : Thread nD τ).loc main_v0_5) = A12.view.rep (HSV (inp m c))
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

theorem blank_of (c : Dev nD) : (iprop((((c : Thread nD τ).loc main_v0_0) ↦{fullShare} m ((c : Thread nD τ).loc main_v0_0)) ∗ (((c : Thread nD τ).loc main_v0_1) ↦{fullShare} m ((c : Thread nD τ).loc main_v0_1)) ∗ (((c : Thread nD τ).loc main_v0_2) ↦{fullShare} m ((c : Thread nD τ).loc main_v0_2)) ∗ (((c : Thread nD τ).loc main_v0_3) ↦{fullShare} m ((c : Thread nD τ).loc main_v0_3)) ∗ (((c : Thread nD τ).loc main_v0_4) ↦{fullShare} m ((c : Thread nD τ).loc main_v0_4)) ∗ (((c : Thread nD τ).loc main_v0_5) ↦{fullShare} m ((c : Thread nD τ).loc main_v0_5))) : sProp 𝕄) ⊢ Blank c := by
  unfold Blank
  rw [← whole_any c A7 hA7, ← whole_any c A8 hA8, ← whole_any c A9 hA9, ← whole_any c A10 hA10, ← whole_any c A11 hA11, ← whole_any c A12 hA12]
  iintro ⟨H0, H1, H2, H3, H4, H5⟩
  isplitl [H0]; · iexists _; iexact H0
  isplitl [H1]; · iexists _; iexact H1
  isplitl [H2]; · iexists _; iexact H2
  isplitl [H3]; · iexists _; iexact H3
  isplitl [H4]; · iexists _; iexact H4
  iexists _; iexact H5

set_option backward.isDefEq.respectTransparency.types false in
/-- Every fair execution ends, with the arguments unchanged, the results at their values and every semaphore at zero. -/
theorem run_main (h : PreOK m) : θ_run defs (onTc (τ := τ) (main (F := F))) (s₀ m ρ) (fun r => QC m r ∧ r.2.sem = fun _ => 0) :=
  Pipeline.θ_run_region_kit_quiescent cfgs (dats m) () (0 : Fin 1) launch0 ownSemFacts0 EP defs₀ 𝒱₀ m ρ main
    (hbody := fun c => (body_obligation m h c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := intoΦ m) (Y := outOfΦ m) (Z := fun _ => iprop(emp))
    (hX := fun c => by
      rw [unscopedRest0_eq]
      unfold intoΦ
      rw [argum_eq]
      iintro ⟨⟨a0, a2, a3, a4, a5, a6, v0, v1, v2, v3, v4, v5⟩, HS, -, -⟩; imodintro
      isplitl [a0 a2 a3 a4 a5 a6 v0 v1 v2 v3 v4 v5 HS]
      · isplitl [a0 a2 a3 a4 a5 a6 v0 v1 v2 v3 v4 v5]
        · isplitl [a0 a2 a3 a4 a5 a6]
          · isplitl [a0]; · iexact a0
            isplitl [a2]; · iexact a2
            isplitl [a3]; · iexact a3
            isplitl [a4]; · iexact a4
            isplitl [a5]; · iexact a5
            iexact a6
          iapply (blank_of m c)
          isplitl [v0]; · iexact v0
          isplitl [v1]; · iexact v1
          isplitl [v2]; · iexact v2
          isplitl [v3]; · iexact v3
          isplitl [v4]; · iexact v4
          iexact v5
        iexact HS
      iempintro)
    (hin := fun c => by
      rw [scratch_eq, phi_first m c 0 rfl]
      unfold intoΦ Before; rw [cells_eq]
      iintro ⟨⟨⟨HA, HB⟩, HC⟩, HS⟩
      isplitl [HA]; · iexact HA
      isplitl [HB]; · iexact HB
      isplitl [HS]; · iexact HS
      iexact HC
)
    (hout := fun c => by
      rw [scratch_eq, phi_last m c (Fin.last cfg0.N) (show grid0.N ≠ 0 by rw [N_0]; decide), cells_eq]
      unfold After outOfΦ
      iintro ⟨HA, HB, HS, HC⟩
      isplitl [HA HB]
      · isplitl [HA]; · iexact HA
        iexact HB
      isplitl [HC]; · iexact HC
      iexact HS)
    (QY := QY m)
    (hY := fun c s' => by
      unfold outOfΦ
      rw [argum_eq, done_eq]
      iintro ⟨⟨⟨a0, a2, a3, a4, a5, a6⟩, v0, v1, v2, v3, v4, v5⟩, -, HSI⟩
      icombine HSI a0 gives %ha0
      icombine HSI a2 gives %ha2
      icombine HSI a3 gives %ha3
      icombine HSI a4 gives %ha4
      icombine HSI a5 gives %ha5
      icombine HSI a6 gives %ha6
      icombine HSI v0 gives %hv0
      icombine HSI v1 gives %hv1
      icombine HSI v2 gives %hv2
      icombine HSI v3 gives %hv3
      icombine HSI v4 gives %hv4
      icombine HSI v5 gives %hv5
      imodintro
      isplitr
      · ipureintro
        exact ⟨Buf.eq_of_forall_mem_univ ha0, Buf.eq_of_forall_mem_univ ha2, Buf.eq_of_forall_mem_univ ha3, Buf.eq_of_forall_mem_univ ha4, Buf.eq_of_forall_mem_univ ha5, Buf.eq_of_forall_mem_univ ha6, Buf.eq_of_forall_mem_univ hv0, Buf.eq_of_forall_mem_univ hv1, Buf.eq_of_forall_mem_univ hv2, Buf.eq_of_forall_mem_univ hv3, Buf.eq_of_forall_mem_univ hv4, Buf.eq_of_forall_mem_univ hv5⟩
      iexact HSI)
    (hQ := fun _ hh hz => ⟨hh, hz⟩)

/-- The lengths' array, the one window's, is left as launched. -/
theorem len_kept (c : Dev nD) : (dats m 0 c).arrAt 0 cfg0.N = m ((c : Thread nD τ).loc main_arg1) :=
  (dats (F := F) m 0 c).arrAt_in 0 rfl _

end Cert.KernelIdeal.Hand

end
-- ==== Proof.KernelIdeal.Frames.lean ====
/-
  The frame of the program, and its run with every result named.
-/
module

public import proofs.«01_k».proof.Proof.KernelIdeal.Launch
public import proofs.«01_k».proof.Proof.Pre
public import proofs.«01_k».proof.Defs

@[expose] public section

noncomputable section

namespace Cert.KernelIdeal.Hand

open Cert.KernelIdeal Cert.KernelIdeal.Gen
open Idealize.ShloMosaic Idealize.SL.Sem

/-- From lengths within the buffer every fair execution, over any floats, ends with the arguments unchanged and every
    semaphore at zero. -/
theorem frame_of {F : FTy → Type} [FloatOps F] (m : (ℓ : Loc nD τ sig) → Buf (Elt F) ℓ) (ρ : Dev nD → PrngReg) (h : PreOK m) : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  (θ_run defs _ _).mono (fun r hr => ⟨fun c => by
    obtain ⟨hw, h0, h2, h3, h4, h5, h6, -⟩ := hr.1 c
    exact ⟨h0, (hw 0).trans (len_kept m c), h2, h3, h4, h5, h6⟩, hr.2⟩) (run_main m ρ h)

/-- The precondition bounds every length by the buffer's. -/
theorem preOK (m : (ℓ : Loc nD τ sig) → Buf (Elt Ideal) ℓ) (h : Cert.Pre_KernelIdeal m) : PreOK m :=
  fun c j => Cert.Proof.lengths_le _ _ _ _ _ _ _ (h c) j

variable (m : (ℓ : Loc nD τ sig) → Buf (Elt Ideal) ℓ) (ρ : Dev nD → PrngReg)

/-- Every fair execution ends with the arguments unchanged and every semaphore at zero. -/
theorem frame (h : Cert.Pre_KernelIdeal m) : θ_run defs (onTc (τ := τ) (main (F := Ideal))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) :=
  frame_of m ρ (preOK m h)

/-- Every fair execution ends with the results at their values and the arguments unchanged. -/
theorem run_values (h : Cert.Pre_KernelIdeal m) : θ_run defs (onTc (τ := τ) (main (F := Ideal))) ⟨m, fun _ => 0, ρ⟩ (fun r => ∀ c : Dev nD, r.2.mem ((c.tc : Thread nD τ).loc main_v0_0) = A7.view.rep (OV (inp m c)) ∧ r.2.mem ((c.tc : Thread nD τ).loc main_v0_1) = A8.view.rep (ZV (inp m c)) ∧ r.2.mem ((c.tc : Thread nD τ).loc main_v0_2) = A9.view.rep (SCV (inp m c)) ∧ r.2.mem ((c.tc : Thread nD τ).loc main_v0_3) = A10.view.rep (SSV (inp m c)) ∧ r.2.mem ((c.tc : Thread nD τ).loc main_v0_4) = A11.view.rep (HCV (inp m c)) ∧ r.2.mem ((c.tc : Thread nD τ).loc main_v0_5) = A12.view.rep (HSV (inp m c)) ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) :=
  (θ_run defs _ _).mono (fun r hr c => by
    obtain ⟨hw, h0, h2, h3, h4, h5, h6, r0, r1, r2, r3, r4, r5⟩ := hr.1 c
    exact ⟨r0, r1, r2, r3, r4, r5, h0, (hw 0).trans (len_kept m c), h2, h3, h4, h5, h6⟩) (run_main m ρ (preOK m h))

end Cert.KernelIdeal.Hand

end
-- ==== Proof.Kernel.Frames.lean ====
/-
  The frame of the program at bits. Its text is the ideal program's, so the run proved there over any floats is its own.
-/
module

public import proofs.«01_k».proof.Proof.KernelIdeal.Frames
public import proofs.«01_k».proof.Proof.Gen.Kernel.Frame

@[expose] public section

set_option maxRecDepth 65536

noncomputable section

namespace Cert.Kernel.Hand

open Cert.Kernel Cert.Kernel.Gen
open Idealize.ShloMosaic Idealize.SL.Sem

variable {F : FTy → Type} [FloatOps F]

set_option smartUnfolding false in
/-- The two programs run the same kernel body. -/
theorem bodies_same : @Cert.Kernel.defs₀ F _ Cert.Kernel.Gen.facts = @Cert.KernelIdeal.defs₀ F _ Cert.KernelIdeal.Gen.facts := rfl

/-- The two programs' body tables agree. -/
theorem defs_same : @Cert.Kernel.defs F _ Cert.Kernel.Gen.facts = @Cert.KernelIdeal.defs F _ Cert.KernelIdeal.Gen.facts :=
  congrArg (Pipeline.defs (Cert.KernelIdeal.pcfgs (F := F))) bodies_same

/-- The two programs' main functions agree. -/
theorem main_same : @Cert.Kernel.main F _ = @Cert.KernelIdeal.main F _ := rfl

/-- Every fair execution ends with the arguments unchanged and every semaphore at zero. -/
theorem frame (m : (ℓ : Loc nD τ sig) → Buf (Elt Bits) ℓ) (ρ : Dev nD → PrngReg) (h : Cert.Pre_Kernel m) : θ_run defs (onTc (τ := τ) (main (F := Bits))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6)) ∧ r.2.sem = fun _ => 0) := by
  have k := Cert.KernelIdeal.Hand.frame_of (F := Bits) m ρ (fun c j => Cert.Proof.lengths_le _ _ _ _ _ _ _ (h c) j)
  rw [← defs_same, ← main_same] at k
  exact k

end Cert.Kernel.Hand

end
-- ==== Proof.Value.Arith.lean ====
/-
  Extended-real arithmetic both programs share: the powers of two and the quantiser's scale.
-/
module

public import Idealize.ShloMosaic.Lib.Pointwise
public import Idealize.ShloMosaic.Lib.IdealHost

@[expose] public section

noncomputable section

namespace Cert.Value

open Idealize.ShloMosaic

/-! ## Constants -/

theorem c_bot : Ideal.ofBits .f32 4286578688#32 = ⊥ := by simp [Ideal.ofBits, Ideal.ieee]
theorem c_two : Ideal.ofBits .f32 1073741824#32 = ((2 : ℝ) : EReal) := by
  simp [Ideal.ofBits, Ideal.ieee, -EReal.coe_mul]; norm_num

/-- Two to an integer power. -/
def tw (k : ℤ) : EReal := (((2 : ℝ) ^ k : ℝ) : EReal)

theorem tw_pos (k : ℤ) : 0 < tw k := EReal.coe_pos.mpr (zpow_pos two_pos k)
theorem tw_ne (k : ℤ) : tw k ≠ 0 := (tw_pos k).ne'
theorem tw_mono {a b : ℤ} (h : a ≤ b) : tw a ≤ tw b := EReal.coe_le_coe_iff.mpr (zpow_le_zpow_right₀ one_le_two h)
theorem tw_zero : tw 0 = 1 := by simp [tw]
theorem two_tw (k : ℤ) : ((2 : ℝ) : EReal) * tw k = tw (k + 1) := by
  unfold tw; rw [← EReal.coe_mul, zpow_add_one₀ two_ne_zero, mul_comm]
theorem div_tw (k : ℤ) : Ideal.div 1 (tw k) = tw (-k) := by
  unfold Ideal.div; rw [if_neg (tw_ne k), one_mul]; unfold tw
  rw [zpow_neg, EReal.coe_inv]

/-- A word that is a float's exponent field alone is a power of two. -/
theorem field_word : ∀ j : Fin 255, ((BitVec.ofNat 32 j.val <<< 23).extractLsb' 31 1 == 1#1) = false
    ∧ ((BitVec.ofNat 32 j.val <<< 23).extractLsb' 23 8).toNat = j.val ∧ ((BitVec.ofNat 32 j.val <<< 23).extractLsb' 0 23).toNat = 0 := by decide +kernel

theorem ieee_field (b : BitVec 32) (j : ℕ) (h1 : 1 ≤ j) (h2 : j ≤ 254) (ha : (b.extractLsb' 31 1 == 1#1) = false)
    (hb : (b.extractLsb' 23 8).toNat = j) (hc : (b.extractLsb' 0 23).toNat = 0) : Ideal.ieee 8 23 b = tw ((j : ℤ) - 127) := by
  unfold Ideal.ieee
  have e1 : (b.extractLsb' (8 + 23) 1 == 1#1) = false := ha
  simp only [e1, hb, hc]
  have n1 : ¬ (j = 2 ^ 8 - 1) := by norm_num; omega
  have n2 : ¬ (j = 0) := by omega
  rw [if_neg n1, if_neg n2]
  unfold tw
  refine congrArg _ ?_
  rw [show (j : ℤ) - 127 = 23 + ((j : ℤ) - (2 ^ (8 - 1) - 1) - ((23 : ℕ) : ℤ)) by norm_num, zpow_add₀ two_ne_zero]
  norm_num

theorem ofBits_field {j : ℕ} (h1 : 1 ≤ j) (h2 : j ≤ 254) : Ideal.ofBits .f32 (IntOp.shli .vector (BitVec.ofNat 32 j) 23#32) = tw ((j : ℤ) - 127) := by
  obtain ⟨a, b, c⟩ := field_word ⟨j, by omega⟩
  exact ieee_field (BitVec.ofNat 32 j <<< 23) j h1 h2 a b c

/-! ## The quantiser's scale -/

/-- The power of two above the greatest of `2 ^ -126, …, 2 ^ 125` that does not exceed `t`; one where there is none. -/
def scaleOf (t : EReal) : EReal :=
  if Finset.univ.fold max ⊥ (fun i : Fin 252 => if tw ((i.val : ℤ) - 126) ≤ t then tw ((i.val : ℤ) - 126) else 0) = 0 then 1
  else ((2 : ℝ) : EReal) * Finset.univ.fold max ⊥ (fun i : Fin 252 => if tw ((i.val : ℤ) - 126) ≤ t then tw ((i.val : ℤ) - 126) else 0)

/-- Whether the count of exponent fields reaches `j`. -/
def reached (t : EReal) (j : ℕ) : BitVec 32 :=
  Scalar.select (IntOp.andi (IntOp.andi (BitVec.ofBool (decide (Ideal.ofBits .f32 (IntOp.shli .vector (BitVec.ofNat 32 j) 23#32) ≤ t)))
    (IntOp.cmpi .sge (BitVec.ofNat 32 j) 1#32)) (IntOp.cmpi .sle (BitVec.ofNat 32 j) 252#32)) 1#32 0#32

/-- The exponent field of `t`, counted. -/
def fieldOf (t : EReal) : BitVec 32 := Finset.univ.fold IntOp.addi 0#32 (fun j : Fin 256 => reached t j.val)

/-- The scale's exponent. -/
def expOf (t : EReal) : BitVec 32 := Scalar.select (IntOp.cmpi .eq (fieldOf t) 0#32) 0#32 (IntOp.subi (fieldOf t) 126#32)

/-- The count is below `N` and no further. -/
theorem exists_count (t : EReal) : ∃ N : ℕ, N ≤ 252 ∧ ∀ j : ℕ, 1 ≤ j → j ≤ 252 → (tw ((j : ℤ) - 127) ≤ t ↔ j ≤ N) := by
  classical
  let P : ℕ → Prop := fun j => j = 0 ∨ tw ((j : ℤ) - 127) ≤ t
  refine ⟨Nat.findGreatest P 252, Nat.findGreatest_le 252, fun j h1 h2 => ⟨fun h => Nat.le_findGreatest h2 (Or.inr h), fun h => ?_⟩⟩
  have hs : P (Nat.findGreatest P 252) := Nat.findGreatest_spec (m := 0) (Nat.zero_le _) (Or.inl rfl)
  rcases hs with h0 | h0
  · omega
  · exact (tw_mono (by omega)).trans h0

theorem sge_word : ∀ j : Fin 256, IntOp.cmpi .sge (BitVec.ofNat 32 j.val) 1#32 = BitVec.ofBool (decide (1 ≤ j.val)) := by decide +kernel
theorem sle_word : ∀ j : Fin 256, IntOp.cmpi .sle (BitVec.ofNat 32 j.val) 252#32 = BitVec.ofBool (decide (j.val ≤ 252)) := by decide +kernel

theorem reached_eq {t : EReal} {N : ℕ} (hN : N ≤ 252) (h : ∀ j : ℕ, 1 ≤ j → j ≤ 252 → (tw ((j : ℤ) - 127) ≤ t ↔ j ≤ N)) (j : Fin 256) :
    reached t j.val = if 1 ≤ j.val ∧ j.val ≤ N then 1#32 else 0#32 := by
  unfold reached
  rw [sge_word, sle_word]
  by_cases h1 : 1 ≤ j.val
  · by_cases h2 : j.val ≤ 252
    · rw [ofBits_field h1 (by omega)]
      by_cases h3 : j.val ≤ N
      · rw [if_pos ⟨h1, h3⟩, decide_eq_true ((h _ h1 h2).mpr h3), decide_eq_true h1, decide_eq_true h2]; rfl
      · rw [if_neg (fun h' => h3 h'.2), decide_eq_false (fun h' => h3 ((h _ h1 h2).mp h')), decide_eq_true h1, decide_eq_true h2]; rfl
    · rw [if_neg (by omega), decide_eq_false h2, decide_eq_true h1]
      cases decide (Ideal.ofBits .f32 (IntOp.shli .vector (BitVec.ofNat 32 j.val) 23#32) ≤ t) <;> rfl
  · rw [if_neg (by omega), decide_eq_false h1]
    cases decide (Ideal.ofBits .f32 (IntOp.shli .vector (BitVec.ofNat 32 j.val) 23#32) ≤ t) <;> cases decide (j.val ≤ 252) <;> rfl

theorem fold_count {α : Type} [DecidableEq α] (p : α → Prop) [DecidablePred p] (s : Finset α) :
    s.fold IntOp.addi 0#32 (fun j => if p j then 1#32 else 0#32) = BitVec.ofNat 32 (s.filter p).card := by
  induction s using Finset.induction_on with
  | empty => rfl
  | insert a s ha ih =>
    rw [Finset.fold_insert ha, ih, Finset.filter_insert]
    by_cases hp : p a
    · rw [if_pos hp, if_pos hp, Finset.card_insert_of_notMem (fun h => ha (Finset.mem_filter.mp h).1), Nat.add_comm, BitVec.ofNat_add]; rfl
    · rw [if_neg hp, if_neg hp]; exact BitVec.zero_add _

theorem card_count {N : ℕ} (hN : N ≤ 252) : (Finset.univ.filter (fun j : Fin 256 => 1 ≤ j.val ∧ j.val ≤ N)).card = N := by
  have e : Finset.univ.filter (fun j : Fin 256 => 1 ≤ j.val ∧ j.val ≤ N) = Finset.Icc (⟨1, by omega⟩ : Fin 256) ⟨N, by omega⟩ := by
    ext j; simp [Fin.le_def]
  rw [e, Fin.card_Icc]; simp

theorem fieldOf_eq {t : EReal} {N : ℕ} (hN : N ≤ 252) (h : ∀ j : ℕ, 1 ≤ j → j ≤ 252 → (tw ((j : ℤ) - 127) ≤ t ↔ j ≤ N)) : fieldOf t = BitVec.ofNat 32 N := by
  unfold fieldOf
  rw [Finset.fold_congr (g := fun j : Fin 256 => if 1 ≤ j.val ∧ j.val ≤ N then 1#32 else 0#32) (fun j _ => reached_eq hN h j), fold_count, card_count hN]

/-- The scale's exponent, as an integer. -/
def eInt (N : ℕ) : ℤ := if N = 0 then 0 else (N : ℤ) - 126

theorem scaleOf_eq {t : EReal} {N : ℕ} (hN : N ≤ 252) (h : ∀ j : ℕ, 1 ≤ j → j ≤ 252 → (tw ((j : ℤ) - 127) ≤ t ↔ j ≤ N)) : scaleOf t = tw (eInt N) := by
  have h' : ∀ i : Fin 252, tw ((i.val : ℤ) - 126) ≤ t ↔ i.val + 1 ≤ N := fun i => by
    rw [← h (i.val + 1) (by omega) (by omega)]
    have : ((i.val + 1 : ℕ) : ℤ) - 127 = (i.val : ℤ) - 126 := by omega
    rw [this]
  have hf : Finset.univ.fold max ⊥ (fun i : Fin 252 => if tw ((i.val : ℤ) - 126) ≤ t then tw ((i.val : ℤ) - 126) else 0) = if N = 0 then 0 else tw ((N : ℤ) - 127) := by
    by_cases h0 : N = 0
    · rw [if_pos h0]
      refine le_antisymm (Finset.fold_max_le _ |>.mpr ⟨bot_le, fun i _ => ?_⟩) (Finset.le_fold_max _ |>.mpr (Or.inr ⟨⟨0, by omega⟩, Finset.mem_univ _, ?_⟩))
      · rw [if_neg (fun hh => by have := (h' i).mp hh; omega)]
      · rw [if_neg (fun hh => by have := (h' ⟨0, by omega⟩).mp hh; omega)]
    · rw [if_neg h0]
      refine le_antisymm (Finset.fold_max_le _ |>.mpr ⟨bot_le, fun i _ => ?_⟩) (Finset.le_fold_max _ |>.mpr (Or.inr ⟨⟨N - 1, by omega⟩, Finset.mem_univ _, ?_⟩))
      · by_cases hi : tw ((i.val : ℤ) - 126) ≤ t
        · rw [if_pos hi]; exact tw_mono (by have := (h' i).mp hi; omega)
        · rw [if_neg hi]; exact (tw_pos _).le
      · rw [if_pos ((h' ⟨N - 1, by omega⟩).mpr (show N - 1 + 1 ≤ N by omega))]
        exact tw_mono (show (N : ℤ) - 127 ≤ ((N - 1 : ℕ) : ℤ) - 126 by omega)
  unfold scaleOf eInt
  rw [hf]
  by_cases h0 : N = 0
  · rw [if_pos h0, if_pos rfl, if_pos h0, tw_zero]
  · rw [if_neg h0, if_neg (tw_ne _), if_neg h0, two_tw]; congr 1; omega

theorem exp_words : ∀ N : Fin 253, ∀ e : BitVec 32, e = Scalar.select (IntOp.cmpi .eq (BitVec.ofNat 32 N.val) 0#32) 0#32 (IntOp.subi (BitVec.ofNat 32 N.val) 126#32) →
    IntOp.addi e 127#32 = BitVec.ofNat 32 (if N.val = 0 then 127 else N.val + 1) ∧ IntOp.subi 127#32 e = BitVec.ofNat 32 (if N.val = 0 then 127 else 253 - N.val) := by
  have h : ∀ N : Fin 253, let e : BitVec 32 := Scalar.select (IntOp.cmpi .eq (BitVec.ofNat 32 N.val) 0#32) 0#32 (IntOp.subi (BitVec.ofNat 32 N.val) 126#32)
    IntOp.addi e 127#32 = BitVec.ofNat 32 (if N.val = 0 then 127 else N.val + 1) ∧ IntOp.subi 127#32 e = BitVec.ofNat 32 (if N.val = 0 then 127 else 253 - N.val) := by decide +kernel
  rintro N e rfl; exact h N

/-- The kernel's scale. -/
theorem scale_word (t : EReal) : Ideal.ofBits .f32 (IntOp.shli .vector (IntOp.addi (expOf t) 127#32) 23#32) = scaleOf t := by
  obtain ⟨N, hN, h⟩ := exists_count t
  rw [scaleOf_eq hN h, (exp_words ⟨N, by omega⟩ (expOf t) (by unfold expOf; rw [fieldOf_eq hN h])).1]
  dsimp only
  unfold eInt
  by_cases h0 : N = 0
  · rw [if_pos h0, if_pos h0, ofBits_field (by omega) (by omega)]; rfl
  · rw [if_neg h0, if_neg h0, ofBits_field (by omega) (by omega)]; congr 1; push_cast; ring

/-- The kernel's inverse scale. -/
theorem inv_word (t : EReal) : Ideal.ofBits .f32 (IntOp.shli .vector (IntOp.subi 127#32 (expOf t)) 23#32) = Ideal.div 1 (scaleOf t) := by
  obtain ⟨N, hN, h⟩ := exists_count t
  rw [scaleOf_eq hN h, div_tw, (exp_words ⟨N, by omega⟩ (expOf t) (by unfold expOf; rw [fieldOf_eq hN h])).2]
  dsimp only
  unfold eInt
  by_cases h0 : N = 0
  · rw [if_pos h0, if_pos h0, ofBits_field (by omega) (by omega)]; rfl
  · rw [if_neg h0, if_neg h0, ofBits_field (by omega) (by omega)]; congr 1; omega

end Cert.Value

end
-- ==== Proof.Value.Spec.lean ====
/-
  The soft mixture of experts of one batch, in plain sums and maxima over the extended reals.
-/
module

public import proofs.«01_k».proof.Proof.Value.Arith

@[expose] public section

noncomputable section

namespace Cert.Value

open Idealize.ShloMosaic

/-- A constant of the programs. -/
abbrev cst (w : BitVec 32) : EReal := Ideal.ofBits .f32 w

/-- `a` below the batch's length, `b` from there on. -/
def below (l : BitVec 32) (t : ℕ) (a b : EReal) : EReal := Scalar.select (IntOp.cmpi .slt (BitVec.ofNat 32 t) l) a b

/-! ## The dispatch weights -/

def lgS (x : Fin 2048 → Fin 1664 → EReal) (p : Fin 1664 → Fin 128 → EReal) (t : Fin 2048) (n : Fin 128) : EReal := ∑ d, x t d * p d n
def mxS (l : BitVec 32) (f : Fin 2048 → EReal) : EReal := Finset.univ.fold max (cst 4286578688#32) (fun t : Fin 2048 => below l t.val (f t) (cst 4286578688#32))
def ddS (l : BitVec 32) (f : Fin 2048 → EReal) (t : Fin 2048) : EReal := Ideal.exp (below l t.val (f t) (cst 4286578688#32) - mxS l f)
def totS (l : BitVec 32) (f : Fin 2048 → EReal) : EReal := ∑ t, ddS l f t
def dpS (l : BitVec 32) (f : Fin 2048 → EReal) (t : Fin 2048) : EReal := if 0 < totS l f then Ideal.div (ddS l f t) (totS l f) else 0
def xsS (x : Fin 2048 → Fin 1664 → EReal) (p : Fin 1664 → Fin 128 → EReal) (l : BitVec 32) (n : Fin 128) (k : Fin 1664) : EReal :=
  ∑ t, dpS l (fun t => lgS x p t n) t * x t k

/-! ## The quantiser -/

def amS {K : ℕ} (v : Fin K → EReal) : EReal := Finset.univ.fold max (cst 4286578688#32) (fun k => max (v k) (-(v k)))
def scS {K : ℕ} (v : Fin K → EReal) : EReal := scaleOf (amS v * cst 991054117#32)
def cdS {K : ℕ} (v : Fin K → EReal) (k : Fin K) : EReal := min (cst 1138753536#32) (max (cst 3286237184#32) (v k * Ideal.div 1 (scS v)))

/-! ## The experts -/

/-- Halved, times one and the error function. -/
def gel (h : EReal) : EReal := cst 1056964608#32 * h * (1 + FloatOps.erf (F := Ideal) (φ := .f32) (h * cst 1060439283#32))

/-- A row of a layer before its activation. -/
def preS {K : ℕ} (v : Fin K → EReal) (w : Fin K → EReal) (s : EReal) : EReal := (∑ k, cdS v k * w k) * scS v * s

def hdS {K J : ℕ} (v : Fin K → EReal) (w : Fin K → Fin J → EReal) (s : Fin J → EReal) (j : Fin J) : EReal := gel (preS v (fun k => w k j) (s j))
def ysS {K J C : ℕ} (v : Fin K → EReal) (w1 : Fin K → Fin J → EReal) (s1 : Fin J → EReal) (w2 : Fin J → Fin C → EReal) (s2 : Fin C → EReal) (c : Fin C) : EReal :=
  preS (hdS v w1 s1) (fun j => w2 j c) (s2 c)

/-! ## The combination -/

def cbS (f : Fin 128 → EReal) (n : Fin 128) : EReal :=
  Ideal.div (Ideal.exp (f n - Finset.univ.fold max (cst 4286578688#32) f))
    (∑ i, Ideal.exp (f i - Finset.univ.fold max (cst 4286578688#32) f))
def outS (l : BitVec 32) (t : Fin 2048) (f : Fin 128 → EReal) (y : Fin 128 → EReal) : EReal := below l t.val (∑ n, cbS f n * y n) 0

/-- The expert of a slot. -/
abbrev ex (n : Fin 128) : Fin 16 := ⟨n.val / 8, by omega⟩

/-! ## The six results, from the seven arguments -/

structure Args where
  X : Fin 2 → Fin 2048 → Fin 1664 → EReal
  L : Fin 2 → BitVec 32
  P : Fin 1664 → Fin 128 → EReal
  W1 : Fin 16 → Fin 1664 → Fin 8192 → EReal
  S1 : Fin 16 → Fin 8192 → EReal
  W2 : Fin 16 → Fin 8192 → Fin 1664 → EReal
  S2 : Fin 16 → Fin 1664 → EReal

variable (a : Args) (b : Fin 2) (n : Fin 128)

def Args.xs : Fin 1664 → EReal := xsS (a.X b) a.P (a.L b) n
def Args.hid : Fin 8192 → EReal := hdS (a.xs b n) (a.W1 (ex n)) (a.S1 (ex n))
def Args.ys : Fin 1664 → EReal := ysS (a.xs b n) (a.W1 (ex n)) (a.S1 (ex n)) (a.W2 (ex n)) (a.S2 (ex n))
def Args.out (t : Fin 2048) (c : Fin 1664) : EReal := outS (a.L b) t (lgS (a.X b) a.P t) (fun n => a.ys b n c)

/-- A slot, by its expert and its row. -/
abbrev slot (e : Fin 16) (r : Fin 8) : Fin 128 := ⟨e.val * 8 + r.val, by omega⟩

end Cert.Value

end
-- ==== Proof.Value.Boxes.lean ====
/-
  Reading boxes and tilings at an index.
-/
module

public import proofs.«01_k».proof.Proof.KernelIdeal.Vals
public import proofs.«01_k».proof.Proof.Value.Spec
public import Idealize.ShloMosaic.Lib.Pointwise

@[expose] public section

set_option maxRecDepth 16384

noncomputable section

namespace Cert.Value

open Idealize.ShloMosaic
open Cert.KernelIdeal Cert.KernelIdeal.Gen Cert.KernelIdeal.Hand

/-- A box at an index is the array at the box's offset plus that index. -/
theorem slc_eq {α : Type} [Nonempty α] {s : Shape} (v : s.Idx → α) {off size : Fin s.rank → ℕ} (j : (⟨s.rank, size⟩ : Shape).Idx) (i : s.Idx)
    (h : ∀ a, (i a).val = off a + (j a).val) : slc v off size j = v i := by
  unfold slc
  rw [dif_pos (fun a => by rw [← h a]; exact (i a).isLt)]
  congr 1; funext a; exact Fin.ext (h a).symm

/-- A tiling at an index is the box that holds the index, at the index within the box. -/
theorem tiled_eq {α : Type} {s : Shape} {size : Fin s.rank → ℕ} {hpos : ∀ a, 0 < size a} {w : (Fin s.rank → ℕ) → (⟨s.rank, size⟩ : Shape).Idx → α} (i : s.Idx)
    (q : Fin s.rank → ℕ) (j : (⟨s.rank, size⟩ : Shape).Idx) (h : ∀ a, (i a).val = q a * size a + (j a).val) : tiled size hpos w i = w q j := by
  have hj : ∀ a, (j a).val < size a := fun a => (j a).isLt
  have e1 : (fun a => (i a).val / size a) = q := by
    funext a; rw [h a, Nat.add_comm, Nat.add_mul_div_right _ _ (hpos a), Nat.div_eq_of_lt (hj a), Nat.zero_add]
  have e2 : (fun a => (⟨(i a).val % size a, Nat.mod_lt _ (hpos a)⟩ : Fin (size a))) = j := by
    funext a; apply Fin.ext
    show (i a).val % size a = _
    rw [h a, Nat.add_comm, Nat.add_mul_mod_self_right, Nat.mod_eq_of_lt (hj a)]
  show w (fun a => (i a).val / size a) (fun a => (⟨(i a).val % size a, Nat.mod_lt _ (hpos a)⟩ : Fin (size a))) = w q j
  rw [e1, e2]

/-- The kernel's arguments by coordinates. -/
def argsI (I : Inp Ideal) : Args where
  X := fun b t d => I.X (ix3 b t d)
  L := fun b => I.LEN (ix1 b)
  P := fun d n => I.PHI (ix2 d n)
  W1 := fun e k j => I.W1 (ix3 e k j)
  S1 := fun e j => I.W1S (ix2 e j)
  W2 := fun e j c => I.W2 (ix3 e j c)
  S2 := fun e c => I.W2S (ix2 e c)

variable (I : Inp Ideal)

theorem len_eq (b : Fin 2) : len I b.val = (argsI I).L b :=
  slc_eq I.LEN z1 (ix1 b) (fun a => by match a with | ⟨0, _⟩ => rfl)

theorem x_slc (b : Fin 2) (k : ℕ) (hk : k < 4) (r : Fin 512) (d : Fin 1664) : slc I.X ![b.val, 512 * k, 0] S1x512x1664.size (ix3 0 r d) = (argsI I).X b ⟨512 * k + r.val, by omega⟩ d :=
  slc_eq (s := S2x2048x1664) I.X _ (ix3 b ⟨512 * k + r.val, by omega⟩ d) (all3 rfl rfl (Nat.zero_add _).symm)

theorem phi_slc (d : Fin 1664) (n : Fin 128) : slc I.PHI ![0, 0] S1664x128.size (ix2 d n) = (argsI I).P d n :=
  slc_eq (s := S1664x128) I.PHI _ (ix2 d n) (all2 (Nat.zero_add _).symm (Nat.zero_add _).symm)

/-- The loops' positions as words. -/
theorem pos_word (k r : ℕ) : IntOp.addi (Scalar.muli (Scf.iv 0#32 1#32 k) 512#32) (BitVec.ofNat 32 r) = BitVec.ofNat 32 (512 * k + r) := by
  show (0#32 + BitVec.ofNat 32 k * 1#32) * 512#32 + BitVec.ofNat 32 r = _
  rw [BitVec.ofNat_add, BitVec.ofNat_mul, BitVec.mul_comm]
  simp

end Cert.Value

end
-- ==== Proof.Value.Blocks.lean ====
/-
  The payloads of the dispatch loops at an index.
-/
module

public import proofs.«01_k».proof.Proof.Value.Boxes

@[expose] public section

set_option maxRecDepth 16384

noncomputable section

namespace Cert.Value

open Idealize.ShloMosaic
open Cert.KernelIdeal Cert.KernelIdeal.Gen Cert.KernelIdeal.Hand

theorem pay45_at (x : Vec Ideal S1x512x1664 .bf16) (p : Vec Ideal S1664x128 .bf16) (r : Fin 512) (n : Fin 128) :
    k0_pay45 (F := Ideal) x p (ix3 0 r n) = ∑ d, x (ix3 0 r d) * p (ix2 d n) := by
  pointwise [k0_pay45, k0_pay44] <;> rfl

theorem pay46_at (l : BitVec 32) (k : Fin (k0_t1_loop l).trips) (m : FVec Ideal S1x128 .f32) (x : Vec Ideal S1x512x1664 .bf16) (p : Vec Ideal S1664x128 .bf16) (n : Fin 128) :
    k0_pay46 (F := Ideal) l k m x p (ix2 0 n) = max (m (ix2 0 n)) (Finset.univ.fold max (cst 4286578688#32) (fun r : Fin 512 => below l (512 * k.val + r.val) (∑ d, x (ix3 0 r d) * p (ix2 d n)) (cst 4286578688#32))) := by
  obtain ⟨k, hk⟩ := k
  unfold k0_pay46 k0_pay44
  dsimp only
  generalize hw : Scalar.muli (Scf.iv 0#32 1#32 k) 512#32 = w
  pointwise []
  simp only [← hw, pos_word]
  rfl

theorem pay51_at (l : BitVec 32) (m : FVec Ideal S1x128 .f32) (k : Fin (k0_t3_loop l).trips) (s : FVec Ideal S1x128 .f32) (g : Vec Ideal S1x512x128 .f32) (n : Fin 128) :
    k0_pay51 (F := Ideal) l m k s g (ix2 0 n) = s (ix2 0 n) + ∑ r : Fin 512, below l (512 * k.val + r.val) (Ideal.exp (g (ix3 0 r n) - m (ix2 0 n))) 0 := by
  obtain ⟨k, hk⟩ := k
  unfold k0_pay51
  dsimp only
  generalize hw : Scalar.muli (Scf.iv 0#32 1#32 k) 512#32 = w
  pointwise []
  simp only [← hw, pos_word]
  rfl

theorem pay55_at (l : BitVec 32) (m s : FVec Ideal S1x128 .f32) (k : Fin (k0_t5_loop l).trips) (g : Vec Ideal S1x512x128 .f32) (y : Vec Ideal S1x128x1664 .f32) (x : Vec Ideal S1x512x1664 .bf16) (n : Fin 128) (d : Fin 1664) :
    k0_pay55 (F := Ideal) l m s k g y x (ix3 0 n d) = y (ix3 0 n d) + ∑ r : Fin 512, below l (512 * k.val + r.val) (Ideal.exp (g (ix3 0 r n) - m (ix2 0 n)) * Ideal.div 1 (s (ix2 0 n)) * x (ix3 0 r d)) 0 := by
  obtain ⟨k, hk⟩ := k
  unfold k0_pay55 k0_pay53
  dsimp only
  generalize hw : Scalar.muli (Scf.iv 0#32 1#32 k) 512#32 = w
  pointwise []
  simp only [← hw, pos_word]
  rfl

theorem pay20_at (v : Vec Ideal S1x256x128 .f32) (r : Fin 256) (n : Fin 128) : k0_pay20 (F := Ideal) v (ix3 0 r n) = cbS (fun i => v (ix3 0 r i)) n := by
  pointwise [k0_pay20] <;> rfl

theorem pay9_at (a b : Vec Ideal S1x8x1664 .f32) (g : Fin 2) (r : Fin 8) (k : Fin 1664) :
    k0_pay9 (F := Ideal) a b (ix2 ⟨g.val * 8 + r.val, by omega⟩ k) = if g = 0 then a (ix3 0 r k) else b (ix3 0 r k) := by
  pointwise [k0_pay9]
  fin_cases g
  · simp
  · simp

theorem pay10_at (a b : Vec Ideal S1x8x1664 .f32) (i : Fin 16) :
    k0_pay10 (F := Ideal) a b (ix2 i 0) = expOf (amS (fun k => k0_pay9 (F := Ideal) a b (ix2 i k)) * cst 991054117#32) := by
  pointwise [k0_pay10] <;> rfl

theorem pay12_at (a b : Vec Ideal S1x8x1664 .f32) (i : Fin 16) :
    k0_pay12 (F := Ideal) (k0_pay11 a b) 23#32 (ix2 i 0) = scS (fun k => k0_pay9 (F := Ideal) a b (ix2 i k)) := by
  pointwise [k0_pay12, k0_pay11]
  rw [pay10_at]; exact scale_word _

theorem pay13_at (a b : Vec Ideal S1x8x1664 .f32) (i : Fin 16) (k : Fin 1664) :
    k0_pay13 (F := Ideal) (k0_pay9 a b) (k0_pay10 a b) (ix2 i k) = cdS (fun k => k0_pay9 (F := Ideal) a b (ix2 i k)) k := by
  pointwise [k0_pay13]
  rw [pay10_at, inv_word]; rfl

theorem pay15_at (v : FVec Ideal S16x1664 .f32) (w : IVec S16x1 32) (r : Fin 8) (k : Fin 1664) :
    k0_pay15 (F := Ideal) v w (ix4 0 0 r k) = k0_pay13 v w (ix2 ⟨0 * 8 + r.val, by omega⟩ k) := by
  pointwise [k0_pay15] <;> simp
theorem pay17_at (v : FVec Ideal S16x1664 .f32) (w : IVec S16x1 32) (r : Fin 8) (k : Fin 1664) :
    k0_pay17 (F := Ideal) v w (ix4 0 0 r k) = k0_pay13 v w (ix2 ⟨1 * 8 + r.val, by omega⟩ k) := by
  pointwise [k0_pay17] <;> rfl
theorem pay16_at (w : IVec S16x1 32) (r : Fin 8) (c : Fin 128) :
    k0_pay16 (F := Ideal) w 23#32 (ix3 0 r c) = k0_pay12 (F := Ideal) w 23#32 (ix2 ⟨0 * 8 + r.val, by omega⟩ 0) := by
  pointwise [k0_pay16] <;> simp
theorem pay19_at (w : IVec S16x1 32) (r : Fin 8) (c : Fin 128) :
    k0_pay19 (F := Ideal) (k0_pay18 w 23#32) (ix3 0 r c) = k0_pay12 (F := Ideal) w 23#32 (ix2 ⟨1 * 8 + r.val, by omega⟩ 0) := by
  pointwise [k0_pay19, k0_pay18] <;> rfl

end Cert.Value

end
-- ==== Proof.Value.Softmax.lean ====
/-
  The dispatch loops, block after block, hold the maximum, the sum and the weighted inputs of `Spec`.
-/
module

public import proofs.«01_k».proof.Proof.Value.Blocks

@[expose] public section

set_option maxRecDepth 16384

noncomputable section

namespace Cert.Value

open Idealize.ShloMosaic
open Cert.KernelIdeal Cert.KernelIdeal.Gen Cert.KernelIdeal.Hand

theorem cst_bot : cst 4286578688#32 = ⊥ := c_bot

/-! ## Below the length -/

theorem below_pos {l : BitVec 32} {t : ℕ} (ht : t < 2048) (h : (t : Int) < l.toInt) (x y : EReal) : below l t x y = x := by
  have e : (BitVec.ofNat 32 t).toInt = (t : Int) := by
    rw [BitVec.toInt_eq_toNat_of_lt (by rw [BitVec.toNat_ofNat]; omega), BitVec.toNat_ofNat]; omega
  show (if (BitVec.ofBool ((BitVec.ofNat 32 t).slt l)) = 1#1 then x else y) = x
  rw [BitVec.slt, e, decide_eq_true h]; rfl
theorem below_neg {l : BitVec 32} {t : ℕ} (ht : t < 2048) (h : ¬ (t : Int) < l.toInt) (x y : EReal) : below l t x y = y := by
  have e : (BitVec.ofNat 32 t).toInt = (t : Int) := by
    rw [BitVec.toInt_eq_toNat_of_lt (by rw [BitVec.toNat_ofNat]; omega), BitVec.toNat_ofNat]; omega
  show (if (BitVec.ofBool ((BitVec.ofNat 32 t).slt l)) = 1#1 then x else y) = y
  rw [BitVec.slt, e, decide_eq_false h]; rfl
theorem below_cases (l : BitVec 32) (t : ℕ) : (∀ x y, below l t x y = x) ∨ (∀ x y, below l t x y = y) := by
  by_cases h : (IntOp.cmpi .slt (BitVec.ofNat 32 t) l) = 1#1
  · exact Or.inl fun x y => if_pos h
  · exact Or.inr fun x y => if_neg h

theorem exp_nonneg (x : EReal) : 0 ≤ Ideal.exp x := by
  induction x with
  | bot => exact le_refl _
  | top => exact le_top
  | coe r => exact EReal.coe_nonneg.mpr (Real.exp_pos r).le

theorem dd_below (l : BitVec 32) (f : Fin 2048 → EReal) (t : Fin 2048) : ddS l f t = below l t.val (Ideal.exp (f t - mxS l f)) 0 := by
  unfold ddS
  rcases below_cases l t.val with h | h
  · rw [h, h]
  · rw [h, h, cst_bot, EReal.bot_sub]; rfl

theorem dp_below (l : BitVec 32) (f : Fin 2048 → EReal) (t : Fin 2048) (x : EReal) :
    dpS l f t * x = below l t.val (Ideal.exp (f t - mxS l f) * Ideal.div 1 (totS l f) * x) 0 := by
  have h0 : ∀ t, 0 ≤ ddS l f t := fun t => exp_nonneg _
  have hd := dd_below l f t
  unfold dpS
  by_cases h : 0 < totS l f
  · rw [if_pos h]
    have hne : totS l f ≠ 0 := h.ne'
    unfold Ideal.div
    rw [if_neg hne, if_neg hne, one_mul, hd]
    rcases below_cases l t.val with hb | hb
    · rw [hb, hb]
    · rw [hb, hb, zero_mul, zero_mul]
  · rw [if_neg h, zero_mul]
    have hz : totS l f = 0 := le_antisymm (not_lt.mp h) (Finset.sum_nonneg fun t _ => h0 t)
    have ht : ddS l f t = 0 := (Finset.sum_eq_zero_iff_of_nonneg fun t _ => h0 t).mp hz t (Finset.mem_univ t)
    rcases below_cases l t.val with hb | hb
    · rw [hb] at hd
      rw [hb, ← hd, ht, zero_mul, zero_mul]
    · rw [hb]

/-! ## Sums over the first blocks -/

/-- A function of the positions, zero beyond them. -/
def ext (g : Fin 2048 → EReal) (t : ℕ) : EReal := if h : t < 2048 then g ⟨t, h⟩ else 0

theorem ext_of (g : Fin 2048 → EReal) (t : ℕ) (h : t < 2048) : ext g t = g ⟨t, h⟩ := dif_pos h

theorem sum_block (g : Fin 2048 → EReal) (k : ℕ) (hk : k < 4) :
    ∑ t ∈ Finset.range (512 * (k + 1)), ext g t = ∑ t ∈ Finset.range (512 * k), ext g t + ∑ r : Fin 512, g ⟨512 * k + r.val, by omega⟩ := by
  rw [show 512 * (k + 1) = 512 * k + 512 from rfl, Finset.sum_range_add]
  congr 1
  rw [Finset.sum_range]
  exact Finset.sum_congr rfl fun r _ => ext_of g _ _

theorem sum_all (g : Fin 2048 → EReal) (k : ℕ) (hk : k ≤ 4) (h : ∀ t : Fin 2048, 512 * k ≤ t.val → g t = 0) :
    ∑ t ∈ Finset.range (512 * k), ext g t = ∑ t, g t := by
  have e : ∑ t, g t = ∑ t ∈ Finset.range 2048, ext g t := by
    rw [Finset.sum_range]; exact Finset.sum_congr rfl fun t _ => (ext_of g t.val t.isLt).symm
  rw [e]
  refine Finset.sum_subset (fun t ht => ?_) fun t ht hn => ?_
  · rw [Finset.mem_range] at *; omega
  · rw [Finset.mem_range] at *
    rw [ext_of g t ht]; exact h _ (by show 512 * k ≤ t; omega)

/-! ## One batch -/

section Batch

variable (I : Inp Ideal) (b : Fin 2)

/-- A slot's logits. -/
abbrev lo (n : Fin 128) : Fin 2048 → EReal := fun t => lgS ((argsI I).X b) (argsI I).P t n

theorem lg_sum (k : ℕ) (hk : k < 4) (r : Fin 512) (n : Fin 128) :
    ∑ d, slc I.X ![b.val, 512 * k, 0] S1x512x1664.size (ix3 0 r d) * slc I.PHI ![0, 0] S1664x128.size (ix2 d n) = lo I b n ⟨512 * k + r.val, by omega⟩ :=
  Finset.sum_congr rfl fun d _ => by rw [x_slc I b k hk r d, phi_slc I d n]

theorem lgb_at (k : ℕ) (hk : k < 4) (r : Fin 512) (n : Fin 128) : LGB I b.val k (ix3 0 r n) = lo I b n ⟨512 * k + r.val, by omega⟩ := by
  unfold LGB
  rw [pay45_at]
  exact lg_sum I b k hk r n

variable (hv : ((argsI I).L b).toInt ≤ 2048)

include hv in
theorem nb_facts : nb I b.val ≤ 4 ∧ ∀ t : Fin 2048, 512 * nb I b.val ≤ t.val → ∀ x y, below ((argsI I).L b) t.val x y = y := by
  have h := trips_facts (len I b.val) (by rw [len_eq]; exact hv)
  refine ⟨h.2.2.1, fun t ht x y => below_neg t.isLt (fun hl => ?_) x y⟩
  have h2 := (h.2.2.2.2 (nb I b.val)).not.mp (lt_irrefl _)
  rw [len_eq] at h2
  omega

include hv in
theorem mx_step (n : Fin 128) (k : ℕ) (hk : k < nb I b.val) : MX I b.val (k + 1) (ix2 0 n) = max (MX I b.val k (ix2 0 n))
    (Finset.univ.fold max ⊥ (fun r : Fin 512 => below ((argsI I).L b) (512 * k + r.val) (lo I b n ⟨512 * k + r.val, by have := (nb_facts I b hv).1; omega⟩) ⊥)) := by
  have h4 : k < 4 := lt_of_lt_of_le hk (nb_facts I b hv).1
  rw [MX_succ I b.val k hk, pay46_at, cst_bot]
  congr 1
  exact Finset.fold_congr fun r _ => by
    rw [lg_sum I b k h4 r n]
    exact congrArg (fun l => below l (512 * k + r.val) _ ⊥) (len_eq I b)

include hv in
theorem mx_le (n : Fin 128) (c : EReal) : ∀ k, k ≤ nb I b.val → (MX I b.val k (ix2 0 n) ≤ c ↔ ∀ t : Fin 2048, t.val < 512 * k → below ((argsI I).L b) t.val (lo I b n t) ⊥ ≤ c)
  | 0, _ => ⟨fun _ t ht => absurd ht (by omega), fun _ => by
      show cst 4286578688#32 ≤ c
      rw [cst_bot]; exact bot_le⟩
  | k + 1, hk => by
    have h4 : k < 4 := lt_of_lt_of_le hk (nb_facts I b hv).1
    rw [mx_step I b hv n k hk, max_le_iff, mx_le n c k (Nat.le_of_lt hk), Finset.fold_max_le]
    constructor
    · rintro ⟨h1, _, h2⟩ t ht
      by_cases h : t.val < 512 * k
      · exact h1 t h
      · have h3 := h2 ⟨t.val - 512 * k, by omega⟩ (Finset.mem_univ _)
        have e : 512 * k + (t.val - 512 * k) = t.val := by omega
        simp only [e] at h3
        exact h3
    · intro h
      exact ⟨fun t ht => h t (by omega), bot_le, fun r _ => h ⟨512 * k + r.val, by omega⟩ (by show 512 * k + r.val < _; omega)⟩

include hv in
theorem mx_eq (n : Fin 128) : MX I b.val (nb I b.val) (ix2 0 n) = mxS ((argsI I).L b) (lo I b n) := by
  refine eq_of_forall_ge_iff fun c => ?_
  rw [mx_le I b hv n c _ (le_refl _)]
  unfold mxS
  rw [Finset.fold_max_le]
  simp only [cst_bot]
  constructor
  · intro h
    refine ⟨bot_le, fun t _ => ?_⟩
    by_cases ht : t.val < 512 * nb I b.val
    · exact h t ht
    · rw [(nb_facts I b hv).2 t (not_lt.mp ht)]; exact bot_le
  · exact fun h t _ => h.2 t (Finset.mem_univ t)

include hv in
theorem lx_sum (n : Fin 128) : ∀ k, k ≤ nb I b.val → LX I b.val k (ix2 0 n) = ∑ t ∈ Finset.range (512 * k), ext (ddS ((argsI I).L b) (lo I b n)) t
  | 0, _ => by
    show cst 0#32 = _
    rw [Finset.sum_eq_zero (fun t ht => absurd (Finset.mem_range.mp ht) (by omega))]
    exact Ideal.ofBits_zero .f32
  | k + 1, hk => by
    have h4 : k < 4 := lt_of_lt_of_le hk (nb_facts I b hv).1
    rw [LX_succ I b.val k hk, pay51_at, lx_sum n k (Nat.le_of_lt hk), sum_block _ k h4]
    congr 1
    exact Finset.sum_congr rfl fun r _ => by
      rw [lgb_at I b k h4, mx_eq I b hv, dd_below]
      exact congrArg (fun l => below l (512 * k + r.val) _ 0) (len_eq I b)

include hv in
theorem lx_eq (n : Fin 128) : LX I b.val (nb I b.val) (ix2 0 n) = totS ((argsI I).L b) (lo I b n) := by
  rw [lx_sum I b hv n _ (le_refl _), sum_all _ _ (nb_facts I b hv).1]
  · rfl
  · intro t ht
    rw [dd_below, (nb_facts I b hv).2 t ht]

include hv in
theorem sx_sum (n : Fin 128) (d : Fin 1664) : ∀ k, k ≤ nb I b.val → SX I b.val k (ix3 0 n d)
    = ∑ t ∈ Finset.range (512 * k), ext (fun t => dpS ((argsI I).L b) (lo I b n) t * (argsI I).X b t d) t
  | 0, _ => by
    have e : k0_pay54 (F := Ideal) (ix3 0 n d) = 0 := by pointwise [k0_pay54]
    show k0_pay54 (F := Ideal) (ix3 0 n d) = _
    rw [e, Finset.sum_eq_zero (fun t ht => absurd (Finset.mem_range.mp ht) (by omega))]
  | k + 1, hk => by
    have h4 : k < 4 := lt_of_lt_of_le hk (nb_facts I b hv).1
    rw [SX_succ I b.val k hk, pay55_at, sx_sum n d k (Nat.le_of_lt hk), sum_block _ k h4]
    congr 1
    exact Finset.sum_congr rfl fun r _ => by
      rw [lgb_at I b k h4, mx_eq I b hv, lx_eq I b hv, x_slc I b k h4, dp_below]
      exact congrArg (fun l => below l (512 * k + r.val) _ 0) (len_eq I b)

include hv in
/-- A slot's input. -/
theorem xsv_at (n : Fin 128) (d : Fin 1664) : XSV I (ix3 b n d) = (argsI I).xs b n d := by
  have e : XSV I (ix3 b n d) = SX I b.val (nb I b.val) (ix3 0 n d) :=
    tiled_eq (s := S2x128x1664) (ix3 b n d) ![b.val, 0, 0] (ix3 0 n d) (all3 (show b.val = b.val * 1 + 0 by omega) (show n.val = 0 * 128 + n.val by omega) (show d.val = 0 * 1664 + d.val by omega))
  rw [e, sx_sum I b hv n d _ (le_refl _), sum_all _ _ (nb_facts I b hv).1]
  · rfl
  · intro t ht
    rw [dp_below, (nb_facts I b hv).2 t ht]

/-- The logits at a position. -/
theorem lgv_at (t : Fin 2048) (n : Fin 128) : LGV I (ix3 b t n) = lo I b n t := by
  have e : LGV I (ix3 b t n) = LGB I b.val (t.val / 512) (ix3 0 ⟨t.val % 512, by omega⟩ n) :=
    tiled_eq (s := S2x2048x128) (ix3 b t n) ![b.val, t.val / 512, 0] (ix3 0 ⟨t.val % 512, by omega⟩ n)
      (all3 (show b.val = b.val * 1 + 0 by omega) (show t.val = t.val / 512 * 512 + t.val % 512 by omega) (show n.val = 0 * 128 + n.val by omega))
  rw [e, lgb_at I b _ (by omega)]
  congr 1; exact Fin.ext (show 512 * (t.val / 512) + t.val % 512 = t.val by omega)

end Batch

end Cert.Value

end
-- ==== Proof.Value.Layers.lean ====
/-
  The payloads of the experts' two layers at an index.
-/
module

public import proofs.«01_k».proof.Proof.Value.Boxes

@[expose] public section

set_option maxRecDepth 16384

noncomputable section

namespace Cert.Value

open Idealize.ShloMosaic
open Cert.KernelIdeal Cert.KernelIdeal.Gen Cert.KernelIdeal.Hand

/-- The sum over the eight rows that picks the expert's. -/
theorem pick_row (w : BitVec 32) (q : Fin 8) (hw : Scalar.subi w (Scalar.muli (Scalar.divsi w 8#32) 8#32) = BitVec.ofNat 32 q.val) (f : Fin 8 → EReal) :
    ∑ r : Fin 8, Scalar.select (IntOp.cmpi .eq (BitVec.ofNat 32 r.val) (Scalar.subi w (Scalar.muli (Scalar.divsi w 8#32) 8#32))) (f r) 0 = f q := by
  rw [hw, Finset.sum_eq_single q]
  · fin_cases q <;> rfl
  · intro r _ hr
    have : ∀ r q : Fin 8, r ≠ q → IntOp.cmpi .eq (BitVec.ofNat 32 r.val) (BitVec.ofNat 32 q.val) = 0#1 := by decide +kernel
    rw [this r q hr]; rfl
  · exact fun h => absurd (Finset.mem_univ q) h

theorem row_word : ∀ e : Fin 16, Scalar.subi (wd e.val) (Scalar.muli (Scalar.divsi (wd e.val) 8#32) 8#32) = BitVec.ofNat 32 (e.val % 8) := by decide +kernel

theorem pay1_at (w : BitVec 32) (s : FVec Ideal S16x1 .f32) (v : FVec Ideal S32x1664 .fp8e4m3) (m : Vec Ideal S1x1664x1664 .fp8e4m3) (t : Vec Ideal S8x1664 .f32) (i : Fin 16) (j : Fin 1664) :
    k0_pay1 (F := Ideal) w s v m t (ix2 i j) = gel ((∑ k, v (ix2 ⟨i.val, by omega⟩ k) * m (ix3 0 k j)) * s (ix2 i 0)
      * ∑ r : Fin 8, Scalar.select (IntOp.cmpi .eq (BitVec.ofNat 32 r.val) (Scalar.subi w (Scalar.muli (Scalar.divsi w 8#32) 8#32))) (t (ix2 r j)) 0) := by
  unfold k0_pay1
  dsimp only
  generalize Scalar.subi w (Scalar.muli (Scalar.divsi w 8#32) 8#32) = u
  pointwise []
  rfl

theorem pay28_at (w : BitVec 32) (s : FVec Ideal S16x1 .f32) (v : FVec Ideal S32x1664 .fp8e4m3) (m : Vec Ideal S1664x1536 .fp8e4m3) (t : Vec Ideal S8x1536 .f32) (i : Fin 16) (j : Fin 1536) :
    k0_pay27 (F := Ideal) (k0_pay25 s v m) t (k0_pay26 w) zf (ix2 i j) = gel ((∑ k, v (ix2 ⟨i.val, by omega⟩ k) * m (ix2 k j)) * s (ix2 i 0)
      * ∑ r : Fin 8, Scalar.select (IntOp.cmpi .eq (BitVec.ofNat 32 r.val) (Scalar.subi w (Scalar.muli (Scalar.divsi w 8#32) 8#32))) (t (ix2 r j)) 0) := by
  unfold k0_pay27 k0_pay25 k0_pay26 zf
  dsimp only
  generalize Scalar.subi w (Scalar.muli (Scalar.divsi w 8#32) 8#32) = u
  pointwise []
  rfl

theorem pay28_eq (v : FVec Ideal S16x1536 .f32) (t : Vec Ideal S8x1536 .f32) (m : IVec S8x1536 1) (z : Ideal .f32) (i : Fin 16) (j : Fin 1536) :
    k0_pay28 (F := Ideal) v t m z (ix2 i j) = k0_pay27 (F := Ideal) v t m z (ix2 i j) := by
  pointwise [k0_pay28]

theorem pay23_at (v : FVec Ideal S16x1664 .f32) (i : Fin 16) (j : Fin 1664) : k0_pay23 (F := Ideal) v (ix2 i j) = v (ix2 i j) := by
  pointwise [k0_pay23]

theorem pay14_at (v : FVec Ideal S16x1664 .f32) (w : IVec S16x1 32) (i : Fin 16) (k : Fin 1664) :
    k0_pay14 (F := Ideal) v w (ix2 ⟨i.val, by omega⟩ k) = k0_pay13 v w (ix2 i k) := by
  pointwise [k0_pay14]

theorem pay31_at (a : FVec Ideal S16x1 .f32) (i : Fin 16) : k0_pay31 (F := Ideal) a V527 23#32 (ix2 i 0) = scaleOf (a (ix2 i 0) * cst 991054117#32) := by
  have e : k0_pay30 (F := Ideal) a V527 23#32 (ix2 i 0) = expOf (a (ix2 i 0) * cst 991054117#32) := by
    unfold V527; pointwise [k0_pay30] <;> rfl
  pointwise [k0_pay31]
  rw [e]; exact scale_word _

theorem pay32_at (a : FVec Ideal S16x1 .f32) (v : Vec Ideal S16x1024 .f32) (i : Fin 16) (k : Fin 1024) : k0_pay32 (F := Ideal) a V527 23#32 v (ix2 i k)
    = min (cst 1138753536#32) (max (cst 3286237184#32) (v (ix2 i k) * Ideal.div 1 (scaleOf (a (ix2 i 0) * cst 991054117#32)))) := by
  have e : k0_pay30 (F := Ideal) a V527 23#32 (ix2 i 0) = expOf (a (ix2 i 0) * cst 991054117#32) := by
    unfold V527; pointwise [k0_pay30] <;> rfl
  pointwise [k0_pay32]
  rw [e, inv_word]

theorem pay33_at (a : FVec Ideal S16x1 .f32) (v : Vec Ideal S16x1024 .f32) (i : Fin 16) (k : Fin 1024) :
    k0_pay33 (F := Ideal) a V527 23#32 v (ix2 ⟨i.val, by omega⟩ k) = k0_pay32 (F := Ideal) a V527 23#32 v (ix2 i k) := by
  pointwise [k0_pay33]
theorem pay34_at (a : FVec Ideal S16x1 .f32) (v : Vec Ideal S16x1024 .f32) (r : Fin 8) (k : Fin 1024) :
    k0_pay34 (F := Ideal) a V527 23#32 v (ix3 0 r k) = k0_pay32 (F := Ideal) a V527 23#32 v (ix2 ⟨0 * 8 + r.val, by omega⟩ k) := by
  pointwise [k0_pay34] <;> simp
theorem pay35_at (a : FVec Ideal S16x1 .f32) (v : Vec Ideal S16x1024 .f32) (r : Fin 8) (k : Fin 1024) :
    k0_pay35 (F := Ideal) a V527 23#32 v (ix3 0 r k) = k0_pay32 (F := Ideal) a V527 23#32 v (ix2 ⟨1 * 8 + r.val, by omega⟩ k) := by
  pointwise [k0_pay35] <;> rfl
theorem pay37_at (a : FVec Ideal S16x1 .f32) (r : Fin 8) (c : Fin 128) :
    k0_pay37 (F := Ideal) (k0_pay36 a V527 23#32) (ix3 0 r c) = k0_pay31 (F := Ideal) a V527 23#32 (ix2 ⟨0 * 8 + r.val, by omega⟩ 0) := by
  pointwise [k0_pay37, k0_pay36] <;> simp
theorem pay38_at (a : FVec Ideal S16x1 .f32) (r : Fin 8) (c : Fin 128) :
    k0_pay38 (F := Ideal) a (ix3 0 r c) = a (ix2 ⟨1 * 8 + r.val, by omega⟩ 0) := by
  pointwise [k0_pay38] <;> rfl

theorem pay6_at (w : BitVec 32) (s : FVec Ideal S16x1 .f32) (m : Vec Ideal S1x8192x256 .fp8e4m3) (v : Vec Ideal S32x8192 .fp8e4m3) (t : Vec Ideal S8x256 .f32) (i : Fin 16) (j : Fin 256) :
    k0_pay6 (F := Ideal) w s m v t (ix2 i j) = (∑ k, v (ix2 ⟨i.val, by omega⟩ k) * m (ix3 0 k j)) * s (ix2 i 0)
      * ∑ r : Fin 8, Scalar.select (IntOp.cmpi .eq (BitVec.ofNat 32 r.val) (Scalar.subi w (Scalar.muli (Scalar.divsi w 8#32) 8#32))) (t (ix2 r j)) 0 := by
  unfold k0_pay6
  dsimp only
  generalize Scalar.subi w (Scalar.muli (Scalar.divsi w 8#32) 8#32) = u
  pointwise []
theorem pay40_at (w : BitVec 32) (s : FVec Ideal S16x1 .f32) (m : Vec Ideal S8192x128 .fp8e4m3) (v : Vec Ideal S32x8192 .fp8e4m3) (t : Vec Ideal S8x128 .f32) (i : Fin 16) (j : Fin 128) :
    k0_pay40 (F := Ideal) w s m v t (ix2 i j) = (∑ k, v (ix2 ⟨i.val, by omega⟩ k) * m (ix2 k j)) * s (ix2 i 0)
      * ∑ r : Fin 8, Scalar.select (IntOp.cmpi .eq (BitVec.ofNat 32 r.val) (Scalar.subi w (Scalar.muli (Scalar.divsi w 8#32) 8#32))) (t (ix2 r j)) 0 := by
  unfold k0_pay40
  dsimp only
  generalize Scalar.subi w (Scalar.muli (Scalar.divsi w 8#32) 8#32) = u
  pointwise []
theorem pay7_at (w : BitVec 32) (s : FVec Ideal S16x1 .f32) (m : Vec Ideal S1x8192x256 .fp8e4m3) (v : Vec Ideal S32x8192 .fp8e4m3) (t : Vec Ideal S8x256 .f32) (r : Fin 8) (j : Fin 256) :
    k0_pay7 (F := Ideal) w s m v t (ix3 0 r j) = k0_pay6 (F := Ideal) w s m v t (ix2 ⟨0 * 8 + r.val, by omega⟩ j) := by
  pointwise [k0_pay7] <;> simp
theorem pay39_at (w : BitVec 32) (s : FVec Ideal S16x1 .f32) (m : Vec Ideal S1x8192x256 .fp8e4m3) (v : Vec Ideal S32x8192 .fp8e4m3) (t : Vec Ideal S8x256 .f32) (r : Fin 8) (j : Fin 256) :
    k0_pay39 (F := Ideal) (k0_pay8 w s m v t) (ix3 0 r j) = k0_pay6 (F := Ideal) w s m v t (ix2 ⟨1 * 8 + r.val, by omega⟩ j) := by
  pointwise [k0_pay39, k0_pay8] <;> rfl
theorem pay41_at (w : BitVec 32) (s : FVec Ideal S16x1 .f32) (m : Vec Ideal S8192x128 .fp8e4m3) (v : Vec Ideal S32x8192 .fp8e4m3) (t : Vec Ideal S8x128 .f32) (r : Fin 8) (j : Fin 128) :
    k0_pay41 (F := Ideal) w s m v t (ix3 0 r j) = k0_pay40 (F := Ideal) w s m v t (ix2 ⟨0 * 8 + r.val, by omega⟩ j) := by
  pointwise [k0_pay41] <;> simp
theorem pay42_at (w : BitVec 32) (s : FVec Ideal S16x1 .f32) (m : Vec Ideal S8192x128 .fp8e4m3) (v : Vec Ideal S32x8192 .fp8e4m3) (t : Vec Ideal S8x128 .f32) (r : Fin 8) (j : Fin 128) :
    k0_pay42 (F := Ideal) w s m v t (ix3 0 r j) = k0_pay40 (F := Ideal) w s m v t (ix2 ⟨1 * 8 + r.val, by omega⟩ j) := by
  pointwise [k0_pay42] <;> rfl

theorem pay2_at (y : Vec Ideal S1x128x256 .f32) (n : Fin 128) (j : Fin 256) : k0_pay2 (F := Ideal) y (ix3 0 n j) = y (ix3 0 n j) := by
  pointwise [k0_pay2] <;> rfl
theorem pay72_at (y : Vec Ideal S1x128x128 .f32) (n j : Fin 128) : k0_pay72 (F := Ideal) y (ix3 0 n j) = y (ix3 0 n j) := by
  pointwise [k0_pay72] <;> rfl

theorem pay3_at (y : Vec Ideal S1x128x256 .bf16) (k : Fin k0_t17_loop.trips) (c : Vec Ideal S1x512x128 .bf16) (l : BitVec 32) (r : Fin 512) (j : Fin 256) :
    k0_pay3 (F := Ideal) y k c l (ix3 0 r j) = below l (512 * k.val + r.val) (∑ n, c (ix3 0 r n) * y (ix3 0 n j)) 0 := by
  obtain ⟨k, hk⟩ := k
  unfold k0_pay3
  dsimp only
  generalize hw : Scalar.muli (Scf.iv 0#32 1#32 k) 512#32 = w
  pointwise []
  simp only [← hw, pos_word]
  rfl
theorem pay73_at (y : Vec Ideal S1x128x128 .bf16) (k : Fin k0_t19_loop.trips) (c : Vec Ideal S1x512x128 .bf16) (l : BitVec 32) (r : Fin 512) (j : Fin 128) :
    k0_pay73 (F := Ideal) y k c l (ix3 0 r j) = below l (512 * k.val + r.val) (∑ n, c (ix3 0 r n) * y (ix3 0 n j)) 0 := by
  obtain ⟨k, hk⟩ := k
  unfold k0_pay73
  dsimp only
  generalize hw : Scalar.muli (Scf.iv 0#32 1#32 k) 512#32 = w
  pointwise []
  simp only [← hw, pos_word]
  rfl

/-! ## The running maxima -/

theorem pay24_eq (m : FVec Ideal S16x128 .f32) (v : FVec Ideal S16x1664 .f32) (i : Fin 16) (q : Fin 128) (A : Fin 13 → EReal)
    (hA : ∀ g : Fin 13, A g = max (v (ix2 i ⟨g.val * 128 + q.val, by omega⟩)) (-(v (ix2 i ⟨g.val * 128 + q.val, by omega⟩)))) :
    k0_pay24 (F := Ideal) m v (ix2 i q) = max (max (max (max (max (max (max (max (max (max (max (max (max (m (ix2 i q)) (A 0)) (A 1)) (A 2)) (A 3)) (A 4)) (A 5)) (A 6)) (A 7)) (A 8)) (A 9)) (A 10)) (A 11)) (A 12) := by
  simp only [hA]
  pointwise [k0_pay24]
  rfl

theorem nest13 (m c : EReal) (A : Fin 13 → EReal) :
    max (max (max (max (max (max (max (max (max (max (max (max (max m (A 0)) (A 1)) (A 2)) (A 3)) (A 4)) (A 5)) (A 6)) (A 7)) (A 8)) (A 9)) (A 10)) (A 11)) (A 12) ≤ c ↔ m ≤ c ∧ ∀ g, A g ≤ c := by
  simp only [max_le_iff]
  constructor
  · rintro ⟨⟨⟨⟨⟨⟨⟨⟨⟨⟨⟨⟨⟨h, h0⟩, h1⟩, h2⟩, h3⟩, h4⟩, h5⟩, h6⟩, h7⟩, h8⟩, h9⟩, h10⟩, h11⟩, h12⟩
    refine ⟨h, fun g => ?_⟩
    fin_cases g
    exacts [h0, h1, h2, h3, h4, h5, h6, h7, h8, h9, h10, h11, h12]
  · rintro ⟨h, hg⟩
    exact ⟨⟨⟨⟨⟨⟨⟨⟨⟨⟨⟨⟨⟨h, hg 0⟩, hg 1⟩, hg 2⟩, hg 3⟩, hg 4⟩, hg 5⟩, hg 6⟩, hg 7⟩, hg 8⟩, hg 9⟩, hg 10⟩, hg 11⟩, hg 12⟩

theorem pay29_eq (m : FVec Ideal S16x128 .f32) (u : FVec Ideal S16x1536 .f32) (t : Vec Ideal S8x1536 .f32) (w : IVec S8x1536 1) (z : Ideal .f32) (i : Fin 16) (A : Fin 128 → Fin 12 → EReal)
    (hA : ∀ q g, A q g = max (k0_pay27 (F := Ideal) u t w z (ix2 i ⟨g.val * 128 + q.val, by omega⟩)) (-(k0_pay27 (F := Ideal) u t w z (ix2 i ⟨g.val * 128 + q.val, by omega⟩)))) :
    k0_pay29 (F := Ideal) m u t w z (ix2 i 0) = Finset.univ.fold max (cst 4286578688#32) (fun q : Fin 128 =>
      max (max (max (max (max (max (max (max (max (max (max (max (m (ix2 i q)) (A q 0)) (A q 1)) (A q 2)) (A q 3)) (A q 4)) (A q 5)) (A q 6)) (A q 7)) (A q 8)) (A q 9)) (A q 10)) (A q 11)) := by
  simp only [hA]
  pointwise [k0_pay29]
  rfl

theorem nest12 (m c : EReal) (A : Fin 12 → EReal) :
    max (max (max (max (max (max (max (max (max (max (max (max m (A 0)) (A 1)) (A 2)) (A 3)) (A 4)) (A 5)) (A 6)) (A 7)) (A 8)) (A 9)) (A 10)) (A 11) ≤ c ↔ m ≤ c ∧ ∀ g, A g ≤ c := by
  simp only [max_le_iff]
  constructor
  · rintro ⟨⟨⟨⟨⟨⟨⟨⟨⟨⟨⟨⟨h, h0⟩, h1⟩, h2⟩, h3⟩, h4⟩, h5⟩, h6⟩, h7⟩, h8⟩, h9⟩, h10⟩, h11⟩
    refine ⟨h, fun g => ?_⟩
    fin_cases g
    exacts [h0, h1, h2, h3, h4, h5, h6, h7, h8, h9, h10, h11]
  · rintro ⟨h, hg⟩
    exact ⟨⟨⟨⟨⟨⟨⟨⟨⟨⟨⟨⟨h, hg 0⟩, hg 1⟩, hg 2⟩, hg 3⟩, hg 4⟩, hg 5⟩, hg 6⟩, hg 7⟩, hg 8⟩, hg 9⟩, hg 10⟩, hg 11⟩

/-! ## One scale of each eight rows -/

theorem pick_diag (e : Fin 16) (r : Fin 8) (f : Fin 8 → EReal) :
    ∑ q : Fin 8, Scalar.select (IntOp.cmpi .eq (BitVec.ofNat 32 q.val) (BitVec.ofNat 32 r.val)) (f q) 0 = f r := by
  have h : ∀ r q : Fin 8, r ≠ q → IntOp.cmpi .eq (BitVec.ofNat 32 r.val) (BitVec.ofNat 32 q.val) = 0#1 := by decide +kernel
  rw [Finset.sum_eq_single r]
  · fin_cases r <;> rfl
  · intro q _ hq
    rw [h q r hq]; rfl
  · exact fun h => absurd (Finset.mem_univ r) h

theorem pay78_at (v : Vec Ideal S1x128x128 .f32) (e : Fin 16) (r : Fin 8) : k0_pay78 (F := Ideal) v (ix3 0 e r) = v (ix3 0 (slot e r) ⟨r.val, by omega⟩) := by
  pointwise [k0_pay78, k0_pay77]
  exact pick_diag e r (fun q => v (ix3 0 (slot e q) ⟨r.val, by omega⟩))
theorem pay81_at (v : Vec Ideal S1x128x128 .f32) (e : Fin 16) (r : Fin 8) : k0_pay81 (F := Ideal) k0_pay77 (k0_pay79 v) k0_pay80 (ix3 0 e r) = v (ix3 0 (slot e r) ⟨r.val, by omega⟩) := by
  pointwise [k0_pay81, k0_pay79, k0_pay80, k0_pay77]
  exact pick_diag e r (fun q => v (ix3 0 (slot e q) ⟨r.val, by omega⟩))
theorem pay82_at (v : Vec Ideal S1x128x128 .f32) (e : Fin 16) (r : Fin 8) : k0_pay82 (F := Ideal) k0_pay77 v (ix3 0 e r) = v (ix3 0 (slot e r) ⟨r.val, by omega⟩) := by
  pointwise [k0_pay82, k0_pay77]
  exact pick_diag e r (fun q => v (ix3 0 (slot e q) ⟨r.val, by omega⟩))
theorem pay83_at (v : Vec Ideal S1x128x128 .f32) (e : Fin 16) (r : Fin 8) : k0_pay83 (F := Ideal) k0_pay77 v (ix3 0 e r) = v (ix3 0 (slot e r) ⟨r.val, by omega⟩) := by
  pointwise [k0_pay83, k0_pay77]
  exact pick_diag e r (fun q => v (ix3 0 (slot e q) ⟨r.val, by omega⟩))

end Cert.Value

end
-- ==== Proof.Value.Codes.lean ====
/-
  The kernel's codes and scales of the slots' inputs: results 3 and 4.
-/
module

public import proofs.«01_k».proof.Proof.Value.Softmax
public import proofs.«01_k».proof.Proof.Value.Layers

@[expose] public section

set_option maxRecDepth 16384

noncomputable section

namespace Cert.Value

open Idealize.ShloMosaic
open Cert.KernelIdeal Cert.KernelIdeal.Gen Cert.KernelIdeal.Hand

/-- A row of an expert's sixteen: one batch's eight slots, then the other's. -/
abbrev row (b : Fin 2) (r : Fin 8) : Fin 16 := ⟨b.val * 8 + r.val, by omega⟩

theorem ex_slot (e : Fin 16) (r : Fin 8) : ex (slot e r) = e := Fin.ext (show (e.val * 8 + r.val) / 8 = e.val by omega)

variable (I : Inp Ideal) (hv : ∀ b, ((argsI I).L b).toInt ≤ 2048) (e : Fin 16) (b : Fin 2) (r : Fin 8)

theorem xs_slc (b : Fin 2) (k : Fin 1664) : slc (XSV I) ![b.val, e.val * 8, 0] S1x8x1664.size (ix3 0 r k) = XSV I (ix3 b (slot e r) k) :=
  slc_eq (s := S2x128x1664) (XSV I) _ (ix3 b (slot e r) k) (all3 rfl rfl (Nat.zero_add _).symm)

include hv in
theorem v371_at (k : Fin 1664) : V371 I e.val (ix2 (row b r) k) = (argsI I).xs b (slot e r) k := by
  unfold V371
  rw [pay9_at]
  fin_cases b
  · exact (xs_slc I e r 0 k).trans (xsv_at I 0 (hv 0) _ _)
  · exact (xs_slc I e r 1 k).trans (xsv_at I 1 (hv 1) _ _)

include hv in
theorem v371_row : (fun k => k0_pay9 (F := Ideal) (slc (XSV I) ![0, e.val * 8, 0] S1x8x1664.size) (slc (XSV I) ![1, e.val * 8, 0] S1x8x1664.size) (ix2 (row b r) k)) = (argsI I).xs b (slot e r) :=
  funext fun k => v371_at I hv e b r k

include hv in
theorem v404_at : V404 I e.val (ix2 (row b r) 0) = scS ((argsI I).xs b (slot e r)) := by
  unfold V404 V401
  rw [pay12_at, v371_row I hv e b r]

include hv in
theorem v13_at (k : Fin 1664) : k0_pay13 (F := Ideal) (V371 I e.val) (V399 I e.val) (ix2 (row b r) k) = cdS ((argsI I).xs b (slot e r)) k := by
  unfold V371 V399
  rw [pay13_at, v371_row I hv e b r]

include hv in
/-- The codes. -/
theorem scv_at (k : Fin 1664) : SCV I (ix4 b e r k) = cdS ((argsI I).xs b (slot e r)) k := by
  have h : SCV I (ix4 b e r k) = (if b.val = 0 then k0_pay15 (V371 I e.val) (V399 I e.val) else k0_pay17 (V371 I e.val) (V399 I e.val)) (ix4 0 0 r k) :=
    tiled_eq (s := S2x16x8x1664) (ix4 b e r k) ![b.val, e.val, 0, 0] (ix4 0 0 r k)
      (all4 (show b.val = b.val * 1 + 0 by omega) (show e.val = e.val * 1 + 0 by omega) (show r.val = 0 * 8 + r.val by omega) (show k.val = 0 * 1664 + k.val by omega))
  rw [h, ← v13_at I hv e b r k]
  fin_cases b
  · exact pay15_at _ _ r k
  · exact pay17_at _ _ r k

include hv in
theorem ssc_at (q : Fin 128) : SSC I (ix3 b (slot e r) q) = scS ((argsI I).xs b (slot e r)) := by
  have h : SSC I (ix3 b (slot e r) q) = (if b.val = 0 then k0_pay16 (F := Ideal) (V401 I e.val) 23#32 else k0_pay19 (F := Ideal) (k0_pay18 (V401 I e.val) 23#32)) (ix3 0 r q) :=
    tiled_eq (s := S2x128x128) (ix3 b (slot e r) q) ![b.val, e.val, 0] (ix3 0 r q)
      (all3 (show b.val = b.val * 1 + 0 by omega) rfl (show q.val = 0 * 128 + q.val by omega))
  rw [h, ← v404_at I hv e b r]
  fin_cases b
  · exact pay16_at _ r q
  · exact pay19_at _ r q

theorem diag_slc (V : S2x128x128.Idx → EReal) (b : Fin 2) (n q : Fin 128) : slc (s := S2x128x128) V ![b.val, 0, 0] S1x128x128.size (ix3 0 n q) = V (ix3 b n q) :=
  slc_eq (s := S2x128x128) V _ (ix3 b n q) (all3 rfl (Nat.zero_add _).symm (Nat.zero_add _).symm)

include hv in
/-- The scales. -/
theorem ssv_at : SSV I (ix3 b e r) = scS ((argsI I).xs b (slot e r)) := by
  have h : SSV I (ix3 b e r) = (if b.val = 0 then k0_pay78 (slc (SSC I) ![0, 0, 0] S1x128x128.size) else k0_pay81 k0_pay77 (k0_pay79 (slc (SSC I) ![1, 0, 0] S1x128x128.size)) k0_pay80) (ix3 0 e r) :=
    tiled_eq (s := S2x16x8) (ix3 b e r) ![b.val, 0, 0] (ix3 0 e r)
      (all3 (show b.val = b.val * 1 + 0 by omega) (show e.val = 0 * 16 + e.val by omega) (show r.val = 0 * 8 + r.val by omega))
  rw [h, ← ssc_at I hv e b r ⟨r.val, by omega⟩]
  fin_cases b
  · exact (pay78_at _ e r).trans (diag_slc (SSC I) 0 _ _)
  · exact (pay81_at _ e r).trans (diag_slc (SSC I) 1 _ _)

end Cert.Value

end
-- ==== Proof.Value.Hidden.lean ====
/-
  The kernel's hidden layer, its codes and its scales: results 5 and 6.
-/
module

public import proofs.«01_k».proof.Proof.Value.Codes
public import Idealize.ShloMosaic.Lib.ValueLayout

@[expose] public section

set_option maxRecDepth 16384

noncomputable section

namespace Cert.Value

open Idealize.ShloMosaic
open Cert.KernelIdeal Cert.KernelIdeal.Gen Cert.KernelIdeal.Hand

variable (I : Inp Ideal) (hv : ∀ b, ((argsI I).L b).toInt ≤ 2048) (e : Fin 16) (b : Fin 2) (r : Fin 8)

include hv in
theorem v418_at (k : Fin 1664) : V418 I e.val (ix2 ⟨(row b r).val, by omega⟩ k) = cdS ((argsI I).xs b (slot e r)) k := by
  unfold V418
  exact (pay14_at _ _ (row b r) k).trans (v13_at I hv e b r k)

theorem hid_eq (j : Fin 8192) : (argsI I).hid b (slot e r) j
    = gel ((∑ k, cdS ((argsI I).xs b (slot e r)) k * I.W1 (ix3 e k j)) * scS ((argsI I).xs b (slot e r)) * I.W1S (ix2 e j)) := by
  unfold Args.hid hdS preS
  rw [ex_slot]; rfl

include hv in
theorem hb_at (j : ℕ) (hj : j < 4) (c : Fin 1664) : HB I e.val j (ix2 (row b r) c) = (argsI I).hid b (slot e r) ⟨j * 1664 + c.val, by omega⟩ := by
  unfold HB
  rw [pay1_at, pick_row _ ⟨e.val % 8, by omega⟩ (row_word e), hid_eq, v404_at I hv e b r]
  have hs : slc I.W1S ![e.val / 8 * 8, j * 1664] S8x1664.size (ix2 ⟨e.val % 8, by omega⟩ c) = I.W1S (ix2 e ⟨j * 1664 + c.val, by omega⟩) :=
    slc_eq (s := S16x8192) I.W1S _ (ix2 e ⟨j * 1664 + c.val, by omega⟩) (all2 (show e.val = e.val / 8 * 8 + e.val % 8 by omega) rfl)
  rw [hs]
  congr 3
  refine Finset.sum_congr rfl fun k _ => ?_
  rw [v418_at I hv e b r k]
  congr 1
  exact slc_eq (s := S16x1664x8192) I.W1 _ (ix3 e k ⟨j * 1664 + c.val, by omega⟩) (all3 rfl (Nat.zero_add _).symm rfl)

include hv in
theorem ht_at (c : Fin 1536) : k0_pay27 (F := Ideal) (V470 I e.val) (V475 I e.val) (k0_pay26 (wd e.val)) zf (ix2 (row b r) c) = (argsI I).hid b (slot e r) ⟨6656 + c.val, by omega⟩ := by
  unfold V470
  rw [pay28_at, pick_row _ ⟨e.val % 8, by omega⟩ (row_word e), hid_eq, v404_at I hv e b r]
  have hs : V475 I e.val (ix2 ⟨e.val % 8, by omega⟩ c) = I.W1S (ix2 e ⟨6656 + c.val, by omega⟩) :=
    slc_eq (s := S16x8192) I.W1S _ (ix2 e ⟨6656 + c.val, by omega⟩) (all2 (show e.val = e.val / 8 * 8 + e.val % 8 by omega) rfl)
  rw [hs]
  congr 3
  refine Finset.sum_congr rfl fun k _ => ?_
  rw [v418_at I hv e b r k]
  congr 1
  unfold T1V
  refine (congrArg (slc I.W1 ![e.val, 0, 6656] S1x1664x1536.size) (ValueIdx.reshapeEquiv_ix2_1ab (a := 1664) (b := 1536) _ k c)).trans ?_
  exact slc_eq (s := S16x1664x8192) I.W1 _ (ix3 e k ⟨6656 + c.val, by omega⟩) (all3 rfl (Nat.zero_add _).symm rfl)

include hv in
/-- The hidden layer. -/
theorem hv_at (j : Fin 8192) : HV I e.val (ix2 (row b r) j) = (argsI I).hid b (slot e r) j := by
  by_cases hj : j.val < 6656
  · have h1 := slc_eq (s := S16x8192) (size := S16x1664.size) (HV I e.val) (off := ![0, j.val / 1664 * 1664]) (ix2 (row b r) ⟨j.val % 1664, by omega⟩) (ix2 (row b r) j)
      (all2 (Nat.zero_add _).symm (show j.val = j.val / 1664 * 1664 + j.val % 1664 by omega))
    rw [← h1, hv_slc I (show j.val / 1664 < 4 by omega), pay23_at, hb_at I hv e b r _ (show j.val / 1664 < 4 by omega)]
    exact congrArg ((argsI I).hid b (slot e r)) (Fin.ext (show j.val / 1664 * 1664 + j.val % 1664 = j.val by omega))
  · have h1 := slc_eq (s := S16x8192) (size := S16x1536.size) (HV I e.val) (off := ![0, 6656]) (ix2 (row b r) ⟨j.val - 6656, by omega⟩) (ix2 (row b r) j)
      (all2 (Nat.zero_add _).symm (show j.val = 6656 + (j.val - 6656) by omega))
    rw [← h1, hv_slc_tail I]
    unfold HT
    rw [pay28_eq, ht_at I hv e b r]
    exact congrArg ((argsI I).hid b (slot e r)) (Fin.ext (show 6656 + (j.val - 6656) = j.val by omega))

/-- The magnitude of a hidden value. -/
abbrev hab (j : Fin 8192) : EReal := max ((argsI I).hid b (slot e r) j) (-((argsI I).hid b (slot e r) j))

include hv in
theorem cx_le (q : Fin 128) (c : EReal) : ∀ j, j ≤ 4 → (CX I e.val j (ix2 (row b r) q) ≤ c ↔ 0 ≤ c ∧ ∀ i : Fin 8192, i.val < j * 1664 → i.val % 128 = q.val → hab I e b r i ≤ c)
  | 0, _ => by
    have h : CX I e.val 0 (ix2 (row b r) q) = 0 := by
      show k0_pay22 (F := Ideal) (ix2 (row b r) q) = 0
      pointwise [k0_pay22]
    rw [h]
    exact ⟨fun h => ⟨h, fun i hi => absurd hi (by omega)⟩, fun h => h.1⟩
  | j + 1, hj => by
    have h4 : j < 4 := by omega
    show k0_pay24 (F := Ideal) (CX I e.val j) (HB I e.val j) (ix2 (row b r) q) ≤ c ↔ _
    rw [pay24_eq _ _ _ _ (fun g : Fin 13 => hab I e b r ⟨j * 1664 + (g.val * 128 + q.val), by omega⟩) (fun g => by rw [hb_at I hv e b r j h4])]
    refine (nest13 _ c (fun g : Fin 13 => hab I e b r ⟨j * 1664 + (g.val * 128 + q.val), by omega⟩)).trans ?_
    rw [cx_le q c j (by omega)]
    constructor
    · rintro ⟨⟨h0, h1⟩, h2⟩
      refine ⟨h0, fun i hi hq => ?_⟩
      by_cases h : i.val < j * 1664
      · exact h1 i h hq
      · have h3 := h2 ⟨(i.val - j * 1664) / 128, by omega⟩
        have ei : (⟨j * 1664 + ((i.val - j * 1664) / 128 * 128 + q.val), by omega⟩ : Fin 8192) = i := Fin.ext (by show j * 1664 + ((i.val - j * 1664) / 128 * 128 + q.val) = i.val; omega)
        have h5 : hab I e b r ⟨j * 1664 + ((i.val - j * 1664) / 128 * 128 + q.val), by omega⟩ ≤ c := h3
        rw [ei] at h5; exact h5
    · rintro ⟨h0, h1⟩
      exact ⟨⟨h0, fun i hi hq => h1 i (by omega) hq⟩, fun g => h1 _ (by show j * 1664 + (g.val * 128 + q.val) < (j + 1) * 1664; omega) (by show (j * 1664 + (g.val * 128 + q.val)) % 128 = q.val; omega)⟩

theorem hab_nonneg (j : Fin 8192) : 0 ≤ hab I e b r j := by
  by_cases h : 0 ≤ (argsI I).hid b (slot e r) j
  · exact h.trans (le_max_left _ _)
  · exact (EReal.neg_nonneg.mpr (not_le.mp h).le).trans (le_max_right _ _)

include hv in
theorem v526_at : V526 I e.val (ix2 (row b r) 0) = amS ((argsI I).hid b (slot e r)) := by
  unfold V526
  rw [pay29_eq _ _ _ _ _ _ (fun q g => hab I e b r ⟨6656 + (g.val * 128 + q.val), by omega⟩) (fun q g => by rw [ht_at I hv e b r])]
  refine eq_of_forall_ge_iff fun c => ?_
  unfold amS
  rw [Finset.fold_max_le, Finset.fold_max_le, cst_bot]
  constructor
  · rintro ⟨hb, h⟩
    refine ⟨hb, fun i _ => ?_⟩
    have h1 := (nest12 _ _ (fun g : Fin 12 => hab I e b r ⟨6656 + (g.val * 128 + i.val % 128), by omega⟩)).mp (h ⟨i.val % 128, by omega⟩ (Finset.mem_univ _))
    by_cases hi : i.val < 6656
    · exact ((cx_le I hv e b r _ c 4 (le_refl _)).mp h1.1).2 i (by omega) rfl
    · have h3 := h1.2 ⟨(i.val - 6656) / 128, by omega⟩
      have ei : (⟨6656 + ((i.val - 6656) / 128 * 128 + i.val % 128), by omega⟩ : Fin 8192) = i := Fin.ext (by show 6656 + ((i.val - 6656) / 128 * 128 + i.val % 128) = i.val; omega)
      have h5 : hab I e b r ⟨6656 + ((i.val - 6656) / 128 * 128 + i.val % 128), by omega⟩ ≤ c := h3
      rw [ei] at h5; exact h5
  · rintro ⟨hb, h⟩
    refine ⟨hb, fun q _ => ?_⟩
    refine (nest12 _ _ (fun g : Fin 12 => hab I e b r ⟨6656 + (g.val * 128 + q.val), by omega⟩)).mpr ⟨?_, fun g => h _ (Finset.mem_univ _)⟩
    exact (cx_le I hv e b r q c 4 (le_refl _)).mpr ⟨(hab_nonneg I e b r 0).trans (h 0 (Finset.mem_univ _)), fun i _ _ => h i (Finset.mem_univ _)⟩

include hv in
theorem v556_at : V556 I e.val (ix2 (row b r) 0) = scS ((argsI I).hid b (slot e r)) := by
  unfold V556
  rw [pay31_at, v526_at I hv e b r]; rfl

include hv in
theorem v32_at (k : ℕ) (hk : k < 8) (c : Fin 1024) : k0_pay32 (F := Ideal) (V526 I e.val) V527 23#32 (slc (HV I e.val) ![0, k * 1024] S16x1024.size) (ix2 (row b r) c)
    = cdS ((argsI I).hid b (slot e r)) ⟨k * 1024 + c.val, by omega⟩ := by
  have hs : slc (HV I e.val) ![0, k * 1024] S16x1024.size (ix2 (row b r) c) = HV I e.val (ix2 (row b r) ⟨k * 1024 + c.val, by omega⟩) :=
    slc_eq (s := S16x8192) (HV I e.val) _ (ix2 (row b r) ⟨k * 1024 + c.val, by omega⟩) (all2 (Nat.zero_add _).symm rfl)
  rw [pay32_at, v526_at I hv e b r, hs, hv_at I hv e b r]; rfl

include hv in
/-- The hidden codes, as the second product reads them. -/
theorem hq_at (j : Fin 8192) : HQ I e.val (ix2 ⟨(row b r).val, by omega⟩ j) = cdS ((argsI I).hid b (slot e r)) j := by
  have h : HQ I e.val (ix2 ⟨(row b r).val, by omega⟩ j) = k0_pay33 (V526 I e.val) V527 23#32 (slc (HV I e.val) ![0, j.val / 1024 * 1024] S16x1024.size) (ix2 ⟨(row b r).val, by omega⟩ ⟨j.val % 1024, by omega⟩) :=
    tiled_eq (s := S32x8192) (ix2 ⟨(row b r).val, by omega⟩ j) ![0, j.val / 1024] (ix2 ⟨(row b r).val, by omega⟩ ⟨j.val % 1024, by omega⟩)
      (all2 (show (row b r).val = 0 * 32 + (row b r).val by omega) (show j.val = j.val / 1024 * 1024 + j.val % 1024 by omega))
  rw [h]
  refine (pay33_at _ _ (row b r) ⟨j.val % 1024, by omega⟩).trans ?_
  rw [v32_at I hv e b r _ (show j.val / 1024 < 8 by omega)]
  exact congrArg (cdS ((argsI I).hid b (slot e r))) (Fin.ext (show j.val / 1024 * 1024 + j.val % 1024 = j.val by omega))

include hv in
theorem hc_at (j : Fin 8192) : HC I e.val (ix3 b r j) = cdS ((argsI I).hid b (slot e r)) j := by
  have h : HC I e.val (ix3 b r j) = (if b.val = 0 then k0_pay34 (V526 I e.val) V527 23#32 (slc (HV I e.val) ![0, j.val / 1024 * 1024] S16x1024.size)
      else k0_pay35 (V526 I e.val) V527 23#32 (slc (HV I e.val) ![0, j.val / 1024 * 1024] S16x1024.size)) (ix3 0 r ⟨j.val % 1024, by omega⟩) :=
    tiled_eq (s := S2x8x8192) (ix3 b r j) ![b.val, 0, j.val / 1024] (ix3 0 r ⟨j.val % 1024, by omega⟩)
      (all3 (show b.val = b.val * 1 + 0 by omega) (show r.val = 0 * 8 + r.val by omega) (show j.val = j.val / 1024 * 1024 + j.val % 1024 by omega))
  have hj : cdS ((argsI I).hid b (slot e r)) j = cdS ((argsI I).hid b (slot e r)) ⟨j.val / 1024 * 1024 + j.val % 1024, by omega⟩ :=
    congrArg (cdS ((argsI I).hid b (slot e r))) (Fin.ext (show j.val = j.val / 1024 * 1024 + j.val % 1024 by omega))
  rw [h, hj, ← v32_at I hv e b r _ (show j.val / 1024 < 8 by omega) ⟨j.val % 1024, by omega⟩]
  fin_cases b
  · exact pay34_at _ _ r _
  · exact pay35_at _ _ r _

include hv in
/-- The hidden codes, as they are returned. -/
theorem hcv_at (j : Fin 8192) : HCV I (ix4 b e r j) = cdS ((argsI I).hid b (slot e r)) j := by
  have h : HCV I (ix4 b e r j) = HCW I b.val e.val (ix4 0 0 r j) :=
    tiled_eq (s := S2x16x8x8192) (ix4 b e r j) ![b.val, e.val, 0, 0] (ix4 0 0 r j)
      (all4 (show b.val = b.val * 1 + 0 by omega) (show e.val = e.val * 1 + 0 by omega) (show r.val = 0 * 8 + r.val by omega) (show j.val = 0 * 8192 + j.val by omega))
  have h2 : HCW I b.val e.val (ix4 0 0 r j) = slc (HC I e.val) ![b.val, 0, 0] S1x8x8192.size (ix3 0 r j) := by
    show shapeCast S1x1x8x8192 (slc (HC I e.val) ![b.val, 0, 0] S1x8x8192.size) (by decide) (ix4 0 0 r j) = _
    generalize slc (HC I e.val) ![b.val, 0, 0] S1x8x8192.size = v
    pointwise []
  rw [h, h2, ← hc_at I hv e b r j]
  exact slc_eq (s := S2x8x8192) (HC I e.val) _ (ix3 b r j) (all3 rfl (Nat.zero_add _).symm (Nat.zero_add _).symm)

include hv in
theorem hsc_at (q : Fin 128) : HSC I (ix3 b (slot e r) q) = scS ((argsI I).hid b (slot e r)) := by
  have h : HSC I (ix3 b (slot e r) q) = (if b.val = 0 then k0_pay37 (V566 I e.val) else k0_pay38 (V556 I e.val)) (ix3 0 r q) :=
    tiled_eq (s := S2x128x128) (ix3 b (slot e r) q) ![b.val, e.val, 0] (ix3 0 r q)
      (all3 (show b.val = b.val * 1 + 0 by omega) rfl (show q.val = 0 * 128 + q.val by omega))
  rw [h, ← v556_at I hv e b r]
  fin_cases b
  · exact pay37_at _ r q
  · exact pay38_at _ r q

include hv in
/-- The hidden scales. -/
theorem hsv_at : HSV I (ix3 b e r) = scS ((argsI I).hid b (slot e r)) := by
  have h : HSV I (ix3 b e r) = (if b.val = 0 then k0_pay82 k0_pay77 (slc (HSC I) ![0, 0, 0] S1x128x128.size) else k0_pay83 k0_pay77 (slc (HSC I) ![1, 0, 0] S1x128x128.size)) (ix3 0 e r) :=
    tiled_eq (s := S2x16x8) (ix3 b e r) ![b.val, 0, 0] (ix3 0 e r)
      (all3 (show b.val = b.val * 1 + 0 by omega) (show e.val = 0 * 16 + e.val by omega) (show r.val = 0 * 8 + r.val by omega))
  rw [h, ← hsc_at I hv e b r ⟨r.val, by omega⟩]
  fin_cases b
  · exact (pay82_at _ e r).trans (diag_slc (HSC I) 0 _ _)
  · exact (pay83_at _ e r).trans (diag_slc (HSC I) 1 _ _)

end Cert.Value

end
-- ==== Proof.Value.Output.lean ====
/-
  The experts' outputs and the tokens' outputs: results 2 and 1.
-/
module

public import proofs.«01_k».proof.Proof.Value.Hidden

@[expose] public section

set_option maxRecDepth 16384

noncomputable section

namespace Cert.Value

open Idealize.ShloMosaic
open Cert.KernelIdeal Cert.KernelIdeal.Gen Cert.KernelIdeal.Hand

variable (I : Inp Ideal) (hv : ∀ b, ((argsI I).L b).toInt ≤ 2048) (e : Fin 16) (b : Fin 2) (r : Fin 8)

theorem ys_eq (c : Fin 1664) : (argsI I).ys b (slot e r) c
    = (∑ k, cdS ((argsI I).hid b (slot e r)) k * I.W2 (ix3 e k c)) * scS ((argsI I).hid b (slot e r)) * I.W2S (ix2 e c) := by
  unfold Args.ys ysS Args.hid preS
  rw [ex_slot]; rfl

include hv in
theorem y6_at (f : ℕ) (hf : f < 6) (c : Fin 256) :
    k0_pay6 (F := Ideal) (wd e.val) (V556 I e.val) (slc I.W2 ![e.val, 0, f * 256] S1x8192x256.size) (slc (HQ I e.val) ![0, 0] S32x8192.size) (slc I.W2S ![e.val / 8 * 8, f * 256] S8x256.size) (ix2 (row b r) c)
    = (argsI I).ys b (slot e r) ⟨f * 256 + c.val, by omega⟩ := by
  rw [pay6_at, pick_row _ ⟨e.val % 8, by omega⟩ (row_word e), ys_eq, v556_at I hv e b r]
  have hs : slc I.W2S ![e.val / 8 * 8, f * 256] S8x256.size (ix2 ⟨e.val % 8, by omega⟩ c) = I.W2S (ix2 e ⟨f * 256 + c.val, by omega⟩) :=
    slc_eq (s := S16x1664) I.W2S _ (ix2 e ⟨f * 256 + c.val, by omega⟩) (all2 (show e.val = e.val / 8 * 8 + e.val % 8 by omega) rfl)
  rw [hs]
  congr 2
  refine Finset.sum_congr rfl fun k _ => ?_
  have h1 : slc (HQ I e.val) ![0, 0] S32x8192.size (ix2 ⟨(row b r).val, by omega⟩ k) = HQ I e.val (ix2 ⟨(row b r).val, by omega⟩ k) :=
    slc_eq (s := S32x8192) (HQ I e.val) _ (ix2 ⟨(row b r).val, by omega⟩ k) (all2 (Nat.zero_add _).symm (Nat.zero_add _).symm)
  have h2 : slc I.W2 ![e.val, 0, f * 256] S1x8192x256.size (ix3 0 k c) = I.W2 (ix3 e k ⟨f * 256 + c.val, by omega⟩) :=
    slc_eq (s := S16x8192x1664) I.W2 _ (ix3 e k ⟨f * 256 + c.val, by omega⟩) (all3 rfl (Nat.zero_add _).symm rfl)
  rw [h1, h2, hq_at I hv e b r k]

include hv in
theorem y40_at (c : Fin 128) :
    k0_pay40 (F := Ideal) (wd e.val) (V556 I e.val) (T2V I e.val) (slc (HQ I e.val) ![0, 0] S32x8192.size) (slc I.W2S ![e.val / 8 * 8, 1536] S8x128.size) (ix2 (row b r) c)
    = (argsI I).ys b (slot e r) ⟨1536 + c.val, by omega⟩ := by
  rw [pay40_at, pick_row _ ⟨e.val % 8, by omega⟩ (row_word e), ys_eq, v556_at I hv e b r]
  have hs : slc I.W2S ![e.val / 8 * 8, 1536] S8x128.size (ix2 ⟨e.val % 8, by omega⟩ c) = I.W2S (ix2 e ⟨1536 + c.val, by omega⟩) :=
    slc_eq (s := S16x1664) I.W2S _ (ix2 e ⟨1536 + c.val, by omega⟩) (all2 (show e.val = e.val / 8 * 8 + e.val % 8 by omega) rfl)
  rw [hs]
  congr 2
  refine Finset.sum_congr rfl fun k _ => ?_
  have h1 : slc (HQ I e.val) ![0, 0] S32x8192.size (ix2 ⟨(row b r).val, by omega⟩ k) = HQ I e.val (ix2 ⟨(row b r).val, by omega⟩ k) :=
    slc_eq (s := S32x8192) (HQ I e.val) _ (ix2 ⟨(row b r).val, by omega⟩ k) (all2 (Nat.zero_add _).symm (Nat.zero_add _).symm)
  have h2 : T2V I e.val (ix2 k c) = I.W2 (ix3 e k ⟨1536 + c.val, by omega⟩) := by
    unfold T2V
    refine (congrArg (slc I.W2 ![e.val, 0, 1536] S1x8192x128.size) (ValueIdx.reshapeEquiv_ix2_1ab (a := 8192) (b := 128) _ k c)).trans ?_
    exact slc_eq (s := S16x8192x1664) I.W2 _ (ix3 e k ⟨1536 + c.val, by omega⟩) (all3 rfl (Nat.zero_add _).symm rfl)
  rw [h1, h2, hq_at I hv e b r k]

include hv in
theorem yv_slot (c : Fin 1664) : YV I (ix3 b (slot e r) c) = (argsI I).ys b (slot e r) c := by
  by_cases hc : c.val < 1536
  · have h : YV I (ix3 b (slot e r) c) = YB I b.val e.val (c.val / 256) (ix3 0 r ⟨c.val % 256, by omega⟩) :=
      (if_pos hc).trans (tiled_eq (s := S2x128x1664) (ix3 b (slot e r) c) ![b.val, e.val, c.val / 256] (ix3 0 r ⟨c.val % 256, by omega⟩)
        (all3 (show b.val = b.val * 1 + 0 by omega) rfl (show c.val = c.val / 256 * 256 + c.val % 256 by omega)))
    have hy := y6_at I hv e b r (c.val / 256) (by omega) ⟨c.val % 256, by omega⟩
    have hcc : (argsI I).ys b (slot e r) ⟨c.val / 256 * 256 + c.val % 256, by omega⟩ = (argsI I).ys b (slot e r) c :=
      congrArg ((argsI I).ys b (slot e r)) (Fin.ext (show c.val / 256 * 256 + c.val % 256 = c.val by omega))
    rw [h, ← hcc, ← hy]
    unfold YB
    fin_cases b
    · exact pay7_at _ _ _ _ _ r _
    · exact pay39_at _ _ _ _ _ r _
  · have h : YV I (ix3 b (slot e r) c) = YT I b.val e.val (ix3 0 r ⟨c.val - 1536, by omega⟩) :=
      (if_neg hc).trans (tiled_eq (s := S2x128x1664) (ix3 b (slot e r) c) ![b.val, e.val, 12] (ix3 0 r ⟨c.val - 1536, by omega⟩)
        (all3 (show b.val = b.val * 1 + 0 by omega) rfl (show c.val = 12 * 128 + (c.val - 1536) by omega)))
    have hy := y40_at I hv e b r ⟨c.val - 1536, by omega⟩
    have hcc : (argsI I).ys b (slot e r) ⟨1536 + (c.val - 1536), by omega⟩ = (argsI I).ys b (slot e r) c :=
      congrArg ((argsI I).ys b (slot e r)) (Fin.ext (show 1536 + (c.val - 1536) = c.val by omega))
    rw [h, ← hcc, ← hy]
    unfold YT
    fin_cases b
    · exact pay41_at _ _ _ _ _ r _
    · exact pay42_at _ _ _ _ _ r _

include hv in
/-- The experts' outputs. -/
theorem yv_at (n : Fin 128) (c : Fin 1664) : YV I (ix3 b n c) = (argsI I).ys b n c := by
  have e : slot ⟨n.val / 8, by omega⟩ ⟨n.val % 8, by omega⟩ = n := Fin.ext (show n.val / 8 * 8 + n.val % 8 = n.val by omega)
  have h := yv_slot I hv ⟨n.val / 8, by omega⟩ b ⟨n.val % 8, by omega⟩ c
  rw [e] at h; exact h

include hv in
theorem zb_at (f : ℕ) (hf : f < 6) (n : Fin 128) (c : Fin 256) : ZB I b.val f (ix3 0 n c) = (argsI I).ys b n ⟨f * 256 + c.val, by omega⟩ := by
  unfold ZB
  rw [pay2_at, ← yv_at I hv b n]
  exact slc_eq (s := S2x128x1664) (YV I) _ (ix3 b n ⟨f * 256 + c.val, by omega⟩) (all3 rfl (Nat.zero_add _).symm rfl)
include hv in
theorem zt_at (n : Fin 128) (c : Fin 128) : ZT I b.val (ix3 0 n c) = (argsI I).ys b n ⟨1536 + c.val, by omega⟩ := by
  unfold ZT
  rw [pay72_at, ← yv_at I hv b n]
  exact slc_eq (s := S2x128x1664) (YV I) _ (ix3 b n ⟨1536 + c.val, by omega⟩) (all3 rfl (Nat.zero_add _).symm rfl)

include hv in
/-- The experts' outputs, as they are returned. -/
theorem zv_at (n : Fin 128) (c : Fin 1664) : ZV I (ix3 b n c) = (argsI I).ys b n c := by
  by_cases hc : c.val < 1536
  · have h : ZV I (ix3 b n c) = ZB I b.val (c.val / 256) (ix3 0 n ⟨c.val % 256, by omega⟩) :=
      (if_pos hc).trans (tiled_eq (s := S2x128x1664) (ix3 b n c) ![b.val, 0, c.val / 256] (ix3 0 n ⟨c.val % 256, by omega⟩)
        (all3 (show b.val = b.val * 1 + 0 by omega) (show n.val = 0 * 128 + n.val by omega) (show c.val = c.val / 256 * 256 + c.val % 256 by omega)))
    rw [h, zb_at I hv b _ (show c.val / 256 < 6 by omega)]
    exact congrArg ((argsI I).ys b n) (Fin.ext (show c.val / 256 * 256 + c.val % 256 = c.val by omega))
  · have h : ZV I (ix3 b n c) = ZT I b.val (ix3 0 n ⟨c.val - 1536, by omega⟩) :=
      (if_neg hc).trans (tiled_eq (s := S2x128x1664) (ix3 b n c) ![b.val, 0, 12] (ix3 0 n ⟨c.val - 1536, by omega⟩)
        (all3 (show b.val = b.val * 1 + 0 by omega) (show n.val = 0 * 128 + n.val by omega) (show c.val = 12 * 128 + (c.val - 1536) by omega)))
    rw [h, zt_at I hv b]
    exact congrArg ((argsI I).ys b n) (Fin.ext (show 1536 + (c.val - 1536) = c.val by omega))

/-! ## The tokens' outputs -/

/-- A token's combine weights, below the length. -/
theorem cmv_at (t : Fin 2048) (ht : (t.val : Int) < ((argsI I).L b).toInt) (n : Fin 128) : CMV I (ix3 b t n) = cbS (fun i => lo I b i t) n := by
  have h : CMV I (ix3 b t n) = CMB I (b.val * 8 + t.val / 256) (ix3 0 ⟨t.val % 256, by omega⟩ n) :=
    tiled_eq (s := S2x2048x128) (ix3 b t n) ![b.val, t.val / 256, 0] (ix3 0 ⟨t.val % 256, by omega⟩ n)
      (all3 (show b.val = b.val * 1 + 0 by omega) (show t.val = t.val / 256 * 256 + t.val % 256 by omega) (show n.val = 0 * 128 + n.val by omega))
  have h1 : (b.val * 8 + t.val / 256) * 256 / 2048 = b.val := by omega
  have h2 : (b.val * 8 + t.val / 256) * 256 % 2048 = t.val / 256 * 256 := by omega
  rw [h]
  unfold CMB
  rw [h1, h2, if_pos (by rw [len_eq]; omega), pay20_at]
  refine congrArg (fun f => cbS f n) (funext fun i => ?_)
  rw [← lgv_at I b t i]
  exact slc_eq (s := S2x2048x128) (LGV I) _ (ix3 b t i) (all3 rfl (show t.val = t.val / 256 * 256 + t.val % 256 by omega) (Nat.zero_add _).symm)

theorem cmv_slc_at (k : ℕ) (hk : k < 4) (r : Fin 512) (n : Fin 128) : slc (CMV I) ![b.val, k * 512, 0] S1x512x128.size (ix3 0 r n) = CMV I (ix3 b ⟨512 * k + r.val, by omega⟩ n) :=
  slc_eq (s := S2x2048x128) (CMV I) _ (ix3 b ⟨512 * k + r.val, by omega⟩ n) (all3 rfl (show 512 * k + r.val = k * 512 + r.val by omega) (Nat.zero_add _).symm)

/-- The masked product of a token. -/
theorem out_sum (t : Fin 2048) (c : Fin 1664) (g y : Fin 128 → EReal) (hg : (t.val : Int) < ((argsI I).L b).toInt → g = fun n => cbS (fun i => lo I b i t) n)
    (hy : y = fun n => (argsI I).ys b n c) : below (len I b.val) t.val (∑ n, g n * y n) 0 = (argsI I).out b t c := by
  have e : below (len I b.val) t.val (∑ n, g n * y n) 0 = below ((argsI I).L b) t.val (∑ n, g n * y n) 0 :=
    congrArg (fun l => below l t.val (∑ n, g n * y n) 0) (len_eq I b)
  rw [e]
  unfold Args.out outS
  by_cases ht : (t.val : Int) < ((argsI I).L b).toInt
  · rw [below_pos t.isLt ht, below_pos t.isLt ht, hg ht, hy]
  · rw [below_neg t.isLt ht, below_neg t.isLt ht]

include hv in
theorem ob_at (f k : ℕ) (hf : f < 6) (hk : k < 4) (r : Fin 512) (c : Fin 256) :
    OB I b.val f k (ix3 0 r c) = (argsI I).out b ⟨512 * k + r.val, by omega⟩ ⟨f * 256 + c.val, by omega⟩ := by
  unfold OB
  rw [dif_pos (show k < k0_t17_loop.trips by rw [trips17]; exact hk), pay3_at]
  refine out_sum I b ⟨512 * k + r.val, by omega⟩ ⟨f * 256 + c.val, by omega⟩ _ _ (fun ht => funext fun n => ?_) (funext fun n => zb_at I hv b f hf n c)
  rw [cmv_slc_at I b k hk]
  exact cmv_at I b _ ht n
include hv in
theorem ot_at (k : ℕ) (hk : k < 4) (r : Fin 512) (c : Fin 128) :
    OT I b.val k (ix3 0 r c) = (argsI I).out b ⟨512 * k + r.val, by omega⟩ ⟨1536 + c.val, by omega⟩ := by
  unfold OT
  rw [dif_pos (show k < k0_t19_loop.trips by rw [trips19]; exact hk), pay73_at]
  refine out_sum I b ⟨512 * k + r.val, by omega⟩ ⟨1536 + c.val, by omega⟩ _ _ (fun ht => funext fun n => ?_) (funext fun n => zt_at I hv b n c)
  rw [cmv_slc_at I b k hk]
  exact cmv_at I b _ ht n

include hv in
/-- The tokens' outputs. -/
theorem ov_at (t : Fin 2048) (c : Fin 1664) : OV I (ix3 b t c) = (argsI I).out b t c := by
  have et : (⟨512 * (t.val / 512) + t.val % 512, by omega⟩ : Fin 2048) = t := Fin.ext (show 512 * (t.val / 512) + t.val % 512 = t.val by omega)
  by_cases hc : c.val < 1536
  · have h : OV I (ix3 b t c) = OB I b.val (c.val / 256) (t.val / 512) (ix3 0 ⟨t.val % 512, by omega⟩ ⟨c.val % 256, by omega⟩) :=
      (if_pos hc).trans (tiled_eq (s := S2x2048x1664) (ix3 b t c) ![b.val, t.val / 512, c.val / 256] (ix3 0 ⟨t.val % 512, by omega⟩ ⟨c.val % 256, by omega⟩)
        (all3 (show b.val = b.val * 1 + 0 by omega) (show t.val = t.val / 512 * 512 + t.val % 512 by omega) (show c.val = c.val / 256 * 256 + c.val % 256 by omega)))
    rw [h, ob_at I hv b _ _ (show c.val / 256 < 6 by omega) (show t.val / 512 < 4 by omega)]
    exact congrArg₂ ((argsI I).out b) et (Fin.ext (show c.val / 256 * 256 + c.val % 256 = c.val by omega))
  · have h : OV I (ix3 b t c) = OT I b.val (t.val / 512) (ix3 0 ⟨t.val % 512, by omega⟩ ⟨c.val - 1536, by omega⟩) :=
      (if_neg hc).trans (tiled_eq (s := S2x2048x1664) (ix3 b t c) ![b.val, t.val / 512, 12] (ix3 0 ⟨t.val % 512, by omega⟩ ⟨c.val - 1536, by omega⟩)
        (all3 (show b.val = b.val * 1 + 0 by omega) (show t.val = t.val / 512 * 512 + t.val % 512 by omega) (show c.val = 12 * 128 + (c.val - 1536) by omega)))
    rw [h, ot_at I hv b _ (show t.val / 512 < 4 by omega)]
    exact congrArg₂ ((argsI I).out b) et (Fin.ext (show 1536 + (c.val - 1536) = c.val by omega))

end Cert.Value

end
-- ==== Proof.Value.Powers.lean ====
/-
  The powers of two as the reference builds them: from the bits of the exponent's magnitude.
-/
module

public import proofs.«01_k».proof.Proof.Value.Spec

@[expose] public section

noncomputable section

namespace Cert.Value

open Idealize.ShloMosaic

/-- Whether bit `s` of the magnitude of `w` is set. -/
def bitOf (w s : BitVec 32) : BitVec 1 := IntOp.cmpi .eq (IntOp.andi (IntOp.shrsi .vector (IntOp.absi w) s) 1#32) 1#32
/-- `q`, times a constant where that bit is set. -/
def stp (w s c : BitVec 32) (q : EReal) : EReal := Scalar.select (bitOf w s) (q * cst c) q
/-- The product over the seven bits. -/
def chain (w : BitVec 32) : EReal :=
  stp w 6#32 1602224128#32 (stp w 5#32 1333788672#32 (stp w 4#32 1199570944#32 (stp w 3#32 1132462080#32 (stp w 2#32 1098907648#32 (stp w 1#32 1082130432#32
    (stp w 0#32 1073741824#32 (cst 1065353216#32)))))))
/-- Its reciprocal where the exponent is negative. -/
def powOf (w : BitVec 32) : EReal := Scalar.select (IntOp.cmpi .slt w 0#32) (Ideal.div (cst 1065353216#32) (chain w)) (chain w)

theorem cst_field {j : ℕ} {c : BitVec 32} {k : ℤ} (h1 : 1 ≤ j) (h2 : j ≤ 254) (hc : c = IntOp.shli .vector (BitVec.ofNat 32 j) 23#32) (hk : k = (j : ℤ) - 127) : cst c = tw k := by
  subst hc hk; exact ofBits_field h1 h2

theorem c_one : cst 1065353216#32 = 1 := (cst_field (j := 127) (k := 0) (by omega) (by omega) (by decide) (by omega)).trans tw_zero

theorem bv1 (b : BitVec 1) : b = 1#1 ∨ b = 0#1 := by
  rcases b with ⟨⟨v, h⟩⟩
  have : v < 2 := h
  interval_cases v
  · right; rfl
  · left; rfl

theorem stp_tw {w s c : BitVec 32} {a k : ℤ} (hc : cst c = tw k) : stp w s c (tw a) = tw (a + if bitOf w s = 1#1 then k else 0) := by
  unfold stp
  rcases bv1 (bitOf w s) with h | h <;> rw [h]
  · rw [if_pos rfl, hc]
    show tw a * tw k = _
    unfold tw; rw [← EReal.coe_mul, zpow_add₀ two_ne_zero]
  · rw [if_neg (by decide), add_zero]; rfl

/-- The exponent the bits spell. -/
def bitSum (w : BitVec 32) : ℤ :=
  0 + (if bitOf w 0#32 = 1#1 then 1 else 0) + (if bitOf w 1#32 = 1#1 then 2 else 0) + (if bitOf w 2#32 = 1#1 then 4 else 0) + (if bitOf w 3#32 = 1#1 then 8 else 0)
    + (if bitOf w 4#32 = 1#1 then 16 else 0) + (if bitOf w 5#32 = 1#1 then 32 else 0) + (if bitOf w 6#32 = 1#1 then 64 else 0)

theorem chain_tw (w : BitVec 32) : chain w = tw (bitSum w) := by
  unfold chain bitSum
  rw [show cst 1065353216#32 = tw 0 from c_one.trans tw_zero.symm,
    stp_tw (cst_field (j := 128) (k := 1) (by omega) (by omega) (by decide) (by omega)),
    stp_tw (cst_field (j := 129) (k := 2) (by omega) (by omega) (by decide) (by omega)),
    stp_tw (cst_field (j := 131) (k := 4) (by omega) (by omega) (by decide) (by omega)),
    stp_tw (cst_field (j := 135) (k := 8) (by omega) (by omega) (by decide) (by omega)),
    stp_tw (cst_field (j := 143) (k := 16) (by omega) (by omega) (by decide) (by omega)),
    stp_tw (cst_field (j := 159) (k := 32) (by omega) (by omega) (by decide) (by omega)),
    stp_tw (cst_field (j := 191) (k := 64) (by omega) (by omega) (by decide) (by omega))]

theorem bitSum_word : ∀ i : Fin 252, bitSum (IntOp.subi (BitVec.ofNat 32 i.val) 126#32) = if (i.val : ℤ) - 126 < 0 then -((i.val : ℤ) - 126) else (i.val : ℤ) - 126 := by decide +kernel
theorem neg_word : ∀ i : Fin 252, IntOp.cmpi .slt (IntOp.subi (BitVec.ofNat 32 i.val) 126#32) 0#32 = if (i.val : ℤ) - 126 < 0 then 1#1 else 0#1 := by decide +kernel

/-- The reference's powers. -/
theorem powOf_eq (i : Fin 252) : powOf (IntOp.subi (BitVec.ofNat 32 i.val) 126#32) = tw ((i.val : ℤ) - 126) := by
  unfold powOf
  rw [chain_tw, bitSum_word, neg_word, c_one, div_tw]
  by_cases h : (i.val : ℤ) - 126 < 0
  · simp only [if_pos h]; rw [neg_neg]; rfl
  · simp only [if_neg h]; rfl

end Cert.Value

end
-- ==== Proof.Value.Ref.lean ====
/-
  The reference's one body, read: each result is what `Spec` says of its batch.
-/
module

public import proofs.«01_k».proof.Proof.Gen.ReferenceIdeal.Skeleton
public import proofs.«01_k».proof.Proof.Value.Powers

@[expose] public section

set_option maxRecDepth 16384

noncomputable section

namespace Cert.Value

open Idealize.ShloMosaic
open Cert.ReferenceIdeal Cert.ReferenceIdeal.Gen

/-! ## One batch -/

section Batch

variable (x : Vec Ideal S1x2048x1664 .bf16) (p : Vec Ideal S1664x128 .bf16) (l : BitVec 32)
  (w1 : Vec Ideal S16x1664x8192 .fp8e4m3) (s1 : Vec Ideal S16x8192 .f32) (w2 : Vec Ideal S16x8192x1664 .fp8e4m3) (s2 : Vec Ideal S16x1664 .f32)

abbrev xf : Fin 2048 → Fin 1664 → EReal := fun t d => x (ix3 0 t d)
abbrev pf : Fin 1664 → Fin 128 → EReal := fun d n => p (ix2 d n)

theorem ref_lg (t : Fin 2048) (n : Fin 128) : k0_pay3 (F := Ideal) x p (ix2 t n) = lgS (xf x) (pf p) t n := by
  pointwise [k0_pay3, k0_pay2]
  rfl

theorem ref_xs (n : Fin 128) (k : Fin 1664) : k0_pay4 (F := Ideal) x p l (ix2 n k) = xsS (xf x) (pf p) l n k := by
  pointwise [k0_pay4, k0_pay2]
  simp only [ref_lg]
  rfl

theorem ref_am (n : Fin 128) : k0_pay5 (F := Ideal) x p l (ix2 n 0) = amS (xsS (xf x) (pf p) l n) := by
  pointwise [k0_pay5]
  simp only [ref_xs]
  rfl

/-- The powers the reference compares with. -/
abbrev q1 : FVec Ideal S128x252 .f32 := k0_pay9 k0_pay6 k0_pay7 k0_pay8

theorem ref_pow (n : Fin 128) (i : Fin 252) : Scalar.select (IntOp.cmpi .slt (k0_pay6 (ix2 n i)) 0#32)
    (Ideal.div 1 (stp (k0_pay6 (ix2 n i)) 6#32 1602224128#32 (stp (k0_pay6 (ix2 n i)) 5#32 1333788672#32 (q1 (ix2 n i)))))
    (stp (k0_pay6 (ix2 n i)) 6#32 1602224128#32 (stp (k0_pay6 (ix2 n i)) 5#32 1333788672#32 (q1 (ix2 n i)))) = tw ((i.val : ℤ) - 126) := by
  rw [← powOf_eq, ← c_one]
  have e : k0_pay6 (ix2 n i) = IntOp.subi (BitVec.ofNat 32 i.val) 126#32 := by pointwise [k0_pay6]
  have e8 : k0_pay8 (ix2 n i) = bitOf (IntOp.subi (BitVec.ofNat 32 i.val) 126#32) 0#32 := by pointwise [k0_pay8, k0_pay6]; rfl
  have e7 : k0_pay7 (F := Ideal) (ix2 n i) = cst 1065353216#32 := rfl
  have e9 : q1 (ix2 n i) = stp (k0_pay6 (ix2 n i)) 4#32 1199570944#32 (stp (k0_pay6 (ix2 n i)) 3#32 1132462080#32 (stp (k0_pay6 (ix2 n i)) 2#32 1098907648#32 (stp (k0_pay6 (ix2 n i)) 1#32 1082130432#32
    (Scalar.select (k0_pay8 (ix2 n i)) (k0_pay7 (F := Ideal) (ix2 n i) * cst 1073741824#32) (k0_pay7 (F := Ideal) (ix2 n i)))))) := rfl
  rw [e9, e, e8, e7]
  rfl

theorem ref_sc (a : FVec Ideal S128x1 .f32) (n : Fin 128) : k0_pay10 (F := Ideal) a k0_pay6 q1 (ix2 n 0) = scaleOf (a (ix2 n 0) * cst 991054117#32) := by
  have h := ref_pow n
  unfold stp bitOf at h
  pointwise [k0_pay10]
  simp only [h, c_bot, c_two]
  rfl

/-! The terms of one batch, in the order the body computes them. -/

abbrev tSC : FVec Ideal S128x1 .f32 := k0_pay10 (k0_pay5 x p l) k0_pay6 q1
abbrev tV : FVec Ideal S128x1664 .f32 := k0_pay11 (k0_pay4 x p l) (k0_pay5 x p l) k0_pay6 q1
abbrev tH : FVec Ideal S128x8192 .f32 := k0_pay13 (tSC x p l) (tV x p l) w1 s1
abbrev tA : FVec Ideal S128x1 .f32 := k0_pay14 (tSC x p l) (tV x p l) w1 s1
abbrev q2 : FVec Ideal S128x252 .f32 := k0_pay18 k0_pay15 k0_pay16 k0_pay17
abbrev tHS : FVec Ideal S128x1 .f32 := k0_pay20 (tA x p l w1 s1) k0_pay15 q2 (k0_pay19 k0_pay15) 1#32
abbrev tW : FVec Ideal S128x8192 .f32 := k0_pay21 (tH x p l w1 s1) (tA x p l w1 s1) k0_pay15 q2 (k0_pay19 k0_pay15) 1#32
abbrev tHC : FVec Ideal S128x8192 .fp8e4m3 := k0_pay23 (tW x p l w1 s1) k0_pay22
abbrev tY : FVec Ideal S128x1664 .bf16 := k0_pay24 (tHS x p l w1 s1) (tW x p l w1 s1) k0_pay22 w2 s2

/-- The hidden row of slot `n`. -/
abbrev hrow (n : Fin 128) : Fin 8192 → EReal := hdS (xsS (xf x) (pf p) l n) (fun k j => w1 (ix3 (ex n) k j)) (fun j => s1 (ix2 (ex n) j))
/-- The output row of slot `n`. -/
abbrev yrow (n : Fin 128) : Fin 1664 → EReal :=
  ysS (xsS (xf x) (pf p) l n) (fun k j => w1 (ix3 (ex n) k j)) (fun j => s1 (ix2 (ex n) j)) (fun j c => w2 (ix3 (ex n) j c)) (fun c => s2 (ix2 (ex n) c))

theorem ref_tSC (n : Fin 128) : tSC x p l (ix2 n 0) = scS (xsS (xf x) (pf p) l n) := by
  unfold tSC; rw [ref_sc, ref_am]; rfl

theorem ref_tC (n : Fin 128) (k : Fin 1664) : k0_pay12 (F := Ideal) (tV x p l) (ix2 n k) = cdS (xsS (xf x) (pf p) l n) k := by
  have h : tV x p l (ix2 n k) = xsS (xf x) (pf p) l n k * Ideal.div 1 (scS (xsS (xf x) (pf p) l n)) := by
    rw [← ref_tSC]
    pointwise [k0_pay11]
    rw [ref_xs]
  pointwise [k0_pay12]
  rw [h]; rfl

theorem ref_tH (n : Fin 128) (j : Fin 8192) : tH x p l w1 s1 (ix2 n j) = hrow x p l w1 s1 n j := by
  pointwise [k0_pay13]
  simp only [ref_tC, ref_tSC]
  rfl

theorem ref_tA (n : Fin 128) : tA x p l w1 s1 (ix2 n 0) = amS (hrow x p l w1 s1 n) := by
  pointwise [k0_pay14]
  simp only [ref_tH]
  rfl

theorem ref_tHS (n : Fin 128) : tHS x p l w1 s1 (ix2 n 0) = scS (hrow x p l w1 s1 n) := by
  have e : tHS x p l w1 s1 = k0_pay10 (tA x p l w1 s1) k0_pay6 q1 := rfl
  rw [e, ref_sc, ref_tA]; rfl

theorem ref_tHC (n : Fin 128) (j : Fin 8192) : tHC x p l w1 s1 (ix2 n j) = cdS (hrow x p l w1 s1 n) j := by
  have h : tW x p l w1 s1 (ix2 n j) = max (cst 3286237184#32) (hrow x p l w1 s1 n j * Ideal.div 1 (scS (hrow x p l w1 s1 n))) := by
    rw [← ref_tHS, ← ref_tH]
    pointwise [k0_pay21]
  pointwise [k0_pay23, k0_pay22]
  rw [h]; rfl

theorem ref_tY (n : Fin 128) (c : Fin 1664) : tY x p l w1 s1 w2 s2 (ix2 n c) = yrow x p l w1 s1 w2 s2 n c := by
  pointwise [k0_pay24]
  simp only [ref_tHC, ref_tHS]
  rfl

theorem ref_out (t : Fin 2048) (c : Fin 1664) : k0_pay25 (k0_pay3 x p) (tHS x p l w1 s1) (tW x p l w1 s1) k0_pay22 w2 s2 l (ix3 0 t c)
    = outS l t (lgS (xf x) (pf p) t) (fun n => yrow x p l w1 s1 w2 s2 n c) := by
  pointwise [k0_pay25]
  simp only [ref_tY, ref_lg]
  rfl

theorem ref_o2 (n : Fin 128) (c : Fin 1664) : k0_pay26 (tHS x p l w1 s1) (tW x p l w1 s1) k0_pay22 w2 s2 (ix3 0 n c) = yrow x p l w1 s1 w2 s2 n c := by
  rw [← ref_tY]; pointwise [k0_pay26]
theorem ref_o3 (e : Fin 16) (r : Fin 8) (k : Fin 1664) : k0_pay28 (F := Ideal) (k0_pay27 (k0_pay12 (tV x p l))) (ix4 0 e r k) = cdS (xsS (xf x) (pf p) l (slot e r)) k := by
  rw [← ref_tC]; pointwise [k0_pay28, k0_pay27]
theorem ref_o4 (e : Fin 16) (r : Fin 8) : k0_pay29 (F := Ideal) (tSC x p l) (ix3 0 e r) = scS (xsS (xf x) (pf p) l (slot e r)) := by
  rw [← ref_tSC]; pointwise [k0_pay29]
theorem ref_o5 (e : Fin 16) (r : Fin 8) (j : Fin 8192) : k0_pay30 (F := Ideal) (tHC x p l w1 s1) (ix4 0 e r j) = cdS (hrow x p l w1 s1 (slot e r)) j := by
  rw [← ref_tHC]; pointwise [k0_pay30]
theorem ref_o6 (e : Fin 16) (r : Fin 8) : k0_pay31 (F := Ideal) (tHS x p l w1 s1) (ix3 0 e r) = scS (hrow x p l w1 s1 (slot e r)) := by
  rw [← ref_tHS]; pointwise [k0_pay31]

/-! ## The second batch computes the same terms -/

abbrev uXS : FVec Ideal S128x1664 .f32 := k0_pay37 (k0_pay32 x) (k0_pay34 x p l) (k0_pay35 x p l) k0_pay36
abbrev uA : FVec Ideal S128x1 .f32 := k0_pay38 (k0_pay32 x) (k0_pay34 x p l) (k0_pay35 x p l) k0_pay36
abbrev u1 : FVec Ideal S128x252 .f32 := k0_pay42 k0_pay39 k0_pay40 k0_pay41 (Scalar.ofBits .f32 0x41800000#32)
abbrev uSC : FVec Ideal S128x1 .f32 := k0_pay43 (uA x p l) k0_pay39 u1 0#32
abbrev uC : FVec Ideal S128x1664 .fp8e4m3 := k0_pay44 (uXS x p l) (uA x p l) k0_pay39 u1 0#32
abbrev uI : FVec Ideal S16x8x8192 .f32 := k0_pay46 (uXS x p l) (uA x p l) k0_pay39 u1 0#32 w1 s1
abbrev uJ : FVec Ideal S16x8x8192 .f32 := k0_pay47 (uXS x p l) (uA x p l) k0_pay39 u1 0#32 w1 s1
abbrev uH : FVec Ideal S128x8192 .f32 := k0_pay48 (uI x p l w1 s1) (uJ x p l w1 s1)
abbrev uB : FVec Ideal S128x1 .f32 := k0_pay49 (uI x p l w1 s1) (uJ x p l w1 s1)
abbrev u2 : FVec Ideal S128x252 .f32 := k0_pay53 k0_pay50 k0_pay51 k0_pay52 3#32
abbrev u3 : FVec Ideal S128x252 .f32 := k0_pay55 k0_pay50 k0_pay51 k0_pay52 3#32
abbrev uHS : FVec Ideal S128x1 .f32 := k0_pay56 (uB x p l w1 s1) u2 (k0_pay54 k0_pay50) u3
abbrev uHC : FVec Ideal S128x8192 .fp8e4m3 := k0_pay57 (uH x p l w1 s1) (uB x p l w1 s1) u2 (k0_pay54 k0_pay50) u3
abbrev uY : FVec Ideal S128x1664 .bf16 := k0_pay58 (uH x p l w1 s1) (uB x p l w1 s1) u2 (k0_pay54 k0_pay50) u3 w2 s2

theorem uXS_eq : uXS x p l = k0_pay4 x p l := rfl
theorem uA_eq : uA x p l = k0_pay5 x p l := rfl
theorem uSC_eq : uSC x p l = tSC x p l := rfl
theorem uC_eq : uC x p l = k0_pay12 (tV x p l) := rfl
theorem uH_eq : uH x p l w1 s1 = tH x p l w1 s1 := rfl
theorem uB_eq : uB x p l w1 s1 = tA x p l w1 s1 := rfl
theorem uHS_eq : uHS x p l w1 s1 = tHS x p l w1 s1 := rfl
theorem uHC_eq : uHC x p l w1 s1 = tHC x p l w1 s1 := rfl
theorem uY_eq : uY x p l w1 s1 w2 s2 = tY x p l w1 s1 w2 s2 := rfl

theorem ref_out' (t : Fin 2048) (c : Fin 1664) : k0_pay61 (uY x p l w1 s1 w2 s2) (k0_pay59 (k0_pay33 x p)) (k0_pay60 (k0_pay33 x p)) l (ix3 0 t c)
    = outS l t (lgS (xf x) (pf p) t) (fun n => yrow x p l w1 s1 w2 s2 n c) := by
  rw [← ref_out]; rfl
theorem ref_o2' (n : Fin 128) (c : Fin 1664) : k0_pay62 (uY x p l w1 s1 w2 s2) (ix3 0 n c) = yrow x p l w1 s1 w2 s2 n c := by
  rw [← ref_o2]; rfl
theorem ref_o3' (e : Fin 16) (r : Fin 8) (k : Fin 1664) : k0_pay63 (F := Ideal) (uC x p l) (ix4 0 e r k) = cdS (xsS (xf x) (pf p) l (slot e r)) k := by
  rw [← ref_o3]; rfl
theorem ref_o4' (e : Fin 16) (r : Fin 8) : k0_pay64 (F := Ideal) (uSC x p l) (ix3 0 e r) = scS (xsS (xf x) (pf p) l (slot e r)) := by
  rw [← ref_o4]; rfl
theorem ref_o5' (e : Fin 16) (r : Fin 8) (j : Fin 8192) : k0_pay65 (F := Ideal) (uHC x p l w1 s1) (ix4 0 e r j) = cdS (hrow x p l w1 s1 (slot e r)) j := by
  rw [← ref_o5]; rfl
theorem ref_o6' (e : Fin 16) (r : Fin 8) : k0_pay1 (F := Ideal) (k0_pay66 (uHS x p l w1 s1)) (ix3 0 e r) = scS (hrow x p l w1 s1 (slot e r)) := by
  rw [← ref_o6]; rfl

end Batch

end Cert.Value

end
-- ==== Proof.Value.RefRun.lean ====
/-
  What the reference's run leaves in its six results.
-/
module

public import proofs.«01_k».proof.Proof.Gen.ReferenceIdeal.Value
public import proofs.«01_k».proof.Proof.Value.Ref
public import Idealize.ShloMosaic.Lib.WritesUnit
public import Idealize.ShloMosaic.Lib.Pipeline.ValueKit.Basic

@[expose] public section

set_option maxRecDepth 16384

noncomputable section

namespace Cert.Value

open Idealize.ShloMosaic Idealize.ShloMosaic.TcCoe
open Cert.ReferenceIdeal Cert.ReferenceIdeal.Gen

/-! ## The body's stores -/

section Stores

variable (x0 : Vec Ideal S2 .i32) (x1 : Vec Ideal S2x2048x1664 .bf16) (x2 : Vec Ideal S1664x128 .bf16) (x3 : Vec Ideal S16x1664x8192 .fp8e4m3)
  (x4 : Vec Ideal S16x8192 .f32) (x5 : Vec Ideal S16x8192x1664 .fp8e4m3) (x6 : Vec Ideal S16x1664 .f32)

/-- The arguments by coordinates. -/
def argsOf : Args where
  X := fun b t d => x1 (ix3 b t d)
  L := fun b => x0 (ix1 b)
  P := fun d n => x2 (ix2 d n)
  W1 := fun e k j => x3 (ix3 e k j)
  S1 := fun e j => x4 (ix2 e j)
  W2 := fun e j c => x5 (ix3 e j c)
  S2 := fun e c => x6 (ix2 e c)

variable (c : Dev nD) (arg0 : Memref sig .tc .smem S2 .i32) (harg0 : arg0.IsWhole) (arg1 : Memref sig .tc .vmem S2x2048x1664 .bf16) (harg1 : arg1.IsWhole) (arg2 : Memref sig .tc .vmem S1664x128 .bf16) (harg2 : arg2.IsWhole) (arg3 : Memref sig .tc .vmem S16x1664x8192 .fp8e4m3) (harg3 : arg3.IsWhole) (arg4 : Memref sig .tc .vmem S16x8192 .f32) (harg4 : arg4.IsWhole) (arg5 : Memref sig .tc .vmem S16x8192x1664 .fp8e4m3) (harg5 : arg5.IsWhole) (arg6 : Memref sig .tc .vmem S16x1664 .f32) (harg6 : arg6.IsWhole) (arg7 : Memref sig .tc .vmem S2x2048x1664 .bf16) (harg7 : arg7.IsWhole) (arg8 : Memref sig .tc .vmem S2x128x1664 .bf16) (harg8 : arg8.IsWhole) (arg9 : Memref sig .tc .vmem S2x16x8x1664 .fp8e4m3) (harg9 : arg9.IsWhole) (arg10 : Memref sig .tc .vmem S2x16x8 .f32) (harg10 : arg10.IsWhole) (arg11 : Memref sig .tc .vmem S2x16x8x8192 .fp8e4m3) (harg11 : arg11.IsWhole) (arg12 : Memref sig .tc .vmem S2x16x8 .f32) (harg12 : arg12.IsWhole)

/-- The body's loads. -/
abbrev ldX0 : Vec Ideal S1x2048x1664 .bf16 := arg1.view.readAt (Elt Ideal) (Rect.unit (s := S2x2048x1664) ![0, 0, 0] S1x2048x1664.size inb_S2x2048x1664_S1x2048x1664_0_0_0).toLoadRect (harg1.unread x1)
abbrev ldX1 : Vec Ideal S1x2048x1664 .bf16 := arg1.view.readAt (Elt Ideal) (Rect.unit (s := S2x2048x1664) ![1, 0, 0] S1x2048x1664.size inb_S2x2048x1664_S1x2048x1664_1_0_0).toLoadRect (harg1.unread x1)
abbrev ldP : Vec Ideal S1664x128 .bf16 := arg2.view.readAt (Elt Ideal) (Rect.unit (s := S1664x128) ![0, 0] S1664x128.size inb_S1664x128_S1664x128_0_0).toLoadRect (harg2.unread x2)
abbrev ldW1 : Vec Ideal S16x1664x8192 .fp8e4m3 := arg3.view.readAt (Elt Ideal) (Rect.unit (s := S16x1664x8192) ![0, 0, 0] S16x1664x8192.size inb_S16x1664x8192_S16x1664x8192_0_0_0).toLoadRect (harg3.unread x3)
abbrev ldS1 : Vec Ideal S16x8192 .f32 := arg4.view.readAt (Elt Ideal) (Rect.unit (s := S16x8192) ![0, 0] S16x8192.size inb_S16x8192_S16x8192_0_0).toLoadRect (harg4.unread x4)
abbrev ldW2 : Vec Ideal S16x8192x1664 .fp8e4m3 := arg5.view.readAt (Elt Ideal) (Rect.unit (s := S16x8192x1664) ![0, 0, 0] S16x8192x1664.size inb_S16x8192x1664_S16x8192x1664_0_0_0).toLoadRect (harg5.unread x5)
abbrev ldS2 : Vec Ideal S16x1664 .f32 := arg6.view.readAt (Elt Ideal) (Rect.unit (s := S16x1664) ![0, 0] S16x1664.size inb_S16x1664_S16x1664_0_0).toLoadRect (harg6.unread x6)
abbrev ldL0 : BitVec 32 := kernelRun0_A.sl.r (F := Ideal) c arg0 harg0 x0
abbrev ldL1 : BitVec 32 := kernelRun0_A.sl.r_15 (F := Ideal) c arg0 harg0 x0

theorem ldP_eq : ldP x2 arg2 harg2 = x2 := (View.readAt_eq_ld _ _ _).trans ((View.ld_unit_lit _ _ (by decide)).trans (harg2.read_unread x2))
theorem ldW1_eq : ldW1 x3 arg3 harg3 = x3 := (View.readAt_eq_ld _ _ _).trans ((View.ld_unit_lit _ _ (by decide)).trans (harg3.read_unread x3))
theorem ldS1_eq : ldS1 x4 arg4 harg4 = x4 := (View.readAt_eq_ld _ _ _).trans ((View.ld_unit_lit _ _ (by decide)).trans (harg4.read_unread x4))
theorem ldW2_eq : ldW2 x5 arg5 harg5 = x5 := (View.readAt_eq_ld _ _ _).trans ((View.ld_unit_lit _ _ (by decide)).trans (harg5.read_unread x5))
theorem ldS2_eq : ldS2 x6 arg6 harg6 = x6 := (View.readAt_eq_ld _ _ _).trans ((View.ld_unit_lit _ _ (by decide)).trans (harg6.read_unread x6))
theorem ldX0_eq : xf (ldX0 x1 arg1 harg1) = fun t d => x1 (ix3 0 t d) := by
  funext t d
  show arg1.view.readAt _ _ _ _ = _
  rw [View.readAt_apply, harg1.read_unread]
  congr 1; funext a; apply Fin.ext
  match a with
  | ⟨0, _⟩ => rfl
  | ⟨1, _⟩ => show 0 + 1 * t.val = t.val; omega
  | ⟨2, _⟩ => show 0 + 1 * d.val = d.val; omega
theorem ldX1_eq : xf (ldX1 x1 arg1 harg1) = fun t d => x1 (ix3 1 t d) := by
  funext t d
  show arg1.view.readAt _ _ _ _ = _
  rw [View.readAt_apply, harg1.read_unread]
  congr 1; funext a; apply Fin.ext
  match a with
  | ⟨0, _⟩ => rfl
  | ⟨1, _⟩ => show 0 + 1 * t.val = t.val; omega
  | ⟨2, _⟩ => show 0 + 1 * d.val = d.val; omega
theorem ldL0_eq : ldL0 x0 c arg0 harg0 = x0 (ix1 0) := by
  unfold ldL0 kernelRun0_A.sl.r
  rw [View.readAt_apply, harg0.read_unread]
  congr 1; funext a; apply Fin.ext
  match a with
  | ⟨0, _⟩ => rfl
theorem ldL1_eq : ldL1 x0 c arg0 harg0 = x0 (ix1 1) := by
  unfold ldL1 kernelRun0_A.sl.r_15
  rw [View.readAt_apply, harg0.read_unread]
  congr 1; funext a; apply Fin.ext
  match a with
  | ⟨0, _⟩ => rfl

theorem stored7 (b : Fin 2) (t : Fin 2048) (c' : Fin 1664) : out0_A_7 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 (ix3 b t c') = (argsOf x0 x1 x2 x3 x4 x5 x6).out b t c' := by
  have he : out0_A_7 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 = VO0_7.read (Elt Ideal) (VO0_7.writes (Elt Ideal) VO0_7.junk
      [⟨Rect.unit (s := S2x2048x1664) ![1, 0, 0] S1x2048x1664.size inb_S2x2048x1664_S1x2048x1664_1_0_0, k0_pay61 (uY (ldX1 x1 arg1 harg1) (ldP x2 arg2 harg2) (ldL1 x0 c arg0 harg0) (ldW1 x3 arg3 harg3) (ldS1 x4 arg4 harg4) (ldW2 x5 arg5 harg5) (ldS2 x6 arg6 harg6)) (k0_pay59 (k0_pay33 (ldX1 x1 arg1 harg1) (ldP x2 arg2 harg2))) (k0_pay60 (k0_pay33 (ldX1 x1 arg1 harg1) (ldP x2 arg2 harg2))) (ldL1 x0 c arg0 harg0)⟩,
       ⟨Rect.unit (s := S2x2048x1664) ![0, 0, 0] S1x2048x1664.size inb_S2x2048x1664_S1x2048x1664_0_0_0, k0_pay25 (k0_pay3 (ldX0 x1 arg1 harg1) (ldP x2 arg2 harg2)) (tHS (ldX0 x1 arg1 harg1) (ldP x2 arg2 harg2) (ldL0 x0 c arg0 harg0) (ldW1 x3 arg3 harg3) (ldS1 x4 arg4 harg4)) (tW (ldX0 x1 arg1 harg1) (ldP x2 arg2 harg2) (ldL0 x0 c arg0 harg0) (ldW1 x3 arg3 harg3) (ldS1 x4 arg4 harg4)) k0_pay22 (ldW2 x5 arg5 harg5) (ldS2 x6 arg6 harg6) (ldL0 x0 c arg0 harg0)⟩]) := rfl
  rw [he]
  fin_cases b
  · refine (View.read_writes_cons_unit_of_not_mem VO0_7 _ _ _ _ _ rfl (0 : Fin 3) (Or.inl Nat.zero_lt_one)).trans ?_
    refine (View.read_writes_cons_unit_of_mem VO0_7 _ _ _ _ _ (ix3 (0 : Fin 1) t c') rfl (fun a => ?_)).trans ?_
    · match a with
      | ⟨0, _⟩ => rfl
      | ⟨1, _⟩ => show t.val = 0 + t.val; omega
      | ⟨2, _⟩ => show c'.val = 0 + c'.val; omega
    rw [ref_out]; dsimp only [hrow, yrow]; rw [ldX0_eq, ldL0_eq, ldP_eq, ldW1_eq, ldS1_eq, ldW2_eq, ldS2_eq]; rfl
  · refine (View.read_writes_cons_unit_of_mem VO0_7 _ _ _ _ _ (ix3 (0 : Fin 1) t c') rfl (fun a => ?_)).trans ?_
    · match a with
      | ⟨0, _⟩ => rfl
      | ⟨1, _⟩ => show t.val = 0 + t.val; omega
      | ⟨2, _⟩ => show c'.val = 0 + c'.val; omega
    rw [ref_out']; dsimp only [hrow, yrow]; rw [ldX1_eq, ldL1_eq, ldP_eq, ldW1_eq, ldS1_eq, ldW2_eq, ldS2_eq]; rfl

theorem stored8 (b : Fin 2) (n : Fin 128) (c' : Fin 1664) : out0_A_8 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 (ix3 b n c') = (argsOf x0 x1 x2 x3 x4 x5 x6).ys b n c' := by
  have he : out0_A_8 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 = VO0_8.read (Elt Ideal) (VO0_8.writes (Elt Ideal) VO0_8.junk
      [⟨Rect.unit (s := S2x128x1664) ![1, 0, 0] S1x128x1664.size inb_S2x128x1664_S1x128x1664_1_0_0, k0_pay62 (uY (ldX1 x1 arg1 harg1) (ldP x2 arg2 harg2) (ldL1 x0 c arg0 harg0) (ldW1 x3 arg3 harg3) (ldS1 x4 arg4 harg4) (ldW2 x5 arg5 harg5) (ldS2 x6 arg6 harg6))⟩,
       ⟨Rect.unit (s := S2x128x1664) ![0, 0, 0] S1x128x1664.size inb_S2x128x1664_S1x128x1664_0_0_0, k0_pay26 (tHS (ldX0 x1 arg1 harg1) (ldP x2 arg2 harg2) (ldL0 x0 c arg0 harg0) (ldW1 x3 arg3 harg3) (ldS1 x4 arg4 harg4)) (tW (ldX0 x1 arg1 harg1) (ldP x2 arg2 harg2) (ldL0 x0 c arg0 harg0) (ldW1 x3 arg3 harg3) (ldS1 x4 arg4 harg4)) k0_pay22 (ldW2 x5 arg5 harg5) (ldS2 x6 arg6 harg6)⟩]) := rfl
  rw [he]
  fin_cases b
  · refine (View.read_writes_cons_unit_of_not_mem VO0_8 _ _ _ _ _ rfl (0 : Fin 3) (Or.inl Nat.zero_lt_one)).trans ?_
    refine (View.read_writes_cons_unit_of_mem VO0_8 _ _ _ _ _ (ix3 (0 : Fin 1) n c') rfl (fun a => ?_)).trans ?_
    · match a with
      | ⟨0, _⟩ => rfl
      | ⟨1, _⟩ => show n.val = 0 + n.val; omega
      | ⟨2, _⟩ => show c'.val = 0 + c'.val; omega
    rw [ref_o2]; dsimp only [hrow, yrow]; rw [ldX0_eq, ldL0_eq, ldP_eq, ldW1_eq, ldS1_eq, ldW2_eq, ldS2_eq]; rfl
  · refine (View.read_writes_cons_unit_of_mem VO0_8 _ _ _ _ _ (ix3 (0 : Fin 1) n c') rfl (fun a => ?_)).trans ?_
    · match a with
      | ⟨0, _⟩ => rfl
      | ⟨1, _⟩ => show n.val = 0 + n.val; omega
      | ⟨2, _⟩ => show c'.val = 0 + c'.val; omega
    rw [ref_o2']; dsimp only [hrow, yrow]; rw [ldX1_eq, ldL1_eq, ldP_eq, ldW1_eq, ldS1_eq, ldW2_eq, ldS2_eq]; rfl

theorem stored9 (b : Fin 2) (e : Fin 16) (r : Fin 8) (k : Fin 1664) : out0_A_9 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 (ix4 b e r k) = cdS ((argsOf x0 x1 x2 x3 x4 x5 x6).xs b (slot e r)) k := by
  have he : out0_A_9 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 = VO0_9.read (Elt Ideal) (VO0_9.writes (Elt Ideal) VO0_9.junk
      [⟨Rect.unit (s := S2x16x8x1664) ![1, 0, 0, 0] S1x16x8x1664.size inb_S2x16x8x1664_S1x16x8x1664_1_0_0_0, k0_pay63 (F := Ideal) (uC (ldX1 x1 arg1 harg1) (ldP x2 arg2 harg2) (ldL1 x0 c arg0 harg0))⟩,
       ⟨Rect.unit (s := S2x16x8x1664) ![0, 0, 0, 0] S1x16x8x1664.size inb_S2x16x8x1664_S1x16x8x1664_0_0_0_0, k0_pay28 (F := Ideal) (k0_pay27 (k0_pay12 (tV (ldX0 x1 arg1 harg1) (ldP x2 arg2 harg2) (ldL0 x0 c arg0 harg0))))⟩]) := rfl
  rw [he]
  fin_cases b
  · refine (View.read_writes_cons_unit_of_not_mem VO0_9 _ _ _ _ _ rfl (0 : Fin 4) (Or.inl Nat.zero_lt_one)).trans ?_
    refine (View.read_writes_cons_unit_of_mem VO0_9 _ _ _ _ _ (ix4 (0 : Fin 1) e r k) rfl (fun a => ?_)).trans ?_
    · match a with
      | ⟨0, _⟩ => rfl
      | ⟨1, _⟩ => show e.val = 0 + e.val; omega
      | ⟨2, _⟩ => show r.val = 0 + r.val; omega
      | ⟨3, _⟩ => show k.val = 0 + k.val; omega
    rw [ref_o3, ldX0_eq, ldL0_eq, ldP_eq]; rfl
  · refine (View.read_writes_cons_unit_of_mem VO0_9 _ _ _ _ _ (ix4 (0 : Fin 1) e r k) rfl (fun a => ?_)).trans ?_
    · match a with
      | ⟨0, _⟩ => rfl
      | ⟨1, _⟩ => show e.val = 0 + e.val; omega
      | ⟨2, _⟩ => show r.val = 0 + r.val; omega
      | ⟨3, _⟩ => show k.val = 0 + k.val; omega
    rw [ref_o3', ldX1_eq, ldL1_eq, ldP_eq]; rfl

theorem stored10 (b : Fin 2) (e : Fin 16) (r : Fin 8) : out0_A_10 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 (ix3 b e r) = scS ((argsOf x0 x1 x2 x3 x4 x5 x6).xs b (slot e r)) := by
  have he : out0_A_10 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 = VO0_10.read (Elt Ideal) (VO0_10.writes (Elt Ideal) VO0_10.junk
      [⟨Rect.unit (s := S2x16x8) ![1, 0, 0] S1x16x8.size inb_S2x16x8_S1x16x8_1_0_0, k0_pay64 (F := Ideal) (uSC (ldX1 x1 arg1 harg1) (ldP x2 arg2 harg2) (ldL1 x0 c arg0 harg0))⟩,
       ⟨Rect.unit (s := S2x16x8) ![0, 0, 0] S1x16x8.size inb_S2x16x8_S1x16x8_0_0_0, k0_pay29 (F := Ideal) (tSC (ldX0 x1 arg1 harg1) (ldP x2 arg2 harg2) (ldL0 x0 c arg0 harg0))⟩]) := rfl
  rw [he]
  fin_cases b
  · refine (View.read_writes_cons_unit_of_not_mem VO0_10 _ _ _ _ _ rfl (0 : Fin 3) (Or.inl Nat.zero_lt_one)).trans ?_
    refine (View.read_writes_cons_unit_of_mem VO0_10 _ _ _ _ _ (ix3 (0 : Fin 1) e r) rfl (fun a => ?_)).trans ?_
    · match a with
      | ⟨0, _⟩ => rfl
      | ⟨1, _⟩ => show e.val = 0 + e.val; omega
      | ⟨2, _⟩ => show r.val = 0 + r.val; omega
    rw [ref_o4, ldX0_eq, ldL0_eq, ldP_eq]; rfl
  · refine (View.read_writes_cons_unit_of_mem VO0_10 _ _ _ _ _ (ix3 (0 : Fin 1) e r) rfl (fun a => ?_)).trans ?_
    · match a with
      | ⟨0, _⟩ => rfl
      | ⟨1, _⟩ => show e.val = 0 + e.val; omega
      | ⟨2, _⟩ => show r.val = 0 + r.val; omega
    rw [ref_o4', ldX1_eq, ldL1_eq, ldP_eq]; rfl

theorem stored11 (b : Fin 2) (e : Fin 16) (r : Fin 8) (k : Fin 8192) : out0_A_11 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 (ix4 b e r k) = cdS ((argsOf x0 x1 x2 x3 x4 x5 x6).hid b (slot e r)) k := by
  have he : out0_A_11 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 = VO0_11.read (Elt Ideal) (VO0_11.writes (Elt Ideal) VO0_11.junk
      [⟨Rect.unit (s := S2x16x8x8192) ![1, 0, 0, 0] S1x16x8x8192.size inb_S2x16x8x8192_S1x16x8x8192_1_0_0_0, k0_pay65 (F := Ideal) (uHC (ldX1 x1 arg1 harg1) (ldP x2 arg2 harg2) (ldL1 x0 c arg0 harg0) (ldW1 x3 arg3 harg3) (ldS1 x4 arg4 harg4))⟩,
       ⟨Rect.unit (s := S2x16x8x8192) ![0, 0, 0, 0] S1x16x8x8192.size inb_S2x16x8x8192_S1x16x8x8192_0_0_0_0, k0_pay30 (F := Ideal) (tHC (ldX0 x1 arg1 harg1) (ldP x2 arg2 harg2) (ldL0 x0 c arg0 harg0) (ldW1 x3 arg3 harg3) (ldS1 x4 arg4 harg4))⟩]) := rfl
  rw [he]
  fin_cases b
  · refine (View.read_writes_cons_unit_of_not_mem VO0_11 _ _ _ _ _ rfl (0 : Fin 4) (Or.inl Nat.zero_lt_one)).trans ?_
    refine (View.read_writes_cons_unit_of_mem VO0_11 _ _ _ _ _ (ix4 (0 : Fin 1) e r k) rfl (fun a => ?_)).trans ?_
    · match a with
      | ⟨0, _⟩ => rfl
      | ⟨1, _⟩ => show e.val = 0 + e.val; omega
      | ⟨2, _⟩ => show r.val = 0 + r.val; omega
      | ⟨3, _⟩ => show k.val = 0 + k.val; omega
    rw [ref_o5]; dsimp only [hrow, yrow]; rw [ldX0_eq, ldL0_eq, ldP_eq, ldW1_eq, ldS1_eq]; rfl
  · refine (View.read_writes_cons_unit_of_mem VO0_11 _ _ _ _ _ (ix4 (0 : Fin 1) e r k) rfl (fun a => ?_)).trans ?_
    · match a with
      | ⟨0, _⟩ => rfl
      | ⟨1, _⟩ => show e.val = 0 + e.val; omega
      | ⟨2, _⟩ => show r.val = 0 + r.val; omega
      | ⟨3, _⟩ => show k.val = 0 + k.val; omega
    rw [ref_o5']; dsimp only [hrow, yrow]; rw [ldX1_eq, ldL1_eq, ldP_eq, ldW1_eq, ldS1_eq]; rfl

theorem stored12 (b : Fin 2) (e : Fin 16) (r : Fin 8) : out0_A_12 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 (ix3 b e r) = scS ((argsOf x0 x1 x2 x3 x4 x5 x6).hid b (slot e r)) := by
  have he : out0_A_12 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 = VO0_12.read (Elt Ideal) (VO0_12.writes (Elt Ideal) VO0_12.junk
      [⟨Rect.unit (s := S2x16x8) ![1, 0, 0] S1x16x8.size inb_S2x16x8_S1x16x8_1_0_0, k0_pay1 (F := Ideal) (k0_pay66 (uHS (ldX1 x1 arg1 harg1) (ldP x2 arg2 harg2) (ldL1 x0 c arg0 harg0) (ldW1 x3 arg3 harg3) (ldS1 x4 arg4 harg4)))⟩,
       ⟨Rect.unit (s := S2x16x8) ![0, 0, 0] S1x16x8.size inb_S2x16x8_S1x16x8_0_0_0, k0_pay31 (F := Ideal) (tHS (ldX0 x1 arg1 harg1) (ldP x2 arg2 harg2) (ldL0 x0 c arg0 harg0) (ldW1 x3 arg3 harg3) (ldS1 x4 arg4 harg4))⟩]) := rfl
  rw [he]
  fin_cases b
  · refine (View.read_writes_cons_unit_of_not_mem VO0_12 _ _ _ _ _ rfl (0 : Fin 3) (Or.inl Nat.zero_lt_one)).trans ?_
    refine (View.read_writes_cons_unit_of_mem VO0_12 _ _ _ _ _ (ix3 (0 : Fin 1) e r) rfl (fun a => ?_)).trans ?_
    · match a with
      | ⟨0, _⟩ => rfl
      | ⟨1, _⟩ => show e.val = 0 + e.val; omega
      | ⟨2, _⟩ => show r.val = 0 + r.val; omega
    rw [ref_o6]; dsimp only [hrow, yrow]; rw [ldX0_eq, ldL0_eq, ldP_eq, ldW1_eq, ldS1_eq]; rfl
  · refine (View.read_writes_cons_unit_of_mem VO0_12 _ _ _ _ _ (ix3 (0 : Fin 1) e r) rfl (fun a => ?_)).trans ?_
    · match a with
      | ⟨0, _⟩ => rfl
      | ⟨1, _⟩ => show e.val = 0 + e.val; omega
      | ⟨2, _⟩ => show r.val = 0 + r.val; omega
    rw [ref_o6']; dsimp only [hrow, yrow]; rw [ldX1_eq, ldL1_eq, ldP_eq, ldW1_eq, ldS1_eq]; rfl

end Stores

/-! ## The arrays after the run -/

/-- The grid's one point. -/
abbrev t0 : Fin cfg0.N := ⟨0, by decide⟩

theorem emb0 (y : S2.Idx) : ((cfg0.win 0).blk t0).view.emb y = y := by
  funext a; apply Fin.ext
  match a with
  | ⟨0, _⟩ =>
    have h : win0_0.index t0 (0 : Fin 1) = 0 := by decide +kernel
    show win0_0.index t0 (0 : Fin 1) * 2 + 1 * (y 0).val = (y 0).val; omega
theorem emb1 (y : S2x2048x1664.Idx) : ((cfg0.win 1).blk t0).view.emb y = y := by
  funext a; apply Fin.ext
  match a with
  | ⟨0, _⟩ =>
    have h : win0_1.index t0 (0 : Fin 3) = 0 := by decide +kernel
    show win0_1.index t0 (0 : Fin 3) * 2 + 1 * (y 0).val = (y 0).val; omega
  | ⟨1, _⟩ =>
    have h : win0_1.index t0 (1 : Fin 3) = 0 := by decide +kernel
    show win0_1.index t0 (1 : Fin 3) * 2048 + 1 * (y 1).val = (y 1).val; omega
  | ⟨2, _⟩ =>
    have h : win0_1.index t0 (2 : Fin 3) = 0 := by decide +kernel
    show win0_1.index t0 (2 : Fin 3) * 1664 + 1 * (y 2).val = (y 2).val; omega
theorem emb2 (y : S1664x128.Idx) : ((cfg0.win 2).blk t0).view.emb y = y := by
  funext a; apply Fin.ext
  match a with
  | ⟨0, _⟩ =>
    have h : win0_2.index t0 (0 : Fin 2) = 0 := by decide +kernel
    show win0_2.index t0 (0 : Fin 2) * 1664 + 1 * (y 0).val = (y 0).val; omega
  | ⟨1, _⟩ =>
    have h : win0_2.index t0 (1 : Fin 2) = 0 := by decide +kernel
    show win0_2.index t0 (1 : Fin 2) * 128 + 1 * (y 1).val = (y 1).val; omega
theorem emb3 (y : S16x1664x8192.Idx) : ((cfg0.win 3).blk t0).view.emb y = y := by
  funext a; apply Fin.ext
  match a with
  | ⟨0, _⟩ =>
    have h : win0_3.index t0 (0 : Fin 3) = 0 := by decide +kernel
    show win0_3.index t0 (0 : Fin 3) * 16 + 1 * (y 0).val = (y 0).val; omega
  | ⟨1, _⟩ =>
    have h : win0_3.index t0 (1 : Fin 3) = 0 := by decide +kernel
    show win0_3.index t0 (1 : Fin 3) * 1664 + 1 * (y 1).val = (y 1).val; omega
  | ⟨2, _⟩ =>
    have h : win0_3.index t0 (2 : Fin 3) = 0 := by decide +kernel
    show win0_3.index t0 (2 : Fin 3) * 8192 + 1 * (y 2).val = (y 2).val; omega
theorem emb4 (y : S16x8192.Idx) : ((cfg0.win 4).blk t0).view.emb y = y := by
  funext a; apply Fin.ext
  match a with
  | ⟨0, _⟩ =>
    have h : win0_4.index t0 (0 : Fin 2) = 0 := by decide +kernel
    show win0_4.index t0 (0 : Fin 2) * 16 + 1 * (y 0).val = (y 0).val; omega
  | ⟨1, _⟩ =>
    have h : win0_4.index t0 (1 : Fin 2) = 0 := by decide +kernel
    show win0_4.index t0 (1 : Fin 2) * 8192 + 1 * (y 1).val = (y 1).val; omega
theorem emb5 (y : S16x8192x1664.Idx) : ((cfg0.win 5).blk t0).view.emb y = y := by
  funext a; apply Fin.ext
  match a with
  | ⟨0, _⟩ =>
    have h : win0_5.index t0 (0 : Fin 3) = 0 := by decide +kernel
    show win0_5.index t0 (0 : Fin 3) * 16 + 1 * (y 0).val = (y 0).val; omega
  | ⟨1, _⟩ =>
    have h : win0_5.index t0 (1 : Fin 3) = 0 := by decide +kernel
    show win0_5.index t0 (1 : Fin 3) * 8192 + 1 * (y 1).val = (y 1).val; omega
  | ⟨2, _⟩ =>
    have h : win0_5.index t0 (2 : Fin 3) = 0 := by decide +kernel
    show win0_5.index t0 (2 : Fin 3) * 1664 + 1 * (y 2).val = (y 2).val; omega
theorem emb6 (y : S16x1664.Idx) : ((cfg0.win 6).blk t0).view.emb y = y := by
  funext a; apply Fin.ext
  match a with
  | ⟨0, _⟩ =>
    have h : win0_6.index t0 (0 : Fin 2) = 0 := by decide +kernel
    show win0_6.index t0 (0 : Fin 2) * 16 + 1 * (y 0).val = (y 0).val; omega
  | ⟨1, _⟩ =>
    have h : win0_6.index t0 (1 : Fin 2) = 0 := by decide +kernel
    show win0_6.index t0 (1 : Fin 2) * 1664 + 1 * (y 1).val = (y 1).val; omega
theorem emb7 (y : S2x2048x1664.Idx) : ((cfg0.win 7).blk t0).view.emb y = y := by
  funext a; apply Fin.ext
  match a with
  | ⟨0, _⟩ =>
    have h : win0_7.index t0 (0 : Fin 3) = 0 := by decide +kernel
    show win0_7.index t0 (0 : Fin 3) * 2 + 1 * (y 0).val = (y 0).val; omega
  | ⟨1, _⟩ =>
    have h : win0_7.index t0 (1 : Fin 3) = 0 := by decide +kernel
    show win0_7.index t0 (1 : Fin 3) * 2048 + 1 * (y 1).val = (y 1).val; omega
  | ⟨2, _⟩ =>
    have h : win0_7.index t0 (2 : Fin 3) = 0 := by decide +kernel
    show win0_7.index t0 (2 : Fin 3) * 1664 + 1 * (y 2).val = (y 2).val; omega
theorem emb8 (y : S2x128x1664.Idx) : ((cfg0.win 8).blk t0).view.emb y = y := by
  funext a; apply Fin.ext
  match a with
  | ⟨0, _⟩ =>
    have h : win0_8.index t0 (0 : Fin 3) = 0 := by decide +kernel
    show win0_8.index t0 (0 : Fin 3) * 2 + 1 * (y 0).val = (y 0).val; omega
  | ⟨1, _⟩ =>
    have h : win0_8.index t0 (1 : Fin 3) = 0 := by decide +kernel
    show win0_8.index t0 (1 : Fin 3) * 128 + 1 * (y 1).val = (y 1).val; omega
  | ⟨2, _⟩ =>
    have h : win0_8.index t0 (2 : Fin 3) = 0 := by decide +kernel
    show win0_8.index t0 (2 : Fin 3) * 1664 + 1 * (y 2).val = (y 2).val; omega
theorem emb9 (y : S2x16x8x1664.Idx) : ((cfg0.win 9).blk t0).view.emb y = y := by
  funext a; apply Fin.ext
  match a with
  | ⟨0, _⟩ =>
    have h : win0_9.index t0 (0 : Fin 4) = 0 := by decide +kernel
    show win0_9.index t0 (0 : Fin 4) * 2 + 1 * (y 0).val = (y 0).val; omega
  | ⟨1, _⟩ =>
    have h : win0_9.index t0 (1 : Fin 4) = 0 := by decide +kernel
    show win0_9.index t0 (1 : Fin 4) * 16 + 1 * (y 1).val = (y 1).val; omega
  | ⟨2, _⟩ =>
    have h : win0_9.index t0 (2 : Fin 4) = 0 := by decide +kernel
    show win0_9.index t0 (2 : Fin 4) * 8 + 1 * (y 2).val = (y 2).val; omega
  | ⟨3, _⟩ =>
    have h : win0_9.index t0 (3 : Fin 4) = 0 := by decide +kernel
    show win0_9.index t0 (3 : Fin 4) * 1664 + 1 * (y 3).val = (y 3).val; omega
theorem emb10 (y : S2x16x8.Idx) : ((cfg0.win 10).blk t0).view.emb y = y := by
  funext a; apply Fin.ext
  match a with
  | ⟨0, _⟩ =>
    have h : win0_10.index t0 (0 : Fin 3) = 0 := by decide +kernel
    show win0_10.index t0 (0 : Fin 3) * 2 + 1 * (y 0).val = (y 0).val; omega
  | ⟨1, _⟩ =>
    have h : win0_10.index t0 (1 : Fin 3) = 0 := by decide +kernel
    show win0_10.index t0 (1 : Fin 3) * 16 + 1 * (y 1).val = (y 1).val; omega
  | ⟨2, _⟩ =>
    have h : win0_10.index t0 (2 : Fin 3) = 0 := by decide +kernel
    show win0_10.index t0 (2 : Fin 3) * 8 + 1 * (y 2).val = (y 2).val; omega
theorem emb11 (y : S2x16x8x8192.Idx) : ((cfg0.win 11).blk t0).view.emb y = y := by
  funext a; apply Fin.ext
  match a with
  | ⟨0, _⟩ =>
    have h : win0_11.index t0 (0 : Fin 4) = 0 := by decide +kernel
    show win0_11.index t0 (0 : Fin 4) * 2 + 1 * (y 0).val = (y 0).val; omega
  | ⟨1, _⟩ =>
    have h : win0_11.index t0 (1 : Fin 4) = 0 := by decide +kernel
    show win0_11.index t0 (1 : Fin 4) * 16 + 1 * (y 1).val = (y 1).val; omega
  | ⟨2, _⟩ =>
    have h : win0_11.index t0 (2 : Fin 4) = 0 := by decide +kernel
    show win0_11.index t0 (2 : Fin 4) * 8 + 1 * (y 2).val = (y 2).val; omega
  | ⟨3, _⟩ =>
    have h : win0_11.index t0 (3 : Fin 4) = 0 := by decide +kernel
    show win0_11.index t0 (3 : Fin 4) * 8192 + 1 * (y 3).val = (y 3).val; omega
theorem emb12 (y : S2x16x8.Idx) : ((cfg0.win 12).blk t0).view.emb y = y := by
  funext a; apply Fin.ext
  match a with
  | ⟨0, _⟩ =>
    have h : win0_12.index t0 (0 : Fin 3) = 0 := by decide +kernel
    show win0_12.index t0 (0 : Fin 3) * 2 + 1 * (y 0).val = (y 0).val; omega
  | ⟨1, _⟩ =>
    have h : win0_12.index t0 (1 : Fin 3) = 0 := by decide +kernel
    show win0_12.index t0 (1 : Fin 3) * 16 + 1 * (y 1).val = (y 1).val; omega
  | ⟨2, _⟩ =>
    have h : win0_12.index t0 (2 : Fin 3) = 0 := by decide +kernel
    show win0_12.index t0 (2 : Fin 3) * 8 + 1 * (y 2).val = (y 2).val; omega

variable (m : (ℓ : Loc nD τ sig) → Buf (Elt Ideal) ℓ) (c : Dev nD)

theorem iblk0 : iblk m c 0 t0 = m ((c : Thread nD τ).loc main_arg1) := by
  funext z
  show V m c main_arg1 (((cfg0.win 0).blk t0).view.emb z) = _
  rw [emb0]
theorem iblk1 : iblk m c 1 t0 = m ((c : Thread nD τ).loc main_arg0) := by
  funext z
  show V m c main_arg0 (((cfg0.win 1).blk t0).view.emb z) = _
  rw [emb1]
theorem iblk2 : iblk m c 2 t0 = m ((c : Thread nD τ).loc main_arg2) := by
  funext z
  show V m c main_arg2 (((cfg0.win 2).blk t0).view.emb z) = _
  rw [emb2]
theorem iblk3 : iblk m c 3 t0 = m ((c : Thread nD τ).loc main_arg3) := by
  funext z
  show V m c main_arg3 (((cfg0.win 3).blk t0).view.emb z) = _
  rw [emb3]
theorem iblk4 : iblk m c 4 t0 = m ((c : Thread nD τ).loc main_arg4) := by
  funext z
  show V m c main_arg4 (((cfg0.win 4).blk t0).view.emb z) = _
  rw [emb4]
theorem iblk5 : iblk m c 5 t0 = m ((c : Thread nD τ).loc main_arg5) := by
  funext z
  show V m c main_arg5 (((cfg0.win 5).blk t0).view.emb z) = _
  rw [emb5]
theorem iblk6 : iblk m c 6 t0 = m ((c : Thread nD τ).loc main_arg6) := by
  funext z
  show V m c main_arg6 (((cfg0.win 6).blk t0).view.emb z) = _
  rw [emb6]

/-- The run's arguments by coordinates. -/
abbrev refArgs : Args := argsOf (m ((c : Thread nD τ).loc main_arg1)) (m ((c : Thread nD τ).loc main_arg0)) (m ((c : Thread nD τ).loc main_arg2)) (m ((c : Thread nD τ).loc main_arg3))
  (m ((c : Thread nD τ).loc main_arg4)) (m ((c : Thread nD τ).loc main_arg5)) (m ((c : Thread nD τ).loc main_arg6))

theorem ref7 (b : Fin 2) (t : Fin 2048) (k : Fin 1664) : (dats m 0 c).arrAt 7 cfg0.N (ix3 b t k) = (refArgs m c).out b t k := by
  have h := congrFun (Cert.ReferenceIdeal.Value.blocks7 m c t0 rfl) (ix3 b t k)
  rw [Cert.ReferenceIdeal.Value.flushed7_A] at h
  have h' : (dats m 0 c).arrAt 7 cfg0.N (((cfg0.win 7).blk t0).view.emb (ix3 b t k)) = out0_A_7 c (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (iblk m c 0 t0) (iblk m c 1 t0) (iblk m c 2 t0) (iblk m c 3 t0) (iblk m c 4 t0) (iblk m c 5 t0) (iblk m c 6 t0) (ix3 b t k) := h
  rw [emb7, stored7, iblk0, iblk1, iblk2, iblk3, iblk4, iblk5, iblk6] at h'
  exact h'
theorem ref8 (b : Fin 2) (n : Fin 128) (k : Fin 1664) : (dats m 0 c).arrAt 8 cfg0.N (ix3 b n k) = (refArgs m c).ys b n k := by
  have h := congrFun (Cert.ReferenceIdeal.Value.blocks8 m c t0 rfl) (ix3 b n k)
  rw [Cert.ReferenceIdeal.Value.flushed8_A] at h
  have h' : (dats m 0 c).arrAt 8 cfg0.N (((cfg0.win 8).blk t0).view.emb (ix3 b n k)) = out0_A_8 c (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (iblk m c 0 t0) (iblk m c 1 t0) (iblk m c 2 t0) (iblk m c 3 t0) (iblk m c 4 t0) (iblk m c 5 t0) (iblk m c 6 t0) (ix3 b n k) := h
  rw [emb8, stored8, iblk0, iblk1, iblk2, iblk3, iblk4, iblk5, iblk6] at h'
  exact h'
theorem ref9 (b : Fin 2) (e : Fin 16) (r : Fin 8) (k : Fin 1664) : (dats m 0 c).arrAt 9 cfg0.N (ix4 b e r k) = cdS ((refArgs m c).xs b (slot e r)) k := by
  have h := congrFun (Cert.ReferenceIdeal.Value.blocks9 m c t0 rfl) (ix4 b e r k)
  rw [Cert.ReferenceIdeal.Value.flushed9_A] at h
  have h' : (dats m 0 c).arrAt 9 cfg0.N (((cfg0.win 9).blk t0).view.emb (ix4 b e r k)) = out0_A_9 c (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (iblk m c 0 t0) (iblk m c 1 t0) (iblk m c 2 t0) (iblk m c 3 t0) (iblk m c 4 t0) (iblk m c 5 t0) (iblk m c 6 t0) (ix4 b e r k) := h
  rw [emb9, stored9, iblk0, iblk1, iblk2, iblk3, iblk4, iblk5, iblk6] at h'
  exact h'
theorem ref10 (b : Fin 2) (e : Fin 16) (r : Fin 8) : (dats m 0 c).arrAt 10 cfg0.N (ix3 b e r) = scS ((refArgs m c).xs b (slot e r)) := by
  have h := congrFun (Cert.ReferenceIdeal.Value.blocks10 m c t0 rfl) (ix3 b e r)
  rw [Cert.ReferenceIdeal.Value.flushed10_A] at h
  have h' : (dats m 0 c).arrAt 10 cfg0.N (((cfg0.win 10).blk t0).view.emb (ix3 b e r)) = out0_A_10 c (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (iblk m c 0 t0) (iblk m c 1 t0) (iblk m c 2 t0) (iblk m c 3 t0) (iblk m c 4 t0) (iblk m c 5 t0) (iblk m c 6 t0) (ix3 b e r) := h
  rw [emb10, stored10, iblk0, iblk1, iblk2, iblk3, iblk4, iblk5, iblk6] at h'
  exact h'
theorem ref11 (b : Fin 2) (e : Fin 16) (r : Fin 8) (k : Fin 8192) : (dats m 0 c).arrAt 11 cfg0.N (ix4 b e r k) = cdS ((refArgs m c).hid b (slot e r)) k := by
  have h := congrFun (Cert.ReferenceIdeal.Value.blocks11 m c t0 rfl) (ix4 b e r k)
  rw [Cert.ReferenceIdeal.Value.flushed11_A] at h
  have h' : (dats m 0 c).arrAt 11 cfg0.N (((cfg0.win 11).blk t0).view.emb (ix4 b e r k)) = out0_A_11 c (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (iblk m c 0 t0) (iblk m c 1 t0) (iblk m c 2 t0) (iblk m c 3 t0) (iblk m c 4 t0) (iblk m c 5 t0) (iblk m c 6 t0) (ix4 b e r k) := h
  rw [emb11, stored11, iblk0, iblk1, iblk2, iblk3, iblk4, iblk5, iblk6] at h'
  exact h'
theorem ref12 (b : Fin 2) (e : Fin 16) (r : Fin 8) : (dats m 0 c).arrAt 12 cfg0.N (ix3 b e r) = scS ((refArgs m c).hid b (slot e r)) := by
  have h := congrFun (Cert.ReferenceIdeal.Value.blocks12 m c t0 rfl) (ix3 b e r)
  rw [Cert.ReferenceIdeal.Value.flushed12_A] at h
  have h' : (dats m 0 c).arrAt 12 cfg0.N (((cfg0.win 12).blk t0).view.emb (ix3 b e r)) = out0_A_12 c (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) (ms0_12 t0) (hs0_12 t0) (iblk m c 0 t0) (iblk m c 1 t0) (iblk m c 2 t0) (iblk m c 3 t0) (iblk m c 4 t0) (iblk m c 5 t0) (iblk m c 6 t0) (ix3 b e r) := h
  rw [emb12, stored12, iblk0, iblk1, iblk2, iblk3, iblk4, iblk5, iblk6] at h'
  exact h'

end Cert.Value

end
-- ==== Proof.Value.Equal.lean ====
/-
  The two programs leave equal results.
-/
module

public import proofs.«01_k».proof.Proof.Value.Output
public import proofs.«01_k».proof.Proof.Value.RefRun
public import proofs.«01_k».proof.Proof.KernelIdeal.Frames
public import proofs.«01_k».proof.Defs

@[expose] public section

set_option maxRecDepth 16384

noncomputable section

namespace Cert.Value

open Idealize.ShloMosaic Idealize.ShloMosaic.TcCoe Idealize.SL.Sem
open Cert.KernelIdeal.Hand (inp OV ZV SCV SSV HCV HSV A7 A8 A9 A10 A11 A12)

section

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)

/-- The arguments by coordinates, out of the kernel's memory. -/
def argsM : Args where
  X := fun b t d => m ((c.tc : Thread Cert.KernelIdeal.nD Cert.KernelIdeal.τ).loc Cert.KernelIdeal.main_arg0) (ix3 b t d)
  L := fun b => m ((c.tc : Thread Cert.KernelIdeal.nD Cert.KernelIdeal.τ).loc Cert.KernelIdeal.main_arg1) (ix1 b)
  P := fun d n => m ((c.tc : Thread Cert.KernelIdeal.nD Cert.KernelIdeal.τ).loc Cert.KernelIdeal.main_arg2) (ix2 d n)
  W1 := fun e k j => m ((c.tc : Thread Cert.KernelIdeal.nD Cert.KernelIdeal.τ).loc Cert.KernelIdeal.main_arg3) (ix3 e k j)
  S1 := fun e j => m ((c.tc : Thread Cert.KernelIdeal.nD Cert.KernelIdeal.τ).loc Cert.KernelIdeal.main_arg4) (ix2 e j)
  W2 := fun e j k => m ((c.tc : Thread Cert.KernelIdeal.nD Cert.KernelIdeal.τ).loc Cert.KernelIdeal.main_arg5) (ix3 e j k)
  S2 := fun e k => m ((c.tc : Thread Cert.KernelIdeal.nD Cert.KernelIdeal.τ).loc Cert.KernelIdeal.main_arg6) (ix2 e k)

/-- The lengths' window is the whole array. -/
theorem lens_at (b : Fin 2) : (inp m c).LEN (ix1 b) = m ((c.tc : Thread Cert.KernelIdeal.nD Cert.KernelIdeal.τ).loc Cert.KernelIdeal.main_arg1) (ix1 b) := by
  show m ((c.tc : Thread Cert.KernelIdeal.nD Cert.KernelIdeal.τ).loc Cert.KernelIdeal.main_arg1) (((Cert.KernelIdeal.cfg0.win 0).blk Cert.KernelIdeal.Gen.t0_0).view.emb (ix1 b)) = _
  refine congrArg _ (funext fun a => Fin.ext ?_)
  match a with
  | ⟨0, _⟩ =>
    have h : Cert.KernelIdeal.win0_0.index Cert.KernelIdeal.Gen.t0_0 (0 : Fin 1) = 0 := by decide +kernel
    show Cert.KernelIdeal.win0_0.index Cert.KernelIdeal.Gen.t0_0 (0 : Fin 1) * 2 + 1 * b.val = b.val; omega

theorem args_ker : argsI (inp m c) = argsM m c := by
  unfold argsI argsM
  rw [show (fun b => (inp m c).LEN (ix1 b)) = _ from funext (lens_at m c)]
  rfl

theorem rd7 (v : Vec Ideal Cert.KernelIdeal.S2x2048x1664 .bf16) : A7.view.read (Elt Ideal) v = v := rfl
theorem rd8 (v : Vec Ideal Cert.KernelIdeal.S2x128x1664 .bf16) : A8.view.read (Elt Ideal) v = v := rfl
theorem rd9 (v : Vec Ideal Cert.KernelIdeal.S2x16x8x1664 .fp8e4m3) : A9.view.read (Elt Ideal) v = v := rfl
theorem rd10 (v : Vec Ideal Cert.KernelIdeal.S2x16x8 .f32) : A10.view.read (Elt Ideal) v = v := rfl
theorem rd11 (v : Vec Ideal Cert.KernelIdeal.S2x16x8x8192 .fp8e4m3) : A11.view.read (Elt Ideal) v = v := rfl
theorem rd12 (v : Vec Ideal Cert.KernelIdeal.S2x16x8 .f32) : A12.view.read (Elt Ideal) v = v := rfl
theorem rep7 (v : Vec Ideal Cert.KernelIdeal.S2x2048x1664 .bf16) : A7.view.rep v = v := (rd7 _).symm.trans (View.read_rep _ _)
theorem rep8 (v : Vec Ideal Cert.KernelIdeal.S2x128x1664 .bf16) : A8.view.rep v = v := (rd8 _).symm.trans (View.read_rep _ _)
theorem rep9 (v : Vec Ideal Cert.KernelIdeal.S2x16x8x1664 .fp8e4m3) : A9.view.rep v = v := (rd9 _).symm.trans (View.read_rep _ _)
theorem rep10 (v : Vec Ideal Cert.KernelIdeal.S2x16x8 .f32) : A10.view.rep v = v := (rd10 _).symm.trans (View.read_rep _ _)
theorem rep11 (v : Vec Ideal Cert.KernelIdeal.S2x16x8x8192 .fp8e4m3) : A11.view.rep v = v := (rd11 _).symm.trans (View.read_rep _ _)
theorem rep12 (v : Vec Ideal Cert.KernelIdeal.S2x16x8 .f32) : A12.view.rep v = v := (rd12 _).symm.trans (View.read_rep _ _)

/-- The two memories hold the same arguments. -/
def Same : Prop := m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

theorem args_ref (h : Same m m' c) : refArgs m' c = argsM m c := by
  obtain ⟨h0, h1, h2, h3, h4, h5, h6⟩ := h
  unfold refArgs argsOf argsM
  rw [h0, h1, h2, h3, h4, h5, h6]

theorem lens_le (hp : Cert.Pre_KernelIdeal m) (b : Fin 2) : ((argsI (inp m c)).L b).toInt ≤ 2048 := by
  rw [show (argsI (inp m c)).L b = _ from lens_at m c b]
  exact Cert.KernelIdeal.Hand.preOK m hp c (ix1 b)

variable (hp : Cert.Pre_KernelIdeal m) (h : Same m m' c)

theorem args_eq (h : Same m m' c) : refArgs m' c = argsI (inp m c) := (args_ref m m' c h).trans (args_ker m c).symm

include hp h in
theorem res7 : (Cert.ReferenceIdeal.Gen.dats m' 0 c).arrAt 7 Cert.ReferenceIdeal.cfg0.N = A7.view.rep (OV (inp m c)) := by
  have hi : ∀ (p : Fin 2) (q : Fin 2048) (r : Fin 1664), (Cert.ReferenceIdeal.Gen.dats m' 0 c).arrAt 7 Cert.ReferenceIdeal.cfg0.N (ix3 p q r) = OV (inp m c) (ix3 p q r) := fun p q r => by
    rw [ov_at (inp m c) (lens_le m c hp) p q r, ← args_eq m m' c h]
    exact ref7 m' c p q r
  rw [rep7]
  refine funext fun y => ?_
  have hy : y = ix3 (y 0) (y 1) (y 2) := eq_ix3 y
  rw [hy]
  exact hi (y 0) (y 1) (y 2)

include hp h in
theorem res8 : (Cert.ReferenceIdeal.Gen.dats m' 0 c).arrAt 8 Cert.ReferenceIdeal.cfg0.N = A8.view.rep (ZV (inp m c)) := by
  have hi : ∀ (p : Fin 2) (q : Fin 128) (r : Fin 1664), (Cert.ReferenceIdeal.Gen.dats m' 0 c).arrAt 8 Cert.ReferenceIdeal.cfg0.N (ix3 p q r) = ZV (inp m c) (ix3 p q r) := fun p q r => by
    rw [zv_at (inp m c) (lens_le m c hp) p q r, ← args_eq m m' c h]
    exact ref8 m' c p q r
  rw [rep8]
  refine funext fun y => ?_
  have hy : y = ix3 (y 0) (y 1) (y 2) := eq_ix3 y
  rw [hy]
  exact hi (y 0) (y 1) (y 2)

include hp h in
theorem res9 : (Cert.ReferenceIdeal.Gen.dats m' 0 c).arrAt 9 Cert.ReferenceIdeal.cfg0.N = A9.view.rep (SCV (inp m c)) := by
  have hi : ∀ (p : Fin 2) (q : Fin 16) (r : Fin 8) (s : Fin 1664), (Cert.ReferenceIdeal.Gen.dats m' 0 c).arrAt 9 Cert.ReferenceIdeal.cfg0.N (ix4 p q r s) = SCV (inp m c) (ix4 p q r s) := fun p q r s => by
    rw [scv_at (inp m c) (lens_le m c hp) q p r s, ← args_eq m m' c h]
    exact ref9 m' c p q r s
  rw [rep9]
  refine funext fun y => ?_
  have hy : y = ix4 (y 0) (y 1) (y 2) (y 3) := eq_ix4 y
  rw [hy]
  exact hi (y 0) (y 1) (y 2) (y 3)

include hp h in
theorem res10 : (Cert.ReferenceIdeal.Gen.dats m' 0 c).arrAt 10 Cert.ReferenceIdeal.cfg0.N = A10.view.rep (SSV (inp m c)) := by
  have hi : ∀ (p : Fin 2) (q : Fin 16) (r : Fin 8), (Cert.ReferenceIdeal.Gen.dats m' 0 c).arrAt 10 Cert.ReferenceIdeal.cfg0.N (ix3 p q r) = SSV (inp m c) (ix3 p q r) := fun p q r => by
    rw [ssv_at (inp m c) (lens_le m c hp) q p r, ← args_eq m m' c h]
    exact ref10 m' c p q r
  rw [rep10]
  refine funext fun y => ?_
  have hy : y = ix3 (y 0) (y 1) (y 2) := eq_ix3 y
  rw [hy]
  exact hi (y 0) (y 1) (y 2)

include hp h in
theorem res11 : (Cert.ReferenceIdeal.Gen.dats m' 0 c).arrAt 11 Cert.ReferenceIdeal.cfg0.N = A11.view.rep (HCV (inp m c)) := by
  have hi : ∀ (p : Fin 2) (q : Fin 16) (r : Fin 8) (s : Fin 8192), (Cert.ReferenceIdeal.Gen.dats m' 0 c).arrAt 11 Cert.ReferenceIdeal.cfg0.N (ix4 p q r s) = HCV (inp m c) (ix4 p q r s) := fun p q r s => by
    rw [hcv_at (inp m c) (lens_le m c hp) q p r s, ← args_eq m m' c h]
    exact ref11 m' c p q r s
  rw [rep11]
  refine funext fun y => ?_
  have hy : y = ix4 (y 0) (y 1) (y 2) (y 3) := eq_ix4 y
  rw [hy]
  exact hi (y 0) (y 1) (y 2) (y 3)

include hp h in
theorem res12 : (Cert.ReferenceIdeal.Gen.dats m' 0 c).arrAt 12 Cert.ReferenceIdeal.cfg0.N = A12.view.rep (HSV (inp m c)) := by
  have hi : ∀ (p : Fin 2) (q : Fin 16) (r : Fin 8), (Cert.ReferenceIdeal.Gen.dats m' 0 c).arrAt 12 Cert.ReferenceIdeal.cfg0.N (ix3 p q r) = HSV (inp m c) (ix3 p q r) := fun p q r => by
    rw [hsv_at (inp m c) (lens_le m c hp) q p r, ← args_eq m m' c h]
    exact ref12 m' c p q r
  rw [rep12]
  refine funext fun y => ?_
  have hy : y = ix3 (y 0) (y 1) (y 2) := eq_ix3 y
  rw [hy]
  exact hi (y 0) (y 1) (y 2)

end

/-- Over the reals, from equal arguments, the kernel and the reference leave equal results. -/
theorem equal : Cert.algebraic_KernelIdeal_ReferenceIdeal (hKernelIdeal := Cert.KernelIdeal.Gen.facts) (hReferenceIdeal := Cert.ReferenceIdeal.Gen.facts) (hPre_in_buffer := Cert.Proof.preFacts) := by
  intro m g m' g' hp h
  refine ⟨fun c => A7.view.rep (OV (inp m c)), fun c => A8.view.rep (ZV (inp m c)), fun c => A9.view.rep (SCV (inp m c)), fun c => A10.view.rep (SSV (inp m c)),
    fun c => A11.view.rep (HCV (inp m c)), fun c => A12.view.rep (HSV (inp m c)), Cert.KernelIdeal.Hand.run_values m g hp, ?_⟩
  refine (θ_run Cert.ReferenceIdeal.defs _ _).mono (fun r hr c => ?_) (Cert.ReferenceIdeal.Value.run_blocks m' g')
  obtain ⟨r0, r1, r2, r3, r4, r5, ha⟩ := hr c
  exact ⟨r0.trans (res7 m m' c hp (h c)), r1.trans (res8 m m' c hp (h c)), r2.trans (res9 m m' c hp (h c)), r3.trans (res10 m m' c hp (h c)),
    r4.trans (res11 m m' c hp (h c)), r5.trans (res12 m m' c hp (h c)), ha⟩

end Cert.Value

end
-- ==== Proof.lean ====
/-
  The proof of the claims: the programs' frames and the equality of their results, at the precondition that no length
  exceeds the buffer.
-/
module

public import proofs.«01_k».proof.Defs
public import proofs.«01_k».proof.Proof.Pre
public import proofs.«01_k».proof.Proof.Kernel.Frames
public import proofs.«01_k».proof.Proof.KernelIdeal.Frames
public import proofs.«01_k».proof.Proof.Gen.ReferenceIdeal.Value
public import proofs.«01_k».proof.Proof.Value.Equal

@[expose] public section

noncomputable section

/-- Every claim holds. -/
theorem Cert.Proof.claim : Cert.Claim :=
  ⟨Cert.Kernel.Gen.facts, Cert.KernelIdeal.Gen.facts, Cert.ReferenceIdeal.Gen.facts, Cert.Proof.preFacts,
    fun m ρ h => Cert.Kernel.Hand.frame m ρ h, fun m ρ h => Cert.KernelIdeal.Hand.frame m ρ h,
    fun m ρ _ => Cert.ReferenceIdeal.Gen.frame m ρ, trivial, Cert.Value.equal⟩

end
